-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_cut [hPre_one_cut : Cert.Pre_one_cut.Facts] (m : (ℓ : Loc Cert.KernelIdeal.nD Cert.KernelIdeal.τ Cert.KernelIdeal.sig) → Buf (Elt Ideal) ℓ) : Prop :=
  ∀ c : Dev Cert.KernelIdeal.nD,
    (Cert.Pre_one_cut.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_cut [hPre_one_cut : Cert.Pre_one_cut.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_cut.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_one_cut [hKernelIdeal : Cert.KernelIdeal.Facts] [hPre_one_cut : Cert.Pre_one_cut.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_cut m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_one_cut [hReferenceIdeal : Cert.ReferenceIdeal.Facts] [hPre_one_cut : Cert.Pre_one_cut.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_cut m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_one_cut [hKernelIdeal : Cert.KernelIdeal.Facts] [hReferenceIdeal : Cert.ReferenceIdeal.Facts] [hPre_one_cut : Cert.Pre_one_cut.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_cut m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_one_cut : Cert.Pre_one_cut.Facts),
    quiescent_Kernel (hKernel := hKernel)
    ∧ quiescent_KernelIdeal (hKernelIdeal := hKernelIdeal)
    ∧ quiescent_KernelIdeal_pre_one_cut (hKernelIdeal := hKernelIdeal) (hPre_one_cut := hPre_one_cut)
    ∧ quiescent_ReferenceIdeal (hReferenceIdeal := hReferenceIdeal)
    ∧ quiescent_ReferenceIdeal_pre_one_cut (hReferenceIdeal := hReferenceIdeal) (hPre_one_cut := hPre_one_cut)
    ∧ preserves_Kernel_KernelIdeal
    ∧ algebraic_KernelIdeal_ReferenceIdeal_pre_one_cut (hKernelIdeal := hKernelIdeal) (hReferenceIdeal := hReferenceIdeal) (hPre_one_cut := hPre_one_cut)
-- ==== Pre_one_cut.lean ====
abbrev S64x8192x32 : Shape := ⟨3, ![64, 8192, 32]⟩
abbrev S_ : Shape := ⟨0, ![]⟩
abbrev S64x32 : Shape := ⟨2, ![64, 32]⟩
abbrev S64x1x32 : Shape := ⟨3, ![64, 1, 32]⟩

class Facts : Prop where
  reducesTo_S64x8192x32_S64x32_d1 : S64x8192x32.ReducesTo [1] S64x32
  h_S_ : 0 < S_.numel
  bcast_S64x32_S64x1x32_0_2 : S64x32.BroadcastsInDim S64x1x32 (![0, 2] : Fin 2 → Fin S64x1x32.rank)
  bcast_S_S64x1x32 : S_.BroadcastsInDim S64x1x32 (![] : Fin 0 → Fin S64x1x32.rank)
  bcast_S64x1x32_S64x8192x32_0_1_2 : S64x1x32.BroadcastsInDim S64x8192x32 (![0, 1, 2] : Fin 3 → Fin S64x8192x32.rank)
  bcast_S_S64x8192x32 : S_.BroadcastsInDim S64x8192x32 (![] : Fin 0 → Fin S64x8192x32.rank)

variable [Facts]

def fn_where {F : FTy → Type} [FloatOps F] (arg0 : IVec S64x8192x32 1) (arg1 : FVec F S64x8192x32 .f32) (arg2 : FVec F S_ .f32) : FVec F S64x8192x32 .f32 :=
  let v0 : FVec F S_ .f32 := id arg2
  let v1 : FVec F S64x8192x32 .f32 := broadcastInDim S64x8192x32 ![] bcast_S_S64x8192x32 v0
  let v2 : FVec F S64x8192x32 .f32 := select arg0 arg1 v1
  v2

def fn_where_0 {F : FTy → Type} [FloatOps F] (arg0 : IVec S64x1x32 1) (arg1 : IVec S64x1x32 32) (arg2 : IVec S64x1x32 32) : IVec S64x1x32 32 :=
  let v0 : IVec S64x1x32 32 := select arg0 arg1 arg2
  v0

def fn_where_1 {F : FTy → Type} [FloatOps F] (arg0 : IVec S64x8192x32 1) (arg1 : IVec S_ 32) (arg2 : IVec S_ 32) : IVec S64x8192x32 32 :=
  let v0 : IVec S64x8192x32 32 := broadcastInDim S64x8192x32 ![] bcast_S_S64x8192x32 arg1
  let v1 : IVec S64x8192x32 32 := broadcastInDim S64x8192x32 ![] bcast_S_S64x8192x32 arg2
  let v2 : IVec S64x8192x32 32 := select arg0 v0 v1
  v2

def fn_part18 {F : FTy → Type} [FloatOps F] (main_v0 : FVec F S64x8192x32 .f32) (main_v4 : FVec F S64x1x32 .f32) (main_v321 : FVec F S64x1x32 .f32) (main_v324 : FVec F S64x1x32 .f32) (main_v328 : IVec S64x1x32 32) (main_v329 : FVec F S64x1x32 .f32) : IVec S64x1x32 1 :=
  let main_v330 : FVec F S64x8192x32 .f32 := broadcastInDim S64x8192x32 ![0, 1, 2] bcast_S64x1x32_S64x8192x32_0_1_2 main_v329
  let main_v331 : IVec S64x8192x32 1 := cmpf .oge main_v0 main_v330
  let main_c_100 : IVec S_ 32 := constantI S_ 32 1048576#32
  let main_v332 : IVec S64x1x32 32 := broadcastInDim S64x1x32 ![] bcast_S_S64x1x32 main_c_100
  let main_v333 : IVec S64x1x32 32 := addi main_v328 main_v332
  let main_v334 : FVec F S64x1x32 .f32 := bitcastToFloat .f32 main_v333
  let main_v335 : FVec F S64x8192x32 .f32 := broadcastInDim S64x8192x32 ![0, 1, 2] bcast_S64x1x32_S64x8192x32_0_1_2 main_v334
  let main_v336 : IVec S64x8192x32 1 := cmpf .olt main_v0 main_v335
  let main_v337 : IVec S64x8192x32 1 := andi main_v331 main_v336
  let main_c_101 : IVec S_ 32 := constantI S_ 32 1#32
  let main_c_102 : IVec S_ 32 := constantI S_ 32 0#32
  let main_v338 : IVec S64x8192x32 32 := fn_where_1 (F := F) main_v337 main_c_101 main_c_102
  let main_v339 : IVec S64x8192x32 32 := id main_v338
  let main_c_103 : IVec S_ 32 := constantI S_ 32 0#32
  let main_v340 : IVec S64x32 32 := (fun x v => Host.reduce IntOp.addi x v reducesTo_S64x8192x32_S64x32_d1 h_S_) main_v339 main_c_103
  let main_v341 : IVec S64x1x32 32 := broadcastInDim S64x1x32 ![0, 2] bcast_S64x32_S64x1x32_0_2 main_v340
  let main_c_104 : IVec S_ 32 := constantI S_ 32 520#32
  let main_v342 : IVec S64x1x32 32 := broadcastInDim S64x1x32 ![] bcast_S_S64x1x32 main_c_104
  let main_v343 : IVec S64x1x32 1 := cmpi .sle main_v341 main_v342
  let main_v344 : FVec F S64x1x32 .f32 := subf main_v321 main_v324
  let main_v345 : IVec S64x1x32 1 := cmpf .olt main_v344 main_v4
  let main_v346 : IVec S64x1x32 1 := andi main_v345 main_v343
  main_v346

def fn_part17 {F : FTy → Type} [FloatOps F] (main_v0 : FVec F S64x8192x32 .f32) (main_v4 : FVec F S64x1x32 .f32) (main_v305 : IVec S64x1x32 32) (main_v307 : IVec S64x1x32 32) (main_v311 : FVec F S64x8192x32 .f32) (main_cst_93 : FVec F S_ .f32) : IVec S64x1x32 1 :=
  let main_v312 : FVec F S64x32 .f32 := (fun x v => Host.reduceAdd x v reducesTo_S64x8192x32_S64x32_d1 h_S_) main_v311 main_cst_93
  let main_v313 : FVec F S64x1x32 .f32 := broadcastInDim S64x1x32 ![0, 2] bcast_S64x32_S64x1x32_0_2 main_v312
  let main_v314 : IVec S64x1x32 1 := cmpf .oge main_v313 main_v4
  let main_v315 : IVec S64x1x32 32 := fn_where_0 (F := F) main_v314 main_v307 main_v305
  let main_v316 : FVec F S64x1x32 .f32 := bitcastToFloat .f32 main_v315
  let main_v317 : FVec F S64x8192x32 .f32 := broadcastInDim S64x8192x32 ![0, 1, 2] bcast_S64x1x32_S64x8192x32_0_1_2 main_v316
  let main_v318 : IVec S64x8192x32 1 := cmpf .oge main_v0 main_v317
  let main_cst_94 : FVec F S_ .f32 := constant S_ .f32 0x00000000#32
  let main_v319 : FVec F S64x8192x32 .f32 := fn_where (F := F) main_v318 main_v0 main_cst_94
  let main_cst_95 : FVec F S_ .f32 := constant S_ .f32 0x00000000#32
  let main_v320 : FVec F S64x32 .f32 := (fun x v => Host.reduceAdd x v reducesTo_S64x8192x32_S64x32_d1 h_S_) main_v319 main_cst_95
  let main_v321 : FVec F S64x1x32 .f32 := broadcastInDim S64x1x32 ![0, 2] bcast_S64x32_S64x1x32_0_2 main_v320
  let main_cst_96 : FVec F S_ .f32 := constant S_ .f32 0x7F800000#32
  let main_v322 : FVec F S64x8192x32 .f32 := fn_where (F := F) main_v318 main_v0 main_cst_96
  let main_cst_97 : FVec F S_ .f32 := constant S_ .f32 0x7F800000#32
  let main_v323 : FVec F S64x32 .f32 := (fun x v => Host.reduce FloatOps.minimumf x v reducesTo_S64x8192x32_S64x32_d1 h_S_) main_v322 main_cst_97
  let main_v324 : FVec F S64x1x32 .f32 := broadcastInDim S64x1x32 ![0, 2] bcast_S64x32_S64x1x32_0_2 main_v323
  let main_c_98 : IVec S_ 32 := constantI S_ 32 20#32
  let main_v325 : IVec S64x1x32 32 := broadcastInDim S64x1x32 ![] bcast_S_S64x1x32 main_c_98
  let main_v326 : IVec S64x1x32 32 := Host.shrui main_v315 main_v325
  let main_c_99 : IVec S_ 32 := constantI S_ 32 20#32
  let main_v327 : IVec S64x1x32 32 := broadcastInDim S64x1x32 ![] bcast_S_S64x1x32 main_c_99
  let main_v328 : IVec S64x1x32 32 := Host.shli main_v326 main_v327
  let main_v329 : FVec F S64x1x32 .f32 := bitcastToFloat .f32 main_v328
  fn_part18 (F := F) main_v0 main_v4 main_v321 main_v324 main_v328 main_v329

def fn_part16 {F : FTy → Type} [FloatOps F] (main_v0 : FVec F S64x8192x32 .f32) (main_v4 : FVec F S64x1x32 .f32) (main_v285 : IVec S64x1x32 32) (main_v287 : IVec S64x1x32 32) (main_v293 : FVec F S64x1x32 .f32) : IVec S64x1x32 1 :=
  let main_v294 : IVec S64x1x32 1 := cmpf .oge main_v293 main_v4
  let main_v295 : IVec S64x1x32 32 := fn_where_0 (F := F) main_v294 main_v287 main_v285
  let main_c_88 : IVec S_ 32 := constantI S_ 32 2#32
  let main_v296 : IVec S64x1x32 32 := broadcastInDim S64x1x32 ![] bcast_S_S64x1x32 main_c_88
  let main_v297 : IVec S64x1x32 32 := addi main_v295 main_v296
  let main_v298 : FVec F S64x1x32 .f32 := bitcastToFloat .f32 main_v297
  let main_v299 : FVec F S64x8192x32 .f32 := broadcastInDim S64x8192x32 ![0, 1, 2] bcast_S64x1x32_S64x8192x32_0_1_2 main_v298
  let main_v300 : IVec S64x8192x32 1 := cmpf .oge main_v0 main_v299
  let main_cst_89 : FVec F S_ .f32 := constant S_ .f32 0x00000000#32
  let main_v301 : FVec F S64x8192x32 .f32 := fn_where (F := F) main_v300 main_v0 main_cst_89
  let main_cst_90 : FVec F S_ .f32 := constant S_ .f32 0x00000000#32
  let main_v302 : FVec F S64x32 .f32 := (fun x v => Host.reduceAdd x v reducesTo_S64x8192x32_S64x32_d1 h_S_) main_v301 main_cst_90
  let main_v303 : FVec F S64x1x32 .f32 := broadcastInDim S64x1x32 ![0, 2] bcast_S64x32_S64x1x32_0_2 main_v302
  let main_v304 : IVec S64x1x32 1 := cmpf .oge main_v303 main_v4
  let main_v305 : IVec S64x1x32 32 := fn_where_0 (F := F) main_v304 main_v297 main_v295
  let main_c_91 : IVec S_ 32 := constantI S_ 32 1#32
  let main_v306 : IVec S64x1x32 32 := broadcastInDim S64x1x32 ![] bcast_S_S64x1x32 main_c_91
  let main_v307 : IVec S64x1x32 32 := addi main_v305 main_v306
  let main_v308 : FVec F S64x1x32 .f32 := bitcastToFloat .f32 main_v307
  let main_v309 : FVec F S64x8192x32 .f32 := broadcastInDim S64x8192x32 ![0, 1, 2] bcast_S64x1x32_S64x8192x32_0_1_2 main_v308
  let main_v310 : IVec S64x8192x32 1 := cmpf .oge main_v0 main_v309
  let main_cst_92 : FVec F S_ .f32 := constant S_ .f32 0x00000000#32
  let main_v311 : FVec F S64x8192x32 .f32 := fn_where (F := F) main_v310 main_v0 main_cst_92
  let main_cst_93 : FVec F S_ .f32 := constant S_ .f32 0x00000000#32
  fn_part17 (F := F) main_v0 main_v4 main_v305 main_v307 main_v311 main_cst_93

def fn_part15 {F : FTy → Type} [FloatOps F] (main_v0 : FVec F S64x8192x32 .f32) (main_v4 : FVec F S64x1x32 .f32) (main_v275 : IVec S64x1x32 32) : IVec S64x1x32 1 :=
  let main_c_82 : IVec S_ 32 := constantI S_ 32 8#32
  let main_v276 : IVec S64x1x32 32 := broadcastInDim S64x1x32 ![] bcast_S_S64x1x32 main_c_82
  let main_v277 : IVec S64x1x32 32 := addi main_v275 main_v276
  let main_v278 : FVec F S64x1x32 .f32 := bitcastToFloat .f32 main_v277
  let main_v279 : FVec F S64x8192x32 .f32 := broadcastInDim S64x8192x32 ![0, 1, 2] bcast_S64x1x32_S64x8192x32_0_1_2 main_v278
  let main_v280 : IVec S64x8192x32 1 := cmpf .oge main_v0 main_v279
  let main_cst_83 : FVec F S_ .f32 := constant S_ .f32 0x00000000#32
  let main_v281 : FVec F S64x8192x32 .f32 := fn_where (F := F) main_v280 main_v0 main_cst_83
  let main_cst_84 : FVec F S_ .f32 := constant S_ .f32 0x00000000#32
  let main_v282 : FVec F S64x32 .f32 := (fun x v => Host.reduceAdd x v reducesTo_S64x8192x32_S64x32_d1 h_S_) main_v281 main_cst_84
  let main_v283 : FVec F S64x1x32 .f32 := broadcastInDim S64x1x32 ![0, 2] bcast_S64x32_S64x1x32_0_2 main_v282
  let main_v284 : IVec S64x1x32 1 := cmpf .oge main_v283 main_v4
  let main_v285 : IVec S64x1x32 32 := fn_where_0 (F := F) main_v284 main_v277 main_v275
  let main_c_85 : IVec S_ 32 := constantI S_ 32 4#32
  let main_v286 : IVec S64x1x32 32 := broadcastInDim S64x1x32 ![] bcast_S_S64x1x32 main_c_85
  let main_v287 : IVec S64x1x32 32 := addi main_v285 main_v286
  let main_v288 : FVec F S64x1x32 .f32 := bitcastToFloat .f32 main_v287
  let main_v289 : FVec F S64x8192x32 .f32 := broadcastInDim S64x8192x32 ![0, 1, 2] bcast_S64x1x32_S64x8192x32_0_1_2 main_v288
  let main_v290 : IVec S64x8192x32 1 := cmpf .oge main_v0 main_v289
  let main_cst_86 : FVec F S_ .f32 := constant S_ .f32 0x00000000#32
  let main_v291 : FVec F S64x8192x32 .f32 := fn_where (F := F) main_v290 main_v0 main_cst_86
  let main_cst_87 : FVec F S_ .f32 := constant S_ .f32 0x00000000#32
  let main_v292 : FVec F S64x32 .f32 := (fun x v => Host.reduceAdd x v reducesTo_S64x8192x32_S64x32_d1 h_S_) main_v291 main_cst_87
  let main_v293 : FVec F S64x1x32 .f32 := broadcastInDim S64x1x32 ![0, 2] bcast_S64x32_S64x1x32_0_2 main_v292
  fn_part16 (F := F) main_v0 main_v4 main_v285 main_v287 main_v293

def fn_part14 {F : FTy → Type} [FloatOps F] (main_v0 : FVec F S64x8192x32 .f32) (main_v4 : FVec F S64x1x32 .f32) (main_v255 : IVec S64x1x32 32) (main_v256 : IVec S64x1x32 32) : IVec S64x1x32 1 :=
  let main_v257 : IVec S64x1x32 32 := addi main_v255 main_v256
  let main_v258 : FVec F S64x1x32 .f32 := bitcastToFloat .f32 main_v257
  let main_v259 : FVec F S64x8192x32 .f32 := broadcastInDim S64x8192x32 ![0, 1, 2] bcast_S64x1x32_S64x8192x32_0_1_2 main_v258
  let main_v260 : IVec S64x8192x32 1 := cmpf .oge main_v0 main_v259
  let main_cst_77 : FVec F S_ .f32 := constant S_ .f32 0x00000000#32
  let main_v261 : FVec F S64x8192x32 .f32 := fn_where (F := F) main_v260 main_v0 main_cst_77
  let main_cst_78 : FVec F S_ .f32 := constant S_ .f32 0x00000000#32
  let main_v262 : FVec F S64x32 .f32 := (fun x v => Host.reduceAdd x v reducesTo_S64x8192x32_S64x32_d1 h_S_) main_v261 main_cst_78
  let main_v263 : FVec F S64x1x32 .f32 := broadcastInDim S64x1x32 ![0, 2] bcast_S64x32_S64x1x32_0_2 main_v262
  let main_v264 : IVec S64x1x32 1 := cmpf .oge main_v263 main_v4
  let main_v265 : IVec S64x1x32 32 := fn_where_0 (F := F) main_v264 main_v257 main_v255
  let main_c_79 : IVec S_ 32 := constantI S_ 32 16#32
  let main_v266 : IVec S64x1x32 32 := broadcastInDim S64x1x32 ![] bcast_S_S64x1x32 main_c_79
  let main_v267 : IVec S64x1x32 32 := addi main_v265 main_v266
  let main_v268 : FVec F S64x1x32 .f32 := bitcastToFloat .f32 main_v267
  let main_v269 : FVec F S64x8192x32 .f32 := broadcastInDim S64x8192x32 ![0, 1, 2] bcast_S64x1x32_S64x8192x32_0_1_2 main_v268
  let main_v270 : IVec S64x8192x32 1 := cmpf .oge main_v0 main_v269
  let main_cst_80 : FVec F S_ .f32 := constant S_ .f32 0x00000000#32
  let main_v271 : FVec F S64x8192x32 .f32 := fn_where (F := F) main_v270 main_v0 main_cst_80
  let main_cst_81 : FVec F S_ .f32 := constant S_ .f32 0x00000000#32
  let main_v272 : FVec F S64x32 .f32 := (fun x v => Host.reduceAdd x v reducesTo_S64x8192x32_S64x32_d1 h_S_) main_v271 main_cst_81
  let main_v273 : FVec F S64x1x32 .f32 := broadcastInDim S64x1x32 ![0, 2] bcast_S64x32_S64x1x32_0_2 main_v272
  let main_v274 : IVec S64x1x32 1 := cmpf .oge main_v273 main_v4
  let main_v275 : IVec S64x1x32 32 := fn_where_0 (F := F) main_v274 main_v267 main_v265
  fn_part15 (F := F) main_v0 main_v4 main_v275

def fn_part13 {F : FTy → Type} [FloatOps F] (main_v0 : FVec F S64x8192x32 .f32) (main_v4 : FVec F S64x1x32 .f32) (main_v235 : IVec S64x1x32 32) (main_v237 : IVec S64x1x32 32) (main_v238 : FVec F S64x1x32 .f32) : IVec S64x1x32 1 :=
  let main_v239 : FVec F S64x8192x32 .f32 := broadcastInDim S64x8192x32 ![0, 1, 2] bcast_S64x1x32_S64x8192x32_0_1_2 main_v238
  let main_v240 : IVec S64x8192x32 1 := cmpf .oge main_v0 main_v239
  let main_cst_71 : FVec F S_ .f32 := constant S_ .f32 0x00000000#32
  let main_v241 : FVec F S64x8192x32 .f32 := fn_where (F := F) main_v240 main_v0 main_cst_71
  let main_cst_72 : FVec F S_ .f32 := constant S_ .f32 0x00000000#32
  let main_v242 : FVec F S64x32 .f32 := (fun x v => Host.reduceAdd x v reducesTo_S64x8192x32_S64x32_d1 h_S_) main_v241 main_cst_72
  let main_v243 : FVec F S64x1x32 .f32 := broadcastInDim S64x1x32 ![0, 2] bcast_S64x32_S64x1x32_0_2 main_v242
  let main_v244 : IVec S64x1x32 1 := cmpf .oge main_v243 main_v4
  let main_v245 : IVec S64x1x32 32 := fn_where_0 (F := F) main_v244 main_v237 main_v235
  let main_c_73 : IVec S_ 32 := constantI S_ 32 64#32
  let main_v246 : IVec S64x1x32 32 := broadcastInDim S64x1x32 ![] bcast_S_S64x1x32 main_c_73
  let main_v247 : IVec S64x1x32 32 := addi main_v245 main_v246
  let main_v248 : FVec F S64x1x32 .f32 := bitcastToFloat .f32 main_v247
  let main_v249 : FVec F S64x8192x32 .f32 := broadcastInDim S64x8192x32 ![0, 1, 2] bcast_S64x1x32_S64x8192x32_0_1_2 main_v248
  let main_v250 : IVec S64x8192x32 1 := cmpf .oge main_v0 main_v249
  let main_cst_74 : FVec F S_ .f32 := constant S_ .f32 0x00000000#32
  let main_v251 : FVec F S64x8192x32 .f32 := fn_where (F := F) main_v250 main_v0 main_cst_74
  let main_cst_75 : FVec F S_ .f32 := constant S_ .f32 0x00000000#32
  let main_v252 : FVec F S64x32 .f32 := (fun x v => Host.reduceAdd x v reducesTo_S64x8192x32_S64x32_d1 h_S_) main_v251 main_cst_75
  let main_v253 : FVec F S64x1x32 .f32 := broadcastInDim S64x1x32 ![0, 2] bcast_S64x32_S64x1x32_0_2 main_v252
  let main_v254 : IVec S64x1x32 1 := cmpf .oge main_v253 main_v4
  let main_v255 : IVec S64x1x32 32 := fn_where_0 (F := F) main_v254 main_v247 main_v245
  let main_c_76 : IVec S_ 32 := constantI S_ 32 32#32
  let main_v256 : IVec S64x1x32 32 := broadcastInDim S64x1x32 ![] bcast_S_S64x1x32 main_c_76
  fn_part14 (F := F) main_v0 main_v4 main_v255 main_v256

def fn_part12 {F : FTy → Type} [FloatOps F] (main_v0 : FVec F S64x8192x32 .f32) (main_v4 : FVec F S64x1x32 .f32) (main_v215 : IVec S64x1x32 32) (main_v217 : IVec S64x1x32 32) (main_v220 : IVec S64x8192x32 1) : IVec S64x1x32 1 :=
  let main_cst_65 : FVec F S_ .f32 := constant S_ .f32 0x00000000#32
  let main_v221 : FVec F S64x8192x32 .f32 := fn_where (F := F) main_v220 main_v0 main_cst_65
  let main_cst_66 : FVec F S_ .f32 := constant S_ .f32 0x00000000#32
  let main_v222 : FVec F S64x32 .f32 := (fun x v => Host.reduceAdd x v reducesTo_S64x8192x32_S64x32_d1 h_S_) main_v221 main_cst_66
  let main_v223 : FVec F S64x1x32 .f32 := broadcastInDim S64x1x32 ![0, 2] bcast_S64x32_S64x1x32_0_2 main_v222
  let main_v224 : IVec S64x1x32 1 := cmpf .oge main_v223 main_v4
  let main_v225 : IVec S64x1x32 32 := fn_where_0 (F := F) main_v224 main_v217 main_v215
  let main_c_67 : IVec S_ 32 := constantI S_ 32 256#32
  let main_v226 : IVec S64x1x32 32 := broadcastInDim S64x1x32 ![] bcast_S_S64x1x32 main_c_67
  let main_v227 : IVec S64x1x32 32 := addi main_v225 main_v226
  let main_v228 : FVec F S64x1x32 .f32 := bitcastToFloat .f32 main_v227
  let main_v229 : FVec F S64x8192x32 .f32 := broadcastInDim S64x8192x32 ![0, 1, 2] bcast_S64x1x32_S64x8192x32_0_1_2 main_v228
  let main_v230 : IVec S64x8192x32 1 := cmpf .oge main_v0 main_v229
  let main_cst_68 : FVec F S_ .f32 := constant S_ .f32 0x00000000#32
  let main_v231 : FVec F S64x8192x32 .f32 := fn_where (F := F) main_v230 main_v0 main_cst_68
  let main_cst_69 : FVec F S_ .f32 := constant S_ .f32 0x00000000#32
  let main_v232 : FVec F S64x32 .f32 := (fun x v => Host.reduceAdd x v reducesTo_S64x8192x32_S64x32_d1 h_S_) main_v231 main_cst_69
  let main_v233 : FVec F S64x1x32 .f32 := broadcastInDim S64x1x32 ![0, 2] bcast_S64x32_S64x1x32_0_2 main_v232
  let main_v234 : IVec S64x1x32 1 := cmpf .oge main_v233 main_v4
  let main_v235 : IVec S64x1x32 32 := fn_where_0 (F := F) main_v234 main_v227 main_v225
  let main_c_70 : IVec S_ 32 := constantI S_ 32 128#32
  let main_v236 : IVec S64x1x32 32 := broadcastInDim S64x1x32 ![] bcast_S_S64x1x32 main_c_70
  let main_v237 : IVec S64x1x32 32 := addi main_v235 main_v236
  let main_v238 : FVec F S64x1x32 .f32 := bitcastToFloat .f32 main_v237
  fn_part13 (F := F) main_v0 main_v4 main_v235 main_v237 main_v238

def fn_part11 {F : FTy → Type} [FloatOps F] (main_v0 : FVec F S64x8192x32 .f32) (main_v4 : FVec F S64x1x32 .f32) (main_v195 : IVec S64x1x32 32) (main_v197 : IVec S64x1x32 32) (main_v201 : FVec F S64x8192x32 .f32) : IVec S64x1x32 1 :=
  let main_cst_60 : FVec F S_ .f32 := constant S_ .f32 0x00000000#32
  let main_v202 : FVec F S64x32 .f32 := (fun x v => Host.reduceAdd x v reducesTo_S64x8192x32_S64x32_d1 h_S_) main_v201 main_cst_60
  let main_v203 : FVec F S64x1x32 .f32 := broadcastInDim S64x1x32 ![0, 2] bcast_S64x32_S64x1x32_0_2 main_v202
  let main_v204 : IVec S64x1x32 1 := cmpf .oge main_v203 main_v4
  let main_v205 : IVec S64x1x32 32 := fn_where_0 (F := F) main_v204 main_v197 main_v195
  let main_c_61 : IVec S_ 32 := constantI S_ 32 1024#32
  let main_v206 : IVec S64x1x32 32 := broadcastInDim S64x1x32 ![] bcast_S_S64x1x32 main_c_61
  let main_v207 : IVec S64x1x32 32 := addi main_v205 main_v206
  let main_v208 : FVec F S64x1x32 .f32 := bitcastToFloat .f32 main_v207
  let main_v209 : FVec F S64x8192x32 .f32 := broadcastInDim S64x8192x32 ![0, 1, 2] bcast_S64x1x32_S64x8192x32_0_1_2 main_v208
  let main_v210 : IVec S64x8192x32 1 := cmpf .oge main_v0 main_v209
  let main_cst_62 : FVec F S_ .f32 := constant S_ .f32 0x00000000#32
  let main_v211 : FVec F S64x8192x32 .f32 := fn_where (F := F) main_v210 main_v0 main_cst_62
  let main_cst_63 : FVec F S_ .f32 := constant S_ .f32 0x00000000#32
  let main_v212 : FVec F S64x32 .f32 := (fun x v => Host.reduceAdd x v reducesTo_S64x8192x32_S64x32_d1 h_S_) main_v211 main_cst_63
  let main_v213 : FVec F S64x1x32 .f32 := broadcastInDim S64x1x32 ![0, 2] bcast_S64x32_S64x1x32_0_2 main_v212
  let main_v214 : IVec S64x1x32 1 := cmpf .oge main_v213 main_v4
  let main_v215 : IVec S64x1x32 32 := fn_where_0 (F := F) main_v214 main_v207 main_v205
  let main_c_64 : IVec S_ 32 := constantI S_ 32 512#32
  let main_v216 : IVec S64x1x32 32 := broadcastInDim S64x1x32 ![] bcast_S_S64x1x32 main_c_64
  let main_v217 : IVec S64x1x32 32 := addi main_v215 main_v216
  let main_v218 : FVec F S64x1x32 .f32 := bitcastToFloat .f32 main_v217
  let main_v219 : FVec F S64x8192x32 .f32 := broadcastInDim S64x8192x32 ![0, 1, 2] bcast_S64x1x32_S64x8192x32_0_1_2 main_v218
  let main_v220 : IVec S64x8192x32 1 := cmpf .oge main_v0 main_v219
  fn_part12 (F := F) main_v0 main_v4 main_v215 main_v217 main_v220

def fn_part10 {F : FTy → Type} [FloatOps F] (main_v0 : FVec F S64x8192x32 .f32) (main_v4 : FVec F S64x1x32 .f32) (main_v175 : IVec S64x1x32 32) (main_v177 : IVec S64x1x32 32) (main_v182 : FVec F S64x32 .f32) : IVec S64x1x32 1 :=
  let main_v183 : FVec F S64x1x32 .f32 := broadcastInDim S64x1x32 ![0, 2] bcast_S64x32_S64x1x32_0_2 main_v182
  let main_v184 : IVec S64x1x32 1 := cmpf .oge main_v183 main_v4
  let main_v185 : IVec S64x1x32 32 := fn_where_0 (F := F) main_v184 main_v177 main_v175
  let main_c_55 : IVec S_ 32 := constantI S_ 32 4096#32
  let main_v186 : IVec S64x1x32 32 := broadcastInDim S64x1x32 ![] bcast_S_S64x1x32 main_c_55
  let main_v187 : IVec S64x1x32 32 := addi main_v185 main_v186
  let main_v188 : FVec F S64x1x32 .f32 := bitcastToFloat .f32 main_v187
  let main_v189 : FVec F S64x8192x32 .f32 := broadcastInDim S64x8192x32 ![0, 1, 2] bcast_S64x1x32_S64x8192x32_0_1_2 main_v188
  let main_v190 : IVec S64x8192x32 1 := cmpf .oge main_v0 main_v189
  let main_cst_56 : FVec F S_ .f32 := constant S_ .f32 0x00000000#32
  let main_v191 : FVec F S64x8192x32 .f32 := fn_where (F := F) main_v190 main_v0 main_cst_56
  let main_cst_57 : FVec F S_ .f32 := constant S_ .f32 0x00000000#32
  let main_v192 : FVec F S64x32 .f32 := (fun x v => Host.reduceAdd x v reducesTo_S64x8192x32_S64x32_d1 h_S_) main_v191 main_cst_57
  let main_v193 : FVec F S64x1x32 .f32 := broadcastInDim S64x1x32 ![0, 2] bcast_S64x32_S64x1x32_0_2 main_v192
  let main_v194 : IVec S64x1x32 1 := cmpf .oge main_v193 main_v4
  let main_v195 : IVec S64x1x32 32 := fn_where_0 (F := F) main_v194 main_v187 main_v185
  let main_c_58 : IVec S_ 32 := constantI S_ 32 2048#32
  let main_v196 : IVec S64x1x32 32 := broadcastInDim S64x1x32 ![] bcast_S_S64x1x32 main_c_58
  let main_v197 : IVec S64x1x32 32 := addi main_v195 main_v196
  let main_v198 : FVec F S64x1x32 .f32 := bitcastToFloat .f32 main_v197
  let main_v199 : FVec F S64x8192x32 .f32 := broadcastInDim S64x8192x32 ![0, 1, 2] bcast_S64x1x32_S64x8192x32_0_1_2 main_v198
  let main_v200 : IVec S64x8192x32 1 := cmpf .oge main_v0 main_v199
  let main_cst_59 : FVec F S_ .f32 := constant S_ .f32 0x00000000#32
  let main_v201 : FVec F S64x8192x32 .f32 := fn_where (F := F) main_v200 main_v0 main_cst_59
  fn_part11 (F := F) main_v0 main_v4 main_v195 main_v197 main_v201

def fn_part9 {F : FTy → Type} [FloatOps F] (main_v0 : FVec F S64x8192x32 .f32) (main_v4 : FVec F S64x1x32 .f32) (main_v155 : IVec S64x1x32 32) (main_v157 : IVec S64x1x32 32) (main_v164 : IVec S64x1x32 1) : IVec S64x1x32 1 :=
  let main_v165 : IVec S64x1x32 32 := fn_where_0 (F := F) main_v164 main_v157 main_v155
  let main_c_49 : IVec S_ 32 := constantI S_ 32 16384#32
  let main_v166 : IVec S64x1x32 32 := broadcastInDim S64x1x32 ![] bcast_S_S64x1x32 main_c_49
  let main_v167 : IVec S64x1x32 32 := addi main_v165 main_v166
  let main_v168 : FVec F S64x1x32 .f32 := bitcastToFloat .f32 main_v167
  let main_v169 : FVec F S64x8192x32 .f32 := broadcastInDim S64x8192x32 ![0, 1, 2] bcast_S64x1x32_S64x8192x32_0_1_2 main_v168
  let main_v170 : IVec S64x8192x32 1 := cmpf .oge main_v0 main_v169
  let main_cst_50 : FVec F S_ .f32 := constant S_ .f32 0x00000000#32
  let main_v171 : FVec F S64x8192x32 .f32 := fn_where (F := F) main_v170 main_v0 main_cst_50
  let main_cst_51 : FVec F S_ .f32 := constant S_ .f32 0x00000000#32
  let main_v172 : FVec F S64x32 .f32 := (fun x v => Host.reduceAdd x v reducesTo_S64x8192x32_S64x32_d1 h_S_) main_v171 main_cst_51
  let main_v173 : FVec F S64x1x32 .f32 := broadcastInDim S64x1x32 ![0, 2] bcast_S64x32_S64x1x32_0_2 main_v172
  let main_v174 : IVec S64x1x32 1 := cmpf .oge main_v173 main_v4
  let main_v175 : IVec S64x1x32 32 := fn_where_0 (F := F) main_v174 main_v167 main_v165
  let main_c_52 : IVec S_ 32 := constantI S_ 32 8192#32
  let main_v176 : IVec S64x1x32 32 := broadcastInDim S64x1x32 ![] bcast_S_S64x1x32 main_c_52
  let main_v177 : IVec S64x1x32 32 := addi main_v175 main_v176
  let main_v178 : FVec F S64x1x32 .f32 := bitcastToFloat .f32 main_v177
  let main_v179 : FVec F S64x8192x32 .f32 := broadcastInDim S64x8192x32 ![0, 1, 2] bcast_S64x1x32_S64x8192x32_0_1_2 main_v178
  let main_v180 : IVec S64x8192x32 1 := cmpf .oge main_v0 main_v179
  let main_cst_53 : FVec F S_ .f32 := constant S_ .f32 0x00000000#32
  let main_v181 : FVec F S64x8192x32 .f32 := fn_where (F := F) main_v180 main_v0 main_cst_53
  let main_cst_54 : FVec F S_ .f32 := constant S_ .f32 0x00000000#32
  let main_v182 : FVec F S64x32 .f32 := (fun x v => Host.reduceAdd x v reducesTo_S64x8192x32_S64x32_d1 h_S_) main_v181 main_cst_54
  fn_part10 (F := F) main_v0 main_v4 main_v175 main_v177 main_v182

def fn_part8 {F : FTy → Type} [FloatOps F] (main_v0 : FVec F S64x8192x32 .f32) (main_v4 : FVec F S64x1x32 .f32) (main_v145 : IVec S64x1x32 32) (main_c_43 : IVec S_ 32) : IVec S64x1x32 1 :=
  let main_v146 : IVec S64x1x32 32 := broadcastInDim S64x1x32 ![] bcast_S_S64x1x32 main_c_43
  let main_v147 : IVec S64x1x32 32 := addi main_v145 main_v146
  let main_v148 : FVec F S64x1x32 .f32 := bitcastToFloat .f32 main_v147
  let main_v149 : FVec F S64x8192x32 .f32 := broadcastInDim S64x8192x32 ![0, 1, 2] bcast_S64x1x32_S64x8192x32_0_1_2 main_v148
  let main_v150 : IVec S64x8192x32 1 := cmpf .oge main_v0 main_v149
  let main_cst_44 : FVec F S_ .f32 := constant S_ .f32 0x00000000#32
  let main_v151 : FVec F S64x8192x32 .f32 := fn_where (F := F) main_v150 main_v0 main_cst_44
  let main_cst_45 : FVec F S_ .f32 := constant S_ .f32 0x00000000#32
  let main_v152 : FVec F S64x32 .f32 := (fun x v => Host.reduceAdd x v reducesTo_S64x8192x32_S64x32_d1 h_S_) main_v151 main_cst_45
  let main_v153 : FVec F S64x1x32 .f32 := broadcastInDim S64x1x32 ![0, 2] bcast_S64x32_S64x1x32_0_2 main_v152
  let main_v154 : IVec S64x1x32 1 := cmpf .oge main_v153 main_v4
  let main_v155 : IVec S64x1x32 32 := fn_where_0 (F := F) main_v154 main_v147 main_v145
  let main_c_46 : IVec S_ 32 := constantI S_ 32 32768#32
  let main_v156 : IVec S64x1x32 32 := broadcastInDim S64x1x32 ![] bcast_S_S64x1x32 main_c_46
  let main_v157 : IVec S64x1x32 32 := addi main_v155 main_v156
  let main_v158 : FVec F S64x1x32 .f32 := bitcastToFloat .f32 main_v157
  let main_v159 : FVec F S64x8192x32 .f32 := broadcastInDim S64x8192x32 ![0, 1, 2] bcast_S64x1x32_S64x8192x32_0_1_2 main_v158
  let main_v160 : IVec S64x8192x32 1 := cmpf .oge main_v0 main_v159
  let main_cst_47 : FVec F S_ .f32 := constant S_ .f32 0x00000000#32
  let main_v161 : FVec F S64x8192x32 .f32 := fn_where (F := F) main_v160 main_v0 main_cst_47
  let main_cst_48 : FVec F S_ .f32 := constant S_ .f32 0x00000000#32
  let main_v162 : FVec F S64x32 .f32 := (fun x v => Host.reduceAdd x v reducesTo_S64x8192x32_S64x32_d1 h_S_) main_v161 main_cst_48
  let main_v163 : FVec F S64x1x32 .f32 := broadcastInDim S64x1x32 ![0, 2] bcast_S64x32_S64x1x32_0_2 main_v162
  let main_v164 : IVec S64x1x32 1 := cmpf .oge main_v163 main_v4
  fn_part9 (F := F) main_v0 main_v4 main_v155 main_v157 main_v164

def fn_part7 {F : FTy → Type} [FloatOps F] (main_v0 : FVec F S64x8192x32 .f32) (main_v4 : FVec F S64x1x32 .f32) (main_v125 : IVec S64x1x32 32) (main_v127 : IVec S64x1x32 32) : IVec S64x1x32 1 :=
  let main_v128 : FVec F S64x1x32 .f32 := bitcastToFloat .f32 main_v127
  let main_v129 : FVec F S64x8192x32 .f32 := broadcastInDim S64x8192x32 ![0, 1, 2] bcast_S64x1x32_S64x8192x32_0_1_2 main_v128
  let main_v130 : IVec S64x8192x32 1 := cmpf .oge main_v0 main_v129
  let main_cst_38 : FVec F S_ .f32 := constant S_ .f32 0x00000000#32
  let main_v131 : FVec F S64x8192x32 .f32 := fn_where (F := F) main_v130 main_v0 main_cst_38
  let main_cst_39 : FVec F S_ .f32 := constant S_ .f32 0x00000000#32
  let main_v132 : FVec F S64x32 .f32 := (fun x v => Host.reduceAdd x v reducesTo_S64x8192x32_S64x32_d1 h_S_) main_v131 main_cst_39
  let main_v133 : FVec F S64x1x32 .f32 := broadcastInDim S64x1x32 ![0, 2] bcast_S64x32_S64x1x32_0_2 main_v132
  let main_v134 : IVec S64x1x32 1 := cmpf .oge main_v133 main_v4
  let main_v135 : IVec S64x1x32 32 := fn_where_0 (F := F) main_v134 main_v127 main_v125
  let main_c_40 : IVec S_ 32 := constantI S_ 32 131072#32
  let main_v136 : IVec S64x1x32 32 := broadcastInDim S64x1x32 ![] bcast_S_S64x1x32 main_c_40
  let main_v137 : IVec S64x1x32 32 := addi main_v135 main_v136
  let main_v138 : FVec F S64x1x32 .f32 := bitcastToFloat .f32 main_v137
  let main_v139 : FVec F S64x8192x32 .f32 := broadcastInDim S64x8192x32 ![0, 1, 2] bcast_S64x1x32_S64x8192x32_0_1_2 main_v138
  let main_v140 : IVec S64x8192x32 1 := cmpf .oge main_v0 main_v139
  let main_cst_41 : FVec F S_ .f32 := constant S_ .f32 0x00000000#32
  let main_v141 : FVec F S64x8192x32 .f32 := fn_where (F := F) main_v140 main_v0 main_cst_41
  let main_cst_42 : FVec F S_ .f32 := constant S_ .f32 0x00000000#32
  let main_v142 : FVec F S64x32 .f32 := (fun x v => Host.reduceAdd x v reducesTo_S64x8192x32_S64x32_d1 h_S_) main_v141 main_cst_42
  let main_v143 : FVec F S64x1x32 .f32 := broadcastInDim S64x1x32 ![0, 2] bcast_S64x32_S64x1x32_0_2 main_v142
  let main_v144 : IVec S64x1x32 1 := cmpf .oge main_v143 main_v4
  let main_v145 : IVec S64x1x32 32 := fn_where_0 (F := F) main_v144 main_v137 main_v135
  let main_c_43 : IVec S_ 32 := constantI S_ 32 65536#32
  fn_part8 (F := F) main_v0 main_v4 main_v145 main_c_43

def fn_part6 {F : FTy → Type} [FloatOps F] (main_v0 : FVec F S64x8192x32 .f32) (main_v4 : FVec F S64x1x32 .f32) (main_v105 : IVec S64x1x32 32) (main_v107 : IVec S64x1x32 32) (main_v109 : FVec F S64x8192x32 .f32) : IVec S64x1x32 1 :=
  let main_v110 : IVec S64x8192x32 1 := cmpf .oge main_v0 main_v109
  let main_cst_32 : FVec F S_ .f32 := constant S_ .f32 0x00000000#32
  let main_v111 : FVec F S64x8192x32 .f32 := fn_where (F := F) main_v110 main_v0 main_cst_32
  let main_cst_33 : FVec F S_ .f32 := constant S_ .f32 0x00000000#32
  let main_v112 : FVec F S64x32 .f32 := (fun x v => Host.reduceAdd x v reducesTo_S64x8192x32_S64x32_d1 h_S_) main_v111 main_cst_33
  let main_v113 : FVec F S64x1x32 .f32 := broadcastInDim S64x1x32 ![0, 2] bcast_S64x32_S64x1x32_0_2 main_v112
  let main_v114 : IVec S64x1x32 1 := cmpf .oge main_v113 main_v4
  let main_v115 : IVec S64x1x32 32 := fn_where_0 (F := F) main_v114 main_v107 main_v105
  let main_c_34 : IVec S_ 32 := constantI S_ 32 524288#32
  let main_v116 : IVec S64x1x32 32 := broadcastInDim S64x1x32 ![] bcast_S_S64x1x32 main_c_34
  let main_v117 : IVec S64x1x32 32 := addi main_v115 main_v116
  let main_v118 : FVec F S64x1x32 .f32 := bitcastToFloat .f32 main_v117
  let main_v119 : FVec F S64x8192x32 .f32 := broadcastInDim S64x8192x32 ![0, 1, 2] bcast_S64x1x32_S64x8192x32_0_1_2 main_v118
  let main_v120 : IVec S64x8192x32 1 := cmpf .oge main_v0 main_v119
  let main_cst_35 : FVec F S_ .f32 := constant S_ .f32 0x00000000#32
  let main_v121 : FVec F S64x8192x32 .f32 := fn_where (F := F) main_v120 main_v0 main_cst_35
  let main_cst_36 : FVec F S_ .f32 := constant S_ .f32 0x00000000#32
  let main_v122 : FVec F S64x32 .f32 := (fun x v => Host.reduceAdd x v reducesTo_S64x8192x32_S64x32_d1 h_S_) main_v121 main_cst_36
  let main_v123 : FVec F S64x1x32 .f32 := broadcastInDim S64x1x32 ![0, 2] bcast_S64x32_S64x1x32_0_2 main_v122
  let main_v124 : IVec S64x1x32 1 := cmpf .oge main_v123 main_v4
  let main_v125 : IVec S64x1x32 32 := fn_where_0 (F := F) main_v124 main_v117 main_v115
  let main_c_37 : IVec S_ 32 := constantI S_ 32 262144#32
  let main_v126 : IVec S64x1x32 32 := broadcastInDim S64x1x32 ![] bcast_S_S64x1x32 main_c_37
  let main_v127 : IVec S64x1x32 32 := addi main_v125 main_v126
  fn_part7 (F := F) main_v0 main_v4 main_v125 main_v127

def fn_part5 {F : FTy → Type} [FloatOps F] (main_v0 : FVec F S64x8192x32 .f32) (main_v4 : FVec F S64x1x32 .f32) (main_v85 : IVec S64x1x32 32) (main_v87 : IVec S64x1x32 32) (main_v90 : IVec S64x8192x32 1) (main_cst_26 : FVec F S_ .f32) : IVec S64x1x32 1 :=
  let main_v91 : FVec F S64x8192x32 .f32 := fn_where (F := F) main_v90 main_v0 main_cst_26
  let main_cst_27 : FVec F S_ .f32 := constant S_ .f32 0x00000000#32
  let main_v92 : FVec F S64x32 .f32 := (fun x v => Host.reduceAdd x v reducesTo_S64x8192x32_S64x32_d1 h_S_) main_v91 main_cst_27
  let main_v93 : FVec F S64x1x32 .f32 := broadcastInDim S64x1x32 ![0, 2] bcast_S64x32_S64x1x32_0_2 main_v92
  let main_v94 : IVec S64x1x32 1 := cmpf .oge main_v93 main_v4
  let main_v95 : IVec S64x1x32 32 := fn_where_0 (F := F) main_v94 main_v87 main_v85
  let main_c_28 : IVec S_ 32 := constantI S_ 32 2097152#32
  let main_v96 : IVec S64x1x32 32 := broadcastInDim S64x1x32 ![] bcast_S_S64x1x32 main_c_28
  let main_v97 : IVec S64x1x32 32 := addi main_v95 main_v96
  let main_v98 : FVec F S64x1x32 .f32 := bitcastToFloat .f32 main_v97
  let main_v99 : FVec F S64x8192x32 .f32 := broadcastInDim S64x8192x32 ![0, 1, 2] bcast_S64x1x32_S64x8192x32_0_1_2 main_v98
  let main_v100 : IVec S64x8192x32 1 := cmpf .oge main_v0 main_v99
  let main_cst_29 : FVec F S_ .f32 := constant S_ .f32 0x00000000#32
  let main_v101 : FVec F S64x8192x32 .f32 := fn_where (F := F) main_v100 main_v0 main_cst_29
  let main_cst_30 : FVec F S_ .f32 := constant S_ .f32 0x00000000#32
  let main_v102 : FVec F S64x32 .f32 := (fun x v => Host.reduceAdd x v reducesTo_S64x8192x32_S64x32_d1 h_S_) main_v101 main_cst_30
  let main_v103 : FVec F S64x1x32 .f32 := broadcastInDim S64x1x32 ![0, 2] bcast_S64x32_S64x1x32_0_2 main_v102
  let main_v104 : IVec S64x1x32 1 := cmpf .oge main_v103 main_v4
  let main_v105 : IVec S64x1x32 32 := fn_where_0 (F := F) main_v104 main_v97 main_v95
  let main_c_31 : IVec S_ 32 := constantI S_ 32 1048576#32
  let main_v106 : IVec S64x1x32 32 := broadcastInDim S64x1x32 ![] bcast_S_S64x1x32 main_c_31
  let main_v107 : IVec S64x1x32 32 := addi main_v105 main_v106
  let main_v108 : FVec F S64x1x32 .f32 := bitcastToFloat .f32 main_v107
  let main_v109 : FVec F S64x8192x32 .f32 := broadcastInDim S64x8192x32 ![0, 1, 2] bcast_S64x1x32_S64x8192x32_0_1_2 main_v108
  fn_part6 (F := F) main_v0 main_v4 main_v105 main_v107 main_v109

def fn_part4 {F : FTy → Type} [FloatOps F] (main_v0 : FVec F S64x8192x32 .f32) (main_v4 : FVec F S64x1x32 .f32) (main_v65 : IVec S64x1x32 32) (main_v67 : IVec S64x1x32 32) (main_v71 : FVec F S64x8192x32 .f32) (main_cst_21 : FVec F S_ .f32) : IVec S64x1x32 1 :=
  let main_v72 : FVec F S64x32 .f32 := (fun x v => Host.reduceAdd x v reducesTo_S64x8192x32_S64x32_d1 h_S_) main_v71 main_cst_21
  let main_v73 : FVec F S64x1x32 .f32 := broadcastInDim S64x1x32 ![0, 2] bcast_S64x32_S64x1x32_0_2 main_v72
  let main_v74 : IVec S64x1x32 1 := cmpf .oge main_v73 main_v4
  let main_v75 : IVec S64x1x32 32 := fn_where_0 (F := F) main_v74 main_v67 main_v65
  let main_c_22 : IVec S_ 32 := constantI S_ 32 8388608#32
  let main_v76 : IVec S64x1x32 32 := broadcastInDim S64x1x32 ![] bcast_S_S64x1x32 main_c_22
  let main_v77 : IVec S64x1x32 32 := addi main_v75 main_v76
  let main_v78 : FVec F S64x1x32 .f32 := bitcastToFloat .f32 main_v77
  let main_v79 : FVec F S64x8192x32 .f32 := broadcastInDim S64x8192x32 ![0, 1, 2] bcast_S64x1x32_S64x8192x32_0_1_2 main_v78
  let main_v80 : IVec S64x8192x32 1 := cmpf .oge main_v0 main_v79
  let main_cst_23 : FVec F S_ .f32 := constant S_ .f32 0x00000000#32
  let main_v81 : FVec F S64x8192x32 .f32 := fn_where (F := F) main_v80 main_v0 main_cst_23
  let main_cst_24 : FVec F S_ .f32 := constant S_ .f32 0x00000000#32
  let main_v82 : FVec F S64x32 .f32 := (fun x v => Host.reduceAdd x v reducesTo_S64x8192x32_S64x32_d1 h_S_) main_v81 main_cst_24
  let main_v83 : FVec F S64x1x32 .f32 := broadcastInDim S64x1x32 ![0, 2] bcast_S64x32_S64x1x32_0_2 main_v82
  let main_v84 : IVec S64x1x32 1 := cmpf .oge main_v83 main_v4
  let main_v85 : IVec S64x1x32 32 := fn_where_0 (F := F) main_v84 main_v77 main_v75
  let main_c_25 : IVec S_ 32 := constantI S_ 32 4194304#32
  let main_v86 : IVec S64x1x32 32 := broadcastInDim S64x1x32 ![] bcast_S_S64x1x32 main_c_25
  let main_v87 : IVec S64x1x32 32 := addi main_v85 main_v86
  let main_v88 : FVec F S64x1x32 .f32 := bitcastToFloat .f32 main_v87
  let main_v89 : FVec F S64x8192x32 .f32 := broadcastInDim S64x8192x32 ![0, 1, 2] bcast_S64x1x32_S64x8192x32_0_1_2 main_v88
  let main_v90 : IVec S64x8192x32 1 := cmpf .oge main_v0 main_v89
  let main_cst_26 : FVec F S_ .f32 := constant S_ .f32 0x00000000#32
  fn_part5 (F := F) main_v0 main_v4 main_v85 main_v87 main_v90 main_cst_26

def fn_part3 {F : FTy → Type} [FloatOps F] (main_v0 : FVec F S64x8192x32 .f32) (main_v4 : FVec F S64x1x32 .f32) (main_v45 : IVec S64x1x32 32) (main_v47 : IVec S64x1x32 32) (main_v53 : FVec F S64x1x32 .f32) : IVec S64x1x32 1 :=
  let main_v54 : IVec S64x1x32 1 := cmpf .oge main_v53 main_v4
  let main_v55 : IVec S64x1x32 32 := fn_where_0 (F := F) main_v54 main_v47 main_v45
  let main_c_16 : IVec S_ 32 := constantI S_ 32 33554432#32
  let main_v56 : IVec S64x1x32 32 := broadcastInDim S64x1x32 ![] bcast_S_S64x1x32 main_c_16
  let main_v57 : IVec S64x1x32 32 := addi main_v55 main_v56
  let main_v58 : FVec F S64x1x32 .f32 := bitcastToFloat .f32 main_v57
  let main_v59 : FVec F S64x8192x32 .f32 := broadcastInDim S64x8192x32 ![0, 1, 2] bcast_S64x1x32_S64x8192x32_0_1_2 main_v58
  let main_v60 : IVec S64x8192x32 1 := cmpf .oge main_v0 main_v59
  let main_cst_17 : FVec F S_ .f32 := constant S_ .f32 0x00000000#32
  let main_v61 : FVec F S64x8192x32 .f32 := fn_where (F := F) main_v60 main_v0 main_cst_17
  let main_cst_18 : FVec F S_ .f32 := constant S_ .f32 0x00000000#32
  let main_v62 : FVec F S64x32 .f32 := (fun x v => Host.reduceAdd x v reducesTo_S64x8192x32_S64x32_d1 h_S_) main_v61 main_cst_18
  let main_v63 : FVec F S64x1x32 .f32 := broadcastInDim S64x1x32 ![0, 2] bcast_S64x32_S64x1x32_0_2 main_v62
  let main_v64 : IVec S64x1x32 1 := cmpf .oge main_v63 main_v4
  let main_v65 : IVec S64x1x32 32 := fn_where_0 (F := F) main_v64 main_v57 main_v55
  let main_c_19 : IVec S_ 32 := constantI S_ 32 16777216#32
  let main_v66 : IVec S64x1x32 32 := broadcastInDim S64x1x32 ![] bcast_S_S64x1x32 main_c_19
  let main_v67 : IVec S64x1x32 32 := addi main_v65 main_v66
  let main_v68 : FVec F S64x1x32 .f32 := bitcastToFloat .f32 main_v67
  let main_v69 : FVec F S64x8192x32 .f32 := broadcastInDim S64x8192x32 ![0, 1, 2] bcast_S64x1x32_S64x8192x32_0_1_2 main_v68
  let main_v70 : IVec S64x8192x32 1 := cmpf .oge main_v0 main_v69
  let main_cst_20 : FVec F S_ .f32 := constant S_ .f32 0x00000000#32
  let main_v71 : FVec F S64x8192x32 .f32 := fn_where (F := F) main_v70 main_v0 main_cst_20
  let main_cst_21 : FVec F S_ .f32 := constant S_ .f32 0x00000000#32
  fn_part4 (F := F) main_v0 main_v4 main_v65 main_v67 main_v71 main_cst_21

def fn_part2 {F : FTy → Type} [FloatOps F] (main_v0 : FVec F S64x8192x32 .f32) (main_v4 : FVec F S64x1x32 .f32) (main_v35 : IVec S64x1x32 32) : IVec S64x1x32 1 :=
  let main_c_10 : IVec S_ 32 := constantI S_ 32 134217728#32
  let main_v36 : IVec S64x1x32 32 := broadcastInDim S64x1x32 ![] bcast_S_S64x1x32 main_c_10
  let main_v37 : IVec S64x1x32 32 := addi main_v35 main_v36
  let main_v38 : FVec F S64x1x32 .f32 := bitcastToFloat .f32 main_v37
  let main_v39 : FVec F S64x8192x32 .f32 := broadcastInDim S64x8192x32 ![0, 1, 2] bcast_S64x1x32_S64x8192x32_0_1_2 main_v38
  let main_v40 : IVec S64x8192x32 1 := cmpf .oge main_v0 main_v39
  let main_cst_11 : FVec F S_ .f32 := constant S_ .f32 0x00000000#32
  let main_v41 : FVec F S64x8192x32 .f32 := fn_where (F := F) main_v40 main_v0 main_cst_11
  let main_cst_12 : FVec F S_ .f32 := constant S_ .f32 0x00000000#32
  let main_v42 : FVec F S64x32 .f32 := (fun x v => Host.reduceAdd x v reducesTo_S64x8192x32_S64x32_d1 h_S_) main_v41 main_cst_12
  let main_v43 : FVec F S64x1x32 .f32 := broadcastInDim S64x1x32 ![0, 2] bcast_S64x32_S64x1x32_0_2 main_v42
  let main_v44 : IVec S64x1x32 1 := cmpf .oge main_v43 main_v4
  let main_v45 : IVec S64x1x32 32 := fn_where_0 (F := F) main_v44 main_v37 main_v35
  let main_c_13 : IVec S_ 32 := constantI S_ 32 67108864#32
  let main_v46 : IVec S64x1x32 32 := broadcastInDim S64x1x32 ![] bcast_S_S64x1x32 main_c_13
  let main_v47 : IVec S64x1x32 32 := addi main_v45 main_v46
  let main_v48 : FVec F S64x1x32 .f32 := bitcastToFloat .f32 main_v47
  let main_v49 : FVec F S64x8192x32 .f32 := broadcastInDim S64x8192x32 ![0, 1, 2] bcast_S64x1x32_S64x8192x32_0_1_2 main_v48
  let main_v50 : IVec S64x8192x32 1 := cmpf .oge main_v0 main_v49
  let main_cst_14 : FVec F S_ .f32 := constant S_ .f32 0x00000000#32
  let main_v51 : FVec F S64x8192x32 .f32 := fn_where (F := F) main_v50 main_v0 main_cst_14
  let main_cst_15 : FVec F S_ .f32 := constant S_ .f32 0x00000000#32
  let main_v52 : FVec F S64x32 .f32 := (fun x v => Host.reduceAdd x v reducesTo_S64x8192x32_S64x32_d1 h_S_) main_v51 main_cst_15
  let main_v53 : FVec F S64x1x32 .f32 := broadcastInDim S64x1x32 ![0, 2] bcast_S64x32_S64x1x32_0_2 main_v52
  fn_part3 (F := F) main_v0 main_v4 main_v45 main_v47 main_v53

def fn_part1 {F : FTy → Type} [FloatOps F] (main_v0 : FVec F S64x8192x32 .f32) (main_v4 : FVec F S64x1x32 .f32) (main_v15 : IVec S64x1x32 32) (main_v16 : IVec S64x1x32 32) : IVec S64x1x32 1 :=
  let main_v17 : IVec S64x1x32 32 := addi main_v15 main_v16
  let main_v18 : FVec F S64x1x32 .f32 := bitcastToFloat .f32 main_v17
  let main_v19 : FVec F S64x8192x32 .f32 := broadcastInDim S64x8192x32 ![0, 1, 2] bcast_S64x1x32_S64x8192x32_0_1_2 main_v18
  let main_v20 : IVec S64x8192x32 1 := cmpf .oge main_v0 main_v19
  let main_cst_5 : FVec F S_ .f32 := constant S_ .f32 0x00000000#32
  let main_v21 : FVec F S64x8192x32 .f32 := fn_where (F := F) main_v20 main_v0 main_cst_5
  let main_cst_6 : FVec F S_ .f32 := constant S_ .f32 0x00000000#32
  let main_v22 : FVec F S64x32 .f32 := (fun x v => Host.reduceAdd x v reducesTo_S64x8192x32_S64x32_d1 h_S_) main_v21 main_cst_6
  let main_v23 : FVec F S64x1x32 .f32 := broadcastInDim S64x1x32 ![0, 2] bcast_S64x32_S64x1x32_0_2 main_v22
  let main_v24 : IVec S64x1x32 1 := cmpf .oge main_v23 main_v4
  let main_v25 : IVec S64x1x32 32 := fn_where_0 (F := F) main_v24 main_v17 main_v15
  let main_c_7 : IVec S_ 32 := constantI S_ 32 268435456#32
  let main_v26 : IVec S64x1x32 32 := broadcastInDim S64x1x32 ![] bcast_S_S64x1x32 main_c_7
  let main_v27 : IVec S64x1x32 32 := addi main_v25 main_v26
  let main_v28 : FVec F S64x1x32 .f32 := bitcastToFloat .f32 main_v27
  let main_v29 : FVec F S64x8192x32 .f32 := broadcastInDim S64x8192x32 ![0, 1, 2] bcast_S64x1x32_S64x8192x32_0_1_2 main_v28
  let main_v30 : IVec S64x8192x32 1 := cmpf .oge main_v0 main_v29
  let main_cst_8 : FVec F S_ .f32 := constant S_ .f32 0x00000000#32
  let main_v31 : FVec F S64x8192x32 .f32 := fn_where (F := F) main_v30 main_v0 main_cst_8
  let main_cst_9 : FVec F S_ .f32 := constant S_ .f32 0x00000000#32
  let main_v32 : FVec F S64x32 .f32 := (fun x v => Host.reduceAdd x v reducesTo_S64x8192x32_S64x32_d1 h_S_) main_v31 main_cst_9
  let main_v33 : FVec F S64x1x32 .f32 := broadcastInDim S64x1x32 ![0, 2] bcast_S64x32_S64x1x32_0_2 main_v32
  let main_v34 : IVec S64x1x32 1 := cmpf .oge main_v33 main_v4
  let main_v35 : IVec S64x1x32 32 := fn_where_0 (F := F) main_v34 main_v27 main_v25
  fn_part2 (F := F) main_v0 main_v4 main_v35

def fn {F : FTy → Type} [FloatOps F] (main_arg0 : FVec F S64x8192x32 .f32) : IVec S64x1x32 1 :=
  let main_v0 : FVec F S64x8192x32 .f32 := Host.exp main_arg0
  let main_cst : FVec F S_ .f32 := constant S_ .f32 0x00000000#32
  let main_v1 : FVec F S64x32 .f32 := (fun x v => Host.reduceAdd x v reducesTo_S64x8192x32_S64x32_d1 h_S_) main_v0 main_cst
  let main_v2 : FVec F S64x1x32 .f32 := broadcastInDim S64x1x32 ![0, 2] bcast_S64x32_S64x1x32_0_2 main_v1
  let main_cst_0 : FVec F S_ .f32 := constant S_ .f32 0x3F5C28F6#32
  let main_v3 : FVec F S64x1x32 .f32 := broadcastInDim S64x1x32 ![] bcast_S_S64x1x32 main_cst_0
  let main_v4 : FVec F S64x1x32 .f32 := mulf main_v3 main_v2
  let main_c : IVec S_ 32 := constantI S_ 32 0#32
  let main_v5 : IVec S64x1x32 32 := broadcastInDim S64x1x32 ![] bcast_S_S64x1x32 main_c
  let main_c_1 : IVec S_ 32 := constantI S_ 32 1073741824#32
  let main_v6 : IVec S64x1x32 32 := broadcastInDim S64x1x32 ![] bcast_S_S64x1x32 main_c_1
  let main_v7 : IVec S64x1x32 32 := addi main_v5 main_v6
  let main_v8 : FVec F S64x1x32 .f32 := bitcastToFloat .f32 main_v7
  let main_v9 : FVec F S64x8192x32 .f32 := broadcastInDim S64x8192x32 ![0, 1, 2] bcast_S64x1x32_S64x8192x32_0_1_2 main_v8
  let main_v10 : IVec S64x8192x32 1 := cmpf .oge main_v0 main_v9
  let main_cst_2 : FVec F S_ .f32 := constant S_ .f32 0x00000000#32
  let main_v11 : FVec F S64x8192x32 .f32 := fn_where (F := F) main_v10 main_v0 main_cst_2
  let main_cst_3 : FVec F S_ .f32 := constant S_ .f32 0x00000000#32
  let main_v12 : FVec F S64x32 .f32 := (fun x v => Host.reduceAdd x v reducesTo_S64x8192x32_S64x32_d1 h_S_) main_v11 main_cst_3
  let main_v13 : FVec F S64x1x32 .f32 := broadcastInDim S64x1x32 ![0, 2] bcast_S64x32_S64x1x32_0_2 main_v12
  let main_v14 : IVec S64x1x32 1 := cmpf .oge main_v13 main_v4
  let main_v15 : IVec S64x1x32 32 := fn_where_0 (F := F) main_v14 main_v7 main_v5
  let main_c_4 : IVec S_ 32 := constantI S_ 32 536870912#32
  let main_v16 : IVec S64x1x32 32 := broadcastInDim S64x1x32 ![] bcast_S_S64x1x32 main_c_4
  fn_part1 (F := F) main_v0 main_v4 main_v15 main_v16
-- ==== Kernel.lean ====
abbrev S64x8192x32 : Shape := ⟨3, ![64, 8192, 32]⟩
abbrev S512x32 : Shape := ⟨2, ![512, 32]⟩
abbrev S2052x32 : Shape := ⟨2, ![2052, 32]⟩
abbrev S520x32 : Shape := ⟨2, ![520, 32]⟩
abbrev S16 : Shape := ⟨1, ![16]⟩
abbrev S1x16 : Shape := ⟨2, ![1, 16]⟩
abbrev S_ : Shape := ⟨0, ![]⟩
abbrev S1x512x32 : Shape := ⟨3, ![1, 512, 32]⟩

abbrev nBuf : Table → Nat
  | .hbm => 2
  | .local .scVector .vmem => 4
  | _ => 0

abbrev bufTy : (tb : Table) → Fin (nBuf tb) → BufTy
  | .hbm, ⟨0, _⟩ => ⟨S64x8192x32, .f32⟩
  | .hbm, ⟨1, _⟩ => ⟨S64x8192x32, .f32⟩
  | .local .scVector .vmem, ⟨0, _⟩ => ⟨S512x32, .f32⟩
  | .local .scVector .vmem, ⟨1, _⟩ => ⟨S2052x32, .f32⟩
  | .local .scVector .vmem, ⟨2, _⟩ => ⟨S520x32, .f32⟩
  | .local .scVector .vmem, ⟨3, _⟩ => ⟨S520x32, .i32⟩
  | _, _ => ⟨S64x8192x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c2_i32_1 : BitVec 32 := 2#32
  let v3 : BitVec 32 := Scalar.addi c0_i32_0 c2_i32_1
  let c1_i32 : BitVec 32 := 1#32
  ⟨c0_i32_0, v3, c1_i32⟩
@[reducible] def k0_t2_loop : Scf.Loop 32 :=
  let c0_i32_3 : BitVec 32 := 0#32
  let c2052_i32 : BitVec 32 := 2052#32
  let v7 : BitVec 32 := Scalar.addi c0_i32_3 c2052_i32
  let c1_i32_4 : BitVec 32 := 1#32
  ⟨c0_i32_3, v7, c1_i32_4⟩
def k0_off1 (k0_t2 : Fin k0_t2_loop.trips) : Fin 2 → Nat :=
  let c0_i32_128 : BitVec 32 := 0#32
  let c0_i32_3 : BitVec 32 := 0#32
  let c1_i32_4 : BitVec 32 := 1#32
  let arg10 : BitVec 32 := Scf.iv c0_i32_3 c1_i32_4 k0_t2
  let c1_i32_127 : BitVec 32 := 1#32
  let v149 : BitVec 32 := Scalar.muli arg10 c1_i32_127
  let v150 : BitVec 32 := Scalar.addi c0_i32_128 v149
  let v152 : Index := Scalar.indexCast v150
  let c0 : Index := 0#32
  ![v152.toNat, 0]
def k0_off2 (k0_t2 : Fin k0_t2_loop.trips) : Fin 2 → Nat :=
  let c0_i32_128 : BitVec 32 := 0#32
  let c0_i32_3 : BitVec 32 := 0#32
  let c1_i32_4 : BitVec 32 := 1#32
  let arg10 : BitVec 32 := Scf.iv c0_i32_3 c1_i32_4 k0_t2
  let c1_i32_127 : BitVec 32 := 1#32
  let v149 : BitVec 32 := Scalar.muli arg10 c1_i32_127
  let v150 : BitVec 32 := Scalar.addi c0_i32_128 v149
  let v155 : Index := Scalar.indexCast v150
  let c16 : Index := 16#32
  ![v155.toNat, 16]
@[reducible] def k0_t3_loop : Scf.Loop 32 :=
  let c0_i32_7 : BitVec 32 := 0#32
  let c16_i32 : BitVec 32 := 16#32
  let v8 : BitVec 32 := Scalar.addi c0_i32_7 c16_i32
  let c1_i32_8 : BitVec 32 := 1#32
  ⟨c0_i32_7, v8, c1_i32_8⟩
def k0_off3 (i : grid0.Coords) (k0_t1 : Fin k0_t1_loop.trips) (k0_t3 : Fin k0_t3_loop.trips) : Fin 3 → Nat :=
  let c0_i32_0 : BitVec 32 := 0#32
  let c1_i32 : BitVec 32 := 1#32
  let arg8 : BitVec 32 := Scf.iv c0_i32_0 c1_i32 k0_t1
  let c32_i32 : BitVec 32 := 32#32
  let v5 : BitVec 32 := Scalar.muli arg8 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.addi v5 v1
  let c0_i32_7 : BitVec 32 := 0#32
  let c1_i32_8 : BitVec 32 := 1#32
  let arg10 : BitVec 32 := Scf.iv c0_i32_7 c1_i32_8 k0_t3
  let c512_i32 : BitVec 32 := 512#32
  let v149 : BitVec 32 := Scalar.muli arg10 c512_i32
  let c0_i32_132_r0 : BitVec 32 := 0#32
  ![v6.toNat, v149.toNat, 0]
@[reducible] def k0_t4_loop : Scf.Loop 32 :=
  let c0_i32_127 : BitVec 32 := 0#32
  let c512_i32_128 : BitVec 32 := 512#32
  let v150 : BitVec 32 := Scalar.addi c0_i32_127 c512_i32_128
  let c1_i32_129 : BitVec 32 := 1#32
  ⟨c0_i32_127, v150, c1_i32_129⟩
def k0_off4 (k0_t4 : Fin k0_t4_loop.trips) : Fin 2 → Nat :=
  let c0_i32_133 : BitVec 32 := 0#32
  let c0_i32_127 : BitVec 32 := 0#32
  let c1_i32_129 : BitVec 32 := 1#32
  let arg12 : BitVec 32 := Scf.iv c0_i32_127 c1_i32_129 k0_t4
  let c1_i32_132 : BitVec 32 := 1#32
  let v151 : BitVec 32 := Scalar.muli arg12 c1_i32_132
  let v152 : BitVec 32 := Scalar.addi c0_i32_133 v151
  let v153 : Index := Scalar.indexCast v152
  let c0 : Index := 0#32
  ![v153.toNat, 0]
def k0_off5 (k0_t4 : Fin k0_t4_loop.trips) : Fin 2 → Nat :=
  let c0_i32_133 : BitVec 32 := 0#32
  let c0_i32_127 : BitVec 32 := 0#32
  let c1_i32_129 : BitVec 32 := 1#32
  let arg12 : BitVec 32 := Scf.iv c0_i32_127 c1_i32_129 k0_t4
  let c1_i32_132 : BitVec 32 := 1#32
  let v151 : BitVec 32 := Scalar.muli arg12 c1_i32_132
  let v152 : BitVec 32 := Scalar.addi c0_i32_133 v151
  let v156 : Index := Scalar.indexCast v152
  let c16 : Index := 16#32
  ![v156.toNat, 16]
@[reducible] def k0_t5_loop : Scf.Loop 32 :=
  let c0_i32_135 : BitVec 32 := 0#32
  let c31_i32 : BitVec 32 := 31#32
  let v160 : BitVec 32 := Scalar.addi c0_i32_135 c31_i32
  let c1_i32_136 : BitVec 32 := 1#32
  ⟨c0_i32_135, v160, c1_i32_136⟩
@[reducible] def k0_t6_loop : Scf.Loop 32 :=
  let c0_i32_139 : BitVec 32 := 0#32
  let c31_i32_140 : BitVec 32 := 31#32
  let v163 : BitVec 32 := Scalar.addi c0_i32_139 c31_i32_140
  let c1_i32_141 : BitVec 32 := 1#32
  ⟨c0_i32_139, v163, c1_i32_141⟩

def k0_chk1 (v2 : IVec S16 32) (v166 : IVec S16 32) : Prop :=
  (∀ a x, ((![v166, v2] : Fin 2 → IVec S16 32) a x).toNat < S2052x32.size a)
theorem k0_idx1_inb : ∀ (v2 : IVec S16 32) (v166 : IVec S16 32) (k0_hw1 : k0_chk1 v2 v166), ∀ a x, ((![v166, v2] : Fin 2 → IVec S16 32) a x).toNat < S2052x32.size a := fun v2 v166 k0_hw1 => k0_hw1

def k0_chk2 (v168 : IVec S16 32) (v170 : IVec S16 32) : Prop :=
  (∀ a x, ((![v168, v170] : Fin 2 → IVec S16 32) a x).toNat < S2052x32.size a)
theorem k0_idx2_inb : ∀ (v168 : IVec S16 32) (v170 : IVec S16 32) (k0_hw2 : k0_chk2 v168 v170), ∀ a x, ((![v168, v170] : Fin 2 → IVec S16 32) a x).toNat < S2052x32.size a := fun v168 v170 k0_hw2 => k0_hw2
@[reducible] def k0_t7_loop : Scf.Loop 32 :=
  let c0_i32_10 : BitVec 32 := 0#32
  let c2048_i32 : BitVec 32 := 2048#32
  let v11 : BitVec 32 := Scalar.addi c0_i32_10 c2048_i32
  let c1_i32_11 : BitVec 32 := 1#32
  ⟨c0_i32_10, v11, c1_i32_11⟩
def k0_off6 (k0_t7 : Fin k0_t7_loop.trips) : Fin 2 → Nat :=
  let c2047_i32_127 : BitVec 32 := 2047#32
  let c0_i32_10 : BitVec 32 := 0#32
  let c1_i32_11 : BitVec 32 := 1#32
  let arg10 : BitVec 32 := Scf.iv c0_i32_10 c1_i32_11 k0_t7
  let v149 : BitVec 32 := Scalar.subi c2047_i32_127 arg10
  let v150 : Index := Scalar.indexCast v149
  let c0 : Index := 0#32
  ![v150.toNat, 0]
def k0_off7 (k0_t7 : Fin k0_t7_loop.trips) : Fin 2 → Nat :=
  let c2047_i32_127 : BitVec 32 := 2047#32
  let c0_i32_10 : BitVec 32 := 0#32
  let c1_i32_11 : BitVec 32 := 1#32
  let arg10 : BitVec 32 := Scf.iv c0_i32_10 c1_i32_11 k0_t7
  let v149 : BitVec 32 := Scalar.subi c2047_i32_127 arg10
  let v153 : Index := Scalar.indexCast v149
  let c16 : Index := 16#32
  ![v153.toNat, 16]
@[reducible] def k0_t8_loop : Scf.Loop 32 :=
  let c0_i32_17 : BitVec 32 := 0#32
  let c11_i32 : BitVec 32 := 11#32
  let v20 : BitVec 32 := Scalar.addi c0_i32_17 c11_i32
  let c1_i32_18 : BitVec 32 := 1#32
  ⟨c0_i32_17, v20, c1_i32_18⟩

def k0_chk3 (v2 : IVec S16 32) (v153 : IVec S16 32) : Prop :=
  (∀ a x, ((![v153, v2] : Fin 2 → IVec S16 32) a x).toNat < S2052x32.size a)
theorem k0_idx3_inb : ∀ (v2 : IVec S16 32) (v153 : IVec S16 32) (k0_hw3 : k0_chk3 v2 v153), ∀ a x, ((![v153, v2] : Fin 2 → IVec S16 32) a x).toNat < S2052x32.size a := fun v2 v153 k0_hw3 => k0_hw3

def k0_chk4 (v2 : IVec S16 32) (v23 : IVec S16 32) : Prop :=
  (∀ a x, ((![v23, v2] : Fin 2 → IVec S16 32) a x).toNat < S2052x32.size a)
theorem k0_idx4_inb : ∀ (v2 : IVec S16 32) (v23 : IVec S16 32) (k0_hw4 : k0_chk4 v2 v23), ∀ a x, ((![v23, v2] : Fin 2 → IVec S16 32) a x).toNat < S2052x32.size a := fun v2 v23 k0_hw4 => k0_hw4
@[reducible] def k0_t9_loop : Scf.Loop 32 :=
  let c0_i32_24 : BitVec 32 := 0#32
  let c11_i32_25 : BitVec 32 := 11#32
  let v30 : BitVec 32 := Scalar.addi c0_i32_24 c11_i32_25
  let c1_i32_26 : BitVec 32 := 1#32
  ⟨c0_i32_24, v30, c1_i32_26⟩

def k0_chk5 (v27 : IVec S16 32) (v153 : IVec S16 32) : Prop :=
  (∀ a x, ((![v153, v27] : Fin 2 → IVec S16 32) a x).toNat < S2052x32.size a)
theorem k0_idx5_inb : ∀ (v27 : IVec S16 32) (v153 : IVec S16 32) (k0_hw5 : k0_chk5 v27 v153), ∀ a x, ((![v153, v27] : Fin 2 → IVec S16 32) a x).toNat < S2052x32.size a := fun v27 v153 k0_hw5 => k0_hw5

def k0_chk6 (v27 : IVec S16 32) (v33 : IVec S16 32) : Prop :=
  (∀ a x, ((![v33, v27] : Fin 2 → IVec S16 32) a x).toNat < S2052x32.size a)
theorem k0_idx6_inb : ∀ (v27 : IVec S16 32) (v33 : IVec S16 32) (k0_hw6 : k0_chk6 v27 v33), ∀ a x, ((![v33, v27] : Fin 2 → IVec S16 32) a x).toNat < S2052x32.size a := fun v27 v33 k0_hw6 => k0_hw6
@[reducible] def k0_t10_loop : Scf.Loop 32 :=
  let c0_i32_30 : BitVec 32 := 0#32
  let c16_i32_31 : BitVec 32 := 16#32
  let v37 : BitVec 32 := Scalar.addi c0_i32_30 c16_i32_31
  let c1_i32_32 : BitVec 32 := 1#32
  ⟨c0_i32_30, v37, c1_i32_32⟩
def k0_off8 (i : grid0.Coords) (k0_t1 : Fin k0_t1_loop.trips) (k0_t10 : Fin k0_t10_loop.trips) : Fin 3 → Nat :=
  let c0_i32_0 : BitVec 32 := 0#32
  let c1_i32 : BitVec 32 := 1#32
  let arg8 : BitVec 32 := Scf.iv c0_i32_0 c1_i32 k0_t1
  let c32_i32 : BitVec 32 := 32#32
  let v5 : BitVec 32 := Scalar.muli arg8 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.addi v5 v1
  let c0_i32_30 : BitVec 32 := 0#32
  let c1_i32_32 : BitVec 32 := 1#32
  let arg10 : BitVec 32 := Scf.iv c0_i32_30 c1_i32_32 k0_t10
  let c512_i32 : BitVec 32 := 512#32
  let v149 : BitVec 32 := Scalar.muli arg10 c512_i32
  let c0_i32_131_r1 : BitVec 32 := 0#32
  ![v6.toNat, v149.toNat, 0]
@[reducible] def k0_t11_loop : Scf.Loop 32 :=
  let c0_i32_127 : BitVec 32 := 0#32
  let c512_i32_128 : BitVec 32 := 512#32
  let v150 : BitVec 32 := Scalar.addi c0_i32_127 c512_i32_128
  let c1_i32_129 : BitVec 32 := 1#32
  ⟨c0_i32_127, v150, c1_i32_129⟩
def k0_off9 (k0_t11 : Fin k0_t11_loop.trips) : Fin 2 → Nat :=
  let c0_i32_127 : BitVec 32 := 0#32
  let c1_i32_129 : BitVec 32 := 1#32
  let arg13 : BitVec 32 := Scf.iv c0_i32_127 c1_i32_129 k0_t11
  let v152 : Index := Scalar.indexCast arg13
  let c0 : Index := 0#32
  ![v152.toNat, 0]
def k0_off10 (k0_t11 : Fin k0_t11_loop.trips) : Fin 2 → Nat :=
  let c0_i32_127 : BitVec 32 := 0#32
  let c1_i32_129 : BitVec 32 := 1#32
  let arg13 : BitVec 32 := Scf.iv c0_i32_127 c1_i32_129 k0_t11
  let v155 : Index := Scalar.indexCast arg13
  let c16 : Index := 16#32
  ![v155.toNat, 16]
@[reducible] def k0_t12_loop : Scf.Loop 32 :=
  let c0_i32_132 : BitVec 32 := 0#32
  let c31_i32 : BitVec 32 := 31#32
  let v159 : BitVec 32 := Scalar.addi c0_i32_132 c31_i32
  let c1_i32_133 : BitVec 32 := 1#32
  ⟨c0_i32_132, v159, c1_i32_133⟩
@[reducible] def k0_t13_loop : Scf.Loop 32 :=
  let c0_i32_136 : BitVec 32 := 0#32
  let c31_i32_137 : BitVec 32 := 31#32
  let v162 : BitVec 32 := Scalar.addi c0_i32_136 c31_i32_137
  let c1_i32_138 : BitVec 32 := 1#32
  ⟨c0_i32_136, v162, c1_i32_138⟩

def k0_chk7 (v2 : IVec S16 32) (v177 : IVec S16 32) : Prop :=
  (∀ a x, ((![v177, v2] : Fin 2 → IVec S16 32) a x).toNat < S520x32.size a) ∧
  (∀ a x, ((![v177, v2] : Fin 2 → IVec S16 32) a x).toNat < S520x32.size a)
theorem k0_idx7_inb : ∀ (v2 : IVec S16 32) (v177 : IVec S16 32) (k0_hw7 : k0_chk7 v2 v177), ∀ a x, ((![v177, v2] : Fin 2 → IVec S16 32) a x).toNat < S520x32.size a := fun v2 v177 k0_hw7 => k0_hw7.1
theorem k0_idx8_inb : ∀ (v2 : IVec S16 32) (v177 : IVec S16 32) (k0_hw7 : k0_chk7 v2 v177), ∀ a x, ((![v177, v2] : Fin 2 → IVec S16 32) a x).toNat < S520x32.size a := fun v2 v177 k0_hw7 => k0_hw7.2

def k0_chk8 (v179 : IVec S16 32) (v181 : IVec S16 32) : Prop :=
  (∀ a x, ((![v179, v181] : Fin 2 → IVec S16 32) a x).toNat < S520x32.size a)
theorem k0_idx9_inb : ∀ (v179 : IVec S16 32) (v181 : IVec S16 32) (k0_hw8 : k0_chk8 v179 v181), ∀ a x, ((![v179, v181] : Fin 2 → IVec S16 32) a x).toNat < S520x32.size a := fun v179 v181 k0_hw8 => k0_hw8

def k0_chk9 (v179 : IVec S16 32) (v183 : IVec S16 32) : Prop :=
  (∀ a x, ((![v179, v183] : Fin 2 → IVec S16 32) a x).toNat < S520x32.size a)
theorem k0_idx10_inb : ∀ (v179 : IVec S16 32) (v183 : IVec S16 32) (k0_hw9 : k0_chk9 v179 v183), ∀ a x, ((![v179, v183] : Fin 2 → IVec S16 32) a x).toNat < S520x32.size a := fun v179 v183 k0_hw9 => k0_hw9
@[reducible] def k0_t14_loop : Scf.Loop 32 :=
  let c0_i32_35 : BitVec 32 := 0#32
  let c1028_i32 : BitVec 32 := 1028#32
  let v47 : BitVec 32 := Scalar.addi c0_i32_35 c1028_i32
  let c1_i32_36 : BitVec 32 := 1#32
  ⟨c0_i32_35, v47, c1_i32_36⟩
def k0_off11 (k0_t14 : Fin k0_t14_loop.trips) : Fin 2 → Nat :=
  let c0_i32_128 : BitVec 32 := 0#32
  let c0_i32_35 : BitVec 32 := 0#32
  let c1_i32_36 : BitVec 32 := 1#32
  let arg10 : BitVec 32 := Scf.iv c0_i32_35 c1_i32_36 k0_t14
  let c1_i32_127 : BitVec 32 := 1#32
  let v149 : BitVec 32 := Scalar.muli arg10 c1_i32_127
  let v150 : BitVec 32 := Scalar.addi c0_i32_128 v149
  let v152 : Index := Scalar.indexCast v150
  let c0 : Index := 0#32
  ![v152.toNat, 0]
@[reducible] def k0_t15_loop (v46 : BitVec 32) : Scf.Loop 32 :=
  let c0_i32_38 : BitVec 32 := 0#32
  let v48 : BitVec 32 := Scalar.subi v46 c0_i32_38
  let c1_i32_40 : BitVec 32 := 1#32
  let v50 : BitVec 32 := Scalar.divsi v48 c1_i32_40
  let v51 : BitVec 32 := Scalar.muli v50 c1_i32_40
  let v52 : BitVec 32 := Scalar.addi c0_i32_38 v51
  let c1_i32_41 : BitVec 32 := 1#32
  ⟨c0_i32_38, v52, c1_i32_41⟩

def k0_off12 (v46 : BitVec 32) (k0_t15 : Fin (k0_t15_loop v46).trips) : Fin 2 → Nat :=
  let c0_i32_38 : BitVec 32 := 0#32
  let c1_i32_41 : BitVec 32 := 1#32
  let arg10 : BitVec 32 := Scf.iv c0_i32_38 c1_i32_41 k0_t15
  let v154 : Index := Scalar.indexCast arg10
  let c0 : Index := 0#32
  ![v154.toNat, 0]

def k0_chk11 (v40 : IVec S16 32) (v159 : IVec S16 32) : Prop :=
  (∀ a x, ((![v159, v40] : Fin 2 → IVec S16 32) a x).toNat < S2052x32.size a)
theorem k0_idx11_inb : ∀ (v40 : IVec S16 32) (v159 : IVec S16 32) (k0_hw11 : k0_chk11 v40 v159), ∀ a x, ((![v159, v40] : Fin 2 → IVec S16 32) a x).toNat < S2052x32.size a := fun v40 v159 k0_hw11 => k0_hw11
@[reducible] def k0_t16_loop (v46 : BitVec 32) : Scf.Loop 32 :=
  let c0_i32_38 : BitVec 32 := 0#32
  let v48 : BitVec 32 := Scalar.subi v46 c0_i32_38
  let c1_i32_40 : BitVec 32 := 1#32
  let v50 : BitVec 32 := Scalar.divsi v48 c1_i32_40
  let v51 : BitVec 32 := Scalar.muli v50 c1_i32_40
  let v52 : BitVec 32 := Scalar.addi c0_i32_38 v51
  let v49 : BitVec 32 := Scalar.addi c0_i32_38 v48
  let c1_i32_42 : BitVec 32 := 1#32
  ⟨v52, v49, c1_i32_42⟩
def k0_off13 (v46 : BitVec 32) (k0_t16 : Fin (k0_t16_loop v46).trips) : Fin 2 → Nat :=
  let c0_i32_38 : BitVec 32 := 0#32
  let v48 : BitVec 32 := Scalar.subi v46 c0_i32_38
  let c1_i32_40 : BitVec 32 := 1#32
  let v50 : BitVec 32 := Scalar.divsi v48 c1_i32_40
  let v51 : BitVec 32 := Scalar.muli v50 c1_i32_40
  let v52 : BitVec 32 := Scalar.addi c0_i32_38 v51
  let c1_i32_42 : BitVec 32 := 1#32
  let arg10 : BitVec 32 := Scf.iv v52 c1_i32_42 k0_t16
  let v154 : Index := Scalar.indexCast arg10
  let c0 : Index := 0#32
  ![v154.toNat, 0]

def k0_chk12 (v40 : IVec S16 32) (v159 : IVec S16 32) : Prop :=
  (∀ a x, ((![v159, v40] : Fin 2 → IVec S16 32) a x).toNat < S2052x32.size a)
theorem k0_idx12_inb : ∀ (v40 : IVec S16 32) (v159 : IVec S16 32) (k0_hw12 : k0_chk12 v40 v159), ∀ a x, ((![v159, v40] : Fin 2 → IVec S16 32) a x).toNat < S2052x32.size a := fun v40 v159 k0_hw12 => k0_hw12
@[reducible] def k0_t17_loop : Scf.Loop 32 :=
  let c0_i32_44 : BitVec 32 := 0#32
  let c1024_i32 : BitVec 32 := 1024#32
  let v56 : BitVec 32 := Scalar.addi c0_i32_44 c1024_i32
  let c1_i32_45 : BitVec 32 := 1#32
  ⟨c0_i32_44, v56, c1_i32_45⟩
def k0_off14 (k0_t17 : Fin k0_t17_loop.trips) : Fin 2 → Nat :=
  let c1023_i32_127 : BitVec 32 := 1023#32
  let c0_i32_44 : BitVec 32 := 0#32
  let c1_i32_45 : BitVec 32 := 1#32
  let arg10 : BitVec 32 := Scf.iv c0_i32_44 c1_i32_45 k0_t17
  let v149 : BitVec 32 := Scalar.subi c1023_i32_127 arg10
  let v150 : Index := Scalar.indexCast v149
  let c0 : Index := 0#32
  ![v150.toNat, 0]
@[reducible] def k0_t18_loop : Scf.Loop 32 :=
  let c0_i32_48 : BitVec 32 := 0#32
  let c10_i32 : BitVec 32 := 10#32
  let v60 : BitVec 32 := Scalar.addi c0_i32_48 c10_i32
  let c1_i32_49 : BitVec 32 := 1#32
  ⟨c0_i32_48, v60, c1_i32_49⟩

def k0_chk13 (v40 : IVec S16 32) (v153 : IVec S16 32) : Prop :=
  (∀ a x, ((![v153, v40] : Fin 2 → IVec S16 32) a x).toNat < S2052x32.size a)
theorem k0_idx13_inb : ∀ (v40 : IVec S16 32) (v153 : IVec S16 32) (k0_hw13 : k0_chk13 v40 v153), ∀ a x, ((![v153, v40] : Fin 2 → IVec S16 32) a x).toNat < S2052x32.size a := fun v40 v153 k0_hw13 => k0_hw13

def k0_chk14 (v40 : IVec S16 32) (v63 : IVec S16 32) : Prop :=
  (∀ a x, ((![v63, v40] : Fin 2 → IVec S16 32) a x).toNat < S2052x32.size a)
theorem k0_idx14_inb : ∀ (v40 : IVec S16 32) (v63 : IVec S16 32) (k0_hw14 : k0_chk14 v40 v63), ∀ a x, ((![v63, v40] : Fin 2 → IVec S16 32) a x).toNat < S2052x32.size a := fun v40 v63 k0_hw14 => k0_hw14
@[reducible] def k0_t19_loop : Scf.Loop 32 :=
  let c0_i32_52 : BitVec 32 := 0#32
  let c1028_i32_53 : BitVec 32 := 1028#32
  let v66 : BitVec 32 := Scalar.addi c0_i32_52 c1028_i32_53
  let c1_i32_54 : BitVec 32 := 1#32
  ⟨c0_i32_52, v66, c1_i32_54⟩
def k0_off15 (k0_t19 : Fin k0_t19_loop.trips) : Fin 2 → Nat :=
  let c0_i32_128 : BitVec 32 := 0#32
  let c0_i32_52 : BitVec 32 := 0#32
  let c1_i32_54 : BitVec 32 := 1#32
  let arg10 : BitVec 32 := Scf.iv c0_i32_52 c1_i32_54 k0_t19
  let c1_i32_127 : BitVec 32 := 1#32
  let v149 : BitVec 32 := Scalar.muli arg10 c1_i32_127
  let v150 : BitVec 32 := Scalar.addi c0_i32_128 v149
  let v152 : Index := Scalar.indexCast v150
  let c0 : Index := 0#32
  ![v152.toNat, 0]
@[reducible] def k0_t20_loop (v46 : BitVec 32) : Scf.Loop 32 :=
  let c0_i32_56 : BitVec 32 := 0#32
  let v67 : BitVec 32 := Scalar.subi v46 c0_i32_56
  let c1_i32_58 : BitVec 32 := 1#32
  let v69 : BitVec 32 := Scalar.divsi v67 c1_i32_58
  let v70 : BitVec 32 := Scalar.muli v69 c1_i32_58
  let v71 : BitVec 32 := Scalar.addi c0_i32_56 v70
  let c1_i32_59 : BitVec 32 := 1#32
  ⟨c0_i32_56, v71, c1_i32_59⟩
def k0_off16 (v46 : BitVec 32) (k0_t20 : Fin (k0_t20_loop v46).trips) : Fin 2 → Nat :=
  let c0_i32_56 : BitVec 32 := 0#32
  let c1_i32_59 : BitVec 32 := 1#32
  let arg10 : BitVec 32 := Scf.iv c0_i32_56 c1_i32_59 k0_t20
  let v149 : Index := Scalar.indexCast arg10
  let c0 : Index := 0#32
  ![v149.toNat, 0]

def k0_chk15 (v40 : IVec S16 32) (v163 : IVec S16 32) : Prop :=
  (∀ a x, ((![v163, v40] : Fin 2 → IVec S16 32) a x).toNat < S2052x32.size a)
theorem k0_idx15_inb : ∀ (v40 : IVec S16 32) (v163 : IVec S16 32) (k0_hw15 : k0_chk15 v40 v163), ∀ a x, ((![v163, v40] : Fin 2 → IVec S16 32) a x).toNat < S2052x32.size a := fun v40 v163 k0_hw15 => k0_hw15
@[reducible] def k0_t21_loop (v46 : BitVec 32) : Scf.Loop 32 :=
  let c0_i32_56 : BitVec 32 := 0#32
  let v67 : BitVec 32 := Scalar.subi v46 c0_i32_56
  let c1_i32_58 : BitVec 32 := 1#32
  let v69 : BitVec 32 := Scalar.divsi v67 c1_i32_58
  let v70 : BitVec 32 := Scalar.muli v69 c1_i32_58
  let v71 : BitVec 32 := Scalar.addi c0_i32_56 v70
  let v68 : BitVec 32 := Scalar.addi c0_i32_56 v67
  let c1_i32_60 : BitVec 32 := 1#32
  ⟨v71, v68, c1_i32_60⟩
def k0_off17 (v46 : BitVec 32) (k0_t21 : Fin (k0_t21_loop v46).trips) : Fin 2 → Nat :=
  let c0_i32_56 : BitVec 32 := 0#32
  let v67 : BitVec 32 := Scalar.subi v46 c0_i32_56
  let c1_i32_58 : BitVec 32 := 1#32
  let v69 : BitVec 32 := Scalar.divsi v67 c1_i32_58
  let v70 : BitVec 32 := Scalar.muli v69 c1_i32_58
  let v71 : BitVec 32 := Scalar.addi c0_i32_56 v70
  let c1_i32_60 : BitVec 32 := 1#32
  let arg10 : BitVec 32 := Scf.iv v71 c1_i32_60 k0_t21
  let v149 : Index := Scalar.indexCast arg10
  let c0 : Index := 0#32
  ![v149.toNat, 0]

def k0_chk10 (v46 : BitVec 32) : Prop :=
  ((k0_t15_loop v46).OK) ∧
  (∀ k0_t15 : Fin (k0_t15_loop v46).trips, ∀ a, (k0_off12 v46 k0_t15) a + S1x16.size a ≤ S520x32.size a) ∧
  ((k0_t16_loop v46).OK) ∧
  (∀ k0_t16 : Fin (k0_t16_loop v46).trips, ∀ a, (k0_off13 v46 k0_t16) a + S1x16.size a ≤ S520x32.size a) ∧
  ((k0_t20_loop v46).OK) ∧
  (∀ k0_t20 : Fin (k0_t20_loop v46).trips, ∀ a, (k0_off16 v46 k0_t20) a + S1x16.size a ≤ S520x32.size a) ∧
  ((k0_t21_loop v46).OK) ∧
  (∀ k0_t21 : Fin (k0_t21_loop v46).trips, ∀ a, (k0_off17 v46 k0_t21) a + S1x16.size a ≤ S520x32.size a)
theorem k0_t15_ok : ∀ (v46 : BitVec 32) (k0_hw10 : k0_chk10 v46), (k0_t15_loop v46).OK := fun v46 k0_hw10 => k0_hw10.1
theorem k0_off12_inb : ∀ (v46 : BitVec 32) (k0_hw10 : k0_chk10 v46) (k0_t15 : Fin (k0_t15_loop v46).trips), ∀ a, (k0_off12 v46 k0_t15) a + S1x16.size a ≤ S520x32.size a := fun v46 k0_hw10 k0_t15 => k0_hw10.2.1 k0_t15
theorem k0_t16_ok : ∀ (v46 : BitVec 32) (k0_hw10 : k0_chk10 v46), (k0_t16_loop v46).OK := fun v46 k0_hw10 => k0_hw10.2.2.1
theorem k0_off13_inb : ∀ (v46 : BitVec 32) (k0_hw10 : k0_chk10 v46) (k0_t16 : Fin (k0_t16_loop v46).trips), ∀ a, (k0_off13 v46 k0_t16) a + S1x16.size a ≤ S520x32.size a := fun v46 k0_hw10 k0_t16 => k0_hw10.2.2.2.1 k0_t16
theorem k0_t20_ok : ∀ (v46 : BitVec 32) (k0_hw10 : k0_chk10 v46), (k0_t20_loop v46).OK := fun v46 k0_hw10 => k0_hw10.2.2.2.2.1
theorem k0_off16_inb : ∀ (v46 : BitVec 32) (k0_hw10 : k0_chk10 v46) (k0_t20 : Fin (k0_t20_loop v46).trips), ∀ a, (k0_off16 v46 k0_t20) a + S1x16.size a ≤ S520x32.size a := fun v46 k0_hw10 k0_t20 => k0_hw10.2.2.2.2.2.1 k0_t20
theorem k0_t21_ok : ∀ (v46 : BitVec 32) (k0_hw10 : k0_chk10 v46), (k0_t21_loop v46).OK := fun v46 k0_hw10 => k0_hw10.2.2.2.2.2.2.1
theorem k0_off17_inb : ∀ (v46 : BitVec 32) (k0_hw10 : k0_chk10 v46) (k0_t21 : Fin (k0_t21_loop v46).trips), ∀ a, (k0_off17 v46 k0_t21) a + S1x16.size a ≤ S520x32.size a := fun v46 k0_hw10 k0_t21 => k0_hw10.2.2.2.2.2.2.2 k0_t21

def k0_chk16 (v40 : IVec S16 32) (v163 : IVec S16 32) : Prop :=
  (∀ a x, ((![v163, v40] : Fin 2 → IVec S16 32) a x).toNat < S2052x32.size a)
theorem k0_idx16_inb : ∀ (v40 : IVec S16 32) (v163 : IVec S16 32) (k0_hw16 : k0_chk16 v40 v163), ∀ a x, ((![v163, v40] : Fin 2 → IVec S16 32) a x).toNat < S2052x32.size a := fun v40 v163 k0_hw16 => k0_hw16
@[reducible] def k0_t22_loop : Scf.Loop 32 :=
  let c0_i32_62 : BitVec 32 := 0#32
  let c1024_i32_63 : BitVec 32 := 1024#32
  let v75 : BitVec 32 := Scalar.addi c0_i32_62 c1024_i32_63
  let c1_i32_64 : BitVec 32 := 1#32
  ⟨c0_i32_62, v75, c1_i32_64⟩
def k0_off18 (k0_t22 : Fin k0_t22_loop.trips) : Fin 2 → Nat :=
  let c1023_i32_127 : BitVec 32 := 1023#32
  let c0_i32_62 : BitVec 32 := 0#32
  let c1_i32_64 : BitVec 32 := 1#32
  let arg10 : BitVec 32 := Scf.iv c0_i32_62 c1_i32_64 k0_t22
  let v149 : BitVec 32 := Scalar.subi c1023_i32_127 arg10
  let v150 : Index := Scalar.indexCast v149
  let c0 : Index := 0#32
  ![v150.toNat, 0]
@[reducible] def k0_t23_loop : Scf.Loop 32 :=
  let c0_i32_68 : BitVec 32 := 0#32
  let c10_i32_69 : BitVec 32 := 10#32
  let v79 : BitVec 32 := Scalar.addi c0_i32_68 c10_i32_69
  let c1_i32_70 : BitVec 32 := 1#32
  ⟨c0_i32_68, v79, c1_i32_70⟩

def k0_chk17 (v40 : IVec S16 32) (v153 : IVec S16 32) : Prop :=
  (∀ a x, ((![v153, v40] : Fin 2 → IVec S16 32) a x).toNat < S2052x32.size a)
theorem k0_idx17_inb : ∀ (v40 : IVec S16 32) (v153 : IVec S16 32) (k0_hw17 : k0_chk17 v40 v153), ∀ a x, ((![v153, v40] : Fin 2 → IVec S16 32) a x).toNat < S2052x32.size a := fun v40 v153 k0_hw17 => k0_hw17

def k0_chk18 (v40 : IVec S16 32) (v82 : IVec S16 32) : Prop :=
  (∀ a x, ((![v82, v40] : Fin 2 → IVec S16 32) a x).toNat < S2052x32.size a)
theorem k0_idx18_inb : ∀ (v40 : IVec S16 32) (v82 : IVec S16 32) (k0_hw18 : k0_chk18 v40 v82), ∀ a x, ((![v82, v40] : Fin 2 → IVec S16 32) a x).toNat < S2052x32.size a := fun v40 v82 k0_hw18 => k0_hw18
@[reducible] def k0_t24_loop : Scf.Loop 32 :=
  let c0_i32_77 : BitVec 32 := 0#32
  let c1028_i32_78 : BitVec 32 := 1028#32
  let v100 : BitVec 32 := Scalar.addi c0_i32_77 c1028_i32_78
  let c1_i32_79 : BitVec 32 := 1#32
  ⟨c0_i32_77, v100, c1_i32_79⟩
def k0_off19 (k0_t24 : Fin k0_t24_loop.trips) : Fin 2 → Nat :=
  let c0_i32_128 : BitVec 32 := 0#32
  let c0_i32_77 : BitVec 32 := 0#32
  let c1_i32_79 : BitVec 32 := 1#32
  let arg10 : BitVec 32 := Scf.iv c0_i32_77 c1_i32_79 k0_t24
  let c1_i32_127 : BitVec 32 := 1#32
  let v149 : BitVec 32 := Scalar.muli arg10 c1_i32_127
  let v150 : BitVec 32 := Scalar.addi c0_i32_128 v149
  let v152 : Index := Scalar.indexCast v150
  let c16 : Index := 16#32
  ![v152.toNat, 16]
@[reducible] def k0_t25_loop (v99 : BitVec 32) : Scf.Loop 32 :=
  let c0_i32_81 : BitVec 32 := 0#32
  let v101 : BitVec 32 := Scalar.subi v99 c0_i32_81
  let c1_i32_83 : BitVec 32 := 1#32
  let v103 : BitVec 32 := Scalar.divsi v101 c1_i32_83
  let v104 : BitVec 32 := Scalar.muli v103 c1_i32_83
  let v105 : BitVec 32 := Scalar.addi c0_i32_81 v104
  let c1_i32_84 : BitVec 32 := 1#32
  ⟨c0_i32_81, v105, c1_i32_84⟩

def k0_off20 (v99 : BitVec 32) (k0_t25 : Fin (k0_t25_loop v99).trips) : Fin 2 → Nat :=
  let c0_i32_81 : BitVec 32 := 0#32
  let c1_i32_84 : BitVec 32 := 1#32
  let arg10 : BitVec 32 := Scf.iv c0_i32_81 c1_i32_84 k0_t25
  let v154 : Index := Scalar.indexCast arg10
  let c16 : Index := 16#32
  ![v154.toNat, 16]

def k0_chk20 (v93 : IVec S16 32) (v159 : IVec S16 32) : Prop :=
  (∀ a x, ((![v159, v93] : Fin 2 → IVec S16 32) a x).toNat < S2052x32.size a)
theorem k0_idx19_inb : ∀ (v93 : IVec S16 32) (v159 : IVec S16 32) (k0_hw20 : k0_chk20 v93 v159), ∀ a x, ((![v159, v93] : Fin 2 → IVec S16 32) a x).toNat < S2052x32.size a := fun v93 v159 k0_hw20 => k0_hw20
@[reducible] def k0_t26_loop (v99 : BitVec 32) : Scf.Loop 32 :=
  let c0_i32_81 : BitVec 32 := 0#32
  let v101 : BitVec 32 := Scalar.subi v99 c0_i32_81
  let c1_i32_83 : BitVec 32 := 1#32
  let v103 : BitVec 32 := Scalar.divsi v101 c1_i32_83
  let v104 : BitVec 32 := Scalar.muli v103 c1_i32_83
  let v105 : BitVec 32 := Scalar.addi c0_i32_81 v104
  let v102 : BitVec 32 := Scalar.addi c0_i32_81 v101
  let c1_i32_85 : BitVec 32 := 1#32
  ⟨v105, v102, c1_i32_85⟩
def k0_off21 (v99 : BitVec 32) (k0_t26 : Fin (k0_t26_loop v99).trips) : Fin 2 → Nat :=
  let c0_i32_81 : BitVec 32 := 0#32
  let v101 : BitVec 32 := Scalar.subi v99 c0_i32_81
  let c1_i32_83 : BitVec 32 := 1#32
  let v103 : BitVec 32 := Scalar.divsi v101 c1_i32_83
  let v104 : BitVec 32 := Scalar.muli v103 c1_i32_83
  let v105 : BitVec 32 := Scalar.addi c0_i32_81 v104
  let c1_i32_85 : BitVec 32 := 1#32
  let arg10 : BitVec 32 := Scf.iv v105 c1_i32_85 k0_t26
  let v154 : Index := Scalar.indexCast arg10
  let c16 : Index := 16#32
  ![v154.toNat, 16]

def k0_chk21 (v93 : IVec S16 32) (v159 : IVec S16 32) : Prop :=
  (∀ a x, ((![v159, v93] : Fin 2 → IVec S16 32) a x).toNat < S2052x32.size a)
theorem k0_idx20_inb : ∀ (v93 : IVec S16 32) (v159 : IVec S16 32) (k0_hw21 : k0_chk21 v93 v159), ∀ a x, ((![v159, v93] : Fin 2 → IVec S16 32) a x).toNat < S2052x32.size a := fun v93 v159 k0_hw21 => k0_hw21
@[reducible] def k0_t27_loop : Scf.Loop 32 :=
  let c0_i32_87 : BitVec 32 := 0#32
  let c1024_i32_88 : BitVec 32 := 1024#32
  let v109 : BitVec 32 := Scalar.addi c0_i32_87 c1024_i32_88
  let c1_i32_89 : BitVec 32 := 1#32
  ⟨c0_i32_87, v109, c1_i32_89⟩
def k0_off22 (k0_t27 : Fin k0_t27_loop.trips) : Fin 2 → Nat :=
  let c1023_i32_127 : BitVec 32 := 1023#32
  let c0_i32_87 : BitVec 32 := 0#32
  let c1_i32_89 : BitVec 32 := 1#32
  let arg10 : BitVec 32 := Scf.iv c0_i32_87 c1_i32_89 k0_t27
  let v149 : BitVec 32 := Scalar.subi c1023_i32_127 arg10
  let v150 : Index := Scalar.indexCast v149
  let c16 : Index := 16#32
  ![v150.toNat, 16]
@[reducible] def k0_t28_loop : Scf.Loop 32 :=
  let c0_i32_93 : BitVec 32 := 0#32
  let c10_i32_94 : BitVec 32 := 10#32
  let v113 : BitVec 32 := Scalar.addi c0_i32_93 c10_i32_94
  let c1_i32_95 : BitVec 32 := 1#32
  ⟨c0_i32_93, v113, c1_i32_95⟩

def k0_chk22 (v93 : IVec S16 32) (v153 : IVec S16 32) : Prop :=
  (∀ a x, ((![v153, v93] : Fin 2 → IVec S16 32) a x).toNat < S2052x32.size a)
theorem k0_idx21_inb : ∀ (v93 : IVec S16 32) (v153 : IVec S16 32) (k0_hw22 : k0_chk22 v93 v153), ∀ a x, ((![v153, v93] : Fin 2 → IVec S16 32) a x).toNat < S2052x32.size a := fun v93 v153 k0_hw22 => k0_hw22

def k0_chk23 (v93 : IVec S16 32) (v116 : IVec S16 32) : Prop :=
  (∀ a x, ((![v116, v93] : Fin 2 → IVec S16 32) a x).toNat < S2052x32.size a)
theorem k0_idx22_inb : ∀ (v93 : IVec S16 32) (v116 : IVec S16 32) (k0_hw23 : k0_chk23 v93 v116), ∀ a x, ((![v116, v93] : Fin 2 → IVec S16 32) a x).toNat < S2052x32.size a := fun v93 v116 k0_hw23 => k0_hw23
@[reducible] def k0_t29_loop : Scf.Loop 32 :=
  let c0_i32_98 : BitVec 32 := 0#32
  let c1028_i32_99 : BitVec 32 := 1028#32
  let v119 : BitVec 32 := Scalar.addi c0_i32_98 c1028_i32_99
  let c1_i32_100 : BitVec 32 := 1#32
  ⟨c0_i32_98, v119, c1_i32_100⟩
def k0_off23 (k0_t29 : Fin k0_t29_loop.trips) : Fin 2 → Nat :=
  let c0_i32_128 : BitVec 32 := 0#32
  let c0_i32_98 : BitVec 32 := 0#32
  let c1_i32_100 : BitVec 32 := 1#32
  let arg10 : BitVec 32 := Scf.iv c0_i32_98 c1_i32_100 k0_t29
  let c1_i32_127 : BitVec 32 := 1#32
  let v149 : BitVec 32 := Scalar.muli arg10 c1_i32_127
  let v150 : BitVec 32 := Scalar.addi c0_i32_128 v149
  let v152 : Index := Scalar.indexCast v150
  let c16 : Index := 16#32
  ![v152.toNat, 16]
@[reducible] def k0_t30_loop (v99 : BitVec 32) : Scf.Loop 32 :=
  let c0_i32_102 : BitVec 32 := 0#32
  let v120 : BitVec 32 := Scalar.subi v99 c0_i32_102
  let c1_i32_104 : BitVec 32 := 1#32
  let v122 : BitVec 32 := Scalar.divsi v120 c1_i32_104
  let v123 : BitVec 32 := Scalar.muli v122 c1_i32_104
  let v124 : BitVec 32 := Scalar.addi c0_i32_102 v123
  let c1_i32_105 : BitVec 32 := 1#32
  ⟨c0_i32_102, v124, c1_i32_105⟩
def k0_off24 (v99 : BitVec 32) (k0_t30 : Fin (k0_t30_loop v99).trips) : Fin 2 → Nat :=
  let c0_i32_102 : BitVec 32 := 0#32
  let c1_i32_105 : BitVec 32 := 1#32
  let arg10 : BitVec 32 := Scf.iv c0_i32_102 c1_i32_105 k0_t30
  let v149 : Index := Scalar.indexCast arg10
  let c16 : Index := 16#32
  ![v149.toNat, 16]

def k0_chk24 (v93 : IVec S16 32) (v163 : IVec S16 32) : Prop :=
  (∀ a x, ((![v163, v93] : Fin 2 → IVec S16 32) a x).toNat < S2052x32.size a)
theorem k0_idx23_inb : ∀ (v93 : IVec S16 32) (v163 : IVec S16 32) (k0_hw24 : k0_chk24 v93 v163), ∀ a x, ((![v163, v93] : Fin 2 → IVec S16 32) a x).toNat < S2052x32.size a := fun v93 v163 k0_hw24 => k0_hw24
@[reducible] def k0_t31_loop (v99 : BitVec 32) : Scf.Loop 32 :=
  let c0_i32_102 : BitVec 32 := 0#32
  let v120 : BitVec 32 := Scalar.subi v99 c0_i32_102
  let c1_i32_104 : BitVec 32 := 1#32
  let v122 : BitVec 32 := Scalar.divsi v120 c1_i32_104
  let v123 : BitVec 32 := Scalar.muli v122 c1_i32_104
  let v124 : BitVec 32 := Scalar.addi c0_i32_102 v123
  let v121 : BitVec 32 := Scalar.addi c0_i32_102 v120
  let c1_i32_106 : BitVec 32 := 1#32
  ⟨v124, v121, c1_i32_106⟩
def k0_off25 (v99 : BitVec 32) (k0_t31 : Fin (k0_t31_loop v99).trips) : Fin 2 → Nat :=
  let c0_i32_102 : BitVec 32 := 0#32
  let v120 : BitVec 32 := Scalar.subi v99 c0_i32_102
  let c1_i32_104 : BitVec 32 := 1#32
  let v122 : BitVec 32 := Scalar.divsi v120 c1_i32_104
  let v123 : BitVec 32 := Scalar.muli v122 c1_i32_104
  let v124 : BitVec 32 := Scalar.addi c0_i32_102 v123
  let c1_i32_106 : BitVec 32 := 1#32
  let arg10 : BitVec 32 := Scf.iv v124 c1_i32_106 k0_t31
  let v149 : Index := Scalar.indexCast arg10
  let c16 : Index := 16#32
  ![v149.toNat, 16]

def k0_chk19 (v99 : BitVec 32) : Prop :=
  ((k0_t25_loop v99).OK) ∧
  (∀ k0_t25 : Fin (k0_t25_loop v99).trips, ∀ a, (k0_off20 v99 k0_t25) a + S1x16.size a ≤ S520x32.size a) ∧
  ((k0_t26_loop v99).OK) ∧
  (∀ k0_t26 : Fin (k0_t26_loop v99).trips, ∀ a, (k0_off21 v99 k0_t26) a + S1x16.size a ≤ S520x32.size a) ∧
  ((k0_t30_loop v99).OK) ∧
  (∀ k0_t30 : Fin (k0_t30_loop v99).trips, ∀ a, (k0_off24 v99 k0_t30) a + S1x16.size a ≤ S520x32.size a) ∧
  ((k0_t31_loop v99).OK) ∧
  (∀ k0_t31 : Fin (k0_t31_loop v99).trips, ∀ a, (k0_off25 v99 k0_t31) a + S1x16.size a ≤ S520x32.size a)
theorem k0_t25_ok : ∀ (v99 : BitVec 32) (k0_hw19 : k0_chk19 v99), (k0_t25_loop v99).OK := fun v99 k0_hw19 => k0_hw19.1
theorem k0_off20_inb : ∀ (v99 : BitVec 32) (k0_hw19 : k0_chk19 v99) (k0_t25 : Fin (k0_t25_loop v99).trips), ∀ a, (k0_off20 v99 k0_t25) a + S1x16.size a ≤ S520x32.size a := fun v99 k0_hw19 k0_t25 => k0_hw19.2.1 k0_t25
theorem k0_t26_ok : ∀ (v99 : BitVec 32) (k0_hw19 : k0_chk19 v99), (k0_t26_loop v99).OK := fun v99 k0_hw19 => k0_hw19.2.2.1
theorem k0_off21_inb : ∀ (v99 : BitVec 32) (k0_hw19 : k0_chk19 v99) (k0_t26 : Fin (k0_t26_loop v99).trips), ∀ a, (k0_off21 v99 k0_t26) a + S1x16.size a ≤ S520x32.size a := fun v99 k0_hw19 k0_t26 => k0_hw19.2.2.2.1 k0_t26
theorem k0_t30_ok : ∀ (v99 : BitVec 32) (k0_hw19 : k0_chk19 v99), (k0_t30_loop v99).OK := fun v99 k0_hw19 => k0_hw19.2.2.2.2.1
theorem k0_off24_inb : ∀ (v99 : BitVec 32) (k0_hw19 : k0_chk19 v99) (k0_t30 : Fin (k0_t30_loop v99).trips), ∀ a, (k0_off24 v99 k0_t30) a + S1x16.size a ≤ S520x32.size a := fun v99 k0_hw19 k0_t30 => k0_hw19.2.2.2.2.2.1 k0_t30
theorem k0_t31_ok : ∀ (v99 : BitVec 32) (k0_hw19 : k0_chk19 v99), (k0_t31_loop v99).OK := fun v99 k0_hw19 => k0_hw19.2.2.2.2.2.2.1
theorem k0_off25_inb : ∀ (v99 : BitVec 32) (k0_hw19 : k0_chk19 v99) (k0_t31 : Fin (k0_t31_loop v99).trips), ∀ a, (k0_off25 v99 k0_t31) a + S1x16.size a ≤ S520x32.size a := fun v99 k0_hw19 k0_t31 => k0_hw19.2.2.2.2.2.2.2 k0_t31

def k0_chk25 (v93 : IVec S16 32) (v163 : IVec S16 32) : Prop :=
  (∀ a x, ((![v163, v93] : Fin 2 → IVec S16 32) a x).toNat < S2052x32.size a)
theorem k0_idx24_inb : ∀ (v93 : IVec S16 32) (v163 : IVec S16 32) (k0_hw25 : k0_chk25 v93 v163), ∀ a x, ((![v163, v93] : Fin 2 → IVec S16 32) a x).toNat < S2052x32.size a := fun v93 v163 k0_hw25 => k0_hw25
@[reducible] def k0_t32_loop : Scf.Loop 32 :=
  let c0_i32_108 : BitVec 32 := 0#32
  let c1024_i32_109 : BitVec 32 := 1024#32
  let v128 : BitVec 32 := Scalar.addi c0_i32_108 c1024_i32_109
  let c1_i32_110 : BitVec 32 := 1#32
  ⟨c0_i32_108, v128, c1_i32_110⟩
def k0_off26 (k0_t32 : Fin k0_t32_loop.trips) : Fin 2 → Nat :=
  let c1023_i32_127 : BitVec 32 := 1023#32
  let c0_i32_108 : BitVec 32 := 0#32
  let c1_i32_110 : BitVec 32 := 1#32
  let arg10 : BitVec 32 := Scf.iv c0_i32_108 c1_i32_110 k0_t32
  let v149 : BitVec 32 := Scalar.subi c1023_i32_127 arg10
  let v150 : Index := Scalar.indexCast v149
  let c16 : Index := 16#32
  ![v150.toNat, 16]
@[reducible] def k0_t33_loop : Scf.Loop 32 :=
  let c0_i32_114 : BitVec 32 := 0#32
  let c10_i32_115 : BitVec 32 := 10#32
  let v132 : BitVec 32 := Scalar.addi c0_i32_114 c10_i32_115
  let c1_i32_116 : BitVec 32 := 1#32
  ⟨c0_i32_114, v132, c1_i32_116⟩

def k0_chk26 (v93 : IVec S16 32) (v153 : IVec S16 32) : Prop :=
  (∀ a x, ((![v153, v93] : Fin 2 → IVec S16 32) a x).toNat < S2052x32.size a)
theorem k0_idx25_inb : ∀ (v93 : IVec S16 32) (v153 : IVec S16 32) (k0_hw26 : k0_chk26 v93 v153), ∀ a x, ((![v153, v93] : Fin 2 → IVec S16 32) a x).toNat < S2052x32.size a := fun v93 v153 k0_hw26 => k0_hw26

def k0_chk27 (v93 : IVec S16 32) (v135 : IVec S16 32) : Prop :=
  (∀ a x, ((![v135, v93] : Fin 2 → IVec S16 32) a x).toNat < S2052x32.size a)
theorem k0_idx26_inb : ∀ (v93 : IVec S16 32) (v135 : IVec S16 32) (k0_hw27 : k0_chk27 v93 v135), ∀ a x, ((![v135, v93] : Fin 2 → IVec S16 32) a x).toNat < S2052x32.size a := fun v93 v135 k0_hw27 => k0_hw27
@[reducible] def k0_t34_loop : Scf.Loop 32 :=
  let c0_i32_122 : BitVec 32 := 0#32
  let c16_i32_123 : BitVec 32 := 16#32
  let v147 : BitVec 32 := Scalar.addi c0_i32_122 c16_i32_123
  let c1_i32_124 : BitVec 32 := 1#32
  ⟨c0_i32_122, v147, c1_i32_124⟩
def k0_off27 (i : grid0.Coords) (k0_t1 : Fin k0_t1_loop.trips) (k0_t34 : Fin k0_t34_loop.trips) : Fin 3 → Nat :=
  let c0_i32_0 : BitVec 32 := 0#32
  let c1_i32 : BitVec 32 := 1#32
  let arg8 : BitVec 32 := Scf.iv c0_i32_0 c1_i32 k0_t1
  let c32_i32 : BitVec 32 := 32#32
  let v5 : BitVec 32 := Scalar.muli arg8 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.addi v5 v1
  let c0_i32_122 : BitVec 32 := 0#32
  let c1_i32_124 : BitVec 32 := 1#32
  let arg10 : BitVec 32 := Scf.iv c0_i32_122 c1_i32_124 k0_t34
  let c512_i32 : BitVec 32 := 512#32
  let v149 : BitVec 32 := Scalar.muli arg10 c512_i32
  let c0_i32_133_r2 : BitVec 32 := 0#32
  ![v6.toNat, v149.toNat, 0]
@[reducible] def k0_t35_loop : Scf.Loop 32 :=
  let c0_i32_127 : BitVec 32 := 0#32
  let c512_i32_128 : BitVec 32 := 512#32
  let v150 : BitVec 32 := Scalar.addi c0_i32_127 c512_i32_128
  let c1_i32_129 : BitVec 32 := 1#32
  ⟨c0_i32_127, v150, c1_i32_129⟩
def k0_off28 (k0_t35 : Fin k0_t35_loop.trips) : Fin 2 → Nat :=
  let c0_i32_134 : BitVec 32 := 0#32
  let c0_i32_127 : BitVec 32 := 0#32
  let c1_i32_129 : BitVec 32 := 1#32
  let arg12 : BitVec 32 := Scf.iv c0_i32_127 c1_i32_129 k0_t35
  let c1_i32_133 : BitVec 32 := 1#32
  let v152 : BitVec 32 := Scalar.muli arg12 c1_i32_133
  let v153 : BitVec 32 := Scalar.addi c0_i32_134 v152
  let v154 : Index := Scalar.indexCast v153
  let c0 : Index := 0#32
  ![v154.toNat, 0]
def k0_off29 (k0_t35 : Fin k0_t35_loop.trips) : Fin 2 → Nat :=
  let c0_i32_134 : BitVec 32 := 0#32
  let c0_i32_127 : BitVec 32 := 0#32
  let c1_i32_129 : BitVec 32 := 1#32
  let arg12 : BitVec 32 := Scf.iv c0_i32_127 c1_i32_129 k0_t35
  let c1_i32_133 : BitVec 32 := 1#32
  let v152 : BitVec 32 := Scalar.muli arg12 c1_i32_133
  let v153 : BitVec 32 := Scalar.addi c0_i32_134 v152
  let v156 : Index := Scalar.indexCast v153
  let c16 : Index := 16#32
  ![v156.toNat, 16]
def k0_off30 (k0_t35 : Fin k0_t35_loop.trips) : Fin 2 → Nat :=
  let c0_i32_134 : BitVec 32 := 0#32
  let c0_i32_127 : BitVec 32 := 0#32
  let c1_i32_129 : BitVec 32 := 1#32
  let arg12 : BitVec 32 := Scf.iv c0_i32_127 c1_i32_129 k0_t35
  let c1_i32_133 : BitVec 32 := 1#32
  let v152 : BitVec 32 := Scalar.muli arg12 c1_i32_133
  let v153 : BitVec 32 := Scalar.addi c0_i32_134 v152
  let v164 : Index := Scalar.indexCast v153
  let c0_136 : Index := 0#32
  ![v164.toNat, 0]
def k0_off31 (k0_t35 : Fin k0_t35_loop.trips) : Fin 2 → Nat :=
  let c0_i32_134 : BitVec 32 := 0#32
  let c0_i32_127 : BitVec 32 := 0#32
  let c1_i32_129 : BitVec 32 := 1#32
  let arg12 : BitVec 32 := Scf.iv c0_i32_127 c1_i32_129 k0_t35
  let c1_i32_133 : BitVec 32 := 1#32
  let v152 : BitVec 32 := Scalar.muli arg12 c1_i32_133
  let v153 : BitVec 32 := Scalar.addi c0_i32_134 v152
  let v170 : Index := Scalar.indexCast v153
  let c16_138 : Index := 16#32
  ![v170.toNat, 16]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x8192x32 : Shape := ⟨3, ![64, 8192, 32]⟩
abbrev S_ : Shape := ⟨0, ![]⟩
abbrev S64x32 : Shape := ⟨2, ![64, 32]⟩
abbrev S64x1x32 : Shape := ⟨3, ![64, 1, 32]⟩
abbrev S64x8192x32x1 : Shape := ⟨4, ![64, 8192, 32, 1]⟩
abbrev S1 : Shape := ⟨1, ![1]⟩
abbrev S1x1x1x1 : Shape := ⟨4, ![1, 1, 1, 1]⟩
abbrev S64x8193x32 : Shape := ⟨3, ![64, 8193, 32]⟩

abbrev nBuf : Space → Nat
  | .hbm => 88
  | .vmem => 0
  | .smem => 0
  | _ => 0

abbrev bufTy : (tb : Table) → Fin (tcTables nBuf tb) → BufTy
  | .hbm, ⟨0, _⟩ => ⟨S64x8192x32, .f32⟩
  | .hbm, ⟨1, _⟩ => ⟨S_, .f32⟩
  | .hbm, ⟨2, _⟩ => ⟨S64x32, .f32⟩
  | .hbm, ⟨3, _⟩ => ⟨S_, .f32⟩
  | .hbm, ⟨4, _⟩ => ⟨S64x32, .f32⟩
  | .hbm, ⟨5, _⟩ => ⟨S64x32, .f32⟩
  | .hbm, ⟨6, _⟩ => ⟨S64x1x32, .f32⟩
  | .hbm, ⟨7, _⟩ => ⟨S64x8192x32, .f32⟩
  | .hbm, ⟨8, _⟩ => ⟨S64x8192x32, .f32⟩
  | .hbm, ⟨9, _⟩ => ⟨S64x8192x32, .f32⟩
  | .hbm, ⟨10, _⟩ => ⟨S_, .f32⟩
  | .hbm, ⟨11, _⟩ => ⟨S64x32, .f32⟩
  | .hbm, ⟨12, _⟩ => ⟨S64x1x32, .f32⟩
  | .hbm, ⟨13, _⟩ => ⟨S64x1x32, .f32⟩
  | .hbm, ⟨14, _⟩ => ⟨S64x8192x32, .f32⟩
  | .hbm, ⟨15, _⟩ => ⟨S64x8192x32, .f32⟩
  | .hbm, ⟨16, _⟩ => ⟨S64x8192x32, .f32⟩
  | .hbm, ⟨17, _⟩ => ⟨S64x8192x32, .i32⟩
  | .hbm, ⟨18, _⟩ => ⟨S64x8192x32, .f32⟩
  | .hbm, ⟨19, _⟩ => ⟨S64x8192x32, .i32⟩
  | .hbm, ⟨20, _⟩ => ⟨S_, .i32⟩
  | .hbm, ⟨21, _⟩ => ⟨S64x8192x32, .i32⟩
  | .hbm, ⟨22, _⟩ => ⟨S64x8192x32, .i1⟩
  | .hbm, ⟨23, _⟩ => ⟨S_, .i32⟩
  | .hbm, ⟨24, _⟩ => ⟨S64x8192x32, .i32⟩
  | .hbm, ⟨25, _⟩ => ⟨S64x8192x32, .i32⟩
  | .hbm, ⟨26, _⟩ => ⟨S64x8192x32, .i32⟩
  | .hbm, ⟨27, _⟩ => ⟨S64x8192x32x1, .i32⟩
  | .hbm, ⟨28, _⟩ => ⟨S1, .i32⟩
  | .hbm, ⟨29, _⟩ => ⟨S_, .i32⟩
  | .hbm, ⟨30, _⟩ => ⟨S64x8192x32x1, .i32⟩
  | .hbm, ⟨31, _⟩ => ⟨S64x8192x32x1, .i1⟩
  | .hbm, ⟨32, _⟩ => ⟨S1x1x1x1, .i32⟩
  | .hbm, ⟨33, _⟩ => ⟨S64x8192x32x1, .i32⟩
  | .hbm, ⟨34, _⟩ => ⟨S64x8192x32x1, .i1⟩
  | .hbm, ⟨35, _⟩ => ⟨S64x8192x32x1, .i1⟩
  | .hbm, ⟨36, _⟩ => ⟨S_, .i1⟩
  | .hbm, ⟨37, _⟩ => ⟨S64x8192x32, .i1⟩
  | .hbm, ⟨38, _⟩ => ⟨S64x8192x32, .f32⟩
  | .hbm, ⟨39, _⟩ => ⟨S_, .f32⟩
  | .hbm, ⟨40, _⟩ => ⟨S64x8192x32, .f32⟩
  | .hbm, ⟨41, _⟩ => ⟨S64x8192x32, .f32⟩
  | .hbm, ⟨42, _⟩ => ⟨S64x8192x32, .f32⟩
  | .hbm, ⟨43, _⟩ => ⟨S_, .f32⟩
  | .hbm, ⟨44, _⟩ => ⟨S_, .f32⟩
  | .hbm, ⟨45, _⟩ => ⟨S64x8192x32, .f32⟩
  | .hbm, ⟨46, _⟩ => ⟨S_, .f32⟩
  | .hbm, ⟨47, _⟩ => ⟨S64x8192x32, .f32⟩
  | .hbm, ⟨48, _⟩ => ⟨S64x8192x32, .i1⟩
  | .hbm, ⟨49, _⟩ => ⟨S64x1x32, .i1⟩
  | .hbm, ⟨50, _⟩ => ⟨S_, .i1⟩
  | .hbm, ⟨51, _⟩ => ⟨S64x1x32, .i1⟩
  | .hbm, ⟨52, _⟩ => ⟨S64x8193x32, .i1⟩
  | .hbm, ⟨53, _⟩ => ⟨S64x8192x32, .i1⟩
  | .hbm, ⟨54, _⟩ => ⟨S64x8192x32, .i32⟩
  | .hbm, ⟨55, _⟩ => ⟨S64x8192x32, .i32⟩
  | .hbm, ⟨56, _⟩ => ⟨S64x8192x32, .i32⟩
  | .hbm, ⟨57, _⟩ => ⟨S_, .i32⟩
  | .hbm, ⟨58, _⟩ => ⟨S64x8192x32, .i32⟩
  | .hbm, ⟨59, _⟩ => ⟨S64x8192x32, .i1⟩
  | .hbm, ⟨60, _⟩ => ⟨S_, .i32⟩
  | .hbm, ⟨61, _⟩ => ⟨S64x8192x32, .i32⟩
  | .hbm, ⟨62, _⟩ => ⟨S64x8192x32, .i32⟩
  | .hbm, ⟨63, _⟩ => ⟨S64x8192x32, .i32⟩
  | .hbm, ⟨64, _⟩ => ⟨S64x8192x32x1, .i32⟩
  | .hbm, ⟨65, _⟩ => ⟨S1, .i32⟩
  | .hbm, ⟨66, _⟩ => ⟨S_, .i32⟩
  | .hbm, ⟨67, _⟩ => ⟨S64x8192x32x1, .i32⟩
  | .hbm, ⟨68, _⟩ => ⟨S64x8192x32x1, .i1⟩
  | .hbm, ⟨69, _⟩ => ⟨S1x1x1x1, .i32⟩
  | .hbm, ⟨70, _⟩ => ⟨S64x8192x32x1, .i32⟩
  | .hbm, ⟨71, _⟩ => ⟨S64x8192x32x1, .i1⟩
  | .hbm, ⟨72, _⟩ => ⟨S64x8192x32x1, .i1⟩
  | .hbm, ⟨73, _⟩ => ⟨S_, .i1⟩
  | .hbm, ⟨74, _⟩ => ⟨S64x8192x32, .i1⟩
  | .hbm, ⟨75, _⟩ => ⟨S64x8192x32, .i1⟩
  | .hbm, ⟨76, _⟩ => ⟨S_, .i1⟩
  | .hbm, ⟨77, _⟩ => ⟨S64x8192x32, .i1⟩
  | .hbm, ⟨78, _⟩ => ⟨S64x8192x32, .i1⟩
  | .hbm, ⟨79, _⟩ => ⟨S64x8192x32, .f32⟩
  | .hbm, ⟨80, _⟩ => ⟨S64x8192x32, .f32⟩
  | .hbm, ⟨81, _⟩ => ⟨S_, .f32⟩
  | .hbm, ⟨82, _⟩ => ⟨S64x8192x32, .f32⟩
  | .hbm, ⟨83, _⟩ => ⟨S64x8192x32, .f32⟩
  | .hbm, ⟨84, _⟩ => ⟨S_, .f32⟩
  | .hbm, ⟨85, _⟩ => ⟨S64x8192x32, .f32⟩
  | .hbm, ⟨86, _⟩ => ⟨S64x8192x32, .f32⟩
  | .hbm, ⟨87, _⟩ => ⟨S64x8192x32, .f32⟩
  | _, _ => ⟨S64x8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_call0_cst_0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_cst_1 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_v0 : Ref sig .tc := ⟨.hbm, 15, rfl⟩
abbrev main_v1 : Ref sig .tc := ⟨.hbm, 16, rfl⟩
abbrev main_call1_v0 : Ref sig .tc := ⟨.hbm, 17, rfl⟩
abbrev main_call1_v1_0 : Ref sig .tc := ⟨.hbm, 18, rfl⟩
abbrev main_v2 : Ref sig .tc := ⟨.hbm, 19, rfl⟩
abbrev main_call2_c : Ref sig .tc := ⟨.hbm, 20, rfl⟩
abbrev main_call2_v0 : Ref sig .tc := ⟨.hbm, 21, rfl⟩
abbrev main_call2_v1 : Ref sig .tc := ⟨.hbm, 22, rfl⟩
abbrev main_call2_c_0 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_call2_v5 : Ref sig .tc := ⟨.hbm, 27, rfl⟩
abbrev main_call2_c_1 : Ref sig .tc := ⟨.hbm, 28, rfl⟩
abbrev main_call2_c_2 : Ref sig .tc := ⟨.hbm, 29, rfl⟩
abbrev main_call2_v6 : Ref sig .tc := ⟨.hbm, 30, rfl⟩
abbrev main_call2_v7 : Ref sig .tc := ⟨.hbm, 31, rfl⟩
abbrev main_call2_v8 : Ref sig .tc := ⟨.hbm, 32, rfl⟩
abbrev main_call2_v9 : Ref sig .tc := ⟨.hbm, 33, rfl⟩
abbrev main_call2_v10 : Ref sig .tc := ⟨.hbm, 34, rfl⟩
abbrev main_call2_v11 : Ref sig .tc := ⟨.hbm, 35, rfl⟩
abbrev main_call2_c_3 : Ref sig .tc := ⟨.hbm, 36, rfl⟩
abbrev main_call2_v12 : Ref sig .tc := ⟨.hbm, 37, rfl⟩
abbrev main_call2_v13 : Ref sig .tc := ⟨.hbm, 38, rfl⟩
abbrev main_call2_cst : Ref sig .tc := ⟨.hbm, 39, rfl⟩
abbrev main_call2_v14 : Ref sig .tc := ⟨.hbm, 40, rfl⟩
abbrev main_v3 : Ref sig .tc := ⟨.hbm, 41, rfl⟩
abbrev main_v4 : Ref sig .tc := ⟨.hbm, 42, rfl⟩
abbrev main_call3_call0_cst : Ref sig .tc := ⟨.hbm, 43, rfl⟩
abbrev main_call3_call0_v0 : Ref sig .tc := ⟨.hbm, 44, rfl⟩
abbrev main_v5 : Ref sig .tc := ⟨.hbm, 45, rfl⟩
abbrev main_cst : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_c : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_call4_v0 : Ref sig .tc := ⟨.hbm, 54, rfl⟩
abbrev main_call4_v1_0 : Ref sig .tc := ⟨.hbm, 55, rfl⟩
abbrev main_v12 : Ref sig .tc := ⟨.hbm, 56, rfl⟩
abbrev main_call5_c : Ref sig .tc := ⟨.hbm, 57, rfl⟩
abbrev main_call5_v0 : Ref sig .tc := ⟨.hbm, 58, rfl⟩
abbrev main_call5_v1 : Ref sig .tc := ⟨.hbm, 59, rfl⟩
abbrev main_call5_c_0 : Ref sig .tc := ⟨.hbm, 60, rfl⟩
abbrev main_call5_v2 : Ref sig .tc := ⟨.hbm, 61, rfl⟩
abbrev main_call5_v3 : Ref sig .tc := ⟨.hbm, 62, rfl⟩
abbrev main_call5_v4 : Ref sig .tc := ⟨.hbm, 63, rfl⟩
abbrev main_call5_v5 : Ref sig .tc := ⟨.hbm, 64, rfl⟩
abbrev main_call5_c_1 : Ref sig .tc := ⟨.hbm, 65, rfl⟩
abbrev main_call5_c_2 : Ref sig .tc := ⟨.hbm, 66, rfl⟩
abbrev main_call5_v6 : Ref sig .tc := ⟨.hbm, 67, rfl⟩
abbrev main_call5_v7 : Ref sig .tc := ⟨.hbm, 68, rfl⟩
abbrev main_call5_v8 : Ref sig .tc := ⟨.hbm, 69, rfl⟩
abbrev main_call5_v9 : Ref sig .tc := ⟨.hbm, 70, rfl⟩
abbrev main_call5_v10 : Ref sig .tc := ⟨.hbm, 71, rfl⟩
abbrev main_call5_v11 : Ref sig .tc := ⟨.hbm, 72, rfl⟩
abbrev main_call5_c_3 : Ref sig .tc := ⟨.hbm, 73, rfl⟩
abbrev main_call5_v12 : Ref sig .tc := ⟨.hbm, 74, rfl⟩
abbrev main_call5_v13 : Ref sig .tc := ⟨.hbm, 75, rfl⟩
abbrev main_call5_c_4 : Ref sig .tc := ⟨.hbm, 76, rfl⟩
abbrev main_call5_v14 : Ref sig .tc := ⟨.hbm, 77, rfl⟩
abbrev main_v13 : Ref sig .tc := ⟨.hbm, 78, rfl⟩
abbrev main_v14 : Ref sig .tc := ⟨.hbm, 79, rfl⟩
abbrev main_v15 : Ref sig .tc := ⟨.hbm, 80, rfl⟩
abbrev main_cst_0 : Ref sig .tc := ⟨.hbm, 81, rfl⟩
abbrev main_v16 : Ref sig .tc := ⟨.hbm, 82, rfl⟩
abbrev main_v17 : Ref sig .tc := ⟨.hbm, 83, rfl⟩
abbrev main_cst_1 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩

abbrev nD : Nat := 1
abbrev τ : Topo := Topo.v7x

variable {F : FTy → Type} [FloatOps F]
-- ==== Proof.Ops.lean ====
/-
  The memory operations of the tile kernel, each read in the vocabulary of a two-axis buffer whose contents are a function
  of a row number and a column number (`mk2`): a load or a store of sixteen lanes of one row, a gather and a scatter whose
  lanes name sixteen neighbouring columns, an index check, and a copy between a chunk of an array and a scratch buffer.
-/
module

public import proofs.«01_k».proof.Defs
public import Idealize.ShloMosaic.Lib.SparseCore.Quiescent
public import Idealize.ShloMosaic.Lib.SparseCore.Ops
public import Idealize.ShloMosaic.Lib.LaneScatter.Casts
public import Idealize.ShloMosaic.Lib.StableHlo.Run
public import Idealize.ShloMosaic.Lib.Pipeline.Kit
public import Idealize.ShloMosaic.Lib.WritesUnit
public import Idealize.ShloMosaic.Lib.ViewIndex
public import Idealize.ShloMosaic.Lib.Tactic
public import proofs.«01_k».proof.Proof.Gen.KernelIdeal
public import proofs.«01_k».proof.Proof.Gen.KernelIdeal.Skeleton

@[expose] public section

noncomputable section

namespace Cert.Proof.Radix

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev 𝒱₀ : Variants := Variants.none
abbrev UH : Type := URounds (GSem nD τ sig) ℕ
abbrev UU : Type := UH × Counters

local notation "𝕄" => MT nD τ sig (HIx 1) (Elt F) ℕ UU ℕ

/-! ## Buffers as functions of a row and a column -/

/-- The shape of `R` rows of thirty-two columns. -/
abbrev sR (R : ℕ) : Shape := ⟨2, ![R, 32]⟩

/-- A buffer's contents from a function of the row and the column. -/
def mk2 {R : ℕ} {α : Type} (H : ℕ → ℕ → α) : (sR R).Idx → α := fun x => H (x 0).val (x 1).val

/-- Two functions that agree on the buffer's rows and columns give the same contents. -/
theorem mk2_congr {R : ℕ} {α : Type} {H H' : ℕ → ℕ → α} (h : ∀ r < R, ∀ c < 32, H r c = H' r c) :
    (mk2 H : (sR R).Idx → α) = mk2 H' :=
  funext fun x => h _ (x 0).isLt _ (x 1).isLt

/-- Every contents is `mk2` of some function. -/
theorem exists_mk2 {R : ℕ} {α : Type} (hR : 0 < R) (f : (sR R).Idx → α) : ∃ H : ℕ → ℕ → α, f = mk2 H := by
  refine ⟨fun r c => f (fun a => match a with
    | 0 => ⟨r % R, Nat.mod_lt _ hR⟩ | 1 => ⟨c % 32, Nat.mod_lt _ (by decide)⟩), funext fun x => ?_⟩
  unfold mk2
  congr 1
  funext a
  match a with
  | 0 => exact Fin.ext (Nat.mod_eq_of_lt (x 0).isLt).symm
  | 1 => exact Fin.ext (Nat.mod_eq_of_lt (x 1).isLt).symm

/-- Lane `n` of a sixteen-lane vector. -/
def lane (n : ℕ) : S16.Idx := fun a => match a with | 0 => ⟨n % 16, Nat.mod_lt _ (by decide)⟩

theorem lane_val (n : ℕ) (h : n < 16) : (lane n 0).val = n := Nat.mod_eq_of_lt h
theorem lane_of (j : S16.Idx) : lane (j 0).val = j := by
  funext a
  match a with
  | 0 => exact Fin.ext (Nat.mod_eq_of_lt (j 0).isLt)

/-- Row `r`, sixteen columns from `c0`, replaced by the lanes of `w`. -/
def updRow {α : Type} (H : ℕ → ℕ → α) (r c0 : ℕ) (w : S16.Idx → α) : ℕ → ℕ → α :=
  fun r' c' => if r' = r ∧ c0 ≤ c' ∧ c' < c0 + 16 then w (lane (c' - c0)) else H r' c'

/-- In each of sixteen columns from `c0` whose lane is on, the row the lane names replaced by `u lane old`. -/
def updLanes {α : Type} (H : ℕ → ℕ → α) (c0 : ℕ) (on : S16.Idx → Prop) [DecidablePred on] (row : S16.Idx → ℕ) (u : S16.Idx → α → α) : ℕ → ℕ → α :=
  fun r' c' => if c0 ≤ c' ∧ c' < c0 + 16 ∧ on (lane (c' - c0)) ∧ r' = row (lane (c' - c0)) then u (lane (c' - c0)) (H r' c') else H r' c'

theorem cast16 {α : Type} (H : ℕ → α) (h : S1x16.ShapeCasts S16) :
    shapeCast S16 (fun x : S1x16.Idx => H (x 1).val) h = fun j => H (j 0).val := by
  funext j
  exact LaneScatter.cast_vec_apply (Ln := 16) (fun x : S1x16.Idx => H (x 1).val) h j

/-! ## The operations -/

section Scatter

variable [FloatOps F] {R : ℕ} {e : EltTy}

/-- One lane's step of a scatter. -/
def scatStep {row col : IVec S16 32} (v : Vec F S16 e) (mask : IVec S16 1) (add : Bool)
    (h : ∀ a x, ((![row, col] : Fin 2 → IVec S16 32) a x).toNat < (sR R).size a)
    (g : Vec F (sR R) e) (k : Fin 16) : Vec F (sR R) e :=
  let x : S16.Idx := Shape.ofLane (d := ![16]) k
  if mask x = 1 then
    let i := idxAt (s := sR R) ![row, col] h x
    let y := if add then Elt.idxAdd e (g i) (v x) else v x
    fun j => if (∀ a, (j a).val = (i a).val) then y else g j
  else g

theorem ofLane_eq (k : Fin 16) : (Shape.ofLane (d := ![16]) k : S16.Idx) = lane k.val := by
  funext a
  match a with
  | 0 => exact Fin.ext (Nat.mod_eq_of_lt k.isLt).symm

section
variable {row col : IVec S16 32} {v : Vec F S16 e} {mask : IVec S16 1} {add : Bool}
  {h : ∀ a x, ((![row, col] : Fin 2 → IVec S16 32) a x).toNat < (sR R).size a} {c0 : ℕ}
  (hcol : ∀ j : S16.Idx, (col j).toNat = c0 + (j 0).val)
include hcol

theorem scatStep_miss (g : Vec F (sR R) e) (k : Fin 16) (x : (sR R).Idx)
    (hx : ¬(mask (lane k.val) = 1 ∧ (x 0).val = (row (lane k.val)).toNat ∧ (x 1).val = c0 + k.val)) :
    scatStep v mask add h g k x = g x := by
  unfold scatStep
  simp only [ofLane_eq]
  by_cases hm : mask (lane k.val) = 1
  · rw [if_pos hm]
    refine if_neg fun hall => hx ⟨hm, hall 0, ?_⟩
    have h1 : (x 1).val = (col (lane k.val)).toNat := hall 1
    rw [h1, hcol, lane_val _ k.isLt]
  · rw [if_neg hm]

theorem scatStep_hit (g : Vec F (sR R) e) (k : Fin 16) (x : (sR R).Idx)
    (hm : mask (lane k.val) = 1) (h0 : (x 0).val = (row (lane k.val)).toNat) (h1 : (x 1).val = c0 + k.val) :
    scatStep v mask add h g k x = if add then Elt.idxAdd e (g x) (v (lane k.val)) else v (lane k.val) := by
  unfold scatStep
  simp only [ofLane_eq]
  rw [if_pos hm]
  have hall : ∀ a, (x a).val = (idxAt (s := sR R) ![row, col] h (lane k.val) a).val := by
    intro a
    match a with
    | 0 => exact h0
    | 1 =>
      refine h1.trans ?_
      change c0 + k.val = (col (lane k.val)).toNat
      rw [hcol, lane_val _ k.isLt]
  have hi : idxAt (s := sR R) ![row, col] h (lane k.val) = x := funext fun a => Fin.ext (hall a).symm
  rw [if_pos hall, hi]

theorem scat_fold_miss (l : List (Fin 16)) (g : Vec F (sR R) e) (x : (sR R).Idx)
    (hx : ∀ k ∈ l, ¬(mask (lane k.val) = 1 ∧ (x 0).val = (row (lane k.val)).toNat ∧ (x 1).val = c0 + k.val)) :
    l.foldl (scatStep v mask add h) g x = g x := by
  induction l generalizing g with
  | nil => rfl
  | cons a l ih =>
    rw [List.foldl_cons, ih _ fun k hk => hx k (List.mem_cons_of_mem _ hk)]
    exact scatStep_miss hcol g a x (hx a List.mem_cons_self)

/-- A scatter whose lanes name sixteen neighbouring columns. -/
theorem storeIdx_mk2 (H : ℕ → ℕ → Elt F e) :
    storeIdx (s := sR R) (d := ![16]) (mk2 H) ![row, col] v mask add h
      = mk2 (updLanes H c0 (fun j => mask j = 1) (fun j => (row j).toNat) fun j old => if add then Elt.idxAdd e old (v j) else v j) := by
  funext x
  have hu : storeIdx (s := sR R) (d := ![16]) (mk2 H) ![row, col] v mask add h
      = (List.finRange 16).foldl (scatStep v mask add h) (mk2 H) := by
    unfold storeIdx
    change List.foldl _ (mk2 H) (List.finRange 16) = _
    congr 1
    funext g k
    unfold scatStep
    dsimp only
    congr!
  rw [hu]
  unfold mk2 updLanes
  by_cases hc : c0 ≤ (x 1).val ∧ (x 1).val < c0 + 16 ∧ mask (lane ((x 1).val - c0)) = 1 ∧ (x 0).val = (row (lane ((x 1).val - c0))).toNat
  · rw [if_pos hc]
    obtain ⟨ha, hb, hm, hr⟩ := hc
    let k : Fin 16 := ⟨(x 1).val - c0, by omega⟩
    obtain ⟨l₁, l₂, hl⟩ := List.append_of_mem (List.mem_finRange k)
    have hnd : (l₁ ++ k :: l₂).Nodup := hl ▸ List.nodup_finRange 16
    have hk1 : ∀ j ∈ l₁, j ≠ k := fun j hj e => by
      subst e; exact (List.disjoint_of_nodup_append hnd) hj List.mem_cons_self
    have hk2 : ∀ j ∈ l₂, j ≠ k := fun j hj e => by
      subst e; exact (List.nodup_cons.mp (List.Nodup.of_append_right hnd)).1 hj
    have miss : ∀ j : Fin 16, j ≠ k →
        ¬(mask (lane j.val) = 1 ∧ (x 0).val = (row (lane j.val)).toNat ∧ (x 1).val = c0 + j.val) := fun j hj hh =>
      hj (Fin.ext (by change j.val = (x 1).val - c0; omega))
    rw [hl, List.foldl_append, List.foldl_cons, scat_fold_miss hcol l₂ _ x fun j hj => miss j (hk2 j hj),
      scatStep_hit hcol _ k x hm hr (by change (x 1).val = c0 + ((x 1).val - c0); omega),
      scat_fold_miss hcol l₁ _ x fun j hj => miss j (hk1 j hj)]
  · rw [if_neg hc]
    refine scat_fold_miss hcol _ _ x fun k _ hh => hc ?_
    have hkk : (x 1).val - c0 = k.val := by omega
    refine ⟨by omega, by have := k.isLt; omega, ?_, ?_⟩
    · rw [hkk]; exact hh.1
    · rw [hkk]; exact hh.2.1

end

end Scatter

/-! ## The operations -/

section Ops

variable {c : Thread nD τ} [FloatOps F]
variable {R : ℕ} {e : EltTy} {α : Type}

theorem rect_row_emb {off : Fin 2 → ℕ} {r c0 : ℕ} (hoff : off = ![r, c0])
    (hinb : ∀ a, off a + S1x16.size a ≤ (sR R).size a) (x : S1x16.Idx) :
    ((Rect.unit (s := sR R) off S1x16.size hinb).emb x 0).val = r ∧ ((Rect.unit (s := sR R) off S1x16.size hinb).emb x 1).val = c0 + (x 1).val := by
  subst hoff
  have hx0 : (x 0).val = 0 := Nat.lt_one_iff.mp (x 0).isLt
  constructor
  · rw [Rect.emb_apply]; simp [Rect.unit, hx0]
  · rw [Rect.emb_apply]; simp [Rect.unit]

/-- A load of sixteen lanes of a row. -/
theorem wp_load_row {Φ : α → sProp 𝕄} (m : Memref sig c.2.kind .vmem (sR R) e) (H : ℕ → ℕ → Elt F e) {off : Fin 2 → ℕ} (r c0 : ℕ)
    (hoff : off = ![r, c0]) {hinb : ∀ a, off a + S1x16.size a ≤ (sR R).size a}
    {hl : m.view.LoadsAt (Rect.unit (s := sR R) off S1x16.size hinb).toLoadRect}
    {k : (S1x16.Idx → Elt F e) → Prog (TpuEff nD τ sig (Elt F) Λ₀ c.2) α} :
    (owns c m fullShare (mk2 H) : sProp 𝕄)
      ⊢ iprop((owns c m fullShare (mk2 H) -∗ wp frame (wpE (defs₀ (F := F)) 𝒱₀ c none) Set.univ (k fun x => H r (c0 + (x 1).val)) Φ)
        -∗ wp frame (wpE (defs₀ (F := F)) 𝒱₀ c none) Set.univ
            (Prog.lift (.load m (Rect.unit (s := sR R) off S1x16.size hinb).toLoadRect hl) >>= k) Φ) := by
  unfold owns
  iintro ⟨%f, %hf, H⟩ Hk
  have hrd : (m.access (Rect.unit (s := sR R) off S1x16.size hinb)).read (Elt F) f
      = fun x : S1x16.Idx => H r (c0 + (x 1).val) := by
    funext x
    refine (congrFun hf ((Rect.unit (s := sR R) off S1x16.size hinb).emb x)).trans ?_
    unfold mk2
    rw [(rect_row_emb hoff hinb x).1, (rect_row_emb hoff hinb x).2]
  iapply (wp_load_rect (defs := defs₀ (F := F)) 𝒱₀ c none Set.univ (m := m)
    (r := Rect.unit (s := sR R) off S1x16.size hinb) (hl := hl) (k := k)
    (S := m.view.set) (q := fullShare) (f := f) (View.set_slice_subset _ _)) $$ H
  iintro H
  rw [hrd]
  iapply Hk
  iexists f
  isplitr; · ipureintro; exact hf
  iexact H

/-- A store of sixteen lanes into a row. -/
theorem wp_store_row {Φ : α → sProp 𝕄} (m : Memref sig c.2.kind .vmem (sR R) e) (H : ℕ → ℕ → Elt F e) {off : Fin 2 → ℕ} (r c0 : ℕ)
    (hoff : off = ![r, c0]) {w : S16.Idx → Elt F e} {hc : S16.ShapeCasts S1x16} {hinb : ∀ a, off a + S1x16.size a ≤ (sR R).size a}
    {hs : (m.access (Rect.unit (s := sR R) off S1x16.size hinb)).Stores Finset.univ}
    {hm : Finset.univ = Finset.univ ∨ ∀ a, (Rect.unit (s := sR R) off S1x16.size hinb).stride a = 1}
    {k : PUnit → Prog (TpuEff nD τ sig (Elt F) Λ₀ c.2) α} :
    (owns c m fullShare (mk2 H) : sProp 𝕄)
      ⊢ iprop((owns c m fullShare (mk2 (updRow H r c0 w)) -∗ wp frame (wpE (defs₀ (F := F)) 𝒱₀ c none) Set.univ (k ⟨⟩) Φ)
        -∗ wp frame (wpE (defs₀ (F := F)) 𝒱₀ c none) Set.univ
            (Prog.lift (.store m (Rect.unit (s := sR R) off S1x16.size hinb) (shapeCast S1x16 w hc) Finset.univ hs hm) >>= k) Φ) := by
  unfold owns
  iintro ⟨%f, %hf, H⟩ Hk
  iapply (wp_store (defs := defs₀ (F := F)) 𝒱₀ c none Set.univ (m := m)
    (r := Rect.unit (s := sR R) off S1x16.size hinb) (Mk := Finset.univ) (hx := hs) (hm := hm) (k := k)
    (S := m.view.set) (f := f) ((View.setOn_subset_set _ _).trans (View.set_slice_subset _ _))) $$ H
  iintro H
  iapply Hk
  iexists ((m.access (Rect.unit (s := sR R) off S1x16.size hinb)).write (Elt F) f (shapeCast S1x16 w hc) Finset.univ)
  isplitr
  · ipureintro
    funext y
    by_cases hy : y ∈ Finset.univ.map (Rect.unit (s := sR R) off S1x16.size hinb).emb
    · obtain ⟨x, -, rfl⟩ := Finset.mem_map.mp hy
      refine (View.read_slice_write_emb _ _ _ (Finset.mem_univ x)).trans ?_
      unfold mk2 updRow
      rw [(rect_row_emb hoff hinb x).1, (rect_row_emb hoff hinb x).2]
      have hx1 : (x 1).val < 16 := (x 1).isLt
      rw [if_pos ⟨rfl, by omega, by omega⟩, show c0 + (x 1).val - c0 = (x 1).val by omega]
      refine (LaneScatter.cast_row_apply (Ln := 16) w hc x).trans (congrArg w ?_)
      funext a
      match a with
      | 0 => exact Fin.ext (Nat.mod_eq_of_lt hx1).symm
    · refine (View.read_slice_write_of_not_mem _ _ _ _ hy).trans ?_
      rw [hf]
      unfold mk2 updRow
      refine (if_neg fun hh => hy ?_).symm
      rw [Rect.map_emb_univ, Rect.mem_set_unit]
      subst hoff
      intro a
      match a with
      | 0 => exact ⟨le_of_eq hh.1.symm, by change (y 0).val < r + 1; omega⟩
      | 1 => exact ⟨hh.2.1, hh.2.2⟩
  iexact H

/-- A gather whose lanes name sixteen neighbouring columns. -/
theorem wp_gather {Φ : α → sProp 𝕄} (m : Memref sig c.2.kind .vmem (sR R) e) (H : ℕ → ℕ → Elt F e) (c0 : ℕ) {row col : IVec S16 32}
    (hcol : ∀ j : S16.Idx, (col j).toNat = c0 + (j 0).val)
    {h : ∀ a x, ((![row, col] : Fin 2 → IVec S16 32) a x).toNat < (sR R).size a} {hl : m.view.Loads}
    {k : Vec F S16 e → Prog (TpuEff nD τ sig (Elt F) Λ₀ c.2) α} :
    (owns c m fullShare (mk2 H) : sProp 𝕄)
      ⊢ iprop((owns c m fullShare (mk2 H) -∗ wp frame (wpE (defs₀ (F := F)) 𝒱₀ c none) Set.univ (k fun j => H (row j).toNat (c0 + (j 0).val)) Φ)
        -∗ wp frame (wpE (defs₀ (F := F)) 𝒱₀ c none) Set.univ (SparseCore.vectorLoadIdx m ![row, col] h hl >>= k) Φ) := by
  unfold owns
  iintro ⟨%f, %hf, H⟩ Hk
  have hrd : loadIdx ((m.access (.whole (sR R))).read (Elt F) f) ![row, col] h
      = fun j : S16.Idx => H (row j).toNat (c0 + (j 0).val) := by
    funext j
    refine (congrFun hf ((Rect.whole (sR R)).emb (idxAt (s := sR R) ![row, col] h j))).trans ?_
    rw [Rect.emb_whole_apply]
    unfold mk2
    rw [show (idxAt (s := sR R) ![row, col] h j 1).val = c0 + (j 0).val from hcol j]
    rfl
  iapply (SparseCore.wp_vectorLoadIdx (defs := defs₀ (F := F)) 𝒱₀ c none Set.univ (base := m) (idxs := ![row, col]) (h := h) (hl := hl) (k := k)
    (S := m.view.set) (q := fullShare) (f := f) (View.set_slice_subset _ _)) $$ H
  iintro H
  rw [hrd]
  iapply Hk
  iexists f
  isplitr; · ipureintro; exact hf
  iexact H

/-- A scatter whose lanes name sixteen neighbouring columns. -/
theorem wp_scatter {Φ : α → sProp 𝕄} (m : Memref sig c.2.kind .vmem (sR R) e) (H : ℕ → ℕ → Elt F e) (c0 : ℕ) {row col : IVec S16 32}
    (hcol : ∀ j : S16.Idx, (col j).toNat = c0 + (j 0).val) {v : Vec F S16 e} {mask : IVec S16 1} {add : Bool}
    {h : ∀ a x, ((![row, col] : Fin 2 → IVec S16 32) a x).toNat < (sR R).size a} {hs : (m.access (.whole (sR R))).Stores Finset.univ}
    {k : PUnit → Prog (TpuEff nD τ sig (Elt F) Λ₀ c.2) α} :
    (owns c m fullShare (mk2 H) : sProp 𝕄)
      ⊢ iprop((owns c m fullShare (mk2 (updLanes H c0 (fun j => mask j = 1) (fun j => (row j).toNat) fun j old => if add then Elt.idxAdd e old (v j) else v j))
          -∗ wp frame (wpE (defs₀ (F := F)) 𝒱₀ c none) Set.univ (k ⟨⟩) Φ)
        -∗ wp frame (wpE (defs₀ (F := F)) 𝒱₀ c none) Set.univ (SparseCore.vectorStoreIdx m ![row, col] v mask add h hs >>= k) Φ) := by
  unfold owns
  iintro ⟨%f, %hf, H⟩ Hk
  have hw : (m.access (.whole (sR R))).set = m.view.set := by
    change (m.view.slice (Rect.whole (sR R))).set = _
    rw [View.set_slice, Rect.set_whole]; rfl
  have hrd : (m.access (.whole (sR R))).read (Elt F) f = mk2 H := by
    funext x
    refine (congrFun hf ((Rect.whole (sR R)).emb x)).trans ?_
    rw [Rect.emb_whole_apply]
  iapply (SparseCore.wp_vectorStoreIdx (defs := defs₀ (F := F)) 𝒱₀ c none Set.univ (base := m) (idxs := ![row, col]) (v := v) (mask := mask) (add := add)
    (h := h) (hs := hs) (k := k) (f := f)) $$ [H]
  · rw [hw]; iexact H
  iintro H
  rw [hw, hrd, storeIdx_mk2 hcol]
  iapply Hk
  iexists ((m.access (.whole (sR R))).write (Elt F) f (mk2 (updLanes H c0 (fun j => mask j = 1) (fun j => (row j).toNat) fun j old => if add then Elt.idxAdd e old (v j) else v j)) Finset.univ)
  isplitr
  · ipureintro
    funext x
    have h := View.read_slice_write_emb (v := m.view) (Val := Elt F) (Rect.whole (sR R)) f (mk2 (updLanes H c0 (fun j => mask j = 1) (fun j => (row j).toNat) fun j old => if add then Elt.idxAdd e old (v j) else v j)) (Finset.mem_univ x)
    rw [Rect.emb_whole_apply] at h
    exact h
  iexact H

/-- An index check that holds. -/
theorem wp_check {Φ : α → sProp 𝕄} {P : Prop} {d : Decidable P} (h : P) {k : PLift P → Prog (TpuEff nD τ sig (Elt F) Λ₀ c.2) α} :
    (wp frame (wpE (defs₀ (F := F)) 𝒱₀ c none) Set.univ (k ⟨h⟩) Φ : sProp 𝕄)
      ⊢ wp frame (wpE (defs₀ (F := F)) 𝒱₀ c none) Set.univ (Prog.lift (.assume P d) >>= k) Φ :=
  wp_assume (defs := defs₀ (F := F)) 𝒱₀ c none Set.univ (k := k) h

end Ops

end Cert.Proof.Radix
end
-- ==== Proof.Model.lean ====
/-
  What the kernel computes for one column, said of a single column's elements: the key of a float (the greatest word
  whose float does not exceed it, found bit by bit), the histograms of the elements by a field of their keys, the sums
  of a histogram from the top, the search for the last bin whose sum from the top reaches the target, the list of the
  chosen bin's elements, and the threshold the three searches assemble.
-/
module

public import proofs.«01_k».proof.Defs
public import Idealize.ShloMosaic.Lib.SparseCore

@[expose] public section

noncomputable section

namespace Cert.Proof.Radix

open Idealize.ShloMosaic

/-! ## The bitwise search -/

/-- The bitwise search over `[0, 2^m)` after `n` of its `m` steps. -/
def bs (P : ℕ → Prop) [DecidablePred P] (m : ℕ) : ℕ → ℕ
  | 0 => 0
  | n + 1 => if P (bs P m n + 2 ^ (m - 1 - n)) then bs P m n + 2 ^ (m - 1 - n) else bs P m n

section
variable (P : ℕ → Prop) [DecidablePred P] {m : ℕ}

theorem bs_zero : bs P m 0 = 0 := rfl
theorem bs_succ (n : ℕ) : bs P m (n + 1) = if P (bs P m n + 2 ^ (m - 1 - n)) then bs P m n + 2 ^ (m - 1 - n) else bs P m n := rfl

theorem pow_step {n : ℕ} (h : n < m) : 2 ^ (m - n) = 2 ^ (m - 1 - n) + 2 ^ (m - 1 - n) := by
  rw [show m - n = (m - 1 - n) + 1 by omega, pow_succ]; omega

/-- After `n` steps the block of width `2^(m-n)` from the search's place fits in the range. -/
theorem bs_le {n : ℕ} (h : n ≤ m) : bs P m n + 2 ^ (m - n) ≤ 2 ^ m := by
  induction n with
  | zero => simp [bs_zero]
  | succ n ih =>
    have h1 := ih (by omega)
    rw [pow_step (by omega)] at h1
    have hpos : 0 < 2 ^ (m - 1 - n) := by positivity
    rw [bs_succ, show m - (n + 1) = m - 1 - n by omega]
    split <;> omega

/-- and its place is a multiple of that width. -/
theorem bs_dvd {n : ℕ} (h : n ≤ m) : 2 ^ (m - n) ∣ bs P m n := by
  induction n with
  | zero => simp [bs_zero]
  | succ n ih =>
    have h1 := ih (by omega)
    have h2 : 2 ^ (m - 1 - n) ∣ bs P m n :=
      (pow_dvd_pow 2 (by omega)).trans h1
    rw [bs_succ, show m - (n + 1) = m - 1 - n by omega]
    split
    · exact Nat.dvd_add h2 (dvd_refl _)
    · exact h2

theorem bs_lt {n : ℕ} (h : n ≤ m) : bs P m n < 2 ^ m := by
  have := bs_le P h
  have : 0 < 2 ^ (m - n) := Nat.pos_of_ne_zero (by positivity)
  omega

end

/-! ## One column -/

variable {F : FTy → Type} [FloatOps F]

/-- Zero. -/
def zf : F .f32 := FloatOps.ofBits .f32 0x00000000#32

/-- The key of a float: the greatest word below `2^31` whose float is at most it, found bit by bit. -/
def keyN (e : F .f32) (n : ℕ) : ℕ :=
  bs (fun t => FloatOps.cmpf .ole (FloatOps.ofBits .f32 (BitVec.ofNat 32 t) : F .f32) e = 1#1) 31 n

def key (e : F .f32) : ℕ := keyN e 31

theorem key_lt (e : F .f32) : key e < 2 ^ 31 := bs_lt _ le_rfl

/-- The three fields of a key. -/
def bin1 (e : F .f32) : ℕ := key e / 2 ^ 20
def bin2 (e : F .f32) : ℕ := key e / 2 ^ 10 % 2 ^ 10
def bin3 (e : F .f32) : ℕ := key e % 2 ^ 10

theorem bin1_lt (e : F .f32) : bin1 e < 2048 := by
  have := key_lt e; unfold bin1; omega

/-- The sums of the elements by bin. -/
def histo (b : F .f32 → ℕ) (es : List (F .f32)) : ℕ → F .f32 :=
  es.foldl (fun H e r => if r = b e then Elt.idxAdd .f32 (H r) e else H r) fun _ => zf

theorem histo_nil (b : F .f32 → ℕ) : histo b [] = fun _ => zf := rfl
theorem histo_concat (b : F .f32 → ℕ) (es : List (F .f32)) (e : F .f32) :
    histo b (es ++ [e]) = fun r => if r = b e then Elt.idxAdd .f32 (histo b es r) e else histo b es r := by
  unfold histo; rw [List.foldl_append]; rfl

/-- The sum of the top `n` of `nb` bins, from the top. -/
def sacc (H : ℕ → F .f32) (nb : ℕ) : ℕ → F .f32
  | 0 => zf
  | n + 1 => FloatOps.addf (sacc H nb n) (H (nb - 1 - n))

/-- The bins replaced by their sums from the top. -/
def suf (H : ℕ → F .f32) (nb : ℕ) (r : ℕ) : F .f32 := if r < nb then sacc H nb (nb - r) else H r

/-- Bins `r` and above done, of a pass from the top: the sums at and above `nb - n`, the bins below it. -/
def sufN (H : ℕ → F .f32) (nb n : ℕ) (r : ℕ) : F .f32 := if nb - n ≤ r ∧ r < nb then sacc H nb (nb - r) else H r

theorem sufN_zero (H : ℕ → F .f32) (nb r : ℕ) : sufN H nb 0 r = H r := by
  unfold sufN; rw [if_neg (by omega)]

theorem sufN_all (H : ℕ → F .f32) (nb r : ℕ) : sufN H nb nb r = suf H nb r := by
  unfold sufN suf; simp

theorem sufN_succ (H : ℕ → F .f32) {nb n : ℕ} (h : n < nb) (r : ℕ) :
    sufN H nb (n + 1) r = if r = nb - 1 - n then sacc H nb (n + 1) else sufN H nb n r := by
  unfold sufN
  by_cases hr : r = nb - 1 - n
  · rw [if_pos (by omega), if_pos hr]; congr 1; omega
  · rw [if_neg hr]
    by_cases h2 : nb - n ≤ r ∧ r < nb
    · rw [if_pos (by omega), if_pos h2]
    · rw [if_neg (by omega), if_neg h2]

/-- The target: the kept share of the sum. -/
def tgt (s : F .f32) : F .f32 := FloatOps.mulf (FloatOps.ofBits .f32 0x3F5C28F6#32) s

/-- The search over the sums from the top `S`, `a` already above them, for the target `t`, after `n` of `m` steps. -/
def srchN (S : ℕ → F .f32) (a t : F .f32) (m n : ℕ) : ℕ :=
  bs (fun r => FloatOps.cmpf .oge (FloatOps.addf a (S r)) t = 1#1) m n

/-- The chosen bin's elements, at most 520 of them. -/
def cand (b : ℕ) (es : List (F .f32)) : List (F .f32) := (es.filter fun e => bin1 e = b).take 520

theorem cand_length_le (b : ℕ) (es : List (F .f32)) : (cand b es).length ≤ 520 := by
  unfold cand; rw [List.length_take]; exact Nat.min_le_left _ _

theorem cand_concat (b : ℕ) (es : List (F .f32)) (e : F .f32) :
    cand b (es ++ [e]) = if bin1 e = b ∧ (cand b es).length < 520 then cand b es ++ [e] else cand b es := by
  unfold cand
  rw [List.filter_append, List.length_take]
  by_cases hb : bin1 e = b
  · have : [e].filter (fun e => decide (bin1 e = b)) = [e] := by simp [hb]
    rw [this]
    by_cases hl : (es.filter fun e => decide (bin1 e = b)).length < 520
    · rw [if_pos ⟨hb, by omega⟩, List.take_of_length_le (by simp; omega), List.take_of_length_le (by omega)]
    · rw [if_neg (by omega), List.take_append_of_le_length (by omega)]
  · have : [e].filter (fun e => decide (bin1 e = b)) = [] := by simp [hb]
    rw [this, List.append_nil, if_neg (fun h => hb h.1)]

/-! The column's quantities, of its exponentials `es`. -/

section Column
variable (es : List (F .f32))

def S1 : ℕ → F .f32 := suf (histo bin1 es) 2048
def sumE : F .f32 := sacc (histo bin1 es) 2048 2048
def B1N (n : ℕ) : ℕ := srchN (S1 es) zf (tgt (sumE es)) 11 n
def B1 : ℕ := B1N es 11
def A1 : F .f32 := FloatOps.addf zf (S1 es (B1 es + 1))
def L2 : List (F .f32) := cand (B1 es) es
def S2 : ℕ → F .f32 := suf (histo bin2 (L2 es)) 1024
def B2N (n : ℕ) : ℕ := srchN (S2 es) (A1 es) (tgt (sumE es)) 10 n
def B2 : ℕ := B2N es 10
def A2 : F .f32 := FloatOps.addf (A1 es) (S2 es (B2 es + 1))
def L3 : List (F .f32) := (L2 es).filter fun e => bin2 e = B2 es
def S3 : ℕ → F .f32 := suf (histo bin3 (L3 es)) 1024
def B3N (n : ℕ) : ℕ := srchN (S3 es) (A2 es) (tgt (sumE es)) 10 n
def B3 : ℕ := B3N es 10
def tau : ℕ := B1 es * 2 ^ 20 + B2 es * 2 ^ 10 + B3 es

theorem B1_lt : B1 es < 2048 := bs_lt _ le_rfl
theorem B2_lt : B2 es < 1024 := bs_lt _ le_rfl
theorem B3_lt : B3 es < 1024 := bs_lt _ le_rfl

/-- The result at an element `x` of the column. -/
def outE (x : F .f32) : F .f32 :=
  Scalar.select (FloatOps.cmpf .oge (FloatOps.exp x) (FloatOps.ofBits .f32 (BitVec.ofNat 32 (tau es)) : F .f32))
    (FloatOps.subf x (FloatOps.log (sumE es))) (FloatOps.ofBits .f32 0xC28C0000#32)

end Column

/-- The exponentials of the first `n` elements of a column. -/
def exps (x : ℕ → F .f32) (n : ℕ) : List (F .f32) := (List.range n).map fun i => FloatOps.exp (x i)

theorem exps_succ (x : ℕ → F .f32) (n : ℕ) : exps x (n + 1) = exps x n ++ [FloatOps.exp (x n)] := by
  unfold exps; rw [List.range_succ, List.map_append]; rfl

/-! ## The kernel's words -/

theorem iv_eq (k : ℕ) : Scf.iv 0#32 1#32 k = BitVec.ofNat 32 k := by
  unfold Scf.iv; simp

/-- One bit of the key's search, in words. -/
theorem key_step (e : F .f32) {n : ℕ} (h : n < 31) :
    Scalar.select (FloatOps.cmpf .ole
        (FloatOps.ofBits .f32 (IntOp.ori (BitVec.ofNat 32 (keyN e n)) (Scalar.shli 1#32 (Scalar.subi 30#32 (Scf.iv 0#32 1#32 n)))) : F .f32) e)
      (IntOp.ori (BitVec.ofNat 32 (keyN e n)) (Scalar.shli 1#32 (Scalar.subi 30#32 (Scf.iv 0#32 1#32 n)))) (BitVec.ofNat 32 (keyN e n))
      = BitVec.ofNat 32 (keyN e (n + 1)) := by
  have h1 : Scalar.shli 1#32 (Scalar.subi 30#32 (Scf.iv 0#32 1#32 n)) = BitVec.ofNat 32 (2 ^ (30 - n)) := by
    rw [iv_eq]
    have : ∀ n < 31, Scalar.shli 1#32 (Scalar.subi 30#32 (BitVec.ofNat 32 n)) = BitVec.ofNat 32 (2 ^ (30 - n)) := by decide
    exact this n h
  have h2 : IntOp.ori (BitVec.ofNat 32 (keyN e n)) (BitVec.ofNat 32 (2 ^ (30 - n))) = BitVec.ofNat 32 (keyN e n + 2 ^ (30 - n)) := by
    apply BitVec.eq_of_toNat_eq
    have hd : 2 ^ (31 - n) ∣ keyN e n := bs_dvd _ (by omega)
    have hl : keyN e n + 2 ^ (31 - n) ≤ 2 ^ 31 := bs_le _ (by omega)
    have hp : (2:ℕ) ^ (31 - n) = 2 ^ (30 - n) + 2 ^ (30 - n) := pow_step (m := 31) h
    have hpos : 0 < (2:ℕ) ^ (30 - n) := by positivity
    unfold IntOp.ori
    rw [BitVec.toNat_or, BitVec.toNat_ofNat, BitVec.toNat_ofNat, BitVec.toNat_ofNat, Nat.mod_eq_of_lt (by omega),
      Nat.mod_eq_of_lt (by omega), Nat.mod_eq_of_lt (by omega)]
    obtain ⟨q, hq⟩ := hd
    rw [hq, ← Nat.two_pow_add_eq_or_of_lt (i := 31 - n) (by omega)]
  rw [h1, h2]
  unfold keyN
  rw [bs_succ]
  unfold Scalar.select
  exact (apply_ite (BitVec.ofNat 32) _ _ _).symm

/-- The fields of a key, in words. -/
theorem shr20 (k : ℕ) (h : k < 2 ^ 31) : IntOp.shrui .vector (BitVec.ofNat 32 k) 20#32 = BitVec.ofNat 32 (k / 2 ^ 20) := by
  unfold IntOp.shrui
  rw [if_pos (by decide)]
  apply BitVec.eq_of_toNat_eq
  rw [BitVec.ushiftRight_eq', BitVec.toNat_ushiftRight, show (20#32).toNat = 20 from rfl]
  simp only [BitVec.toNat_ofNat, Nat.shiftRight_eq_div_pow]
  omega

theorem and1023 (x : BitVec 32) : (IntOp.andi x 1023#32).toNat = x.toNat % 1024 := by
  unfold IntOp.andi
  rw [BitVec.toNat_and]
  exact Nat.and_two_pow_sub_one_eq_mod x.toNat 10

theorem field2 (k : ℕ) (h : k < 2 ^ 31) :
    IntOp.andi (IntOp.shrui .vector (BitVec.ofNat 32 k) 10#32) 1023#32 = BitVec.ofNat 32 (k / 2 ^ 10 % 2 ^ 10) := by
  apply BitVec.eq_of_toNat_eq
  rw [and1023]
  unfold IntOp.shrui
  rw [if_pos (by decide), BitVec.ushiftRight_eq', BitVec.toNat_ushiftRight, show (10#32).toNat = 10 from rfl]
  simp only [BitVec.toNat_ofNat, Nat.shiftRight_eq_div_pow]
  omega

theorem field3 (k : ℕ) (h : k < 2 ^ 31) : IntOp.andi (BitVec.ofNat 32 k) 1023#32 = BitVec.ofNat 32 (k % 2 ^ 10) := by
  apply BitVec.eq_of_toNat_eq
  rw [and1023]
  simp only [BitVec.toNat_ofNat]
  omega

/-- The middle of the search's block, in words. -/
theorem mid_word {m n lo : ℕ} (hm : m ≤ 11) (hn : n < m) (hlo : lo + 2 ^ (m - n) ≤ 2 ^ m) :
    IntOp.shrui .vector (IntOp.addi (IntOp.addi (BitVec.ofNat 32 lo) (BitVec.ofNat 32 (lo + 2 ^ (m - n) - 1))) 1#32) 1#32
      = BitVec.ofNat 32 (lo + 2 ^ (m - 1 - n)) := by
  have hp := pow_step hn
  have hpos : 0 < (2:ℕ) ^ (m - 1 - n) := by positivity
  have hM : (2:ℕ) ^ m ≤ 2 ^ 11 := Nat.pow_le_pow_right (by decide) hm
  unfold IntOp.shrui
  rw [if_pos (by decide)]
  apply BitVec.eq_of_toNat_eq
  unfold IntOp.addi
  rw [BitVec.ushiftRight_eq', BitVec.toNat_ushiftRight, show (1#32).toNat = 1 from rfl]
  simp only [BitVec.toNat_ofNat, BitVec.toNat_add, Nat.shiftRight_eq_div_pow]
  omega

/-- The three fields assembled, in words. -/
theorem tau_word {a b c : ℕ} (ha : a < 2048) (hb : b < 1024) (hc : c < 1024) :
    IntOp.ori (IntOp.ori (IntOp.shli .vector (BitVec.ofNat 32 a) 20#32) (IntOp.shli .vector (BitVec.ofNat 32 b) 10#32)) (BitVec.ofNat 32 c)
      = BitVec.ofNat 32 (a * 2 ^ 20 + b * 2 ^ 10 + c) := by
  unfold IntOp.shli IntOp.ori
  rw [if_pos (by decide), if_pos (by decide)]
  apply BitVec.eq_of_toNat_eq
  rw [BitVec.shiftLeft_eq', BitVec.shiftLeft_eq', BitVec.toNat_or, BitVec.toNat_or, BitVec.toNat_shiftLeft, BitVec.toNat_shiftLeft]
  simp only [BitVec.toNat_ofNat, Nat.shiftLeft_eq]
  have e1 : (20 : ℕ) % 2 ^ 32 = 20 := by decide
  have e2 : (10 : ℕ) % 2 ^ 32 = 10 := by decide
  rw [e1, e2, Nat.mod_eq_of_lt (show a < 2 ^ 32 by omega), Nat.mod_eq_of_lt (show b < 2 ^ 32 by omega), Nat.mod_eq_of_lt (show c < 2 ^ 32 by omega),
    Nat.mod_eq_of_lt (show a * 2 ^ 20 < 2 ^ 32 by omega), Nat.mod_eq_of_lt (show b * 2 ^ 10 < 2 ^ 32 by omega),
    Nat.mod_eq_of_lt (show a * 2 ^ 20 + b * 2 ^ 10 + c < 2 ^ 32 by omega)]
  rw [Nat.mul_comm a, ← Nat.two_pow_add_eq_or_of_lt (i := 20) (by omega),
    show 2 ^ 20 * a + b * 2 ^ 10 = 2 ^ 10 * (2 ^ 10 * a + b) by ring, ← Nat.two_pow_add_eq_or_of_lt (i := 10) (by omega)]

/-- One step of the search, in words: its lower end, -/
theorem srch_lo (S : ℕ → F .f32) (a t : F .f32) (m n : ℕ) :
    Scalar.select (FloatOps.cmpf .oge (FloatOps.addf a (S (srchN S a t m n + 2 ^ (m - 1 - n)))) t)
      (BitVec.ofNat 32 (srchN S a t m n + 2 ^ (m - 1 - n))) (BitVec.ofNat 32 (srchN S a t m n)) = BitVec.ofNat 32 (srchN S a t m (n + 1)) := by
  unfold srchN Scalar.select
  rw [bs_succ]
  exact (apply_ite (BitVec.ofNat 32) _ _ _).symm

/-- and its upper. -/
theorem srch_hi (S : ℕ → F .f32) (a t : F .f32) {m n : ℕ} (hm : m ≤ 11) (hn : n < m) :
    Scalar.select (FloatOps.cmpf .oge (FloatOps.addf a (S (srchN S a t m n + 2 ^ (m - 1 - n)))) t)
      (BitVec.ofNat 32 (srchN S a t m n + 2 ^ (m - n) - 1)) (IntOp.subi (BitVec.ofNat 32 (srchN S a t m n + 2 ^ (m - 1 - n))) 1#32)
      = BitVec.ofNat 32 (srchN S a t m (n + 1) + 2 ^ (m - (n + 1)) - 1) := by
  have hp := pow_step hn
  have hpos : 0 < (2:ℕ) ^ (m - 1 - n) := by positivity
  have hb : srchN S a t m n + 2 ^ (m - n) ≤ 2 ^ m := bs_le _ (by omega)
  have hM : (2:ℕ) ^ m ≤ 2 ^ 11 := Nat.pow_le_pow_right (by decide) hm
  have e := srch_lo S a t m n
  unfold Scalar.select at e ⊢
  have hb2 : srchN S a t m (n + 1) + 2 ^ (m - (n + 1)) ≤ 2 ^ m := bs_le _ (by omega)
  rw [show m - (n + 1) = m - 1 - n by omega] at hb2 ⊢
  have hinj : ∀ x : ℕ, x ≤ 2 ^ m → BitVec.ofNat 32 x = BitVec.ofNat 32 (srchN S a t m (n + 1)) → x = srchN S a t m (n + 1) := by
    intro x hx h
    have := congrArg BitVec.toNat h
    simp only [BitVec.toNat_ofNat] at this
    omega
  split at e
  · rw [if_pos (by assumption), ← hinj _ (by omega) e, hp]
    congr 1; omega
  · rw [if_neg (by assumption), ← hinj _ (by omega) e]
    unfold IntOp.subi
    apply BitVec.eq_of_toNat_eq
    simp only [BitVec.toNat_sub, BitVec.toNat_ofNat]
    omega

theorem slt_word {a b : ℕ} (ha : a < 2 ^ 31) (hb : b < 2 ^ 31) :
    IntOp.cmpi .slt (BitVec.ofNat 32 a) (BitVec.ofNat 32 b) = 1#1 ↔ a < b := by
  unfold IntOp.cmpi
  have h : ∀ c : Bool, BitVec.ofBool c = 1#1 ↔ c = true := by decide
  rw [h]
  dsimp only
  rw [BitVec.slt, decide_eq_true_iff, BitVec.toInt_ofNat', BitVec.toInt_ofNat']
  simp only [Int.bmod_def]
  omega

theorem eq_word {a b : ℕ} (ha : a < 2 ^ 32) (hb : b < 2 ^ 32) :
    IntOp.cmpi .eq (BitVec.ofNat 32 a) (BitVec.ofNat 32 b) = 1#1 ↔ a = b := by
  unfold IntOp.cmpi
  have h : ∀ c : Bool, BitVec.ofBool c = 1#1 ↔ c = true := by decide
  rw [h]
  dsimp only
  rw [beq_iff_eq]
  constructor
  · intro e
    have := congrArg BitVec.toNat e
    simp only [BitVec.toNat_ofNat] at this
    omega
  · intro e; rw [e]

theorem and_word (a b : BitVec 1) : IntOp.andi a b = 1#1 ↔ a = 1#1 ∧ b = 1#1 := by
  revert a b; decide

end Cert.Proof.Radix
end
-- ==== Proof.Steps.lean ====
/-
  One trip of each kind of loop the tile kernel runs on its scratch buffers: filling with zero, summing from the top,
  searching, adding into a histogram, and the loop rule they are used with.  Sixteen columns at a time, from column
  `c0`; a quantity of every column is a function of the column number.
-/
module

public import proofs.«01_k».proof.Proof.Ops
public import proofs.«01_k».proof.Proof.Model

@[expose] public section

noncomputable section

namespace Cert.Proof.Radix

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- The program's rule at a thread. -/
abbrev WP [FloatOps F] {α : Type} (c : Thread nD τ) (p : Prog (TpuEff nD τ sig (Elt F) Λ₀ c.2) α) (Φ : α → sProp 𝕄) : sProp 𝕄 :=
  wp frame (wpE (defs₀ (F := F)) 𝒱₀ c none) Set.univ p Φ

/-! ## Columns -/

/-- The sixteen columns from `c0`. -/
def grp (c0 c : ℕ) : Prop := c0 ≤ c ∧ c < c0 + 16

/-- The vector of the sixteen columns' values. -/
def vec {α : Type} (c0 : ℕ) (V : ℕ → α) : S16.Idx → α := fun j => V (c0 + (j 0).val)
/-- The same as a row. -/
def rowv {α : Type} (c0 : ℕ) (V : ℕ → α) : S1x16.Idx → α := fun x => V (c0 + (x 1).val)

theorem cast_rowv {α : Type} (c0 : ℕ) (V : ℕ → α) (h : S1x16.ShapeCasts S16) : shapeCast S16 (rowv c0 V) h = vec c0 V :=
  cast16 (fun n => V (c0 + n)) h

theorem grp_lane {c0 : ℕ} (j : S16.Idx) : grp c0 (c0 + (j 0).val) := by
  have : (j 0).val < 16 := (j 0).isLt
  exact ⟨by omega, by omega⟩

theorem vec_congr {α : Type} {c0 : ℕ} {V W : ℕ → α} (h : ∀ c, grp c0 c → V c = W c) : vec c0 V = vec c0 W :=
  funext fun j => h _ (grp_lane j)

theorem updRow_col {α : Type} (H : ℕ → ℕ → α) (r0 c0 : ℕ) (V : ℕ → α) (r c : ℕ) (hc : grp c0 c) :
    updRow H r0 c0 (vec c0 V) r c = if r = r0 then V c else H r c := by
  unfold updRow vec
  obtain ⟨h1, h2⟩ := hc
  by_cases hr : r = r0
  · rw [if_pos ⟨hr, h1, h2⟩, if_pos hr, lane_val _ (by omega)]; congr 1; omega
  · rw [if_neg fun h => hr h.1, if_neg hr]

theorem updRow_other {α : Type} (H : ℕ → ℕ → α) (r0 c0 : ℕ) (w : S16.Idx → α) (r c : ℕ) (hc : ¬grp c0 c) :
    updRow H r0 c0 w r c = H r c := by
  unfold updRow; exact if_neg fun h => hc ⟨h.2.1, h.2.2⟩

theorem updLanes_col {α : Type} (H : ℕ → ℕ → α) (c0 : ℕ) (on : S16.Idx → Prop) [DecidablePred on] (row : S16.Idx → ℕ) (u : S16.Idx → α → α)
    (On : ℕ → Prop) [DecidablePred On] (Row : ℕ → ℕ) (Up : ℕ → α → α)
    (hon : ∀ j : S16.Idx, on j ↔ On (c0 + (j 0).val)) (hrow : ∀ j : S16.Idx, row j = Row (c0 + (j 0).val))
    (hu : ∀ j : S16.Idx, u j = Up (c0 + (j 0).val)) (r c : ℕ) (hc : grp c0 c) :
    updLanes H c0 on row u r c = if On c ∧ r = Row c then Up c (H r c) else H r c := by
  unfold updLanes
  obtain ⟨h1, h2⟩ := hc
  have hl : c0 + (lane (c - c0) 0).val = c := by rw [lane_val _ (by omega)]; omega
  have e1 := hon (lane (c - c0)); have e2 := hrow (lane (c - c0)); have e3 := hu (lane (c - c0))
  rw [hl] at e1 e2 e3
  rw [e2, e3]
  by_cases h : On c ∧ r = Row c
  · rw [if_pos h, if_pos ⟨h1, h2, e1.mpr h.1, h.2⟩]
  · rw [if_neg h, if_neg fun hh => h ⟨e1.mp hh.2.2.1, hh.2.2.2⟩]

theorem updLanes_other {α : Type} (H : ℕ → ℕ → α) (c0 : ℕ) (on : S16.Idx → Prop) [DecidablePred on] (row : S16.Idx → ℕ) (u : S16.Idx → α → α)
    (r c : ℕ) (hc : ¬grp c0 c) : updLanes H c0 on row u r c = H r c := by
  unfold updLanes; exact if_neg fun h => hc ⟨h.1, h.2.1⟩

theorem grp_sixteen {c : ℕ} (hc : c < 32) : grp 0 c ∧ ¬grp 16 c ∨ ¬grp 0 c ∧ grp 16 c := by
  unfold grp; omega

/-! ## The loop rule -/

variable {c : Thread nD τ} [FloatOps F]

/-- A counted loop at the head of a program, by an invariant. -/
theorem wp_loop {σ α : Type} {Φ : α → sProp 𝕄} (L : Scf.Loop 32) (hok : L.OK) (init : σ)
    (body : Fin L.trips → σ → Prog (TpuEff nD τ sig (Elt F) Λ₀ c.2) σ) (I : ℕ → σ → sProp 𝕄) (n : ℕ) (hn : L.trips = n)
    (hbody : ∀ (k : Fin L.trips) (acc : σ), k.val < n → I k.val acc ⊢ WP c (body k acc) (I (k.val + 1)))
    {kk : σ → Prog (TpuEff nD τ sig (Elt F) Λ₀ c.2) α} :
    I 0 init ⊢ iprop((∀ acc, I n acc -∗ WP c (kk acc) Φ) -∗ WP c (Scf.Loop.for L hok init body >>= kk) Φ) := by
  have h := Scf.wp_for_bind (M := 𝕄) frame (wpE (defs₀ (F := F)) 𝒱₀ c none) Set.univ L.lb L.ub L.st hok init body I
    (fun k acc => hbody k acc (hn ▸ k.isLt)) (kk := kk) (Q := Φ)
  rw [show Scf.trips L.lb L.ub L.st = n from hn] at h
  exact h

/-- The same as a whole program. -/
theorem wp_loop_last {σ : Type} (L : Scf.Loop 32) (hok : L.OK) (init : σ)
    (body : Fin L.trips → σ → Prog (TpuEff nD τ sig (Elt F) Λ₀ c.2) σ) (I : ℕ → σ → sProp 𝕄) (n : ℕ) (hn : L.trips = n)
    (hbody : ∀ (k : Fin L.trips) (acc : σ), k.val < n → I k.val acc ⊢ WP c (body k acc) (I (k.val + 1))) :
    I 0 init ⊢ WP c (Scf.Loop.for L hok init body) (I n) := by
  have h := Scf.wp_for (M := 𝕄) frame (wpE (defs₀ (F := F)) 𝒱₀ c none) Set.univ L.lb L.ub L.st hok init body I
    (fun k acc => hbody k acc (hn ▸ k.isLt)) (Q := I n)
  rw [show Scf.trips L.lb L.ub L.st = n from hn] at h
  iintro H
  iapply h
  isplitl [H]
  · iexact H
  iintro %acc H
  iexact H

variable {R : ℕ} {e : EltTy}

/-! ## Zero -/

/-- Rows below `k` of the sixteen columns are zero. -/
def zeroI (c : Thread nD τ) (m : Memref sig c.2.kind .vmem (sR R) .f32) (c0 k : ℕ) : sProp 𝕄 :=
  iprop(∃ H : ℕ → ℕ → Elt F .f32, ⌜∀ c, grp c0 c → ∀ r < k, H r c = zf⌝ ∗ owns c m fullShare (mk2 H))

theorem zero_step (m : Memref sig c.2.kind .vmem (sR R) .f32) {off : Fin 2 → ℕ} (k c0 : ℕ) (hoff : off = ![k, c0])
    {w : S16.Idx → Elt F .f32} (hw : w = vec c0 fun _ => zf)
    {hc : S16.ShapeCasts S1x16} {hinb hinb' : ∀ a, off a + S1x16.size a ≤ (sR R).size a}
    {hl : m.view.LoadsAt (Rect.unit (s := sR R) off S1x16.size hinb).toLoadRect}
    {hs : (m.access (Rect.unit (s := sR R) off S1x16.size hinb')).Stores Finset.univ}
    {hm : Finset.univ = Finset.univ ∨ ∀ a, (Rect.unit (s := sR R) off S1x16.size hinb').stride a = 1} :
    (zeroI (F := F) c m c0 k)
      ⊢ WP c (do
          let _v ← Prog.lift (.load m (Rect.unit (s := sR R) off S1x16.size hinb).toLoadRect hl)
          Prog.lift (.store m (Rect.unit (s := sR R) off S1x16.size hinb') (shapeCast S1x16 w hc) Finset.univ hs hm)
          pure (⟨⟩ : Unit)) fun _ => zeroI (F := F) c m c0 (k + 1) := by
  unfold zeroI
  iintro ⟨%H, %hH, H⟩
  iapply (wp_load_row m H k c0 hoff) $$ H
  iintro H
  iapply (wp_store_row m H k c0 hoff) $$ H
  iintro H
  rw [wp_pure]; imodintro
  iexists (updRow H k c0 w)
  isplitr
  · ipureintro
    intro c hc r hr
    rw [hw, updRow_col _ _ _ _ _ _ hc]
    by_cases h : r = k
    · rw [if_pos h]
    · rw [if_neg h]; exact hH c hc r (by omega)
  iexact H

/-! ## Sums from the top -/

/-- The top `k` rows of `nb` summed from the top, in the sixteen columns. -/
def sufI (c : Thread nD τ) (m : Memref sig c.2.kind .vmem (sR R) .f32) (c0 : ℕ) (C : ℕ → ℕ → F .f32) (nb k : ℕ) (acc : FVec F S16 .f32) : sProp 𝕄 :=
  iprop(∃ H : ℕ → ℕ → Elt F .f32, ⌜acc = vec c0 (fun c => sacc (C c) nb k) ∧ ∀ c, grp c0 c → ∀ r < R, H r c = sufN (C c) nb k r⌝
    ∗ owns c m fullShare (mk2 H))

theorem suf_step (m : Memref sig c.2.kind .vmem (sR R) .f32) {off : Fin 2 → ℕ} (C : ℕ → ℕ → F .f32) (nb k c0 : ℕ) (hk : k < nb) (hnb : nb ≤ R)
    (hoff : off = ![nb - 1 - k, c0]) (pay : FVec F S16 .f32 → (S1x16.Idx → F .f32) → S16.Idx → F .f32)
    (hpay : ∀ A B : ℕ → F .f32, pay (vec c0 A) (rowv c0 B) = vec c0 fun c => FloatOps.addf (A c) (B c)) (acc : FVec F S16 .f32)
    {hc : S16.ShapeCasts S1x16} {hinb hinb' hinb'' : ∀ a, off a + S1x16.size a ≤ (sR R).size a}
    {hl : m.view.LoadsAt (Rect.unit (s := sR R) off S1x16.size hinb).toLoadRect}
    {hl' : m.view.LoadsAt (Rect.unit (s := sR R) off S1x16.size hinb'').toLoadRect}
    {hs : (m.access (Rect.unit (s := sR R) off S1x16.size hinb')).Stores Finset.univ}
    {hm : Finset.univ = Finset.univ ∨ ∀ a, (Rect.unit (s := sR R) off S1x16.size hinb').stride a = 1} :
    (sufI c m c0 C nb k acc)
      ⊢ WP c (do
          let v ← Prog.lift (.load m (Rect.unit (s := sR R) off S1x16.size hinb).toLoadRect hl)
          let _v ← Prog.lift (.load m (Rect.unit (s := sR R) off S1x16.size hinb'').toLoadRect hl')
          Prog.lift (.store m (Rect.unit (s := sR R) off S1x16.size hinb') (shapeCast S1x16 (pay acc v) hc) Finset.univ hs hm)
          pure (pay acc v)) (sufI c m c0 C nb (k + 1)) := by
  unfold sufI
  iintro ⟨%H, %hH, H⟩
  obtain ⟨rfl, hH⟩ := hH
  iapply (wp_load_row m H (nb - 1 - k) c0 hoff) $$ H
  iintro H
  iapply (wp_load_row m H (nb - 1 - k) c0 hoff) $$ H
  iintro H
  iapply (wp_store_row m H (nb - 1 - k) c0 hoff) $$ H
  iintro H
  rw [wp_pure]; imodintro
  have hp : pay (vec c0 fun c => sacc (C c) nb k) (fun x => H (nb - 1 - k) (c0 + (x 1).val)) = vec c0 fun c => sacc (C c) nb (k + 1) := by
    refine (hpay _ (H (nb - 1 - k))).trans (vec_congr fun c hc => ?_)
    rw [hH c hc _ (by omega), sacc]
    unfold sufN
    rw [if_neg (by omega)]
  rw [hp]
  iexists (updRow H (nb - 1 - k) c0 (vec c0 fun c => sacc (C c) nb (k + 1)))
  isplitr
  · ipureintro
    refine ⟨rfl, fun c hc r hr => ?_⟩
    rw [updRow_col _ _ _ _ _ _ hc, sufN_succ _ hk, hH c hc r hr]
  iexact H

/-! ## The search -/

/-- The search over the sums `S` after `k` of `n` steps: the block it has come to. -/
def srI (c : Thread nD τ) (m : Memref sig c.2.kind .vmem (sR R) .f32) (H : ℕ → ℕ → Elt F .f32) (c0 : ℕ) (S : ℕ → ℕ → F .f32) (a t : ℕ → F .f32)
    (n k : ℕ) (acc : IVec S16 32 × IVec S16 32) : sProp 𝕄 :=
  iprop(⌜acc.1 = vec c0 (fun c => BitVec.ofNat 32 (srchN (S c) (a c) (t c) n k))
      ∧ acc.2 = vec c0 (fun c => BitVec.ofNat 32 (srchN (S c) (a c) (t c) n k + 2 ^ (n - k) - 1))⌝ ∗ owns c m fullShare (mk2 H))

theorem gather_chk {c0 : ℕ} (hc0 : c0 + 16 ≤ 32) {row col : IVec S16 32} (hcol : ∀ j : S16.Idx, (col j).toNat = c0 + (j 0).val)
    (hrow : ∀ j : S16.Idx, (row j).toNat < R) : ∀ a x, ((![row, col] : Fin 2 → IVec S16 32) a x).toNat < (sR R).size a := by
  intro a x
  have : (x 0).val < 16 := (x 0).isLt
  match a with
  | 0 => exact hrow x
  | 1 =>
    have h := hcol x
    change (col x).toNat < 32
    omega

theorem srch_step (m : Memref sig c.2.kind .vmem (sR R) .f32) (H : ℕ → ℕ → Elt F .f32) {c0 n k : ℕ} (hc0 : c0 + 16 ≤ 32) (hn : n ≤ 11) (hk : k < n) (hR : 2 ^ n ≤ R)
    (S : ℕ → ℕ → F .f32) (a t : ℕ → F .f32) (hS : ∀ c, grp c0 c → ∀ r < 2 ^ n, H r c = S c r)
    {lo hi mid col : IVec S16 32} (hcol : ∀ j : S16.Idx, (col j).toNat = c0 + (j 0).val)
    (hmid : mid = fun j => IntOp.shrui .vector (IntOp.addi (IntOp.addi (lo j) (hi j)) 1#32) 1#32)
    {P : Prop} {d : Decidable P} (hP : (∀ a x, ((![mid, col] : Fin 2 → IVec S16 32) a x).toNat < (sR R).size a) → P)
    (hidx : P → ∀ a x, ((![mid, col] : Fin 2 → IVec S16 32) a x).toNat < (sR R).size a) {hl : m.view.Loads}
    (selL selH : Vec F S16 .f32 → IVec S16 32)
    (hL : ∀ v, selL v = fun j => Scalar.select (FloatOps.cmpf .oge (FloatOps.addf (a (c0 + (j 0).val)) (v j)) (t (c0 + (j 0).val))) (mid j) (lo j))
    (hH : ∀ v, selH v = fun j => Scalar.select (FloatOps.cmpf .oge (FloatOps.addf (a (c0 + (j 0).val)) (v j)) (t (c0 + (j 0).val))) (hi j) (IntOp.subi (mid j) 1#32)) :
    (srI c m H c0 S a t n k (lo, hi))
      ⊢ WP c (do
          let h ← Prog.lift (.assume P d)
          let v ← SparseCore.vectorLoadIdx m ![mid, col] (hidx h.down) hl
          pure (selL v, selH v)) (srI c m H c0 S a t n (k + 1)) := by
  unfold srI
  iintro ⟨%hlh, H⟩
  obtain ⟨h1, h2⟩ := hlh
  dsimp only at h1 h2
  subst h1 h2
  have hb : ∀ c, srchN (S c) (a c) (t c) n k + 2 ^ (n - k) ≤ 2 ^ n := fun c => bs_le _ (by omega)
  have hp := pow_step hk
  have hpos : 0 < (2:ℕ) ^ (n - 1 - k) := by positivity
  have hn11 : (2:ℕ) ^ n ≤ 2 ^ 11 := Nat.pow_le_pow_right (by decide) hn
  have hm : mid = vec c0 fun c => BitVec.ofNat 32 (srchN (S c) (a c) (t c) n k + 2 ^ (n - 1 - k)) := by
    rw [hmid]
    funext j
    exact mid_word hn hk (hb _)
  subst hm
  have hrow : ∀ j : S16.Idx, (vec c0 (fun c => BitVec.ofNat 32 (srchN (S c) (a c) (t c) n k + 2 ^ (n - 1 - k))) j).toNat
      = srchN (S (c0 + (j 0).val)) (a (c0 + (j 0).val)) (t (c0 + (j 0).val)) n k + 2 ^ (n - 1 - k) := by
    intro j
    have := hb (c0 + (j 0).val)
    unfold vec
    rw [BitVec.toNat_ofNat, Nat.mod_eq_of_lt (by omega)]
  have hck := gather_chk (R := R) hc0 hcol (row := vec c0 (fun c => BitVec.ofNat 32 (srchN (S c) (a c) (t c) n k + 2 ^ (n - 1 - k)))) (fun j => by
    have := hb (c0 + (j 0).val)
    rw [hrow]; omega)
  iapply (wp_check (hP hck))
  iapply (wp_gather m H c0 hcol) $$ H
  iintro H
  rw [wp_pure]; imodintro
  isplitr
  · ipureintro
    dsimp only
    rw [hL, hH]
    have key : ∀ j : S16.Idx, H (vec c0 (fun c => BitVec.ofNat 32 (srchN (S c) (a c) (t c) n k + 2 ^ (n - 1 - k))) j).toNat (c0 + (j 0).val)
        = S (c0 + (j 0).val) (srchN (S (c0 + (j 0).val)) (a (c0 + (j 0).val)) (t (c0 + (j 0).val)) n k + 2 ^ (n - 1 - k)) := by
      intro j
      have := hb (c0 + (j 0).val)
      rw [hrow, hS _ (grp_lane j) _ (by omega)]
    constructor
    · funext j
      rw [key]
      exact srch_lo _ _ _ _ _
    · funext j
      rw [key]
      exact srch_hi _ _ _ hn hk
  iexact H

/-! ## Keys -/

/-- The keys of sixteen floats, found bit by bit. -/
theorem wp_keys {α : Type} {Φ : α → sProp 𝕄} (L : Scf.Loop 32) (hok : L.OK) (hn : L.trips = 31) (init : IVec S16 32) (hinit : init = fun _ => 0#32)
    (E : FVec F S16 .f32) (body : Fin L.trips → IVec S16 32 → Prog (TpuEff nD τ sig (Elt F) Λ₀ c.2) (IVec S16 32))
    (hbody : ∀ k acc, body k acc = pure fun j => Scalar.select
      (FloatOps.cmpf .ole (FloatOps.ofBits .f32 (IntOp.ori (acc j) (Scalar.shli 1#32 (Scalar.subi 30#32 (Scf.iv 0#32 1#32 k)))) : F .f32) (E j))
      (IntOp.ori (acc j) (Scalar.shli 1#32 (Scalar.subi 30#32 (Scf.iv 0#32 1#32 k)))) (acc j))
    {kk : IVec S16 32 → Prog (TpuEff nD τ sig (Elt F) Λ₀ c.2) α} :
    WP c (kk fun j => BitVec.ofNat 32 (key (E j))) Φ ⊢ WP c (Scf.Loop.for L hok init body >>= kk) Φ := by
  iintro H
  iapply (wp_loop L hok init body (fun k acc => iprop(⌜acc = fun j => BitVec.ofNat 32 (keyN (E j) k)⌝)) 31 hn ?_) $$ []
  · intro k acc hk
    iintro %hacc
    subst hacc
    rw [WP, hbody, wp_pure]; imodintro
    ipureintro
    funext j
    exact key_step _ hk
  · ipureintro
    subst hinit
    funext j
    rfl
  iintro %acc %hacc
  subst hacc
  iexact H

/-! ## A histogram's row -/

/-- The candidates of the sixteen columns, in their two buffers. -/
def candOK (c0 : ℕ) (L : ℕ → List (F .f32)) (H6 : ℕ → ℕ → F .f32) (H7 : ℕ → ℕ → BitVec 32) : Prop :=
  ∀ c, grp c0 c → ∀ (j : ℕ) (h : j < (L c).length), H6 j c = (L c)[j] ∧ H7 j c = BitVec.ofNat 32 (key (L c)[j])

/-- The histogram of the first `k` candidates that pass. -/
def hiI (c : Thread nD τ) (m5 : Memref sig c.2.kind .vmem (sR R) .f32) (c0 : ℕ) (b : F .f32 → ℕ) (L : ℕ → List (F .f32)) (p : ℕ → F .f32 → Bool)
    (k : ℕ) : sProp 𝕄 :=
  iprop(∃ H : ℕ → ℕ → Elt F .f32, ⌜∀ c, grp c0 c → ∀ r < 1028, H r c = histo b (((L c).take k).filter (p c)) r⌝ ∗ owns c m5 fullShare (mk2 H))

theorem hist_step (m5 : Memref sig c.2.kind .vmem (sR R) .f32) (m6 : Memref sig c.2.kind .vmem (sR 520) .f32) (m7 : Memref sig c.2.kind .vmem (sR 520) .i32)
    {H6 : ℕ → ℕ → Elt F .f32} {H7 : ℕ → ℕ → Elt F .i32} {c0 k : ℕ} (hc0 : c0 + 16 ≤ 32) (hR : 1024 ≤ R)
    {b : F .f32 → ℕ} {L : ℕ → List (F .f32)} {p : ℕ → F .f32 → Bool} (hok : candOK c0 L H6 H7)
    {off : Fin 2 → ℕ} (hoff : off = ![k, c0]) {col : IVec S16 32} (hcol : ∀ j : S16.Idx, (col j).toNat = c0 + (j 0).val)
    (row : (S1x16.Idx → BitVec 32) → IVec S16 32) (val : (S1x16.Idx → F .f32) → FVec F S16 .f32) (mask : (S1x16.Idx → BitVec 32) → IVec S16 1)
    (hval : ∀ V : ℕ → F .f32, val (rowv c0 V) = vec c0 V)
    (hrow1 : ∀ V j, (row (rowv c0 V) j).toNat < 1024)
    (hrow : ∀ (V : ℕ → BitVec 32) (j : S16.Idx) (e : F .f32), V (c0 + (j 0).val) = BitVec.ofNat 32 (key e) → (row (rowv c0 V) j).toNat = b e)
    (hmask : ∀ (V : ℕ → BitVec 32) (j : S16.Idx), (∀ h : k < (L (c0 + (j 0).val)).length, V (c0 + (j 0).val) = BitVec.ofNat 32 (key (L (c0 + (j 0).val))[k])) →
      (mask (rowv c0 V) j = 1 ↔ ∃ h : k < (L (c0 + (j 0).val)).length, p (c0 + (j 0).val) (L (c0 + (j 0).val))[k] = true))
    {P : (S1x16.Idx → BitVec 32) → Prop} {d : ∀ v, Decidable (P v)} (hP : ∀ v, (∀ a x, ((![row v, col] : Fin 2 → IVec S16 32) a x).toNat < (sR R).size a) → P v)
    {hidx : ∀ v, P v → ∀ a x, ((![row v, col] : Fin 2 → IVec S16 32) a x).toNat < (sR R).size a}
    {hinb hinb' : ∀ a, off a + S1x16.size a ≤ (sR 520).size a}
    {hl : m7.view.LoadsAt (Rect.unit (s := sR 520) off S1x16.size hinb).toLoadRect}
    {hl' : m6.view.LoadsAt (Rect.unit (s := sR 520) off S1x16.size hinb').toLoadRect} {hs : (m5.access (.whole (sR R))).Stores Finset.univ} {z : BitVec 32} :
    iprop(hiI c m5 c0 b L p k ∗ owns c m6 fullShare (mk2 H6) ∗ owns c m7 fullShare (mk2 H7))
      ⊢ WP c (do
          let v ← Prog.lift (.load m7 (Rect.unit (s := sR 520) off S1x16.size hinb).toLoadRect hl)
          let h ← Prog.lift (.assume (P v) (d v))
          let w ← Prog.lift (.load m6 (Rect.unit (s := sR 520) off S1x16.size hinb').toLoadRect hl')
          SparseCore.vectorStoreIdx m5 ![row v, col] (val w) (mask v) true (hidx v h.down) hs
          pure z) fun _ => iprop(hiI c m5 c0 b L p (k + 1) ∗ owns c m6 fullShare (mk2 H6) ∗ owns c m7 fullShare (mk2 H7)) := by
  unfold hiI
  iintro ⟨⟨%H, %hH, H5⟩, H6, H7⟩
  iapply (wp_load_row m7 H7 k c0 hoff) $$ H7
  iintro H7
  iapply (wp_check (hP _ (gather_chk hc0 hcol fun j => lt_of_lt_of_le (hrow1 (H7 k) j) hR)))
  iapply (wp_load_row m6 H6 k c0 hoff) $$ H6
  iintro H6
  iapply (wp_scatter m5 H c0 hcol) $$ H5
  iintro H5
  rw [wp_pure]; imodintro
  isplitl [H5]
  · iexists _
    isplitr
    rotate_left
    · iexact H5
    ipureintro
    intro c hc r hr
    have hrd : ∀ (V : ℕ → BitVec 32), (fun x : S1x16.Idx => V (c0 + (x 1).val)) = rowv c0 V := fun _ => rfl
    have hrd' : ∀ (V : ℕ → F .f32), (fun x : S1x16.Idx => V (c0 + (x 1).val)) = rowv c0 V := fun _ => rfl
    have hj : c0 + (lane (c - c0) 0).val = c := by obtain ⟨h1, h2⟩ := hc; rw [lane_val _ (by omega)]; omega
    unfold updLanes
    obtain ⟨h1, h2⟩ := hc
    have hm := hmask (H7 k) (lane (c - c0)) (fun h => by
      revert h; rw [hj]; intro h; exact (hok c ⟨h1, h2⟩ k h).2)
    rw [hj] at hm
    by_cases hk : k < (L c).length
    · have hrw := hrow (H7 k) (lane (c - c0)) (L c)[k] (by rw [hj]; exact (hok c ⟨h1, h2⟩ k hk).2)
      have htk : (L c).take (k + 1) = (L c).take k ++ [(L c)[k]] := (List.take_concat_get' (L c) k hk).symm
      rw [htk, List.filter_append]
      by_cases hp : p c (L c)[k] = true
      · have hf : [(L c)[k]].filter (p c) = [(L c)[k]] := by simp [hp]
        rw [hf, histo_concat]
        dsimp only
        by_cases hre : r = b (L c)[k]
        · rw [if_pos ⟨h1, h2, hm.mpr ⟨hk, hp⟩, hre.trans hrw.symm⟩, if_pos hre, hH c ⟨h1, h2⟩ r hr]
          simp only [if_true]
          congr 1
          refine (congrFun (hval (H6 k)) (lane (c - c0))).trans ?_
          unfold vec
          rw [hj, (hok c ⟨h1, h2⟩ k hk).1]
        · rw [if_neg hre, if_neg fun h => hre (h.2.2.2.trans hrw), hH c ⟨h1, h2⟩ r hr]
      · have hf : [(L c)[k]].filter (p c) = [] := by simp [hp]
        rw [hf, List.append_nil, if_neg fun h => hp (hm.mp h.2.2.1).2, hH c ⟨h1, h2⟩ r hr]
    · rw [if_neg fun h => hk (hm.mp h.2.2.1).1, hH c ⟨h1, h2⟩ r hr, List.take_of_length_le (by omega), List.take_of_length_le (by omega)]
  isplitl [H6]
  · iexact H6
  iexact H7

end Cert.Proof.Radix
end
-- ==== Proof.Rows.lean ====
/-
  The trips of the loops that work on all thirty-two columns: zeroing the histogram, adding a row of exponentials into it,
  summing it from the top, gathering a row's candidates, and writing a row of results.
-/
module

public import proofs.«01_k».proof.Proof.Steps

@[expose] public section

noncomputable section

namespace Cert.Proof.Radix

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The tile at a grid point of a device. -/
abbrev tid (d : Dev nD) (i : grid0.Coords) : Thread nD τ := (d, .scVector ((i 0).castLE hcore0) ((i 1).castLE hsub0))

/-- The sixteen lane numbers. -/
def lanes : IVec S16 32 := fun j => BitVec.ofNat 32 (j 0).val

theorem lanes_toNat (j : S16.Idx) : (lanes j).toNat = 0 + (j 0).val := by
  have : (j 0).val < 16 := (j 0).isLt
  unfold lanes; rw [BitVec.toNat_ofNat, Nat.mod_eq_of_lt (by omega), Nat.zero_add]

theorem lanes_add_toNat (j : S16.Idx) : (IntOp.addi (lanes j) 16#32).toNat = 16 + (j 0).val := by
  have : (j 0).val < 16 := (j 0).isLt
  unfold lanes IntOp.addi; rw [BitVec.toNat_add, BitVec.toNat_ofNat]
  simp only [BitVec.toNat_ofNat]; omega

/-- A scatter's result at one of its sixteen columns. -/
theorem scat_col {e : EltTy} (H : ℕ → ℕ → Elt F e) (c0 : ℕ) (mask : IVec S16 1) (row : IVec S16 32) (add : Bool) (V : ℕ → Elt F e)
    (On : ℕ → Prop) [DecidablePred On] (Row : ℕ → ℕ)
    (hon : ∀ j : S16.Idx, mask j = 1 ↔ On (c0 + (j 0).val)) (hrow : ∀ j : S16.Idx, (row j).toNat = Row (c0 + (j 0).val)) (r c : ℕ) (hc : grp c0 c) :
    updLanes H c0 (fun j => mask j = 1) (fun j => (row j).toNat) (fun j old => if add then Elt.idxAdd e old (vec c0 V j) else vec c0 V j) r c
      = if On c ∧ r = Row c then (if add then Elt.idxAdd e (H r c) (V c) else V c) else H r c :=
  updLanes_col H c0 _ _ _ On Row (fun c old => if add then Elt.idxAdd e old (V c) else V c) hon hrow (fun _ => rfl) r c hc

variable (d : Dev nD) (i : grid0.Coords) (arg2 : Memref sig .scVector .hbm S64x8192x32 .f32) (harg2 : arg2.IsWhole) (arg3 : Memref sig .scVector .hbm S64x8192x32 .f32) (harg3 : arg3.IsWhole) (arg4 : Memref sig .scVector .vmem S512x32 .f32) (harg4 : arg4.IsWhole) (arg5 : Memref sig .scVector .vmem S2052x32 .f32) (harg5 : arg5.IsWhole) (arg6 : Memref sig .scVector .vmem S520x32 .f32) (harg6 : arg6.IsWhole) (arg7 : Memref sig .scVector .vmem S520x32 .i32) (harg7 : arg7.IsWhole) (v151_r0 : DmaSems sig S_) (v152_r1 : DmaSems sig S_) (v152_r2 : DmaSems sig S_) (v152_r3 : DmaSems sig S_)
variable (v1 c0_i32_0 c1_i32 : BitVec 32) (k0_t1 : Fin k0_t1_loop.trips)

/-! ## Zero -/

/-- The first `k` rows are zero. -/
def zero2I (c : Thread nD τ) (m : Memref sig c.2.kind .vmem (sR 2052) .f32) (k : ℕ) : sProp 𝕄 :=
  iprop(∃ H : ℕ → ℕ → Elt F .f32, ⌜∀ c < 32, ∀ r < k, H r c = zf⌝ ∗ owns c m fullShare (mk2 H))

theorem t2_step (k : Fin k0_t2_loop.trips) :
    zero2I (F := F) (tid d i) arg5 k.val ⊢ WP (tid d i)
      (k0_t2_body i arg2 harg2 arg3 harg3 arg4 harg4 arg5 harg5 arg6 harg6 arg7 harg7 v151_r0 v152_r1 v152_r2 v152_r3 v1 lanes c0_i32_0 c1_i32 k0_t1 k ()) fun _ => zero2I (tid d i) arg5 (k.val + 1) := by
  unfold k0_t2_body zero2I
  dsimp only
  iintro ⟨%H, %hH, H⟩
  iapply (wp_load_row (c := tid d i) arg5 H k.val 0 (k0_off1_eq k)) $$ H
  iintro H
  iapply (wp_store_row (c := tid d i) arg5 H k.val 0 (k0_off1_eq k)) $$ H
  iintro H
  iapply (wp_load_row (c := tid d i) arg5 _ k.val 16 (k0_off2_eq k)) $$ H
  iintro H
  iapply (wp_store_row (c := tid d i) arg5 _ k.val 16 (k0_off2_eq k)) $$ H
  iintro H
  rw [wp_pure]; imodintro
  iexists (updRow (updRow H k.val 0 k0_pay13) k.val 16 k0_pay14)
  isplitr
  · ipureintro
    intro c hc r hr
    rw [show (k0_pay13 (F := F)) = vec 0 (fun _ => zf) from rfl, show (k0_pay14 (F := F)) = vec 16 (fun _ => zf) from rfl]
    rcases grp_sixteen hc with ⟨h1, h2⟩ | ⟨h1, h2⟩
    · rw [updRow_other _ _ _ _ _ _ h2, updRow_col _ _ _ _ _ _ h1]
      split
      · rfl
      · exact hH c hc r (by omega)
    · rw [updRow_col _ _ _ _ _ _ h2, updRow_other _ _ _ _ _ _ h1]
      split
      · rfl
      · exact hH c hc r (by omega)
  iexact H

/-! ## The first pass: a row into the histogram -/

/-- The histogram of the first `n` elements of each column. -/
def hist2I (c : Thread nD τ) (m : Memref sig c.2.kind .vmem (sR 2052) .f32) (X : ℕ → ℕ → F .f32) (n : ℕ) : sProp 𝕄 :=
  iprop(∃ H : ℕ → ℕ → Elt F .f32, ⌜∀ c < 32, ∀ r < 2052, H r c = histo bin1 (exps (X c) n) r⌝ ∗ owns c m fullShare (mk2 H))

theorem bin1_word (e : F .f32) : (IntOp.shrui .vector (BitVec.ofNat 32 (key e)) 20#32).toNat = bin1 e := by
  have := key_lt e
  rw [shr20 _ (key_lt e), BitVec.toNat_ofNat]
  unfold bin1
  omega

theorem t4_step (X : ℕ → ℕ → F .f32) (n : ℕ) (H4 : ℕ → ℕ → Elt F .f32) (k : Fin k0_t4_loop.trips) (hH4 : ∀ c < 32, H4 k.val c = X c (n + k.val)) :
    iprop(hist2I (tid d i) arg5 X (n + k.val) ∗ owns (tid d i) arg4 fullShare (mk2 H4)) ⊢ WP (tid d i)
      (k0_t4_body i arg2 harg2 arg3 harg3 arg4 harg4 arg5 harg5 arg6 harg6 arg7 harg7 v151_r0 v152_r1 v152_r2 v152_r3 v1 lanes c0_i32_0 c1_i32 k0_t1 k ())
      fun _ => iprop(hist2I (tid d i) arg5 X (n + (k.val + 1)) ∗ owns (tid d i) arg4 fullShare (mk2 H4)) := by
  unfold k0_t4_body hist2I
  dsimp only
  iintro ⟨⟨%H, %hH, H5⟩, H4⟩
  iapply (wp_load_row (c := tid d i) arg4 H4 k.val 0 (k0_off4_eq k)) $$ H4
  iintro H4
  iapply (wp_load_row (c := tid d i) arg4 H4 k.val 16 (k0_off5_eq k)) $$ H4
  iintro H4
  iapply (wp_keys (c := tid d i) k0_t5_loop k0_t5_ok (by decide) k0_pay17 rfl (k0_pay15 (rowv 0 (H4 k.val))) _ (fun _ _ => rfl))
  iapply (wp_keys (c := tid d i) k0_t6_loop k0_t6_ok (by decide) k0_pay19 rfl (k0_pay16 (rowv 16 (H4 k.val))) _ (fun _ _ => rfl))
  have e15 : k0_pay15 (rowv 0 (H4 k.val)) = vec 0 (fun c => FloatOps.exp (H4 k.val c)) := by
    unfold k0_pay15; dsimp only; rw [cast_rowv]; rfl
  have e16 : k0_pay16 (rowv 16 (H4 k.val)) = vec 16 (fun c => FloatOps.exp (H4 k.val c)) := by
    unfold k0_pay16; dsimp only; rw [cast_rowv]; rfl
  rw [show (fun x : S1x16.Idx => H4 k.val (0 + (x 1).val)) = rowv 0 (H4 k.val) from rfl,
    show (fun x : S1x16.Idx => H4 k.val (16 + (x 1).val)) = rowv 16 (H4 k.val) from rfl, e15, e16]
  have hc1 : ∀ j : S16.Idx, (k0_pay21 (fun j => BitVec.ofNat 32 (key (vec 0 (fun c => FloatOps.exp (H4 k.val c)) j))) j).toNat
      = bin1 (FloatOps.exp (H4 k.val (0 + (j 0).val))) := fun j => bin1_word _
  have hc2 : ∀ j : S16.Idx, (k0_pay22 (fun j => BitVec.ofNat 32 (key (vec 16 (fun c => FloatOps.exp (H4 k.val c)) j))) j).toNat
      = bin1 (FloatOps.exp (H4 k.val (16 + (j 0).val))) := fun j => bin1_word _
  iapply (wp_check (c := tid d i) (gather_chk (R := 2052) (c0 := 0) (by omega) lanes_toNat fun j => by
    rw [hc1]; exact lt_of_lt_of_le (bin1_lt _) (by omega)))
  iapply (wp_scatter (c := tid d i) arg5 H 0 lanes_toNat) $$ H5
  iintro H5
  iapply (wp_check (c := tid d i) (gather_chk (R := 2052) (c0 := 16) (by omega) lanes_add_toNat fun j => by
    rw [hc2]; exact lt_of_lt_of_le (bin1_lt _) (by omega)))
  iapply (wp_scatter (c := tid d i) arg5 _ 16 lanes_add_toNat) $$ H5
  iintro H5
  rw [wp_pure]; imodintro
  isplitl [H5]
  · iexists _
    isplitr
    rotate_left
    · iexact H5
    ipureintro
    intro c hc r hr
    rw [← Nat.add_assoc, exps_succ, histo_concat, ← hH4 c hc]
    rcases grp_sixteen hc with ⟨h1, h2⟩ | ⟨h1, h2⟩
    · rw [updLanes_other _ _ _ _ _ _ _ h2, scat_col _ _ _ _ _ _ (fun _ => True) (fun c => bin1 (FloatOps.exp (H4 k.val c))) (fun _ => by simp) hc1 r c h1, hH c hc r hr]
      simp only [true_and, ↓reduceIte]
    · rw [scat_col _ _ _ _ _ _ (fun _ => True) (fun c => bin1 (FloatOps.exp (H4 k.val c))) (fun _ => by simp) hc2 r c h2,
        updLanes_other _ _ _ _ _ _ _ h1, hH c hc r hr]
      simp only [true_and, ↓reduceIte]
  iexact H4

/-! ## The sums from the top, both groups -/

/-- The top `k` bins summed from the top, in every column. -/
def suf2I (c : Thread nD τ) (m : Memref sig c.2.kind .vmem (sR 2052) .f32) (C : ℕ → ℕ → F .f32) (k : ℕ) (acc : FVec F S16 .f32 × FVec F S16 .f32) : sProp 𝕄 :=
  iprop(∃ H : ℕ → ℕ → Elt F .f32, ⌜acc = (vec 0 (fun c => sacc (C c) 2048 k), vec 16 (fun c => sacc (C c) 2048 k))
      ∧ ∀ c < 32, ∀ r < 2052, H r c = sufN (C c) 2048 k r⌝ ∗ owns c m fullShare (mk2 H))

theorem add_sacc {c0 : ℕ} (C : ℕ → ℕ → F .f32) (nb : ℕ) {k : ℕ} (hk : k < nb) (V : ℕ → F .f32)
    (hV : ∀ c, grp c0 c → V c = sufN (C c) nb k (nb - 1 - k)) (h : S1x16.ShapeCasts S16) :
    addf (vec c0 fun c => sacc (C c) nb k) (shapeCast S16 (rowv c0 V) h) = vec c0 fun c => sacc (C c) nb (k + 1) := by
  rw [cast_rowv]
  refine vec_congr (V := fun c => FloatOps.addf (sacc (C c) nb k) (V c)) fun c hc => ?_
  rw [hV c hc, sacc]
  unfold sufN
  rw [if_neg (by omega)]

theorem t7_step (C : ℕ → ℕ → F .f32) (k : Fin k0_t7_loop.trips) (acc : FVec F S16 .f32 × FVec F S16 .f32) :
    suf2I (tid d i) arg5 C k.val acc ⊢ WP (tid d i)
      (k0_t7_body i arg2 harg2 arg3 harg3 arg4 harg4 arg5 harg5 arg6 harg6 arg7 harg7 v151_r0 v152_r1 v152_r2 v152_r3 v1 lanes c0_i32_0 c1_i32 k0_t1 k acc)
      (suf2I (tid d i) arg5 C (k.val + 1)) := by
  have hk : k.val < 2048 := lt_of_lt_of_le k.isLt k0_t7_abs.2.1
  unfold k0_t7_body suf2I
  dsimp only
  iintro ⟨%H, %hH, H⟩
  obtain ⟨rfl, hH⟩ := hH
  dsimp only
  iapply (wp_load_row (c := tid d i) arg5 H (2047 - k.val) 0 (k0_off6_eq k)) $$ H
  iintro H
  iapply (wp_load_row (c := tid d i) arg5 H (2047 - k.val) 16 (k0_off7_eq k)) $$ H
  iintro H
  iapply (wp_load_row (c := tid d i) arg5 H (2047 - k.val) 0 (k0_off6_eq k)) $$ H
  iintro H
  iapply (wp_store_row (c := tid d i) arg5 H (2047 - k.val) 0 (k0_off6_eq k)) $$ H
  iintro H
  iapply (wp_load_row (c := tid d i) arg5 _ (2047 - k.val) 16 (k0_off7_eq k)) $$ H
  iintro H
  iapply (wp_store_row (c := tid d i) arg5 _ (2047 - k.val) 16 (k0_off7_eq k)) $$ H
  iintro H
  rw [wp_pure]; imodintro
  rw [show (fun x : S1x16.Idx => H (2047 - k.val) (0 + (x 1).val)) = rowv 0 (H (2047 - k.val)) from rfl,
    show (fun x : S1x16.Idx => H (2047 - k.val) (16 + (x 1).val)) = rowv 16 (H (2047 - k.val)) from rfl]
  have e1 : k0_pay25 (vec 0 fun c => sacc (C c) 2048 k.val) (rowv 0 (H (2047 - k.val))) = vec 0 fun c => sacc (C c) 2048 (k.val + 1) :=
    add_sacc C 2048 hk _ (fun c hc => hH c (by unfold grp at hc; omega) _ (by omega)) _
  have e2 : k0_pay26 (vec 16 fun c => sacc (C c) 2048 k.val) (rowv 16 (H (2047 - k.val))) = vec 16 fun c => sacc (C c) 2048 (k.val + 1) :=
    add_sacc C 2048 hk _ (fun c hc => hH c (by unfold grp at hc; omega) _ (by omega)) _
  rw [e1, e2]
  iexists _
  isplitr
  rotate_left
  · iexact H
  ipureintro
  refine ⟨rfl, fun c hc r hr => ?_⟩
  rw [sufN_succ _ hk, ← hH c hc r hr]
  rcases grp_sixteen hc with ⟨h1, h2⟩ | ⟨h1, h2⟩
  · rw [updRow_other _ _ _ _ _ _ h2, updRow_col _ _ _ _ _ _ h1]
  · rw [updRow_col _ _ _ _ _ _ h2, updRow_other _ _ _ _ _ _ h1]

/-! ## The second pass: a row's candidates -/

/-- The candidates of the first `n` elements of each column, in their buffers, and how many they are. -/
def cand2I (c : Thread nD τ) (m6 : Memref sig c.2.kind .vmem (sR 520) .f32) (m7 : Memref sig c.2.kind .vmem (sR 520) .i32) (b : ℕ → ℕ) (X : ℕ → ℕ → F .f32)
    (n : ℕ) (acc : IVec S16 32 × IVec S16 32) : sProp 𝕄 :=
  iprop(∃ (H6 : ℕ → ℕ → Elt F .f32) (H7 : ℕ → ℕ → Elt F .i32),
    ⌜acc = (vec 0 (fun c => BitVec.ofNat 32 (cand (b c) (exps (X c) n)).length), vec 16 (fun c => BitVec.ofNat 32 (cand (b c) (exps (X c) n)).length))
      ∧ ∀ c < 32, ∀ (j : ℕ) (h : j < (cand (b c) (exps (X c) n)).length), H6 j c = (cand (b c) (exps (X c) n))[j]
        ∧ H7 j c = BitVec.ofNat 32 (key (cand (b c) (exps (X c) n))[j])⌝
    ∗ owns c m6 fullShare (mk2 H6) ∗ owns c m7 fullShare (mk2 H7))

theorem min519 {n : ℕ} (h : n ≤ 520) : (IntOp.minsi (BitVec.ofNat 32 n) 519#32).toNat = min n 519 := by
  have hs : (BitVec.ofNat 32 n).slt 519#32 = true ↔ n < 519 := by
    rw [← slt_word (show n < 2 ^ 31 by omega) (show 519 < 2 ^ 31 by decide)]
    unfold IntOp.cmpi
    have h : ∀ c : Bool, c = true ↔ BitVec.ofBool c = 1#1 := by decide
    exact h _
  unfold IntOp.minsi
  split
  · rename_i h1
    have := hs.mp h1
    rw [BitVec.toNat_ofNat, Nat.mod_eq_of_lt (by omega)]; omega
  · rename_i h1
    have : ¬n < 519 := fun hh => h1 (hs.mpr hh)
    change 519 = _; omega

/-- Appending at the end where a condition holds. -/
theorem append_if {α β : Type} (L : List β) (p : Prop) [Decidable p] (e : β) (g : β → α) (H : ℕ → α) (H' : ℕ → ℕ → α) (c : ℕ)
    (hH : ∀ (j : ℕ) (h : j < L.length), H j = g L[j]) (hH' : ∀ j, H' j c = if p ∧ j = min L.length 519 then g e else H j) (hp : p → L.length < 520)
    (j : ℕ) (h : j < (if p then L ++ [e] else L).length) : H' j c = g (if p then L ++ [e] else L)[j] := by
  rw [hH']
  by_cases hpp : p
  · have hlen := hp hpp
    simp only [if_pos hpp] at h ⊢
    rw [List.length_append, List.length_singleton] at h
    by_cases hj : j = L.length
    · subst hj
      rw [if_pos ⟨hpp, by omega⟩]; simp
    · rw [if_neg (by omega), hH j (by omega), List.getElem_append_left]
  · simp only [if_neg hpp] at h ⊢
    rw [if_neg fun hh => hpp hh.1]
    exact hH j h

set_option maxHeartbeats 1600000 in
theorem t11_step (b : ℕ → ℕ) (hb : ∀ c, b c < 2048) (X : ℕ → ℕ → F .f32) (n : ℕ) (H4 : ℕ → ℕ → Elt F .f32) (k : Fin k0_t11_loop.trips)
    (hH4 : ∀ c < 32, H4 k.val c = X c (n + k.val)) (v16 v17 : FVec F S16 .f32) (v27 v28 v29 : IVec S16 32) (c0_i32_24 c1_i32_26 : BitVec 32)
    (acc : IVec S16 32 × IVec S16 32) :
    iprop(cand2I (tid d i) arg6 arg7 b X (n + k.val) acc ∗ owns (tid d i) arg4 fullShare (mk2 H4)) ⊢ WP (tid d i)
      (k0_t11_body i arg2 harg2 arg3 harg3 arg4 harg4 arg5 harg5 arg6 harg6 arg7 harg7 v151_r0 v152_r1 v152_r2 v152_r3 lanes k0_t1 v16 v17
        (vec 0 fun c => BitVec.ofNat 32 (b c)) v27 v28 v29 c0_i32_24 c1_i32_26 (vec 16 fun c => BitVec.ofNat 32 (b c)) k acc)
      fun acc => iprop(cand2I (tid d i) arg6 arg7 b X (n + (k.val + 1)) acc ∗ owns (tid d i) arg4 fullShare (mk2 H4)) := by
  unfold k0_t11_body cand2I
  dsimp only
  rw [k0_part1_eq_skeleton]
  unfold k0_part1_skel
  iintro ⟨⟨%H6, %H7, %hH, H6, H7⟩, H4⟩
  obtain ⟨rfl, hH⟩ := hH
  dsimp only
  set L : ℕ → List (F .f32) := fun c => cand (b c) (exps (X c) (n + k.val)) with hL
  have hlen : ∀ c, (L c).length ≤ 520 := fun c => cand_length_le _ _
  rw [WP, wp_bind]
  iapply (wp_load_row (c := tid d i) arg4 H4 k.val 0 (k0_off9_eq k)) $$ H4
  iintro H4
  iapply (wp_load_row (c := tid d i) arg4 H4 k.val 16 (k0_off10_eq k)) $$ H4
  iintro H4
  iapply (wp_keys (c := tid d i) k0_t12_loop k0_t12_ok (by decide) k0_pay3 rfl (k0_pay1 (rowv 0 (H4 k.val))) _ (fun _ _ => rfl))
  iapply (wp_keys (c := tid d i) k0_t13_loop k0_t13_ok (by decide) k0_pay5 rfl (k0_pay2 (rowv 16 (H4 k.val))) _ (fun _ _ => rfl))
  rw [show (fun x : S1x16.Idx => H4 k.val (0 + (x 1).val)) = rowv 0 (H4 k.val) from rfl,
    show (fun x : S1x16.Idx => H4 k.val (16 + (x 1).val)) = rowv 16 (H4 k.val) from rfl]
  have e1 : k0_pay1 (rowv 0 (H4 k.val)) = vec 0 (fun c => FloatOps.exp (H4 k.val c)) := by
    unfold k0_pay1; dsimp only; rw [cast_rowv]; rfl
  have e2 : k0_pay2 (rowv 16 (H4 k.val)) = vec 16 (fun c => FloatOps.exp (H4 k.val c)) := by
    unfold k0_pay2; dsimp only; rw [cast_rowv]; rfl
  rw [e1, e2]
  have k1 : (fun j => BitVec.ofNat 32 (key (vec 0 (fun c => FloatOps.exp (H4 k.val c)) j))) = vec 0 (fun c => BitVec.ofNat 32 (key (FloatOps.exp (H4 k.val c)))) := rfl
  have k2 : (fun j => BitVec.ofNat 32 (key (vec 16 (fun c => FloatOps.exp (H4 k.val c)) j))) = vec 16 (fun c => BitVec.ofNat 32 (key (FloatOps.exp (H4 k.val c)))) := rfl
  rw [k1, k2]
  -- the rows and the masks
  have hr1 : ∀ j : S16.Idx, (k0_pay9 (vec 0 fun c => BitVec.ofNat 32 (L c).length) j).toNat = min (L (0 + (j 0).val)).length 519 :=
    fun j => min519 (hlen _)
  have hr2 : ∀ j : S16.Idx, (k0_pay10 (vec 16 fun c => BitVec.ofNat 32 (L c).length) j).toNat = min (L (16 + (j 0).val)).length 519 :=
    fun j => min519 (hlen _)
  have hmw : ∀ c : ℕ, IntOp.andi (IntOp.cmpi .eq (IntOp.shrui .vector (BitVec.ofNat 32 (key (FloatOps.exp (H4 k.val c)))) 20#32) (BitVec.ofNat 32 (b c)))
      (IntOp.cmpi .slt (BitVec.ofNat 32 (L c).length) 520#32) = 1#1 ↔ bin1 (FloatOps.exp (H4 k.val c)) = b c ∧ (L c).length < 520 := by
    intro c
    have h1 := key_lt (FloatOps.exp (H4 k.val c))
    have h2 := hb c
    have h3 := hlen c
    rw [and_word, shr20 _ h1, eq_word (by omega) (by omega)]
    exact and_congr Iff.rfl (slt_word (by omega) (by decide))
  have hm1 : ∀ j : S16.Idx, k0_pay7 (vec 0 fun c => BitVec.ofNat 32 (b c)) (vec 0 fun c => BitVec.ofNat 32 (L c).length)
      (vec 0 (fun c => BitVec.ofNat 32 (key (FloatOps.exp (H4 k.val c))))) j = 1
      ↔ bin1 (FloatOps.exp (H4 k.val (0 + (j 0).val))) = b (0 + (j 0).val) ∧ (L (0 + (j 0).val)).length < 520 := fun j => hmw _
  have hm2 : ∀ j : S16.Idx, k0_pay8 (vec 16 fun c => BitVec.ofNat 32 (b c)) (vec 16 fun c => BitVec.ofNat 32 (L c).length)
      (vec 16 (fun c => BitVec.ofNat 32 (key (FloatOps.exp (H4 k.val c))))) j = 1
      ↔ bin1 (FloatOps.exp (H4 k.val (16 + (j 0).val))) = b (16 + (j 0).val) ∧ (L (16 + (j 0).val)).length < 520 := fun j => hmw _
  have hck : ∀ a x, ((![k0_pay9 (vec 0 fun c => BitVec.ofNat 32 (L c).length), lanes] : Fin 2 → IVec S16 32) a x).toNat < (sR 520).size a :=
    gather_chk (R := 520) (c0 := 0) (by omega) lanes_toNat fun j => by rw [hr1]; omega
  iapply (wp_check (c := tid d i) (P := k0_chk7 lanes (k0_pay9 (vec 0 fun c => BitVec.ofNat 32 (L c).length))) ⟨hck, hck⟩)
  iapply (wp_scatter (c := tid d i) arg6 H6 0 lanes_toNat) $$ H6
  iintro H6
  iapply (wp_scatter (c := tid d i) arg7 H7 0 lanes_toNat) $$ H7
  iintro H7
  iapply (wp_check (c := tid d i) (gather_chk (R := 520) (c0 := 16) (by omega) lanes_add_toNat fun j => by rw [hr2]; omega))
  iapply (wp_scatter (c := tid d i) arg6 _ 16 lanes_add_toNat) $$ H6
  iintro H6
  rw [wp_pure]; imodintro
  iapply (wp_check (c := tid d i) (gather_chk (R := 520) (c0 := 16) (by omega) lanes_add_toNat fun j => by rw [hr2]; omega))
  iapply (wp_scatter (c := tid d i) arg7 _ 16 lanes_add_toNat) $$ H7
  iintro H7
  rw [wp_pure]; imodintro
  isplitr [H4]
  · iexists _, _
    isplitr
    rotate_left
    · isplitl [H6]
      · iexact H6
      iexact H7
    ipureintro
    have hcc : ∀ c < 32, cand (b c) (exps (X c) (n + (k.val + 1)))
        = if bin1 (FloatOps.exp (H4 k.val c)) = b c ∧ (L c).length < 520 then L c ++ [FloatOps.exp (H4 k.val c)] else L c := by
      intro c hc
      rw [← Nat.add_assoc, exps_succ, ← hH4 c hc, cand_concat]
    have hcnt : ∀ c < 32, ∀ m : BitVec 1, (m = 1 ↔ bin1 (FloatOps.exp (H4 k.val c)) = b c ∧ (L c).length < 520) →
        IntOp.addi (BitVec.ofNat 32 (L c).length) (Scalar.select m 1#32 0#32) = BitVec.ofNat 32 (cand (b c) (exps (X c) (n + (k.val + 1)))).length := by
      intro c hc m hm
      rw [hcc c hc]
      unfold Scalar.select IntOp.addi
      by_cases h : m = 1
      · rw [if_pos h, if_pos (hm.mp h), List.length_append, List.length_singleton, BitVec.ofNat_add]
      · rw [if_neg h, if_neg fun hh => h (hm.mpr hh)]; simp
    refine ⟨Prod.ext ?_ ?_, fun c hc j hj => ?_⟩
    · funext j
      have : (j 0).val < 16 := (j 0).isLt
      exact hcnt (0 + (j 0).val) (by omega) _ (hm1 j)
    · funext j
      have : (j 0).val < 16 := (j 0).isLt
      exact hcnt (16 + (j 0).val) (by omega) _ (hm2 j)
    · have hcc' := hcc c hc
      simp only [hcc'] at hj ⊢
      have hg := fun j h => (hH c hc j h).1
      have hg' := fun j h => (hH c hc j h).2
      rcases grp_sixteen hc with ⟨h1, h2⟩ | ⟨h1, h2⟩
      · refine ⟨append_if (L c) _ _ (fun e => e) (fun j => H6 j c) _ c hg (fun j => ?_) (fun h => h.2) j hj,
          append_if (α := Elt F .i32) (L c) _ _ (fun e => BitVec.ofNat 32 (key e)) (fun j => H7 j c) _ c hg' (fun j => ?_) (fun h => h.2) j hj⟩
        · rw [updLanes_other _ _ _ _ _ _ _ h2]
          exact scat_col _ _ _ _ _ _ (fun c => bin1 (FloatOps.exp (H4 k.val c)) = b c ∧ (L c).length < 520) (fun c => min (L c).length 519) hm1 hr1 j c h1
        · rw [updLanes_other _ _ _ _ _ _ _ h2]
          exact scat_col _ _ _ _ _ _ (fun c => bin1 (FloatOps.exp (H4 k.val c)) = b c ∧ (L c).length < 520) (fun c => min (L c).length 519) hm1 hr1 j c h1
      · refine ⟨append_if (L c) _ _ (fun e => e) (fun j => H6 j c) _ c hg (fun j => ?_) (fun h => h.2) j hj,
          append_if (α := Elt F .i32) (L c) _ _ (fun e => BitVec.ofNat 32 (key e)) (fun j => H7 j c) _ c hg' (fun j => ?_) (fun h => h.2) j hj⟩
        · refine (scat_col _ _ _ _ _ _ (fun c => bin1 (FloatOps.exp (H4 k.val c)) = b c ∧ (L c).length < 520) (fun c => min (L c).length 519) hm2 hr2 j c h2).trans ?_
          rw [updLanes_other _ _ _ _ _ _ _ h1]; rfl
        · refine (scat_col _ _ _ _ _ _ (fun c => bin1 (FloatOps.exp (H4 k.val c)) = b c ∧ (L c).length < 520) (fun c => min (L c).length 519) hm2 hr2 j c h2).trans ?_
          rw [updLanes_other _ _ _ _ _ _ _ h1]; rfl
  iexact H4

/-! ## The third pass: a row of results -/

/-- The first `k` rows of results, of the elements from `n`. -/
def outI (c : Thread nD τ) (m6 : Memref sig c.2.kind .vmem (sR 520) .f32) (es : ℕ → List (F .f32)) (X : ℕ → ℕ → F .f32) (n k : ℕ) : sProp 𝕄 :=
  iprop(∃ H6 : ℕ → ℕ → Elt F .f32, ⌜∀ c < 32, ∀ r < k, H6 r c = outE (es c) (X c (n + r))⌝ ∗ owns c m6 fullShare (mk2 H6))

theorem t35_step (es : ℕ → List (F .f32)) (X : ℕ → ℕ → F .f32) (n : ℕ) (H4 : ℕ → ℕ → Elt F .f32) (k : Fin k0_t35_loop.trips)
    (hH4 : ∀ c < 32, H4 k.val c = X c (n + k.val)) :
    iprop(outI (tid d i) arg6 es X n k.val ∗ owns (tid d i) arg4 fullShare (mk2 H4)) ⊢ WP (tid d i)
      (k0_t35_body i arg2 harg2 arg3 harg3 arg4 harg4 arg5 harg5 arg6 harg6 arg7 harg7 v151_r0 v152_r1 v152_r2 v152_r3 v1 lanes c0_i32_0 c1_i32 k0_t1
        (vec 0 fun c => sumE (es c)) (vec 16 fun c => sumE (es c)) (vec 16 fun c => BitVec.ofNat 32 (B1 (es c)))
        (vec 0 fun c => FloatOps.ofBits .f32 (BitVec.ofNat 32 (tau (es c)))) (vec 16 fun c => BitVec.ofNat 32 (B2 (es c))) (vec 16 fun c => BitVec.ofNat 32 (B3 (es c))) k ())
      fun _ => iprop(outI (tid d i) arg6 es X n (k.val + 1) ∗ owns (tid d i) arg4 fullShare (mk2 H4)) := by
  unfold k0_t35_body outI
  dsimp only
  iintro ⟨⟨%H, %hH, H6⟩, H4⟩
  iapply (wp_load_row (c := tid d i) arg4 H4 k.val 0 (k0_off28_eq k)) $$ H4
  iintro H4
  iapply (wp_load_row (c := tid d i) arg4 H4 k.val 16 (k0_off29_eq k)) $$ H4
  iintro H4
  iapply (wp_load_row (c := tid d i) arg6 H k.val 0 (k0_off30_eq k)) $$ H6
  iintro H6
  iapply (wp_store_row (c := tid d i) arg6 H k.val 0 (k0_off30_eq k)) $$ H6
  iintro H6
  iapply (wp_load_row (c := tid d i) arg6 _ k.val 16 (k0_off31_eq k)) $$ H6
  iintro H6
  iapply (wp_store_row (c := tid d i) arg6 _ k.val 16 (k0_off31_eq k)) $$ H6
  iintro H6
  rw [wp_pure]; imodintro
  rw [show (fun x : S1x16.Idx => H4 k.val (0 + (x 1).val)) = rowv 0 (H4 k.val) from rfl,
    show (fun x : S1x16.Idx => H4 k.val (16 + (x 1).val)) = rowv 16 (H4 k.val) from rfl]
  have e1 : k0_pay126 (vec 0 fun c => sumE (es c)) (vec 0 fun c => FloatOps.ofBits .f32 (BitVec.ofNat 32 (tau (es c)))) (rowv 0 (H4 k.val))
      = vec 0 fun c => outE (es c) (H4 k.val c) := by
    unfold k0_pay126; dsimp only; rw [cast_rowv]; rfl
  have e2 : k0_pay127 (vec 16 fun c => sumE (es c)) (vec 16 fun c => BitVec.ofNat 32 (B1 (es c))) (vec 16 fun c => BitVec.ofNat 32 (B2 (es c)))
      (vec 16 fun c => BitVec.ofNat 32 (B3 (es c))) (rowv 16 (H4 k.val)) = vec 16 fun c => outE (es c) (H4 k.val c) := by
    unfold k0_pay127; dsimp only; rw [cast_rowv]
    funext j
    exact congrArg (fun w => Scalar.select (FloatOps.cmpf .oge (FloatOps.exp (H4 k.val (16 + (j 0).val))) (FloatOps.ofBits .f32 w : F .f32))
      (FloatOps.subf (H4 k.val (16 + (j 0).val)) (FloatOps.log (sumE (es (16 + (j 0).val))))) (FloatOps.ofBits .f32 0xC28C0000#32))
      (tau_word (B1_lt (es (16 + (j 0).val))) (B2_lt (es (16 + (j 0).val))) (B3_lt (es (16 + (j 0).val))))
  rw [e1, e2]
  isplitl [H6]
  · iexists _
    isplitr
    rotate_left
    · iexact H6
    ipureintro
    intro c hc r hr
    rcases grp_sixteen hc with ⟨h1, h2⟩ | ⟨h1, h2⟩
    · rw [updRow_other _ _ _ _ _ _ h2, updRow_col _ _ _ _ _ _ h1]
      by_cases h : r = k.val
      · rw [if_pos h, hH4 c hc, h]
      · rw [if_neg h]; exact hH c hc r (by omega)
    · rw [updRow_col _ _ _ _ _ _ h2, updRow_other _ _ _ _ _ _ h1]
      by_cases h : r = k.val
      · rw [if_pos h, hH4 c hc, h]
      · rw [if_neg h]; exact hH c hc r (by omega)
  iexact H4

end Cert.Proof.Radix
end
-- ==== Proof.Copy.lean ====
/-
  The kernel's copies.  A chunk of an array is 512 rows of one batch, read as a buffer of 512 rows of thirty-two columns; a
  batch is its sixteen chunks.  A copy and the wait that follows it move one chunk.
-/
module

public import proofs.«01_k».proof.Proof.Rows

@[expose] public section

noncomputable section

namespace Cert.Proof.Radix

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

section Copy

variable {c : Thread nD τ} (O : CellTallies nD τ sig (HIx 1)) (W : Waits sig (HIx 1))

/-- What the tile owes, with the evidence that its waits are admissible. -/
def debt (c : Thread nD τ) (O : CellTallies nD τ sig (HIx 1)) (W : Waits sig (HIx 1)) : sProp 𝕄 :=
  iprop(Transfers.MayWaits c (default : HIx 1) O ∗ ∃ W', ⌜∀ p ∈ W', p ∈ W ∨ p.2 = none⌝ ∗ owes c O W')

/-- A copy between two buffers of one shape, and its wait: the destination reads what the source does. -/
theorem wp_copy {α : Type} {Φ : α → sProp 𝕄} {sp sp' : Space} {s : Shape} {e : EltTy} (src : Memref sig c.2.kind sp s e) (dst : Memref sig c.2.kind sp' s e)
    (G : s.Idx → Elt F e) (hpos : 0 < s.numel) {sm : DmaSem sig} {h1 : src.view.WordExact} {h2 : dst.view.WordExact}
    {h3 : DmaTarget.Typed (nD := nD) sp (.dma sm) (.here dst)} {h4 : src.view.WordExact} {h5 : dst.view.WordExact}
    {k : PUnit → Prog (TpuEff nD τ sig (Elt F) Λ₀ c.2) α} :
    iprop(owns c src fullShare G ∗ (∃ Y, owns c dst fullShare Y) ∗ semVal (c, .dma sm) 0 ∗ debt c O W : sProp 𝕄)
      ⊢ iprop((owns c src fullShare G ∗ owns c dst fullShare G ∗ semVal (c, .dma sm) 0 ∗ debt c O W -∗ WP c (k ⟨⟩) Φ)
        -∗ WP c (Prog.lift (.enqueueDma src (.here dst) (.dma sm) h1 h2 h3) >>= fun _ => Prog.lift (.waitDma2 sm src dst h4 h5) >>= k) Φ) := by
  unfold debt
  iintro ⟨Hs, ⟨%Y, Hd⟩, Hsem, ⟨#Hmw, ⟨%W', %hW', HO⟩⟩⟩ Hk
  unfold owns
  icases Hs with ⟨%fs, %hfs, Hs⟩
  icases Hd with ⟨%fd, %hfd, Hd⟩
  iapply (Transfers.wp_dmaLocal (defs := defs₀ (F := F)) countersEmb 𝒱₀ c none (src := src) (dst := dst) (sm := .dma sm) (hsrc := h1) (hdst := h2) (hsem := h3)
    (via := .same) (q := fullShare) (fs := fs) (Sd := dst.view.set) (fd := fd)
    (default : HIx 1) dst.view.dmaCredit rfl (dst.view.dmaCredit_pos hpos) (Finset.Subset.refl _)) $$ [Hs Hd Hsem]
  · isplitl [Hs]; · iexact Hs
    isplitl [Hd]; · iexact Hd
    iexact Hsem
  iintro Hfl
  iapply (Transfers.wp_waitLocalO (defs := defs₀ (F := F)) countersEmb 𝒱₀ c none (srcw := src) (dstw := dst) (hsrc := h4) (hdst := h5) (default : HIx 1) (rfl : dst.view.dmaCredit = _)) $$ [Hfl HO]
  · isplitl [Hfl]; · iexact Hfl
    isplitl [HO]; · iexact HO
    iapply (Transfers.MayWaits.elim (SemLoc.dma sm)); iexact Hmw
  iintro ⟨⟨Hd, Hs⟩, Hsem, HO⟩
  iapply Hk
  isplitl [Hs]
  · iexists fs
    isplitr; · ipureintro; exact hfs
    iexact Hs
  isplitl [Hd]
  · iexists _
    isplitr
    rotate_left
    · iexact Hd
    ipureintro
    rw [View.read_write_univ, ← hfs]
  isplitl [Hsem]; · iexact Hsem
  isplitr; · iexact Hmw
  iexists (insert (SemLoc.dma sm, (default : HIx 1)) W')
  isplitr
  · ipureintro
    intro p hp
    rcases Finset.mem_insert.mp hp with rfl | hp
    · exact Or.inr rfl
    · exact hW' p hp
  iexact HO

/-- A part of a buffer, lent and taken back. -/
theorem owns_part {sp : Space} {s : Shape} {e : EltTy} (m : Memref sig c.2.kind sp s e) (X : s.Idx → Elt F e) (r : Rect s) (hr : ∀ a, r.stride a = 1) :
    (owns c m fullShare X : sProp 𝕄) ⊢ iprop(owns c (m.slice r hr) fullShare (fun j => X (r.emb j))
      ∗ (owns c (m.slice r hr) fullShare (fun j => X (r.emb j)) -∗ owns c m fullShare X)) := by
  iintro H
  unfold owns
  icases H with ⟨%f, %hf, H⟩
  subst hf
  have hE := owns_slice_read (Val := Elt F) (Ix := HIx 1) (Name := ℕ) (U := UU) (Lvl := ℕ) (c := c) (m := m) (q := fullShare) r hr f
  have hsub : (m.view.slice r).set ⊆ m.view.set := View.set_slice_subset _ _
  ihave H' := (pointsTo_split_subset hsub).1 $$ H
  icases H' with ⟨Ha, Hb⟩
  isplitl [Ha]
  · ihave Ha' := (Entails.of_eq hE.symm) $$ Ha
    unfold owns
    iexact Ha'
  iintro Hc
  ihave Hc' := (show (owns c (m.slice r hr) fullShare (fun j => m.view.read (Elt F) f (r.emb j)) : sProp 𝕄) ⊢ _ from Entails.of_eq hE) $$ [Hc]
  · unfold owns; iexact Hc
  iexists f
  isplitr; · ipureintro; rfl
  iapply (pointsTo_split_subset hsub).2
  isplitl [Hc']; · iexact Hc'
  iexact Hb

end Copy

/-! ## Chunks -/

theorem coff_inb (b : Fin 64) (k : Fin 16) : ∀ a, (![b.val, 512 * k.val, 0] : Fin 3 → ℕ) a + S1x512x32.size a ≤ S64x8192x32.size a := by
  intro a
  have := b.isLt; have := k.isLt
  match a with
  | 0 => change b.val + 1 ≤ 64; omega
  | 1 => change 512 * k.val + 512 ≤ 8192; omega
  | 2 => change 0 + 32 ≤ 32; omega

/-- Chunk of an array at an offset. -/
abbrev chunkAt (m : Memref sig .scVector .hbm S64x8192x32 .f32) (off : Fin 3 → ℕ) (h : ∀ a, off a + S1x512x32.size a ≤ S64x8192x32.size a) :
    Memref sig .scVector .hbm S512x32 .f32 :=
  (m.slice (Rect.unit (s := S64x8192x32) off S1x512x32.size h) (fun _ => rfl)).squeeze S512x32 squeezes_S1x512x32_S512x32

/-- Chunk `k` of batch `b`. -/
abbrev chunk (m : Memref sig .scVector .hbm S64x8192x32 .f32) (b : Fin 64) (k : Fin 16) : Memref sig .scVector .hbm S512x32 .f32 :=
  chunkAt m _ (coff_inb b k)

variable (d : Dev nD) (i : grid0.Coords)

/-- A batch held as its chunks, column `c`'s row `r` being `X c r`. -/
def batch (m : Memref sig .scVector .hbm S64x8192x32 .f32) (b : Fin 64) (X : ℕ → ℕ → F .f32) : sProp 𝕄 :=
  bigSep (Finset.univ : Finset (Fin 16)) fun k => owns (tid d i) (chunk m b k) fullShare (mk2 (R := 512) fun r c => X c (512 * k.val + r))

/-- A batch whose first `n` chunks hold `Y`. -/
def batchN (m : Memref sig .scVector .hbm S64x8192x32 .f32) (b : Fin 64) (Y : ℕ → ℕ → F .f32) (n : ℕ) : sProp 𝕄 :=
  bigSep (Finset.univ : Finset (Fin 16)) fun k => iprop(∃ Z : ℕ → ℕ → F .f32, ⌜k.val < n → Z = fun r c => Y c (512 * k.val + r)⌝
    ∗ owns (tid d i) (chunk m b k) fullShare (mk2 (R := 512) Z))

variable (O : CellTallies nD τ sig (HIx 1)) (W : Waits sig (HIx 1))

/-- Chunk `k` of a batch copied to a buffer. -/
theorem wp_copy_in {α : Type} {Φ : α → sProp 𝕄} (m : Memref sig .scVector .hbm S64x8192x32 .f32) (dst : Memref sig .scVector .vmem S512x32 .f32) (b : Fin 64) (X : ℕ → ℕ → F .f32)
    (k : Fin 16) {off : Fin 3 → ℕ} (hoff : off = ![b.val, 512 * k.val, 0])
    {hinb : ∀ a, off a + S1x512x32.size a ≤ S64x8192x32.size a} {sm : DmaSem sig} {h1 : (chunkAt m off hinb).view.WordExact} {h2 : dst.view.WordExact}
    {h3 : DmaTarget.Typed (nD := nD) (p := (tid d i).2) .hbm (.dma sm) (.here dst)} {h4 : (chunkAt m off hinb).view.WordExact} {h5 : dst.view.WordExact}
    {kk : PUnit → Prog (TpuEff nD τ sig (Elt F) Λ₀ (tid d i).2) α} :
    iprop(batch d i m b X ∗ (∃ Y, owns (tid d i) dst fullShare Y) ∗ semVal (tid d i, .dma sm) 0 ∗ debt (tid d i) O W : sProp 𝕄)
      ⊢ iprop((batch d i m b X ∗ owns (tid d i) dst fullShare (mk2 (R := 512) fun r c => X c (512 * k.val + r)) ∗ semVal (tid d i, .dma sm) 0 ∗ debt (tid d i) O W -∗ WP (tid d i) (kk ⟨⟩) Φ)
        -∗ WP (tid d i) (Prog.lift (.enqueueDma (chunkAt m off hinb) (.here dst) (.dma sm) h1 h2 h3) >>= fun _ => Prog.lift (.waitDma2 sm (chunkAt m off hinb) dst h4 h5) >>= kk) Φ) := by
  subst hoff
  unfold batch
  rw [SparseCore.bigSep_erase' (Finset.mem_univ k)]
  iintro ⟨⟨Hk, Hr⟩, Hd, Hsem, HO⟩ Hkk
  iapply (wp_copy (c := tid d i) O W (chunk m b k) dst _ (by decide)) $$ [Hk Hd Hsem HO]
  · isplitl [Hk]; · iexact Hk
    isplitl [Hd]; · iexact Hd
    isplitl [Hsem]; · iexact Hsem
    iexact HO
  iintro ⟨Hk, Hd, Hsem, HO⟩
  iapply Hkk
  isplitl [Hk Hr]
  · isplitl [Hk]; · iexact Hk
    iexact Hr
  isplitl [Hd]; · iexact Hd
  isplitl [Hsem]; · iexact Hsem
  iexact HO

/-- The first 512 rows of a buffer copied to chunk `k` of a batch. -/
theorem wp_copy_out {α : Type} {Φ : α → sProp 𝕄} (m : Memref sig .scVector .hbm S64x8192x32 .f32) (src : Memref sig .scVector .vmem S520x32 .f32) (b : Fin 64) (Y : ℕ → ℕ → F .f32)
    (H : ℕ → ℕ → Elt F .f32) (k : Fin 16) (hH : ∀ c < 32, ∀ r < 512, H r c = Y c (512 * k.val + r)) {off : Fin 3 → ℕ} (hoff : off = ![b.val, 512 * k.val, 0])
    {hinb : ∀ a, off a + S1x512x32.size a ≤ S64x8192x32.size a} {hs : ∀ a, (![0, 0] : Fin 2 → ℕ) a + S512x32.size a ≤ S520x32.size a}
    {sm : DmaSem sig} {h1 : (src.slice (Rect.unit (s := S520x32) ![0, 0] S512x32.size hs) (fun _ => rfl)).view.WordExact} {h2 : (chunkAt m off hinb).view.WordExact}
    {h3 : DmaTarget.Typed (nD := nD) (p := (tid d i).2) .vmem (.dma sm) (.here (chunkAt m off hinb))} {h4 : (src.slice (Rect.unit (s := S520x32) ![0, 0] S512x32.size hs) (fun _ => rfl)).view.WordExact}
    {h5 : (chunkAt m off hinb).view.WordExact} {kk : PUnit → Prog (TpuEff nD τ sig (Elt F) Λ₀ (tid d i).2) α} :
    iprop(batchN d i m b Y k.val ∗ owns (tid d i) src fullShare (mk2 H) ∗ semVal (tid d i, .dma sm) 0 ∗ debt (tid d i) O W : sProp 𝕄)
      ⊢ iprop((batchN d i m b Y (k.val + 1) ∗ owns (tid d i) src fullShare (mk2 H) ∗ semVal (tid d i, .dma sm) 0 ∗ debt (tid d i) O W -∗ WP (tid d i) (kk ⟨⟩) Φ)
        -∗ WP (tid d i) (Prog.lift (.enqueueDma (src.slice (Rect.unit (s := S520x32) ![0, 0] S512x32.size hs) (fun _ => rfl)) (.here (chunkAt m off hinb)) (.dma sm) h1 h2 h3) >>= fun _ =>
            Prog.lift (.waitDma2 sm (src.slice (Rect.unit (s := S520x32) ![0, 0] S512x32.size hs) (fun _ => rfl)) (chunkAt m off hinb) h4 h5) >>= kk) Φ) := by
  subst hoff
  unfold batchN
  rw [SparseCore.bigSep_erase' (Finset.mem_univ k), SparseCore.bigSep_erase' (Finset.mem_univ k)]
  iintro ⟨⟨⟨%Z, -, Hk⟩, Hr⟩, Hs, Hsem, HO⟩ Hkk
  ihave Hs' := (owns_part (c := tid d i) src (mk2 H) (Rect.unit (s := S520x32) ![0, 0] S512x32.size hs) (fun _ => rfl)) $$ Hs
  icases Hs' with ⟨Hs, Hback⟩
  iapply (wp_copy (c := tid d i) O W (src.slice (Rect.unit (s := S520x32) ![0, 0] S512x32.size hs) (fun _ => rfl)) (chunk m b k) _ (show 0 < S512x32.numel by decide)) $$ [Hk Hs Hsem HO]
  · isplitl [Hs]; · iexact Hs
    isplitl [Hk]; · iexists _; iexact Hk
    isplitl [Hsem]; · iexact Hsem
    iexact HO
  iintro ⟨Hs, Hk, Hsem, HO⟩
  iapply Hkk
  isplitl [Hk Hr]
  · isplitl [Hk]
    · iexists (fun r c => Y c (512 * k.val + r))
      isplitr; · ipureintro; exact fun _ => rfl
      have e : (fun j : S512x32.Idx => mk2 (R := 520) H ((Rect.unit (s := S520x32) ![0, 0] S512x32.size hs).emb j)) = mk2 (R := 512) fun r c => Y c (512 * k.val + r) := by
        funext x
        have h0 : (x 0).val < 512 := (x 0).isLt
        have h1 : (x 1).val < 32 := (x 1).isLt
        have e0 : ((Rect.unit (s := S520x32) ![0, 0] S512x32.size hs).emb x 0).val = (x 0).val := by
          change 0 + 1 * (x 0).val = _; omega
        have e1 : ((Rect.unit (s := S520x32) ![0, 0] S512x32.size hs).emb x 1).val = (x 1).val := by
          change 0 + 1 * (x 1).val = _; omega
        unfold mk2
        rw [e0, e1]
        exact hH _ h1 _ h0
      rw [← e]
      iexact Hk
    · iapply (show bigSep (Finset.univ.erase k) _ ⊢ (bigSep (Finset.univ.erase k) _ : sProp 𝕄) from bigSep_mono fun j hj => ?_) $$ Hr
      refine (show iprop(∃ Z : ℕ → ℕ → F .f32, ⌜j.val < k.val → Z = fun r c => Y c (512 * j.val + r)⌝
          ∗ owns (tid d i) (chunk m b j) fullShare (mk2 (R := 512) Z)) ⊢ (iprop(∃ Z : ℕ → ℕ → F .f32, ⌜j.val < k.val + 1 → Z = fun r c => Y c (512 * j.val + r)⌝
          ∗ owns (tid d i) (chunk m b j) fullShare (mk2 (R := 512) Z)) : sProp 𝕄) from ?_)
      iintro ⟨%Z, %hZ, H⟩
      iexists Z
      isplitr
      · ipureintro
        intro hlt
        have hne : j ≠ k := Finset.ne_of_mem_erase hj
        exact hZ (by have : j.val ≠ k.val := fun h => hne (Fin.ext h); omega)
      iexact H
  isplitl [Hback Hs]
  · iapply Hback; iexact Hs
  isplitl [Hsem]; · iexact Hsem
  iexact HO

end Cert.Proof.Radix
end
-- ==== Proof.Group.lean ====
/-
  Whole loops at the head of a program: filling sixteen columns with zero, the histogram of the candidates, summing from
  the top, searching, and the look-up of the row after the one found.  Then the number of trips of the loops over the
  candidates, which is the greatest of sixteen counts.
-/
module

public import proofs.«01_k».proof.Proof.Copy

@[expose] public section

noncomputable section

namespace Cert.Proof.Radix

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## Loops -/

section Loops

variable {c : Thread nD τ} {α : Type}

/-- A buffer whose first `n` rows hold `S` in the sixteen columns. -/
def colI (c : Thread nD τ) (m : Memref sig c.2.kind .vmem (sR 2052) .f32) (c0 n : ℕ) (S : ℕ → ℕ → F .f32) : sProp 𝕄 :=
  iprop(∃ H : ℕ → ℕ → Elt F .f32, ⌜∀ c, grp c0 c → ∀ r < n, H r c = S c r⌝ ∗ owns c m fullShare (mk2 H))

/-- Filling with zero. -/
theorem wp_zero {Φ : α → sProp 𝕄} (m : Memref sig c.2.kind .vmem (sR 2052) .f32) (c0 : ℕ) (L : Scf.Loop 32) (hok : L.OK) (hn : L.trips = 1028)
    (body : Fin L.trips → Unit → Prog (TpuEff nD τ sig (Elt F) Λ₀ c.2) Unit)
    (hbody : ∀ k : Fin L.trips, zeroI (F := F) c m c0 k.val ⊢ WP c (body k ()) fun _ => zeroI c m c0 (k.val + 1))
    {kk : Unit → Prog (TpuEff nD τ sig (Elt F) Λ₀ c.2) α} (X : ℕ → ℕ → Elt F .f32) :
    (owns c m fullShare (mk2 X) : sProp 𝕄)
      ⊢ iprop((colI c m c0 1028 (fun _ _ => zf) -∗ WP c (kk ()) Φ) -∗ WP c (Scf.Loop.for L hok () body >>= kk) Φ) := by
  iintro H Hk
  iapply (wp_loop (c := c) L hok () body (fun k _ => zeroI c m c0 k) 1028 hn (fun k _ _ => hbody k)) $$ [H]
  · unfold zeroI
    iexists X
    isplitr; · ipureintro; intro _ _ r hr; exact absurd hr (Nat.not_lt_zero r)
    iexact H
  iintro %acc H
  iapply Hk
  unfold colI zeroI
  iexact H

/-- Summing from the top, over the buffer's own contents. -/
theorem wp_sums {Φ : α → sProp 𝕄} (m : Memref sig c.2.kind .vmem (sR 2052) .f32) (c0 : ℕ) (L : Scf.Loop 32) (hok : L.OK) (hn : L.trips = 1024)
    (init : FVec F S16 .f32) (hinit : init = vec c0 fun _ => zf)
    (body : Fin L.trips → FVec F S16 .f32 → Prog (TpuEff nD τ sig (Elt F) Λ₀ c.2) (FVec F S16 .f32))
    (hbody : ∀ (C : ℕ → ℕ → F .f32) (k : Fin L.trips) (acc : FVec F S16 .f32), k.val < 1024 → sufI (F := F) c m c0 C 1024 k.val acc ⊢ WP c (body k acc) (sufI c m c0 C 1024 (k.val + 1)))
    {kk : FVec F S16 .f32 → Prog (TpuEff nD τ sig (Elt F) Λ₀ c.2) α} (C : ℕ → ℕ → F .f32) :
    (colI c m c0 1028 C : sProp 𝕄)
      ⊢ iprop((∀ acc, colI c m c0 1028 (fun c => suf (C c) 1024) -∗ WP c (kk acc) Φ) -∗ WP c (Scf.Loop.for L hok init body >>= kk) Φ) := by
  subst hinit
  unfold colI
  iintro ⟨%H, %hH, H⟩ Hk
  iapply (wp_loop (c := c) L hok _ body (fun k acc => sufI c m c0 (fun c r => H r c) 1024 k acc) 1024 hn (fun k acc h => hbody _ k acc h)) $$ [H]
  · unfold sufI
    iexists H
    isplitr
    · ipureintro
      exact ⟨rfl, fun c _ r _ => (sufN_zero (fun r => H r c) 1024 r).symm⟩
    iexact H
  unfold sufI
  iintro %acc ⟨%H', %hH', H⟩
  iapply Hk
  iexists H'
  isplitr
  · ipureintro
    intro c hc r hr
    rw [hH'.2 c hc r (by omega), sufN_all]
    have hs : ∀ n ≤ 1024, sacc (fun r => H r c) 1024 n = sacc (C c) 1024 n := by
      intro n
      induction n with
      | zero => intro _; rfl
      | succ n ih => intro hn; rw [sacc, sacc, ih (by omega), hH c hc _ (by omega)]
    dsimp only
    unfold suf
    by_cases h : r < 1024
    · rw [if_pos h, if_pos h]; exact hs _ (by omega)
    · rw [if_neg h, if_neg h]; exact hH c hc r hr
  iexact H

/-- Searching. -/
theorem wp_search {Φ : α → sProp 𝕄} (m : Memref sig c.2.kind .vmem (sR 2052) .f32) (c0 n : ℕ) (L : Scf.Loop 32) (hok : L.OK) (hn : L.trips = n)
    (init : IVec S16 32 × IVec S16 32) (hinit : init = (vec c0 (fun _ => 0#32), vec c0 fun _ => BitVec.ofNat 32 (2 ^ n - 1)))
    (body : Fin L.trips → IVec S16 32 × IVec S16 32 → Prog (TpuEff nD τ sig (Elt F) Λ₀ c.2) (IVec S16 32 × IVec S16 32))
    (S : ℕ → ℕ → F .f32) (a t : ℕ → F .f32) (H : ℕ → ℕ → Elt F .f32) (hS : ∀ c, grp c0 c → ∀ r < 2 ^ n, H r c = S c r)
    (hbody : ∀ (k : Fin L.trips) (acc : IVec S16 32 × IVec S16 32), k.val < n → srI (F := F) c m H c0 S a t n k.val acc ⊢ WP c (body k acc) (srI c m H c0 S a t n (k.val + 1)))
    {kk : IVec S16 32 × IVec S16 32 → Prog (TpuEff nD τ sig (Elt F) Λ₀ c.2) α} :
    (owns c m fullShare (mk2 H) : sProp 𝕄)
      ⊢ iprop((∀ w, owns c m fullShare (mk2 H) -∗ WP c (kk (vec c0 (fun c => BitVec.ofNat 32 (srchN (S c) (a c) (t c) n n)), w)) Φ)
        -∗ WP c (Scf.Loop.for L hok init body >>= kk) Φ) := by
  subst hinit
  iintro H Hk
  iapply (wp_loop (c := c) L hok _ body (fun k acc => srI c m H c0 S a t n k acc) n hn hbody) $$ [H]
  · unfold srI
    isplitr
    · ipureintro
      refine ⟨rfl, ?_⟩
      dsimp only
      refine vec_congr (V := fun _ => BitVec.ofNat 32 (2 ^ n - 1)) fun c _ => ?_
      change _ = BitVec.ofNat 32 (0 + 2 ^ (n - 0) - 1)
      rw [Nat.zero_add, Nat.sub_zero]
    iexact H
  unfold srI
  iintro %acc ⟨%hacc, H⟩
  obtain ⟨a1, a2⟩ := acc
  obtain ⟨h1, h2⟩ := hacc
  dsimp only at h1
  subst h1
  iapply Hk
  iexact H

/-- The row after the one found. -/
theorem wp_next {Φ : α → sProp 𝕄} (m : Memref sig c.2.kind .vmem (sR 2052) .f32) {c0 : ℕ} (hc0 : c0 + 16 ≤ 32) (S : ℕ → ℕ → F .f32) (H : ℕ → ℕ → Elt F .f32)
    (B : ℕ → ℕ) (n : ℕ) (hB : ∀ c, B c < n) (hn : n < 2052) (hS : ∀ c, grp c0 c → ∀ r ≤ n, H r c = S c r)
    {row col : IVec S16 32} (hrow : row = vec c0 fun c => IntOp.addi (BitVec.ofNat 32 (B c)) 1#32) (hcol : ∀ j : S16.Idx, (col j).toNat = c0 + (j 0).val)
    {P : Prop} {d : Decidable P} (hP : (∀ a x, ((![row, col] : Fin 2 → IVec S16 32) a x).toNat < (sR 2052).size a) → P)
    (hidx : P → ∀ a x, ((![row, col] : Fin 2 → IVec S16 32) a x).toNat < (sR 2052).size a) {hl : m.view.Loads}
    {kk : Vec F S16 .f32 → Prog (TpuEff nD τ sig (Elt F) Λ₀ c.2) α} :
    (owns c m fullShare (mk2 H) : sProp 𝕄)
      ⊢ iprop((owns c m fullShare (mk2 H) -∗ WP c (kk (vec c0 fun c => S c (B c + 1))) Φ)
        -∗ WP c (Prog.lift (.assume P d) >>= fun h => SparseCore.vectorLoadIdx m ![row, col] (hidx h.down) hl >>= kk) Φ) := by
  have hr : ∀ j : S16.Idx, (row j).toNat = B (c0 + (j 0).val) + 1 := by
    intro j
    subst hrow
    have := hB (c0 + (j 0).val)
    unfold vec IntOp.addi
    rw [BitVec.toNat_add, BitVec.toNat_ofNat]
    simp only [BitVec.toNat_ofNat]
    omega
  iintro H Hk
  iapply (wp_check (c := c) (hP (gather_chk hc0 hcol fun j => by rw [hr]; have := hB (c0 + (j 0).val); omega)))
  iapply (wp_gather (c := c) m H c0 hcol) $$ H
  iintro H
  have e : (fun j : S16.Idx => H (row j).toNat (c0 + (j 0).val)) = vec c0 fun c => S c (B c + 1) := by
    funext j
    rw [hr]
    exact hS _ (grp_lane j) _ (by have := hB (c0 + (j 0).val); omega)
  rw [e]
  iapply Hk
  iexact H

/-- A list filtered from all of its elements, once the loop has passed every one. -/
theorem hist_all (b : F .f32 → ℕ) (l : List (F .f32)) (p : F .f32 → Bool) (n : ℕ) (h : l.length ≤ n) : histo b ((l.take n).filter p) = histo b (l.filter p) := by
  rw [List.take_of_length_le h]

/-- The histogram of the candidates. -/
theorem wp_hist {Φ : α → sProp 𝕄} (m5 : Memref sig c.2.kind .vmem (sR 2052) .f32) (m6 : Memref sig c.2.kind .vmem (sR 520) .f32) (m7 : Memref sig c.2.kind .vmem (sR 520) .i32)
    (H6 : ℕ → ℕ → Elt F .f32) (H7 : ℕ → ℕ → Elt F .i32) (c0 : ℕ) (b : F .f32 → ℕ) (Ls : ℕ → List (F .f32)) (p : ℕ → F .f32 → Bool)
    (n : ℕ) (hlen : ∀ c, grp c0 c → (Ls c).length ≤ n) (L : Scf.Loop 32) (hok : L.OK) (hn : L.trips = n)
    (init : BitVec 32) (body : Fin L.trips → BitVec 32 → Prog (TpuEff nD τ sig (Elt F) Λ₀ c.2) (BitVec 32))
    (hbody : ∀ (k : Fin L.trips) (acc : BitVec 32), iprop(hiI (F := F) c m5 c0 b Ls p k.val ∗ owns c m6 fullShare (mk2 H6) ∗ owns c m7 fullShare (mk2 H7))
      ⊢ WP c (body k acc) fun _ => iprop(hiI (F := F) c m5 c0 b Ls p (k.val + 1) ∗ owns c m6 fullShare (mk2 H6) ∗ owns c m7 fullShare (mk2 H7)))
    {kk : BitVec 32 → Prog (TpuEff nD τ sig (Elt F) Λ₀ c.2) α} :
    (iprop(colI c m5 c0 1028 (fun _ _ => zf) ∗ owns c m6 fullShare (mk2 H6) ∗ owns c m7 fullShare (mk2 H7)) : sProp 𝕄)
      ⊢ iprop((∀ acc, colI c m5 c0 1028 (fun c => histo b ((Ls c).filter (p c))) ∗ owns c m6 fullShare (mk2 H6) ∗ owns c m7 fullShare (mk2 H7) -∗ WP c (kk acc) Φ)
        -∗ WP c (Scf.Loop.for L hok init body >>= kk) Φ) := by
  unfold colI
  iintro ⟨⟨%H, %hH, H⟩, H6, H7⟩ Hk
  iapply (wp_loop (c := c) L hok init body (fun k _ => iprop(hiI (F := F) c m5 c0 b Ls p k ∗ owns c m6 fullShare (mk2 H6) ∗ owns c m7 fullShare (mk2 H7))) n hn
    (fun k acc _ => hbody k acc)) $$ [H H6 H7]
  · isplitl [H]
    · unfold hiI
      iexists H
      isplitr
      · ipureintro
        intro c hc r hr
        rw [hH c hc r hr, List.take_zero, List.filter_nil, histo_nil]
      iexact H
    isplitl [H6]; · iexact H6
    iexact H7
  unfold hiI
  iintro %acc ⟨⟨%H', %hH', H⟩, H6, H7⟩
  iapply Hk
  isplitl [H]
  · iexists H'
    isplitr
    · ipureintro
      intro c hc r hr
      rw [hH' c hc r hr, hist_all _ _ _ _ (hlen c hc)]
    iexact H
  isplitl [H6]; · iexact H6
  iexact H7

/-- A loop of no trips. -/
theorem wp_none {Φ : α → sProp 𝕄} {σ : Type} (L : Scf.Loop 32) (hok : L.OK) (hn : L.trips = 0) (init : σ) (body : Fin L.trips → σ → Prog (TpuEff nD τ sig (Elt F) Λ₀ c.2) σ)
    {kk : σ → Prog (TpuEff nD τ sig (Elt F) Λ₀ c.2) α} :
    (iprop(∀ acc, WP c (kk acc) Φ) : sProp 𝕄) ⊢ WP c (Scf.Loop.for L hok init body >>= kk) Φ := by
  iintro H
  iapply (wp_loop (c := c) L hok init body (fun _ _ => iprop(emp)) 0 hn (fun k _ h => absurd h (Nat.not_lt_zero _))) $$ []
  · iempintro
  iintro %acc -
  iapply H

end Loops

/-! ## The greatest of sixteen counts -/

theorem max_fold (g : Fin 16 → ℕ) (w : Fin 16 → BitVec 32) (hw : ∀ k, (w k).toNat = 2 ^ 31 + g k) (hg : ∀ k, g k ≤ 520) (l : List (Fin 16)) :
    ∀ (r : BitVec 32) (n : ℕ), r.toNat = 2 ^ 31 + n → n ≤ 520 →
      ∃ m ≤ 520, (l.foldl (fun r k => IntOp.maxui r (w k)) r).toNat = 2 ^ 31 + m ∧ n ≤ m ∧ ∀ k ∈ l, g k ≤ m := by
  induction l with
  | nil => intro r n h1 h2; exact ⟨n, h2, h1, le_rfl, fun _ h => by simp at h⟩
  | cons a l ih =>
    intro r n h1 h2
    have h : ∃ n' ≤ 520, (IntOp.maxui r (w a)).toNat = 2 ^ 31 + n' ∧ n ≤ n' ∧ g a ≤ n' := by
      have ha := hw a
      have hga := hg a
      unfold IntOp.maxui
      split
      · rename_i hc
        first
          | exact ⟨n, h2, h1, le_rfl, by have := BitVec.le_def.mp hc; omega⟩
          | exact ⟨n, h2, h1, le_rfl, by simp only [BitVec.ult, BitVec.ule, decide_eq_true_eq] at hc; omega⟩
          | exact ⟨g a, hga, ha, by simp only [BitVec.ult, BitVec.ule, decide_eq_true_eq] at hc; omega, le_rfl⟩
      · rename_i hc
        first
          | exact ⟨g a, hga, ha, by simp only [BitVec.ult, BitVec.ule, decide_eq_true_eq] at hc; omega, le_rfl⟩
          | exact ⟨n, h2, h1, le_rfl, by simp only [BitVec.ult, BitVec.ule, decide_eq_true_eq] at hc; omega⟩
    obtain ⟨n', hn', e1, e2, e3⟩ := h
    obtain ⟨m, hm, e4, e5, e6⟩ := ih _ n' e1 hn'
    refine ⟨m, hm, e4, by omega, fun k hk => ?_⟩
    rcases List.mem_cons.mp hk with rfl | hk
    · omega
    · exact e6 k hk

theorem xor_top (n : ℕ) (h : n ≤ 520) : (IntOp.xori (BitVec.ofNat 32 n) 2147483648#32).toNat = 2 ^ 31 + n := by
  interval_cases n <;> rfl

/-- The greatest of sixteen counts, as the kernel finds it. -/
theorem nmax_eq (c0 : ℕ) (n : ℕ → ℕ) (hn : ∀ c, n c ≤ 520) :
    ∃ m ≤ 520, extractAt ![15] (k0_pay51 (vec c0 fun c => BitVec.ofNat 32 (n c))) inpos_S16_p15 = BitVec.ofNat 32 m ∧ ∀ c, grp c0 c → n c ≤ m := by
  have hw : ∀ k : Fin 16, (IntOp.xori (BitVec.ofNat 32 (n (c0 + k.val))) 2147483648#32).toNat = 2 ^ 31 + n (c0 + k.val) := fun k => xor_top _ (hn _)
  obtain ⟨m, hm, e1, e2, e3⟩ := max_fold (fun k => n (c0 + k.val)) (fun k => IntOp.xori (BitVec.ofNat 32 (n (c0 + k.val))) 2147483648#32) hw (fun k => hn _)
    ((List.finRange 16).filter fun k => 0 < k ∧ k ≤ 15) (IntOp.xori (BitVec.ofNat 32 (n (c0 + 0))) 2147483648#32) (n (c0 + 0)) (hw 0) (hn _)
  refine ⟨m, hm, ?_, fun c hc => ?_⟩
  · have hval : extractAt ![15] (k0_pay51 (vec c0 fun c => BitVec.ofNat 32 (n c))) inpos_S16_p15
        = IntOp.xori (((List.finRange 16).filter fun k => 0 < k ∧ k ≤ 15).foldl
            (fun r k => IntOp.maxui r (IntOp.xori (BitVec.ofNat 32 (n (c0 + k.val))) 2147483648#32)) (IntOp.xori (BitVec.ofNat 32 (n (c0 + 0))) 2147483648#32)) 2147483648#32 := rfl
    rw [hval]
    have hx : ∀ x : BitVec 32, x.toNat = 2 ^ 31 + m → x = IntOp.xori (BitVec.ofNat 32 m) 2147483648#32 :=
      fun x hx => BitVec.eq_of_toNat_eq (hx.trans (xor_top m hm).symm)
    rw [hx _ e1]
    unfold IntOp.xori
    rw [BitVec.xor_assoc, BitVec.xor_self, BitVec.xor_zero]
  · obtain ⟨h1, h2⟩ := hc
    by_cases h : c = c0
    · subst h; exact e2
    · have := e3 ⟨c - c0, by omega⟩ (by
        rw [List.mem_filter]
        refine ⟨List.mem_finRange _, ?_⟩
        simp only [Bool.and_eq_true, decide_eq_true_eq, Fin.lt_def, Fin.le_def]
        exact ⟨by change 0 < c - c0; omega, by change c - c0 ≤ 15; omega⟩)
      rwa [show c0 + (c - c0) = c by omega] at this

/-! ## The loops over the candidates -/

theorem div_one {m : ℕ} (hm : m ≤ 520) :
    Scalar.addi 0#32 (Scalar.muli (Scalar.divsi (Scalar.subi (BitVec.ofNat 32 m) 0#32) 1#32) 1#32) = BitVec.ofNat 32 m := by
  interval_cases m <;> rfl

theorem ofNat_toInt {m : ℕ} (hm : m ≤ 520) : (BitVec.ofNat 32 m).toInt = m := by
  rw [BitVec.toInt_eq_toNat_of_lt] <;> rw [BitVec.toNat_ofNat, Nat.mod_eq_of_lt (by omega)]
  omega

/-- The loop over `m` candidates. -/
theorem main_loop {m : ℕ} (hm : m ≤ 520) {ub : BitVec 32} (hub : ub = BitVec.ofNat 32 m) :
    (⟨0#32, ub, 1#32⟩ : Scf.Loop 32).OK ∧ (⟨0#32, ub, 1#32⟩ : Scf.Loop 32).trips = m := by
  subst hub
  have h := ofNat_toInt hm
  have h1 : (1#32).toInt = 1 := by decide
  have h0 : (0#32).toInt = 0 := by decide
  have ht : (⟨0#32, BitVec.ofNat 32 m, 1#32⟩ : Scf.Loop 32).trips = m := by
    change Scf.trips 0#32 (BitVec.ofNat 32 m) 1#32 = m
    unfold Scf.trips
    rw [h, h0, h1]
    omega
  refine ⟨?_, ht⟩
  change Scf.OK 0#32 (BitVec.ofNat 32 m) 1#32
  refine ⟨by rw [h1]; decide, ?_⟩
  have ht' : Scf.trips 0#32 (BitVec.ofNat 32 m) 1#32 = m := ht
  rw [ht', h0, h1]
  omega

/-- The loop over what is left, nothing. -/
theorem rest_loop {m : ℕ} (hm : m ≤ 520) {lb ub : BitVec 32} (hlb : lb = BitVec.ofNat 32 m) (hub : ub = BitVec.ofNat 32 m) :
    (⟨lb, ub, 1#32⟩ : Scf.Loop 32).OK ∧ (⟨lb, ub, 1#32⟩ : Scf.Loop 32).trips = 0 := by
  subst hlb hub
  have h := ofNat_toInt hm
  have h1 : (1#32).toInt = 1 := by decide
  have ht : Scf.trips (BitVec.ofNat 32 m) (BitVec.ofNat 32 m) 1#32 = 0 := by
    unfold Scf.trips
    rw [h, h1]
    omega
  refine ⟨?_, ht⟩
  change Scf.OK (BitVec.ofNat 32 m) (BitVec.ofNat 32 m) 1#32
  refine ⟨by rw [h1]; decide, ?_⟩
  rw [ht, h, h1]
  omega

end Cert.Proof.Radix
end
-- ==== Proof.Part2.lean ====
/-
  The first part of a batch's work: the histogram of the batch's exponentials, its sums from the top, and the search for the
  bin of the first sixteen columns.
-/
module

public import proofs.«01_k».proof.Proof.Group

@[expose] public section

noncomputable section

namespace Cert.Proof.Radix

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid0.Coords) (arg2 : Memref sig .scVector .hbm S64x8192x32 .f32) (harg2 : arg2.IsWhole) (arg3 : Memref sig .scVector .hbm S64x8192x32 .f32) (harg3 : arg3.IsWhole) (arg4 : Memref sig .scVector .vmem S512x32 .f32) (harg4 : arg4.IsWhole) (arg5 : Memref sig .scVector .vmem S2052x32 .f32) (harg5 : arg5.IsWhole) (arg6 : Memref sig .scVector .vmem S520x32 .f32) (harg6 : arg6.IsWhole) (arg7 : Memref sig .scVector .vmem S520x32 .i32) (harg7 : arg7.IsWhole) (v151_r0 : DmaSems sig S_) (v152_r1 : DmaSems sig S_) (v152_r2 : DmaSems sig S_) (v152_r3 : DmaSems sig S_)
variable (v1 c0_i32_0 c1_i32 : BitVec 32) (k0_t1 : Fin k0_t1_loop.trips)
variable (O : CellTallies nD τ sig (HIx 1)) (W : Waits sig (HIx 1))

theorem bOf_lt (i : grid0.Coords) (k0_t1 : Fin k0_t1_loop.trips) : 32 * k0_t1.val + 2 * (i 1).val + (i 0).val < 64 := by
  have h0 : (i 0).val < 2 := (i 0).isLt
  have h1 : (i 1).val < 16 := (i 1).isLt
  have h2 : k0_t1.val < 2 := k0_t1.isLt
  omega

/-- The batch a tile works on in a turn. -/
abbrev bOf (i : grid0.Coords) (k0_t1 : Fin k0_t1_loop.trips) : Fin 64 := ⟨32 * k0_t1.val + 2 * (i 1).val + (i 0).val, bOf_lt i k0_t1⟩

/-- The exponentials of a column of the batch. -/
abbrev eX (X : ℕ → ℕ → F .f32) (c : ℕ) : List (F .f32) := exps (X c) 8192

/-- The state of the first scan after `n` chunks. -/
def scan1I (X : ℕ → ℕ → F .f32) (n : ℕ) : sProp 𝕄 :=
  iprop(hist2I (tid d i) arg5 X (512 * n) ∗ (∃ Y, owns (tid d i) arg4 fullShare Y) ∗ batch d i arg2 (bOf i k0_t1) X ∗ semVal (tid d i, .dma v151_r0.sem) 0 ∗ debt (tid d i) O W)

theorem t3_step (X : ℕ → ℕ → F .f32) (k : Fin k0_t3_loop.trips) (acc : BitVec 32) :
    scan1I d i arg2 arg4 arg5 v151_r0 k0_t1 O W X k.val ⊢ WP (tid d i) (k0_t3_body i arg2 harg2 arg3 harg3 arg4 harg4 arg5 harg5 arg6 harg6 arg7 harg7 v151_r0 v152_r1 v152_r2 v152_r3 v1 lanes c0_i32_0 c1_i32 k0_t1 k acc)
      fun _ => scan1I d i arg2 arg4 arg5 v151_r0 k0_t1 O W X (k.val + 1) := by
  have hk : k.val < 16 := k.isLt
  unfold k0_t3_body scan1I
  dsimp only
  iintro ⟨H5, H4, HB, Hsem, HO⟩
  iapply (wp_copy_in d i O W arg2 arg4 (bOf i k0_t1) X ⟨k.val, hk⟩ (k0_off3_eq i k0_t1 k)) $$ [H4 HB Hsem HO]
  · isplitl [HB]; · iexact HB
    isplitl [H4]; · iexact H4
    isplitl [Hsem]; · iexact Hsem
    iexact HO
  iintro ⟨HB, H4, Hsem, HO⟩
  iapply (wp_loop (c := tid d i) k0_t4_loop k0_t4_ok () _ (fun j _ => iprop(hist2I (tid d i) arg5 X (512 * k.val + j)
      ∗ owns (tid d i) arg4 fullShare (mk2 (R := 512) fun r c => X c (512 * k.val + r)))) 512 (by decide)
      (fun j acc _ => t4_step d i arg2 harg2 arg3 harg3 arg4 harg4 arg5 harg5 arg6 harg6 arg7 harg7 v151_r0 v152_r1 v152_r2 v152_r3 v1 c0_i32_0 c1_i32 k0_t1 X (512 * k.val) _ j (fun c _ => rfl))) $$ [H5 H4]
  · isplitl [H5]; · iexact H5
    iexact H4
  iintro %acc ⟨H5, H4⟩
  rw [WP, wp_pure]; imodintro
  isplitl [H5]; · iexact H5
  isplitl [H4]; · iexists _; iexact H4
  isplitl [HB]; · iexact HB
  isplitl [Hsem]; · iexact Hsem
  iexact HO

/-- All thirty-two columns of the histogram hold `S`. -/
def all2 (c : Thread nD τ) (m : Memref sig c.2.kind .vmem (sR 2052) .f32) (S : ℕ → ℕ → F .f32) : sProp 𝕄 :=
  iprop(∃ H : ℕ → ℕ → Elt F .f32, ⌜∀ c < 32, ∀ r < 2052, H r c = S c r⌝ ∗ owns c m fullShare (mk2 H))

/-- The first part: the sums and the targets of every column, the bin of the first sixteen, and the histogram summed from the top. -/
theorem part2 (X : ℕ → ℕ → F .f32) :
    (iprop((∃ Y, owns (tid d i) arg5 fullShare Y) ∗ (∃ Y, owns (tid d i) arg4 fullShare Y) ∗ batch d i arg2 (bOf i k0_t1) X ∗ semVal (tid d i, .dma v151_r0.sem) 0 ∗ debt (tid d i) O W) : sProp 𝕄)
      ⊢ WP (tid d i) (k0_part2_skel i arg2 harg2 arg3 harg3 arg4 harg4 arg5 harg5 arg6 harg6 arg7 harg7 v151_r0 v152_r1 v152_r2 v152_r3 v1 lanes c0_i32_0 c1_i32 k0_t1) fun r =>
        iprop(⌜r = ⟨vec 0 fun c => sumE (eX X c), vec 16 fun c => sumE (eX X c), vec 0 fun c => tgt (sumE (eX X c)), vec 16 fun c => tgt (sumE (eX X c)),
            vec 16 fun _ => zf, vec 0 fun c => BitVec.ofNat 32 (B1 (eX X c)), vec 0 fun c => A1 (eX X c), k0_pay38 lanes, k0_pay39, k0_pay40, 0#32, 1#32⟩⌝
          ∗ all2 (tid d i) arg5 (fun c => S1 (eX X c)) ∗ (∃ Y, owns (tid d i) arg4 fullShare Y) ∗ batch d i arg2 (bOf i k0_t1) X
          ∗ semVal (tid d i, .dma v151_r0.sem) 0 ∗ debt (tid d i) O W) := by
  unfold k0_part2_skel
  iintro ⟨⟨%Y5, H5⟩, H4, HB, Hsem, HO⟩
  obtain ⟨H, rfl⟩ := exists_mk2 (by decide) Y5
  iapply (wp_loop (c := tid d i) k0_t2_loop k0_t2_ok () _ (fun k _ => zero2I (tid d i) arg5 k) 2052 (by decide)
    (fun k _ _ => t2_step d i arg2 harg2 arg3 harg3 arg4 harg4 arg5 harg5 arg6 harg6 arg7 harg7 v151_r0 v152_r1 v152_r2 v152_r3 v1 c0_i32_0 c1_i32 k0_t1 k)) $$ [H5]
  · unfold zero2I
    iexists H
    isplitr; · ipureintro; intro _ _ r hr; exact absurd hr (Nat.not_lt_zero r)
    iexact H5
  iintro %acc H5
  iapply (wp_loop (c := tid d i) k0_t3_loop k0_t3_ok 0#32 _ (fun k _ => scan1I d i arg2 arg4 arg5 v151_r0 k0_t1 O W X k) 16 (by decide)
    (fun k acc _ => t3_step d i arg2 harg2 arg3 harg3 arg4 harg4 arg5 harg5 arg6 harg6 arg7 harg7 v151_r0 v152_r1 v152_r2 v152_r3 v1 c0_i32_0 c1_i32 k0_t1 O W X k acc)) $$ [H5 H4 HB Hsem HO]
  · unfold scan1I
    isplitl [H5]
    · unfold zero2I hist2I
      icases H5 with ⟨%H, %hH, H5⟩
      iexists H
      isplitr
      · ipureintro; intro c hc r hr; rw [hH c hc r hr]; rfl
      iexact H5
    isplitl [H4]; · iexact H4
    isplitl [HB]; · iexact HB
    isplitl [Hsem]; · iexact Hsem
    iexact HO
  iintro %v9 HI
  unfold scan1I
  icases HI with ⟨H5, H4, HB, Hsem, HO⟩
  iapply (wp_loop (c := tid d i) k0_t7_loop k0_t7_ok _ _ (fun k acc => suf2I (tid d i) arg5 (fun c => histo bin1 (eX X c)) k acc) 2048 (by decide)
    (fun k acc _ => t7_step d i arg2 harg2 arg3 harg3 arg4 harg4 arg5 harg5 arg6 harg6 arg7 harg7 v151_r0 v152_r1 v152_r2 v152_r3 v1 c0_i32_0 c1_i32 k0_t1 _ k acc)) $$ [H5]
  · unfold suf2I hist2I
    icases H5 with ⟨%H, %hH, H5⟩
    iexists H
    isplitr
    · ipureintro
      exact ⟨rfl, fun c hc r hr => (hH c hc r hr).trans (sufN_zero _ _ _).symm⟩
    iexact H5
  unfold suf2I
  iintro %acc ⟨%H, %hH, H5⟩
  obtain ⟨rfl, hH⟩ := hH
  have hS : ∀ c < 32, ∀ r < 2052, H r c = S1 (eX X c) r := fun c hc r hr => (hH c hc r hr).trans (sufN_all _ _ _)
  dsimp only
  iapply (wp_search (c := tid d i) arg5 0 11 k0_t8_loop k0_t8_ok (by decide) _ rfl _ (fun c => S1 (eX X c)) (fun _ => zf) (fun c => tgt (sumE (eX X c))) H
    (fun c hc r hr => hS c (by have := hc.2; omega) r (by omega)) (fun k acc hk => by
      obtain ⟨lo, hi⟩ := acc
      unfold k0_t8_body
      exact srch_step (c := tid d i) (R := 2052) arg5 H (by decide) (by decide) hk (by decide) _ _ _ (fun c hc r hr => hS c (by have := hc.2; omega) r (by omega)) lanes_toNat rfl (fun h => h) _ _ _
        (fun v => rfl) (fun v => rfl))) $$ H5
  iintro %w H5
  dsimp only
  iapply (wp_next (c := tid d i) arg5 (c0 := 0) (by decide) (fun c => S1 (eX X c)) H (fun c => B1 (eX X c)) 2048 (fun c => B1_lt _) (by decide)
    (fun c hc r hr => hS c (by have := hc.2; omega) r (by omega)) rfl lanes_toNat (fun h => h) _) $$ H5
  iintro H5
  rw [WP, wp_pure]; imodintro
  isplitr; · ipureintro; rfl
  isplitl [H5]
  · unfold all2
    iexists H
    isplitr; · ipureintro; exact hS
    iexact H5
  isplitl [H4]; · iexact H4
  isplitl [HB]; · iexact HB
  isplitl [Hsem]; · iexact Hsem
  iexact HO

end Cert.Proof.Radix
end
-- ==== Proof.Part3.lean ====
/-
  The second part of a batch's work: the search for the bin of the last sixteen columns, the list of the candidates, and the
  histogram of the candidates' middle bits for the first sixteen columns.
-/
module

public import proofs.«01_k».proof.Proof.Part2

@[expose] public section

noncomputable section

namespace Cert.Proof.Radix

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## Facts about the loops over the candidates -/

theorem row_off {k m : ℕ} (hk : k < m) (hm : m ≤ 520) (c0 : ℕ) : (![(Scalar.indexCast (Scf.iv 0#32 1#32 k)).toNat, c0] : Fin 2 → ℕ) = ![k, c0] := by
  have h : (Scalar.indexCast (Scf.iv 0#32 1#32 k)).toNat = k := by
    rw [iv_eq]
    change (BitVec.ofNat 32 k).toNat = k
    rw [BitVec.toNat_ofNat, Nat.mod_eq_of_lt (by omega)]
  rw [h]

theorem row_inb {k m : ℕ} (hk : k < m) (hm : m ≤ 520) {c0 : ℕ} (hc : c0 + 16 ≤ 32) :
    ∀ a, (![(Scalar.indexCast (Scf.iv 0#32 1#32 k)).toNat, c0] : Fin 2 → ℕ) a + S1x16.size a ≤ S520x32.size a := by
  rw [row_off hk hm]
  intro a
  match a with
  | 0 => change k + 1 ≤ 520; omega
  | 1 => change c0 + 16 ≤ 32; omega

theorem top_eq {m : ℕ} (hm : m ≤ 520) : Scalar.addi 0#32 (Scalar.subi (BitVec.ofNat 32 m) 0#32) = BitVec.ofNat 32 m := by
  interval_cases m <;> rfl

theorem t15_trips {m : ℕ} (hm : m ≤ 520) : (k0_t15_loop (BitVec.ofNat 32 m)).trips = m := (main_loop hm (div_one hm)).2
theorem t20_trips {m : ℕ} (hm : m ≤ 520) : (k0_t20_loop (BitVec.ofNat 32 m)).trips = m := (main_loop hm (div_one hm)).2
theorem t16_trips {m : ℕ} (hm : m ≤ 520) : (k0_t16_loop (BitVec.ofNat 32 m)).trips = 0 := (rest_loop hm (div_one hm) (top_eq hm)).2
theorem t21_trips {m : ℕ} (hm : m ≤ 520) : (k0_t21_loop (BitVec.ofNat 32 m)).trips = 0 := (rest_loop hm (div_one hm) (top_eq hm)).2

/-- The loops over the first sixteen columns' candidates have a meaning and read rows that exist. -/
theorem chk10_of {m : ℕ} (hm : m ≤ 520) : k0_chk10 (BitVec.ofNat 32 m) := by
  unfold k0_chk10
  refine ⟨(main_loop hm (div_one hm)).1, fun k => ?_, (rest_loop hm (div_one hm) (top_eq hm)).1, fun k => (Fin.cast (t16_trips hm) k).elim0,
    (main_loop hm (div_one hm)).1, fun k => ?_, (rest_loop hm (div_one hm) (top_eq hm)).1, fun k => (Fin.cast (t21_trips hm) k).elim0⟩
  · exact row_inb (lt_of_lt_of_eq k.isLt (t15_trips hm)) hm (by decide)
  · exact row_inb (lt_of_lt_of_eq k.isLt (t20_trips hm)) hm (by decide)

/-- The test that a candidate is there, in words. -/
theorem there_word (j : S16.Idx) {k n : ℕ} (hk : k < 2 ^ 31) (hn : n < 2 ^ 31) :
    IntOp.cmpi .slt (IntOp.addi (IntOp.muli (lanes j) 0#32) (Scf.iv 0#32 1#32 k)) (BitVec.ofNat 32 n) = 1#1 ↔ k < n := by
  have h : IntOp.addi (IntOp.muli (lanes j) 0#32) (Scf.iv 0#32 1#32 k) = BitVec.ofNat 32 k := by
    rw [iv_eq]
    unfold IntOp.addi IntOp.muli
    rw [BitVec.mul_zero, BitVec.zero_add]
  rw [h]
  exact slt_word hk hn

theorem lanes0_toNat (j : S16.Idx) : (k0_pay50 lanes j).toNat = 0 + (j 0).val := by
  have h : k0_pay50 lanes j = lanes j := by
    unfold k0_pay50
    change lanes j + 0#32 = lanes j
    rw [BitVec.add_zero]
  rw [h]
  exact lanes_toNat j

variable (d : Dev nD) (i : grid0.Coords) (arg2 : Memref sig .scVector .hbm S64x8192x32 .f32) (harg2 : arg2.IsWhole) (arg3 : Memref sig .scVector .hbm S64x8192x32 .f32) (harg3 : arg3.IsWhole) (arg4 : Memref sig .scVector .vmem S512x32 .f32) (harg4 : arg4.IsWhole) (arg5 : Memref sig .scVector .vmem S2052x32 .f32) (harg5 : arg5.IsWhole) (arg6 : Memref sig .scVector .vmem S520x32 .f32) (harg6 : arg6.IsWhole) (arg7 : Memref sig .scVector .vmem S520x32 .i32) (harg7 : arg7.IsWhole) (v151_r0 : DmaSems sig S_) (v152_r1 : DmaSems sig S_) (v152_r2 : DmaSems sig S_) (v152_r3 : DmaSems sig S_)
variable (v1 c0_i32_0 c1_i32 : BitVec 32) (k0_t1 : Fin k0_t1_loop.trips)
variable (O : CellTallies nD τ sig (HIx 1)) (W : Waits sig (HIx 1))

/-- Every column's candidates lie in the two lists. -/
def candsI (c : Thread nD τ) (m6 : Memref sig c.2.kind .vmem (sR 520) .f32) (m7 : Memref sig c.2.kind .vmem (sR 520) .i32) (X : ℕ → ℕ → F .f32) : sProp 𝕄 :=
  iprop(∃ (H6 : ℕ → ℕ → Elt F .f32) (H7 : ℕ → ℕ → Elt F .i32),
    ⌜∀ c < 32, ∀ (j : ℕ) (h : j < (L2 (eX X c)).length), H6 j c = (L2 (eX X c))[j] ∧ H7 j c = BitVec.ofNat 32 (key (L2 (eX X c))[j])⌝
    ∗ owns c m6 fullShare (mk2 H6) ∗ owns c m7 fullShare (mk2 H7))

/-- The state of the second scan after `n` chunks. -/
def scan2I (X : ℕ → ℕ → F .f32) (n : ℕ) (acc : IVec S16 32 × IVec S16 32) : sProp 𝕄 :=
  iprop(cand2I (tid d i) arg6 arg7 (fun c => B1 (eX X c)) X (512 * n) acc ∗ (∃ Y, owns (tid d i) arg4 fullShare Y) ∗ batch d i arg2 (bOf i k0_t1) X
    ∗ semVal (tid d i, .dma v152_r1.sem) 0 ∗ debt (tid d i) O W)

theorem t10_step (X : ℕ → ℕ → F .f32) (v16 v17 : FVec F S16 .f32) (v27 v28 v29 : IVec S16 32) (c0_i32_24 c1_i32_26 : BitVec 32)
    (k : Fin k0_t10_loop.trips) (acc : IVec S16 32 × IVec S16 32) :
    scan2I d i arg2 arg4 arg6 arg7 v152_r1 k0_t1 O W X k.val acc ⊢ WP (tid d i) (k0_t10_body i arg2 harg2 arg3 harg3 arg4 harg4 arg5 harg5 arg6 harg6 arg7 harg7 v151_r0 v152_r1 v152_r2 v152_r3 lanes k0_t1 v16 v17
        (vec 0 fun c => BitVec.ofNat 32 (B1 (eX X c))) v27 v28 v29 c0_i32_24 c1_i32_26 (vec 16 fun c => BitVec.ofNat 32 (B1 (eX X c))) k acc)
      fun acc => scan2I d i arg2 arg4 arg6 arg7 v152_r1 k0_t1 O W X (k.val + 1) acc := by
  have hk : k.val < 16 := k.isLt
  obtain ⟨x, y⟩ := acc
  unfold k0_t10_body scan2I
  dsimp only
  iintro ⟨H6, H4, HB, Hsem, HO⟩
  iapply (wp_copy_in d i O W arg2 arg4 (bOf i k0_t1) X ⟨k.val, hk⟩ (k0_off8_eq i k0_t1 k)) $$ [H4 HB Hsem HO]
  · isplitl [HB]; · iexact HB
    isplitl [H4]; · iexact H4
    isplitl [Hsem]; · iexact Hsem
    iexact HO
  iintro ⟨HB, H4, Hsem, HO⟩
  iapply (wp_loop (c := tid d i) k0_t11_loop k0_t11_ok (x, y) _ (fun j acc => iprop(cand2I (tid d i) arg6 arg7 (fun c => B1 (eX X c)) X (512 * k.val + j) acc
      ∗ owns (tid d i) arg4 fullShare (mk2 (R := 512) fun r c => X c (512 * k.val + r)))) 512 (by decide)
      (fun j acc _ => t11_step d i arg2 harg2 arg3 harg3 arg4 harg4 arg5 harg5 arg6 harg6 arg7 harg7 v151_r0 v152_r1 v152_r2 v152_r3 k0_t1 (fun c => B1 (eX X c)) (fun c => B1_lt _) X (512 * k.val) _ j (fun c _ => rfl) v16 v17 v27 v28 v29 c0_i32_24 c1_i32_26 acc)) $$ [H6 H4]
  · isplitl [H6]; · iexact H6
    iexact H4
  iintro %acc ⟨H6, H4⟩
  rw [WP, wp_pure]; imodintro
  isplitl [H6]; · iexact H6
  isplitl [H4]; · iexists _; iexact H4
  isplitl [HB]; · iexact HB
  isplitl [Hsem]; · iexact Hsem
  iexact HO

theorem scan2I_end (X : ℕ → ℕ → F .f32) (acc : IVec S16 32 × IVec S16 32) :
    scan2I d i arg2 arg4 arg6 arg7 v152_r1 k0_t1 O W X 16 acc ⊢ iprop((∃ (H6 : ℕ → ℕ → Elt F .f32) (H7 : ℕ → ℕ → Elt F .i32),
      ⌜acc = (vec 0 (fun c => BitVec.ofNat 32 (L2 (eX X c)).length), vec 16 (fun c => BitVec.ofNat 32 (L2 (eX X c)).length))
        ∧ ∀ c < 32, ∀ (j : ℕ) (h : j < (L2 (eX X c)).length), H6 j c = (L2 (eX X c))[j] ∧ H7 j c = BitVec.ofNat 32 (key (L2 (eX X c))[j])⌝
      ∗ owns (tid d i) arg6 fullShare (mk2 H6) ∗ owns (tid d i) arg7 fullShare (mk2 H7))
      ∗ (∃ Y, owns (tid d i) arg4 fullShare Y) ∗ batch d i arg2 (bOf i k0_t1) X ∗ semVal (tid d i, .dma v152_r1.sem) 0 ∗ debt (tid d i) O W) := by
  unfold scan2I cand2I
  iintro ⟨⟨%H6, %H7, %hc, H6, H7⟩, HR⟩
  isplitr [HR]
  · iexists H6, H7
    isplitr; · ipureintro; exact hc
    isplitl [H6]; · iexact H6
    iexact H7
  iexact HR

theorem bin2_lt (e : F .f32) : bin2 e < 1024 := Nat.mod_lt _ (by norm_num)

theorem bin3_lt (e : F .f32) : bin3 e < 1024 := Nat.mod_lt _ (by norm_num)

theorem pay54_eq (c0 : ℕ) (V : ℕ → BitVec 32) :
    k0_pay54 (F := F) (rowv c0 V) = vec c0 fun c => IntOp.andi (IntOp.shrui .vector (V c) 10#32) 1023#32 := by
  unfold k0_pay54; dsimp only; rw [cast_rowv]; rfl

theorem t15_step (X : ℕ → ℕ → F .f32) (m : ℕ) (hm : m ≤ 520) (H6 : ℕ → ℕ → Elt F .f32) (H7 : ℕ → ℕ → Elt F .i32)
    (hok : candOK 0 (fun c => L2 (eX X c)) H6 H7) (v16 v17 : FVec F S16 .f32) (v21_0 v27 v28 v29 : IVec S16 32) (c0_i32_24 c1_i32_26 : BitVec 32)
    (hw : k0_chk10 (BitVec.ofNat 32 m)) (k : Fin (k0_t15_loop (BitVec.ofNat 32 m)).trips) (acc : BitVec 32) :
    iprop(hiI (tid d i) arg5 0 bin2 (fun c => L2 (eX X c)) (fun _ _ => true) k.val ∗ owns (tid d i) arg6 fullShare (mk2 H6) ∗ owns (tid d i) arg7 fullShare (mk2 H7))
      ⊢ WP (tid d i) (k0_t15_body i arg2 harg2 arg3 harg3 arg4 harg4 arg5 harg5 arg6 harg6 arg7 harg7 v151_r0 v152_r1 v152_r2 v152_r3 lanes k0_t1 v16 v17 v21_0 v27 v28 v29 c0_i32_24 c1_i32_26
          (vec 0 fun c => BitVec.ofNat 32 (L2 (eX X c)).length) (k0_pay50 lanes) (BitVec.ofNat 32 m) hw k acc)
        fun _ => iprop(hiI (tid d i) arg5 0 bin2 (fun c => L2 (eX X c)) (fun _ _ => true) (k.val + 1) ∗ owns (tid d i) arg6 fullShare (mk2 H6) ∗ owns (tid d i) arg7 fullShare (mk2 H7)) := by
  have hk : k.val < m := lt_of_lt_of_eq k.isLt (t15_trips hm)
  unfold k0_t15_body
  refine hist_step (c := tid d i) (R := 2052) arg5 arg6 arg7 (by decide) (by decide) hok (row_off hk hm 0) lanes0_toNat
    k0_pay54 k0_pay55 (fun _ => k0_pay53 lanes (vec 0 fun c => BitVec.ofNat 32 (L2 (eX X c)).length) (BitVec.ofNat 32 m) k)
    (fun V => by unfold k0_pay55; dsimp only; rw [cast_rowv]) (fun V j => ?_) (fun V j e hV => ?_) (fun V j _ => ?_) (P := fun v => k0_chk11 (k0_pay50 lanes) (k0_pay54 v)) (fun v h => h)
  · rw [pay54_eq]
    change (IntOp.andi _ 1023#32).toNat < 1024
    rw [and1023]; omega
  · rw [pay54_eq]
    change (IntOp.andi (IntOp.shrui .vector (V (0 + (j 0).val)) 10#32) 1023#32).toNat = bin2 e
    rw [hV, field2 _ (key_lt e), BitVec.toNat_ofNat]
    exact Nat.mod_eq_of_lt (lt_trans (bin2_lt e) (by norm_num))
  · have hl := cand_length_le (B1 (eX X (0 + (j 0).val))) (eX X (0 + (j 0).val))
    exact (there_word j (k := k.val) (n := (L2 (eX X (0 + (j 0).val))).length) (by omega) (lt_of_le_of_lt hl (by norm_num))).trans ⟨fun h => ⟨h, rfl⟩, fun h => h.1⟩

/-- The rest of the second part, from the candidates on. -/
theorem part3_tail (X : ℕ → ℕ → F .f32) (H : ℕ → ℕ → Elt F .f32) (H6 : ℕ → ℕ → Elt F .f32) (H7 : ℕ → ℕ → Elt F .i32)
    (hcand : ∀ c < 32, ∀ (j : ℕ) (h : j < (L2 (eX X c)).length), H6 j c = (L2 (eX X c))[j] ∧ H7 j c = BitVec.ofNat 32 (key (L2 (eX X c))[j]))
    (v16 v17 : FVec F S16 .f32) (v21_0 v27 v28 v29 v31_0 v38_1 : IVec S16 32) (v35 : FVec F S16 .f32) (c0_i32_24 c1_i32_26 : BitVec 32)
    (m : ℕ) (hm : m ≤ 520) (hmax : ∀ c, grp 0 c → (L2 (eX X c)).length ≤ m) (v46 : BitVec 32) (hv : v46 = BitVec.ofNat 32 m) :
    (iprop(owns (tid d i) arg5 fullShare (mk2 H) ∗ owns (tid d i) arg6 fullShare (mk2 H6) ∗ owns (tid d i) arg7 fullShare (mk2 H7)
        ∗ (∃ Y, owns (tid d i) arg4 fullShare Y) ∗ batch d i arg2 (bOf i k0_t1) X ∗ semVal (tid d i, .dma v152_r1.sem) 0 ∗ debt (tid d i) O W) : sProp 𝕄)
      ⊢ WP (tid d i) (do
          have k0_hw10 : k0_chk10 v46 := (← Prog.lift (TpuEff.assume (k0_chk10 v46) (k0_chk10.dec v46))).down
          Scf.Loop.for k0_t14_loop k0_t14_ok ⟨⟩ (k0_t14_body i arg2 harg2 arg3 harg3 arg4 harg4 arg5 harg5 arg6 harg6 arg7 harg7 v151_r0 v152_r1 v152_r2 v152_r3 lanes k0_t1 v16 v17 v21_0 v27 v28 v29 c0_i32_24 c1_i32_26)
          let v53 : BitVec 32 ← Scf.Loop.for (k0_t15_loop v46) (k0_t15_ok v46 k0_hw10) 0#32 (k0_t15_body i arg2 harg2 arg3 harg3 arg4 harg4 arg5 harg5 arg6 harg6 arg7 harg7 v151_r0 v152_r1 v152_r2 v152_r3 lanes k0_t1 v16 v17 v21_0 v27 v28 v29 c0_i32_24 c1_i32_26 (vec 0 fun c => BitVec.ofNat 32 (L2 (eX X c)).length) (k0_pay50 lanes) v46 k0_hw10)
          let _v54 : BitVec 32 ← Scf.Loop.for (k0_t16_loop v46) (k0_t16_ok v46 k0_hw10) v53 (k0_t16_body i arg2 harg2 arg3 harg3 arg4 harg4 arg5 harg5 arg6 harg6 arg7 harg7 v151_r0 v152_r1 v152_r2 v152_r3 lanes k0_t1 v16 v17 v21_0 v27 v28 v29 c0_i32_24 c1_i32_26 (vec 0 fun c => BitVec.ofNat 32 (L2 (eX X c)).length) (k0_pay50 lanes) v46 k0_hw10)
          let _v57 : FVec F S16 .f32 ← Scf.Loop.for k0_t17_loop k0_t17_ok (k0_pay59 (F := F)) (k0_t17_body i arg2 harg2 arg3 harg3 arg4 harg4 arg5 harg5 arg6 harg6 arg7 harg7 v151_r0 v152_r1 v152_r2 v152_r3 lanes k0_t1 v16 v17 v21_0 v27 v28 v29 c0_i32_24 c1_i32_26)
          pure (⟨v31_0, v35, vec 0 fun c => BitVec.ofNat 32 (L2 (eX X c)).length, v38_1, k0_pay50 lanes, v46, k0_hw10, k0_pay61, k0_pay62, 0#32, 10#32⟩ :
            Σ' (_ : IVec S16 32) (_ : FVec F S16 .f32) (_ : IVec S16 32) (_ : IVec S16 32) (_ : IVec S16 32) (v46 : BitVec 32) (_ : k0_chk10 v46) (_ : IVec S16 32) (_ : IVec S16 32) (_ : BitVec 32), BitVec 32)) fun r =>
        iprop(∃ (m : ℕ) (hw : k0_chk10 (BitVec.ofNat 32 m)), ⌜m ≤ 520 ∧ (∀ c, grp 0 c → (L2 (eX X c)).length ≤ m)
            ∧ r = ⟨v31_0, v35, vec 0 fun c => BitVec.ofNat 32 (L2 (eX X c)).length,
              v38_1, k0_pay50 lanes, BitVec.ofNat 32 m, hw, k0_pay61, k0_pay62, 0#32, 10#32⟩⌝
          ∗ colI (tid d i) arg5 0 1028 (fun c => S2 (eX X c)) ∗ candsI (tid d i) arg6 arg7 X ∗ (∃ Y, owns (tid d i) arg4 fullShare Y)
          ∗ batch d i arg2 (bOf i k0_t1) X ∗ semVal (tid d i, .dma v152_r1.sem) 0 ∗ debt (tid d i) O W) := by
  subst hv
  iintro ⟨H5, H6, H7, H4, HB, Hsem, HO⟩
  iapply (wp_check (c := tid d i) (chk10_of hm))
  iapply (wp_zero (c := tid d i) arg5 0 k0_t14_loop k0_t14_ok (by decide) _ (fun k => by
    unfold k0_t14_body
    exact zero_step (c := tid d i) arg5 k.val 0 (k0_off11_eq k) rfl) H) $$ H5
  iintro H5
  iapply (wp_hist (c := tid d i) arg5 arg6 arg7 H6 H7 0 bin2 (fun c => L2 (eX X c)) (fun _ _ => true) m hmax _ (k0_t15_ok _ (chk10_of hm)) (t15_trips hm) _ _
    (fun k acc => t15_step d i arg2 harg2 arg3 harg3 arg4 harg4 arg5 harg5 arg6 harg6 arg7 harg7 v151_r0 v152_r1 v152_r2 v152_r3 k0_t1 X m hm H6 H7 (fun c hc => hcand c (by have := hc.2; omega)) _ _ _ _ _ _ _ _ (chk10_of hm) k acc)) $$ [H5 H6 H7]
  · isplitl [H5]; · iexact H5
    isplitl [H6]; · iexact H6
    iexact H7
  iintro %v53 ⟨H5, H6, H7⟩
  iapply (wp_none (c := tid d i) _ (k0_t16_ok _ (chk10_of hm)) (t16_trips hm))
  iintro %v54
  iapply (wp_sums (c := tid d i) arg5 0 k0_t17_loop k0_t17_ok (by decide) _ rfl _ (fun C k acc hk => by
    unfold k0_t17_body
    exact suf_step (c := tid d i) arg5 C 1024 k.val 0 hk (by norm_num) (k0_off14_eq k) k0_pay60 (fun A B => by unfold k0_pay60; dsimp only; rw [cast_rowv]; rfl) acc) _) $$ H5
  iintro %v57 H5
  rw [WP, wp_pure]; imodintro
  iexists m, (chk10_of hm)
  isplitr
  · ipureintro
    exact ⟨hm, hmax, rfl⟩
  isplitl [H5]
  · simp only [List.filter_true]
    iexact H5
  isplitl [H6 H7]
  · unfold candsI
    iexists H6, H7
    isplitr; · ipureintro; exact hcand
    isplitl [H6]; · iexact H6
    iexact H7
  isplitl [H4]; · iexact H4
  isplitl [HB]; · iexact HB
  isplitl [Hsem]; · iexact Hsem
  iexact HO

/-- The second part: the last sixteen columns' bins, the candidates, and the first sixteen columns' sums over the middle bits. -/
theorem part3 (X : ℕ → ℕ → F .f32) :
    (iprop(all2 (tid d i) arg5 (fun c => S1 (eX X c)) ∗ (∃ Y, owns (tid d i) arg6 fullShare Y) ∗ (∃ Y, owns (tid d i) arg7 fullShare Y)
        ∗ (∃ Y, owns (tid d i) arg4 fullShare Y) ∗ batch d i arg2 (bOf i k0_t1) X ∗ semVal (tid d i, .dma v152_r1.sem) 0 ∗ debt (tid d i) O W) : sProp 𝕄)
      ⊢ WP (tid d i) (k0_part3_skel i arg2 harg2 arg3 harg3 arg4 harg4 arg5 harg5 arg6 harg6 arg7 harg7 v151_r0 v152_r1 v152_r2 v152_r3 lanes k0_t1 (vec 16 fun c => tgt (sumE (eX X c))) (vec 16 fun _ => zf) (vec 0 fun c => BitVec.ofNat 32 (B1 (eX X c)))
          (k0_pay38 lanes) k0_pay39 k0_pay40 0#32 1#32) fun r =>
        iprop(∃ (m : ℕ) (hw : k0_chk10 (BitVec.ofNat 32 m)), ⌜m ≤ 520 ∧ (∀ c, grp 0 c → (L2 (eX X c)).length ≤ m)
            ∧ r = ⟨vec 16 fun c => BitVec.ofNat 32 (B1 (eX X c)), vec 16 fun c => A1 (eX X c), vec 0 fun c => BitVec.ofNat 32 (L2 (eX X c)).length,
              vec 16 fun c => BitVec.ofNat 32 (L2 (eX X c)).length, k0_pay50 lanes, BitVec.ofNat 32 m, hw, k0_pay61, k0_pay62, 0#32, 10#32⟩⌝
          ∗ colI (tid d i) arg5 0 1028 (fun c => S2 (eX X c)) ∗ candsI (tid d i) arg6 arg7 X ∗ (∃ Y, owns (tid d i) arg4 fullShare Y)
          ∗ batch d i arg2 (bOf i k0_t1) X ∗ semVal (tid d i, .dma v152_r1.sem) 0 ∗ debt (tid d i) O W) := by
  unfold k0_part3_skel all2
  iintro ⟨⟨%H, %hS, H5⟩, ⟨%Y6, H6⟩, ⟨%Y7, H7⟩, H4, HB, Hsem, HO⟩
  iapply (wp_search (c := tid d i) arg5 16 11 k0_t9_loop k0_t9_ok (by decide) _ rfl _ (fun c => S1 (eX X c)) (fun _ => zf) (fun c => tgt (sumE (eX X c))) H
    (fun c hc r hr => hS c (by have := hc.2; omega) r (by omega)) (fun k acc hk => by
      obtain ⟨lo, hi⟩ := acc
      unfold k0_t9_body
      exact srch_step (c := tid d i) (R := 2052) arg5 H (by decide) (by decide) hk (by decide) _ _ _ (fun c hc r hr => hS c (by have := hc.2; omega) r (by omega))
        lanes_add_toNat rfl (fun h => h) _ _ _ (fun v => rfl) (fun v => rfl))) $$ H5
  iintro %w H5
  dsimp only
  iapply (wp_next (c := tid d i) arg5 (c0 := 16) (by decide) (fun c => S1 (eX X c)) H (fun c => B1 (eX X c)) 2048 (fun c => B1_lt _) (by decide)
    (fun c hc r hr => hS c (by have := hc.2; omega) r (by omega)) rfl lanes_add_toNat (fun h => h) _) $$ H5
  iintro H5
  iapply (wp_loop (c := tid d i) k0_t10_loop k0_t10_ok _ _ (fun k acc => scan2I d i arg2 arg4 arg6 arg7 v152_r1 k0_t1 O W X k acc) 16 (by decide)
    (fun k acc _ => t10_step d i arg2 harg2 arg3 harg3 arg4 harg4 arg5 harg5 arg6 harg6 arg7 harg7 v151_r0 v152_r1 v152_r2 v152_r3 k0_t1 O W X _ _ _ _ _ _ _ k acc)) $$ [H6 H7 H4 HB Hsem HO]
  · unfold scan2I
    isplitl [H6 H7]
    · obtain ⟨G6, rfl⟩ := exists_mk2 (by decide) Y6
      obtain ⟨G7, rfl⟩ := exists_mk2 (by decide) Y7
      unfold cand2I
      iexists G6, G7
      isplitr
      · ipureintro
        exact ⟨rfl, fun c hc j h => absurd h (Nat.not_lt_zero j)⟩
      isplitl [H6]; · iexact H6
      iexact H7
    isplitl [H4]; · iexact H4
    isplitl [HB]; · iexact HB
    isplitl [Hsem]; · iexact Hsem
    iexact HO
  iintro %acc HI
  ihave HJ := (scan2I_end d i arg2 arg4 arg6 arg7 v152_r1 k0_t1 O W X acc) $$ HI
  icases HJ with ⟨⟨%H6, %H7, %hc, H6, H7⟩, H4, HB, Hsem, HO⟩
  obtain ⟨rfl, hcand⟩ := hc
  obtain ⟨m, hm, hv, hmax⟩ := nmax_eq 0 (fun c => (L2 (eX X c)).length) (fun c => cand_length_le _ _)
  dsimp only
  iapply (part3_tail d i arg2 harg2 arg3 harg3 arg4 harg4 arg5 harg5 arg6 harg6 arg7 harg7 v151_r0 v152_r1 v152_r2 v152_r3 k0_t1 O W X H H6 H7 hcand _ _ _ _ _ _ _ _ _ _ _ m hm hmax _ hv) $$ [H5 H6 H7 H4 HB Hsem HO]
  isplitl [H5]; · iexact H5
  isplitl [H6]; · iexact H6
  isplitl [H7]; · iexact H7
  isplitl [H4]; · iexact H4
  isplitl [HB]; · iexact HB
  isplitl [Hsem]; · iexact Hsem
  iexact HO

end Cert.Proof.Radix
end
-- ==== Proof.Part4.lean ====
/-
  The third part of a batch's work: the middle and the low bits of the threshold of the first sixteen columns.
-/
module

public import proofs.«01_k».proof.Proof.Part3

@[expose] public section

noncomputable section

namespace Cert.Proof.Radix

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid0.Coords) (arg2 : Memref sig .scVector .hbm S64x8192x32 .f32) (harg2 : arg2.IsWhole) (arg3 : Memref sig .scVector .hbm S64x8192x32 .f32) (harg3 : arg3.IsWhole) (arg4 : Memref sig .scVector .vmem S512x32 .f32) (harg4 : arg4.IsWhole) (arg5 : Memref sig .scVector .vmem S2052x32 .f32) (harg5 : arg5.IsWhole) (arg6 : Memref sig .scVector .vmem S520x32 .f32) (harg6 : arg6.IsWhole) (arg7 : Memref sig .scVector .vmem S520x32 .i32) (harg7 : arg7.IsWhole) (v151_r0 : DmaSems sig S_) (v152_r1 : DmaSems sig S_) (v152_r2 : DmaSems sig S_) (v152_r3 : DmaSems sig S_)
variable (v1 c0_i32_0 c1_i32 : BitVec 32) (k0_t1 : Fin k0_t1_loop.trips)
variable (O : CellTallies nD τ sig (HIx 1)) (W : Waits sig (HIx 1))

theorem pay72_eq (c0 : ℕ) (V : ℕ → BitVec 32) : k0_pay72 (F := F) (rowv c0 V) = vec c0 fun c => IntOp.andi (V c) 1023#32 := by
  unfold k0_pay72 k0_pay70; dsimp only; rw [cast_rowv]; rfl

theorem pay71_eq (v2 v38 : IVec S16 32) (v46 : BitVec 32) (v61 : IVec S16 32) (k : Fin (k0_t20_loop v46).trips) (c0 : ℕ) (V : ℕ → BitVec 32) :
    k0_pay71 (F := F) v2 v38 v46 v61 k (rowv c0 V) = fun j => IntOp.andi (IntOp.cmpi .slt (IntOp.addi (IntOp.muli (v2 j) 0#32) (Scf.iv 0#32 1#32 k)) (v38 j))
      (IntOp.cmpi .eq (IntOp.andi (IntOp.shrui .vector (V (c0 + (j 0).val)) 10#32) 1023#32) (v61 j)) := by
  unfold k0_pay71 k0_pay70; dsimp only; rw [cast_rowv]; rfl

theorem t20_step (v14 v25 : FVec F S16 .f32) (v21_0 v58 v59 : IVec S16 32) (c0_i32_48 c10_i32 : BitVec 32) (X : ℕ → ℕ → F .f32) (m : ℕ) (hm : m ≤ 520) (H6 : ℕ → ℕ → Elt F .f32) (H7 : ℕ → ℕ → Elt F .i32)
    (hok : candOK 0 (fun c => L2 (eX X c)) H6 H7)
    (hw : k0_chk10 (BitVec.ofNat 32 m)) (k : Fin (k0_t20_loop (BitVec.ofNat 32 m)).trips) (acc : BitVec 32) :
    iprop(hiI (tid d i) arg5 0 bin3 (fun c => L2 (eX X c)) (fun c e => decide (bin2 e = B2 (eX X c))) k.val ∗ owns (tid d i) arg6 fullShare (mk2 H6) ∗ owns (tid d i) arg7 fullShare (mk2 H7))
      ⊢ WP (tid d i) (k0_t20_body i arg2 harg2 arg3 harg3 arg4 harg4 arg5 harg5 arg6 harg6 arg7 harg7 v151_r0 v152_r1 v152_r2 v152_r3 lanes v14 v21_0 v25
          (vec 0 fun c => BitVec.ofNat 32 (L2 (eX X c)).length) (k0_pay50 lanes) (BitVec.ofNat 32 m) hw v58 v59 c0_i32_48 c10_i32 (vec 0 fun c => BitVec.ofNat 32 (B2 (eX X c))) k acc)
        fun _ => iprop(hiI (tid d i) arg5 0 bin3 (fun c => L2 (eX X c)) (fun c e => decide (bin2 e = B2 (eX X c))) (k.val + 1) ∗ owns (tid d i) arg6 fullShare (mk2 H6) ∗ owns (tid d i) arg7 fullShare (mk2 H7)) := by
  have hk : k.val < m := lt_of_lt_of_eq k.isLt (t20_trips hm)
  unfold k0_t20_body
  refine hist_step (c := tid d i) (R := 2052) arg5 arg6 arg7 (by decide) (by decide) hok (row_off hk hm 0) lanes0_toNat
    k0_pay72 k0_pay73 (k0_pay71 lanes (vec 0 fun c => BitVec.ofNat 32 (L2 (eX X c)).length) (BitVec.ofNat 32 m) (vec 0 fun c => BitVec.ofNat 32 (B2 (eX X c))) k)
    (fun V => by unfold k0_pay73; dsimp only; rw [cast_rowv]) (fun V j => ?_) (fun V j e hV => ?_) (fun V j hV => ?_) (P := fun v => k0_chk15 (k0_pay50 lanes) (k0_pay72 v)) (fun v h => h)
  · rw [pay72_eq]
    change (IntOp.andi _ 1023#32).toNat < 1024
    rw [and1023]; omega
  · rw [pay72_eq]
    change (IntOp.andi (V (0 + (j 0).val)) 1023#32).toNat = bin3 e
    rw [hV, field3 _ (key_lt e), BitVec.toNat_ofNat]
    exact Nat.mod_eq_of_lt (lt_trans (bin3_lt e) (by norm_num))
  · have hl := cand_length_le (B1 (eX X (0 + (j 0).val))) (eX X (0 + (j 0).val))
    have e2 : ∀ h : k.val < (L2 (eX X (0 + (j 0).val))).length, IntOp.andi (IntOp.shrui .vector (V (0 + (j 0).val)) 10#32) 1023#32
        = BitVec.ofNat 32 (bin2 (L2 (eX X (0 + (j 0).val)))[k.val]) := fun h => by
      rw [hV h, field2 _ (key_lt _)]; rfl
    have e1 := there_word j (k := k.val) (n := (L2 (eX X (0 + (j 0).val))).length) (by omega) (lt_of_le_of_lt hl (by norm_num))
    rw [pay71_eq]
    change IntOp.andi (IntOp.cmpi .slt (IntOp.addi (IntOp.muli (lanes j) 0#32) (Scf.iv 0#32 1#32 k)) (BitVec.ofNat 32 (L2 (eX X (0 + (j 0).val))).length))
      (IntOp.cmpi .eq (IntOp.andi (IntOp.shrui .vector (V (0 + (j 0).val)) 10#32) 1023#32) (BitVec.ofNat 32 (B2 (eX X (0 + (j 0).val))))) = 1#1 ↔ _
    rw [and_word, e1]
    constructor
    · rintro ⟨h, h'⟩
      rw [e2 h, eq_word (lt_trans (bin2_lt _) (by norm_num)) (lt_trans (B2_lt _) (by norm_num))] at h'
      exact ⟨h, decide_eq_true h'⟩
    · rintro ⟨h, h'⟩
      refine ⟨h, ?_⟩
      rw [e2 h, eq_word (lt_trans (bin2_lt _) (by norm_num)) (lt_trans (B2_lt _) (by norm_num))]
      exact of_decide_eq_true h'

/-- The third part: the thresholds of the first sixteen columns. -/
theorem part4 (X : ℕ → ℕ → F .f32) (m : ℕ) (hm : m ≤ 520) (hmax : ∀ c, grp 0 c → (L2 (eX X c)).length ≤ m) (hw : k0_chk10 (BitVec.ofNat 32 m)) :
    (iprop(colI (tid d i) arg5 0 1028 (fun c => S2 (eX X c)) ∗ candsI (tid d i) arg6 arg7 X) : sProp 𝕄)
      ⊢ WP (tid d i) (k0_part4_skel i arg2 harg2 arg3 harg3 arg4 harg4 arg5 harg5 arg6 harg6 arg7 harg7 v151_r0 v152_r1 v152_r2 v152_r3 lanes (vec 0 fun c => tgt (sumE (eX X c))) (vec 0 fun c => BitVec.ofNat 32 (B1 (eX X c))) (vec 0 fun c => A1 (eX X c))
          (vec 0 fun c => BitVec.ofNat 32 (L2 (eX X c)).length) (k0_pay50 lanes) (BitVec.ofNat 32 m) hw k0_pay61 k0_pay62 0#32 10#32) fun r =>
        iprop(⌜r = vec 0 fun c => BitVec.ofNat 32 (tau (eX X c))⌝ ∗ (∃ H : ℕ → ℕ → Elt F .f32, owns (tid d i) arg5 fullShare (mk2 H)) ∗ candsI (tid d i) arg6 arg7 X) := by
  unfold k0_part4_skel colI candsI
  iintro ⟨⟨%H, %hS, H5⟩, ⟨%H6, %H7, %hcand, H6, H7⟩⟩
  iapply (wp_search (c := tid d i) arg5 0 10 k0_t18_loop k0_t18_ok (by decide) _ rfl _ (fun c => S2 (eX X c)) (fun c => A1 (eX X c)) (fun c => tgt (sumE (eX X c))) H
    (fun c hc r hr => hS c hc r (by omega)) (fun k acc hk => by
      obtain ⟨lo, hi⟩ := acc
      unfold k0_t18_body
      exact srch_step (c := tid d i) (R := 2052) arg5 H (by decide) (by decide) hk (by decide) _ _ _ (fun c hc r hr => hS c hc r (by omega)) lanes0_toNat rfl (fun h => h) _ _ _
        (fun v => rfl) (fun v => rfl))) $$ H5
  iintro %wt18 H5
  dsimp only
  iapply (wp_next (c := tid d i) arg5 (c0 := 0) (by decide) (fun c => S2 (eX X c)) H (fun c => B2 (eX X c)) 1024 (fun c => B2_lt _) (by decide)
    (fun c hc r hr => hS c hc r (by omega)) rfl lanes0_toNat (fun h => h) _) $$ H5
  iintro H5
  iapply (wp_zero (c := tid d i) arg5 0 k0_t19_loop k0_t19_ok (by decide) _ (fun k => by
    unfold k0_t19_body
    exact zero_step (c := tid d i) arg5 k.val 0 (k0_off15_eq k) rfl) H) $$ H5
  iintro H5
  iapply (wp_hist (c := tid d i) arg5 arg6 arg7 H6 H7 0 bin3 (fun c => L2 (eX X c)) (fun c e => decide (bin2 e = B2 (eX X c))) m hmax _ (k0_t20_ok _ hw) (t20_trips hm) _ _
    (fun k acc => t20_step d i arg2 harg2 arg3 harg3 arg4 harg4 arg5 harg5 arg6 harg6 arg7 harg7 v151_r0 v152_r1 v152_r2 v152_r3 _ _ _ _ _ _ _ X m hm H6 H7 (fun c hc => hcand c (by have := hc.2; omega)) _ k acc)) $$ [H5 H6 H7]
  · isplitl [H5]; · iexact H5
    isplitl [H6]; · iexact H6
    iexact H7
  iintro %wt20 ⟨H5, H6, H7⟩
  iapply (wp_none (c := tid d i) _ (k0_t21_ok _ hw) (t21_trips hm))
  iintro %wt21
  iapply (wp_sums (c := tid d i) arg5 0 k0_t22_loop k0_t22_ok (by decide) _ rfl _ (fun C k acc hk => by
    unfold k0_t22_body
    exact suf_step (c := tid d i) arg5 C 1024 k.val 0 hk (by norm_num) (k0_off18_eq k) k0_pay79 (fun A B => by unfold k0_pay79; dsimp only; rw [cast_rowv]; rfl) acc) _) $$ H5
  iintro %wt22 H5
  unfold colI
  icases H5 with ⟨%H', %hS', H5⟩
  iapply (wp_search (c := tid d i) arg5 0 10 k0_t23_loop k0_t23_ok (by decide) _ rfl _ (fun c => S3 (eX X c)) (fun c => A2 (eX X c)) (fun c => tgt (sumE (eX X c))) H'
    (fun c hc r hr => hS' c hc r (by omega)) (fun k acc hk => by
      obtain ⟨lo, hi⟩ := acc
      unfold k0_t23_body
      exact srch_step (c := tid d i) (R := 2052) arg5 H' (by decide) (by decide) hk (by decide) _ _ _ (fun c hc r hr => hS' c hc r (by omega)) lanes0_toNat rfl (fun h => h) _ _ _
        (fun v => rfl) (fun v => rfl))) $$ H5
  iintro %wt23 H5
  dsimp only
  iapply (wp_next (c := tid d i) arg5 (c0 := 0) (by decide) (fun c => S3 (eX X c)) H' (fun c => B3 (eX X c)) 1024 (fun c => B3_lt _) (by decide)
    (fun c hc r hr => hS' c hc r (by omega)) rfl lanes0_toNat (fun h => h) _) $$ H5
  iintro H5
  rw [WP, wp_pure]; imodintro
  isplitr
  · ipureintro
    funext j
    exact tau_word (B1_lt _) (B2_lt _) (B3_lt _)
  isplitl [H5]; · iexists _; iexact H5
  iexists H6, H7
  isplitr; · ipureintro; exact hcand
  isplitl [H6]; · iexact H6
  iexact H7

end Cert.Proof.Radix
end
-- ==== Proof.Part5.lean ====
/-
  The fourth part of a batch's work: the middle bits of the threshold of the last sixteen columns.
-/
module

public import proofs.«01_k».proof.Proof.Part4

@[expose] public section

noncomputable section

namespace Cert.Proof.Radix

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

theorem t25_trips {m : ℕ} (hm : m ≤ 520) : (k0_t25_loop (BitVec.ofNat 32 m)).trips = m := (main_loop hm (div_one hm)).2
theorem t30_trips {m : ℕ} (hm : m ≤ 520) : (k0_t30_loop (BitVec.ofNat 32 m)).trips = m := (main_loop hm (div_one hm)).2
theorem t26_trips {m : ℕ} (hm : m ≤ 520) : (k0_t26_loop (BitVec.ofNat 32 m)).trips = 0 := (rest_loop hm (div_one hm) (top_eq hm)).2
theorem t31_trips {m : ℕ} (hm : m ≤ 520) : (k0_t31_loop (BitVec.ofNat 32 m)).trips = 0 := (rest_loop hm (div_one hm) (top_eq hm)).2

/-- The loops over the last sixteen columns' candidates have a meaning and read rows that exist. -/
theorem chk19_of {m : ℕ} (hm : m ≤ 520) : k0_chk19 (BitVec.ofNat 32 m) := by
  unfold k0_chk19
  refine ⟨(main_loop hm (div_one hm)).1, fun k => ?_, (rest_loop hm (div_one hm) (top_eq hm)).1, fun k => (Fin.cast (t26_trips hm) k).elim0,
    (main_loop hm (div_one hm)).1, fun k => ?_, (rest_loop hm (div_one hm) (top_eq hm)).1, fun k => (Fin.cast (t31_trips hm) k).elim0⟩
  · exact row_inb (lt_of_lt_of_eq k.isLt (t25_trips hm)) hm (by decide)
  · exact row_inb (lt_of_lt_of_eq k.isLt (t30_trips hm)) hm (by decide)

theorem pay93_eq {F : FTy → Type} [FloatOps F] (c0 : ℕ) (V : ℕ → BitVec 32) :
    k0_pay93 (F := F) (rowv c0 V) = vec c0 fun c => IntOp.andi (IntOp.shrui .vector (V c) 10#32) 1023#32 := by
  unfold k0_pay93; dsimp only; rw [cast_rowv]; rfl

variable (d : Dev nD) (i : grid0.Coords) (arg2 : Memref sig .scVector .hbm S64x8192x32 .f32) (harg2 : arg2.IsWhole) (arg3 : Memref sig .scVector .hbm S64x8192x32 .f32) (harg3 : arg3.IsWhole) (arg4 : Memref sig .scVector .vmem S512x32 .f32) (harg4 : arg4.IsWhole) (arg5 : Memref sig .scVector .vmem S2052x32 .f32) (harg5 : arg5.IsWhole) (arg6 : Memref sig .scVector .vmem S520x32 .f32) (harg6 : arg6.IsWhole) (arg7 : Memref sig .scVector .vmem S520x32 .i32) (harg7 : arg7.IsWhole) (v151_r0 : DmaSems sig S_) (v152_r1 : DmaSems sig S_) (v152_r2 : DmaSems sig S_) (v152_r3 : DmaSems sig S_)
variable (v1 c0_i32_0 c1_i32 : BitVec 32) (k0_t1 : Fin k0_t1_loop.trips)
variable (O : CellTallies nD τ sig (HIx 1)) (W : Waits sig (HIx 1))

theorem t25_step (X : ℕ → ℕ → F .f32) (m : ℕ) (hm : m ≤ 520) (H6 : ℕ → ℕ → Elt F .f32) (H7 : ℕ → ℕ → Elt F .i32)
    (hok : candOK 16 (fun c => L2 (eX X c)) H6 H7) (v16 v35 : FVec F S16 .f32) (v90 : IVec S16 32)
    (hw : k0_chk19 (BitVec.ofNat 32 m)) (k : Fin (k0_t25_loop (BitVec.ofNat 32 m)).trips) (acc : BitVec 32) :
    iprop(hiI (tid d i) arg5 16 bin2 (fun c => L2 (eX X c)) (fun _ _ => true) k.val ∗ owns (tid d i) arg6 fullShare (mk2 H6) ∗ owns (tid d i) arg7 fullShare (mk2 H7))
      ⊢ WP (tid d i) (k0_t25_body i arg2 harg2 arg3 harg3 arg4 harg4 arg5 harg5 arg6 harg6 arg7 harg7 v151_r0 v152_r1 v152_r2 v152_r3 lanes v16 v35 (vec 16 fun c => BitVec.ofNat 32 (L2 (eX X c)).length) v90 (k0_pay89 lanes) (BitVec.ofNat 32 m) hw k acc)
        fun _ => iprop(hiI (tid d i) arg5 16 bin2 (fun c => L2 (eX X c)) (fun _ _ => true) (k.val + 1) ∗ owns (tid d i) arg6 fullShare (mk2 H6) ∗ owns (tid d i) arg7 fullShare (mk2 H7)) := by
  have hk : k.val < m := lt_of_lt_of_eq k.isLt (t25_trips hm)
  unfold k0_t25_body
  refine hist_step (c := tid d i) (R := 2052) arg5 arg6 arg7 (by decide) (by decide) hok (row_off hk hm 16) lanes_add_toNat
    k0_pay93 k0_pay94 (fun _ => k0_pay92 lanes (vec 16 fun c => BitVec.ofNat 32 (L2 (eX X c)).length) (BitVec.ofNat 32 m) k)
    (fun V => by unfold k0_pay94; dsimp only; rw [cast_rowv]) (fun V j => ?_) (fun V j e hV => ?_) (fun V j _ => ?_) (P := fun v => k0_chk20 (k0_pay89 lanes) (k0_pay93 v)) (fun v h => h)
  · rw [pay93_eq]
    change (IntOp.andi _ 1023#32).toNat < 1024
    rw [and1023]; omega
  · rw [pay93_eq]
    change (IntOp.andi (IntOp.shrui .vector (V (16 + (j 0).val)) 10#32) 1023#32).toNat = bin2 e
    rw [hV, field2 _ (key_lt e), BitVec.toNat_ofNat]
    exact Nat.mod_eq_of_lt (lt_trans (bin2_lt e) (by norm_num))
  · have hl := cand_length_le (B1 (eX X (16 + (j 0).val))) (eX X (16 + (j 0).val))
    exact (there_word j (k := k.val) (n := (L2 (eX X (16 + (j 0).val))).length) (by omega) (lt_of_le_of_lt hl (by norm_num))).trans ⟨fun h => ⟨h, rfl⟩, fun h => h.1⟩

/-- The rest of the fourth part, from the count of the candidates on. -/
theorem part5_tail (X : ℕ → ℕ → F .f32) (H : ℕ → ℕ → Elt F .f32) (H6 : ℕ → ℕ → Elt F .f32) (H7 : ℕ → ℕ → Elt F .i32)
    (hcand : ∀ c < 32, ∀ (j : ℕ) (h : j < (L2 (eX X c)).length), H6 j c = (L2 (eX X c))[j] ∧ H7 j c = BitVec.ofNat 32 (key (L2 (eX X c))[j]))
    (v90 : IVec S16 32) (m : ℕ) (hm : m ≤ 520) (hmax : ∀ c, grp 16 c → (L2 (eX X c)).length ≤ m) (v99 : BitVec 32) (hv : v99 = BitVec.ofNat 32 m) :
    (iprop(owns (tid d i) arg5 fullShare (mk2 H) ∗ owns (tid d i) arg6 fullShare (mk2 H6) ∗ owns (tid d i) arg7 fullShare (mk2 H7)) : sProp 𝕄)
      ⊢ WP (tid d i) (do
          have k0_hw19 : k0_chk19 v99 := (← Prog.lift (TpuEff.assume (k0_chk19 v99) (k0_chk19.dec v99))).down
          Scf.Loop.for k0_t24_loop k0_t24_ok ⟨⟩ (k0_t24_body i arg2 harg2 arg3 harg3 arg4 harg4 arg5 harg5 arg6 harg6 arg7 harg7 v151_r0 v152_r1 v152_r2 v152_r3 lanes (vec 16 fun c => tgt (sumE (eX X c))) (vec 16 fun c => A1 (eX X c)) (vec 16 fun c => BitVec.ofNat 32 (L2 (eX X c)).length) v90)
          let v106 : BitVec 32 ← Scf.Loop.for (k0_t25_loop v99) (k0_t25_ok v99 k0_hw19) 0#32 (k0_t25_body i arg2 harg2 arg3 harg3 arg4 harg4 arg5 harg5 arg6 harg6 arg7 harg7 v151_r0 v152_r1 v152_r2 v152_r3 lanes (vec 16 fun c => tgt (sumE (eX X c))) (vec 16 fun c => A1 (eX X c)) (vec 16 fun c => BitVec.ofNat 32 (L2 (eX X c)).length) v90 (k0_pay89 lanes) v99 k0_hw19)
          let _v107 : BitVec 32 ← Scf.Loop.for (k0_t26_loop v99) (k0_t26_ok v99 k0_hw19) v106 (k0_t26_body i arg2 harg2 arg3 harg3 arg4 harg4 arg5 harg5 arg6 harg6 arg7 harg7 v151_r0 v152_r1 v152_r2 v152_r3 lanes (vec 16 fun c => tgt (sumE (eX X c))) (vec 16 fun c => A1 (eX X c)) (vec 16 fun c => BitVec.ofNat 32 (L2 (eX X c)).length) v90 (k0_pay89 lanes) v99 k0_hw19)
          let _v110 : FVec F S16 .f32 ← Scf.Loop.for k0_t27_loop k0_t27_ok (k0_pay98 (F := F)) (k0_t27_body i arg2 harg2 arg3 harg3 arg4 harg4 arg5 harg5 arg6 harg6 arg7 harg7 v151_r0 v152_r1 v152_r2 v152_r3 lanes (vec 16 fun c => tgt (sumE (eX X c))) (vec 16 fun c => A1 (eX X c)) (vec 16 fun c => BitVec.ofNat 32 (L2 (eX X c)).length) v90)
          let (v114_0, v114_1) ← Scf.Loop.for k0_t28_loop k0_t28_ok (k0_pay100, k0_pay101) (k0_t28_body i arg2 harg2 arg3 harg3 arg4 harg4 arg5 harg5 arg6 harg6 arg7 harg7 v151_r0 v152_r1 v152_r2 v152_r3 lanes (vec 16 fun c => tgt (sumE (eX X c))) (vec 16 fun c => A1 (eX X c)) (vec 16 fun c => BitVec.ofNat 32 (L2 (eX X c)).length) v90 (k0_pay89 lanes))
          have v116 : IVec S16 32 := k0_pay106 v114_0
          have k0_hw23 : k0_chk23 (k0_pay89 lanes) v116 := (← Prog.lift (TpuEff.assume (k0_chk23 (k0_pay89 lanes) v116) (k0_chk23.dec (k0_pay89 lanes) v116))).down
          let v117 : Vec F S16 .f32 ← SparseCore.vectorLoadIdx arg5 ![v116, k0_pay89 lanes] (k0_idx22_inb (k0_pay89 lanes) v116 k0_hw23) (View.loads_vmem h_S2052x32)
          Scf.Loop.for k0_t29_loop k0_t29_ok ⟨⟩ (k0_t29_body i arg2 harg2 arg3 harg3 arg4 harg4 arg5 harg5 arg6 harg6 arg7 harg7 v151_r0 v152_r1 v152_r2 v152_r3 lanes (vec 16 fun c => tgt (sumE (eX X c))) (vec 16 fun c => A1 (eX X c)) (vec 16 fun c => BitVec.ofNat 32 (L2 (eX X c)).length) v90)
          pure (⟨k0_pay88 (F := F) v90, k0_pay89 lanes, v99, k0_hw19, v114_0, k0_pay107 (vec 16 fun c => A1 (eX X c)) v117⟩ :
            Σ' (_ : FVec F S16 .f32) (_ : IVec S16 32) (v99 : BitVec 32) (_ : k0_chk19 v99) (_ : IVec S16 32), FVec F S16 .f32)) fun r =>
        iprop(∃ (m : ℕ) (hw : k0_chk19 (BitVec.ofNat 32 m)), ⌜m ≤ 520 ∧ (∀ c, grp 16 c → (L2 (eX X c)).length ≤ m)
            ∧ r = ⟨k0_pay88 (F := F) v90, k0_pay89 lanes, BitVec.ofNat 32 m, hw, vec 16 fun c => BitVec.ofNat 32 (B2 (eX X c)), vec 16 fun c => A2 (eX X c)⟩⌝
          ∗ colI (tid d i) arg5 16 1028 (fun _ _ => zf) ∗ candsI (tid d i) arg6 arg7 X) := by
  subst hv
  iintro ⟨H5, H6, H7⟩
  iapply (wp_check (c := tid d i) (chk19_of hm))
  iapply (wp_zero (c := tid d i) arg5 16 k0_t24_loop k0_t24_ok (by decide) _ (fun k => by
    unfold k0_t24_body
    exact zero_step (c := tid d i) arg5 k.val 16 (k0_off19_eq k) rfl) H) $$ H5
  iintro H5
  iapply (wp_hist (c := tid d i) arg5 arg6 arg7 H6 H7 16 bin2 (fun c => L2 (eX X c)) (fun _ _ => true) m hmax _ (k0_t25_ok _ (chk19_of hm)) (t25_trips hm) _ _
    (fun k acc => t25_step d i arg2 harg2 arg3 harg3 arg4 harg4 arg5 harg5 arg6 harg6 arg7 harg7 v151_r0 v152_r1 v152_r2 v152_r3 X m hm H6 H7 (fun c hc => hcand c (by have := hc.2; omega)) _ _ _ _ k acc)) $$ [H5 H6 H7]
  · isplitl [H5]; · iexact H5
    isplitl [H6]; · iexact H6
    iexact H7
  iintro %wt25 ⟨H5, H6, H7⟩
  iapply (wp_none (c := tid d i) _ (k0_t26_ok _ (chk19_of hm)) (t26_trips hm))
  iintro %wt26
  iapply (wp_sums (c := tid d i) arg5 16 k0_t27_loop k0_t27_ok (by decide) _ rfl _ (fun C k acc hk => by
    unfold k0_t27_body
    exact suf_step (c := tid d i) arg5 C 1024 k.val 16 hk (by norm_num) (k0_off22_eq k) k0_pay99 (fun A B => by unfold k0_pay99; dsimp only; rw [cast_rowv]; rfl) acc) _) $$ H5
  iintro %wt27 H5
  simp only [List.filter_true]
  unfold colI
  icases H5 with ⟨%H', %hS', H5⟩
  iapply (wp_search (c := tid d i) arg5 16 10 k0_t28_loop k0_t28_ok (by decide) _ rfl _ (fun c => S2 (eX X c)) (fun c => A1 (eX X c)) (fun c => tgt (sumE (eX X c))) H'
    (fun c hc r hr => hS' c hc r (by omega)) (fun k acc hk => by
      obtain ⟨lo, hi⟩ := acc
      unfold k0_t28_body
      exact srch_step (c := tid d i) (R := 2052) arg5 H' (by decide) (by decide) hk (by decide) _ _ _ (fun c hc r hr => hS' c hc r (by omega)) lanes_add_toNat rfl (fun h => h) _ _ _
        (fun v => rfl) (fun v => rfl))) $$ H5
  iintro %wt28 H5
  dsimp only
  iapply (wp_next (c := tid d i) arg5 (c0 := 16) (by decide) (fun c => S2 (eX X c)) H' (fun c => B2 (eX X c)) 1024 (fun c => B2_lt _) (by decide)
    (fun c hc r hr => hS' c hc r (by omega)) rfl lanes_add_toNat (fun h => h) _) $$ H5
  iintro H5
  iapply (wp_zero (c := tid d i) arg5 16 k0_t29_loop k0_t29_ok (by decide) _ (fun k => by
    unfold k0_t29_body
    exact zero_step (c := tid d i) arg5 k.val 16 (k0_off23_eq k) rfl) H') $$ H5
  iintro H5
  rw [WP, wp_pure]; imodintro
  iexists m, (chk19_of hm)
  isplitr
  · ipureintro
    exact ⟨hm, hmax, rfl⟩
  isplitl [H5]; · unfold colI; iexact H5
  unfold candsI
  iexists H6, H7
  isplitr; · ipureintro; exact hcand
  isplitl [H6]; · iexact H6
  iexact H7

/-- The fourth part: the middle bits of the thresholds of the last sixteen columns, and the histogram cleared again. -/
theorem part5 (X : ℕ → ℕ → F .f32) (v90 : IVec S16 32) :
    (iprop((∃ H : ℕ → ℕ → Elt F .f32, owns (tid d i) arg5 fullShare (mk2 H)) ∗ candsI (tid d i) arg6 arg7 X) : sProp 𝕄)
      ⊢ WP (tid d i) (k0_part5_skel i arg2 harg2 arg3 harg3 arg4 harg4 arg5 harg5 arg6 harg6 arg7 harg7 v151_r0 v152_r1 v152_r2 v152_r3 lanes (vec 16 fun c => tgt (sumE (eX X c))) (vec 16 fun c => A1 (eX X c))
          (vec 16 fun c => BitVec.ofNat 32 (L2 (eX X c)).length) v90) fun r =>
        iprop(∃ (m : ℕ) (hw : k0_chk19 (BitVec.ofNat 32 m)), ⌜m ≤ 520 ∧ (∀ c, grp 16 c → (L2 (eX X c)).length ≤ m)
            ∧ r = ⟨k0_pay88 (F := F) v90, k0_pay89 lanes, BitVec.ofNat 32 m, hw, vec 16 fun c => BitVec.ofNat 32 (B2 (eX X c)), vec 16 fun c => A2 (eX X c)⟩⌝
          ∗ colI (tid d i) arg5 16 1028 (fun _ _ => zf) ∗ candsI (tid d i) arg6 arg7 X) := by
  unfold k0_part5_skel
  obtain ⟨m, hm, hv, hmax⟩ := nmax_eq 16 (fun c => (L2 (eX X c)).length) (fun c => cand_length_le _ _)
  iintro ⟨⟨%H, H5⟩, HC⟩
  unfold candsI
  icases HC with ⟨%H6, %H7, %hcand, H6, H7⟩
  iapply (part5_tail d i arg2 harg2 arg3 harg3 arg4 harg4 arg5 harg5 arg6 harg6 arg7 harg7 v151_r0 v152_r1 v152_r2 v152_r3 X H H6 H7 hcand v90 m hm hmax _ hv) $$ [H5 H6 H7]
  isplitl [H5]; · iexact H5
  isplitl [H6]; · iexact H6
  iexact H7

end Cert.Proof.Radix
end
-- ==== Proof.Part6.lean ====
/-
  A whole batch's work: the four parts before, the low bits of the threshold of the last sixteen columns, and the scan that writes
  the result.
-/
module

public import proofs.«01_k».proof.Proof.Part5

@[expose] public section

noncomputable section

namespace Cert.Proof.Radix

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid0.Coords) (arg2 : Memref sig .scVector .hbm S64x8192x32 .f32) (harg2 : arg2.IsWhole) (arg3 : Memref sig .scVector .hbm S64x8192x32 .f32) (harg3 : arg3.IsWhole) (arg4 : Memref sig .scVector .vmem S512x32 .f32) (harg4 : arg4.IsWhole) (arg5 : Memref sig .scVector .vmem S2052x32 .f32) (harg5 : arg5.IsWhole) (arg6 : Memref sig .scVector .vmem S520x32 .f32) (harg6 : arg6.IsWhole) (arg7 : Memref sig .scVector .vmem S520x32 .i32) (harg7 : arg7.IsWhole) (v151_r0 : DmaSems sig S_) (v152_r1 : DmaSems sig S_) (v152_r2 : DmaSems sig S_) (v152_r3 : DmaSems sig S_)
variable (v1 c0_i32_0 c1_i32 : BitVec 32) (k0_t1 : Fin k0_t1_loop.trips)
variable (O : CellTallies nD τ sig (HIx 1)) (W : Waits sig (HIx 1))

theorem pay111_eq (c0 : ℕ) (V : ℕ → BitVec 32) : k0_pay111 (F := F) (rowv c0 V) = vec c0 fun c => IntOp.andi (V c) 1023#32 := by
  unfold k0_pay111 k0_pay109; dsimp only; rw [cast_rowv]; rfl

theorem pay110_eq (v2 v38 : IVec S16 32) (v46 : BitVec 32) (v61 : IVec S16 32) (k : Fin (k0_t30_loop v46).trips) (c0 : ℕ) (V : ℕ → BitVec 32) :
    k0_pay110 (F := F) v2 v38 v46 v61 k (rowv c0 V) = fun j => IntOp.andi (IntOp.cmpi .slt (IntOp.addi (IntOp.muli (v2 j) 0#32) (Scf.iv 0#32 1#32 k)) (v38 j))
      (IntOp.cmpi .eq (IntOp.andi (IntOp.shrui .vector (V (c0 + (j 0).val)) 10#32) 1023#32) (v61 j)) := by
  unfold k0_pay110 k0_pay109; dsimp only; rw [cast_rowv]; rfl

theorem t30_step (X : ℕ → ℕ → F .f32) (m : ℕ) (hm : m ≤ 520) (H6 : ℕ → ℕ → Elt F .f32) (H7 : ℕ → ℕ → Elt F .i32)
    (hok : candOK 16 (fun c => L2 (eX X c)) H6 H7)
    (hw : k0_chk19 (BitVec.ofNat 32 m)) (k : Fin (k0_t30_loop (BitVec.ofNat 32 m)).trips) (acc : BitVec 32) :
    iprop(hiI (tid d i) arg5 16 bin3 (fun c => L2 (eX X c)) (fun c e => decide (bin2 e = B2 (eX X c))) k.val ∗ owns (tid d i) arg6 fullShare (mk2 H6) ∗ owns (tid d i) arg7 fullShare (mk2 H7))
      ⊢ WP (tid d i) (k0_t30_body i arg2 harg2 arg3 harg3 arg4 harg4 arg5 harg5 arg6 harg6 arg7 harg7 v151_r0 v152_r1 v152_r2 v152_r3 v1 lanes c0_i32_0 c1_i32 k0_t1
          (vec 16 fun c => BitVec.ofNat 32 (L2 (eX X c)).length) (k0_pay89 lanes) (BitVec.ofNat 32 m) hw (vec 16 fun c => BitVec.ofNat 32 (B2 (eX X c))) k acc)
        fun _ => iprop(hiI (tid d i) arg5 16 bin3 (fun c => L2 (eX X c)) (fun c e => decide (bin2 e = B2 (eX X c))) (k.val + 1) ∗ owns (tid d i) arg6 fullShare (mk2 H6) ∗ owns (tid d i) arg7 fullShare (mk2 H7)) := by
  have hk : k.val < m := lt_of_lt_of_eq k.isLt (t30_trips hm)
  unfold k0_t30_body
  refine hist_step (c := tid d i) (R := 2052) arg5 arg6 arg7 (by decide) (by decide) hok (row_off hk hm 16) lanes_add_toNat
    k0_pay111 k0_pay112 (k0_pay110 lanes (vec 16 fun c => BitVec.ofNat 32 (L2 (eX X c)).length) (BitVec.ofNat 32 m) (vec 16 fun c => BitVec.ofNat 32 (B2 (eX X c))) k)
    (fun V => by unfold k0_pay112; dsimp only; rw [cast_rowv]) (fun V j => ?_) (fun V j e hV => ?_) (fun V j hV => ?_) (P := fun v => k0_chk24 (k0_pay89 lanes) (k0_pay111 v)) (fun v h => h)
  · rw [pay111_eq]
    change (IntOp.andi _ 1023#32).toNat < 1024
    rw [and1023]; omega
  · rw [pay111_eq]
    change (IntOp.andi (V (16 + (j 0).val)) 1023#32).toNat = bin3 e
    rw [hV, field3 _ (key_lt e), BitVec.toNat_ofNat]
    exact Nat.mod_eq_of_lt (lt_trans (bin3_lt e) (by norm_num))
  · have hl := cand_length_le (B1 (eX X (16 + (j 0).val))) (eX X (16 + (j 0).val))
    have e2 : ∀ h : k.val < (L2 (eX X (16 + (j 0).val))).length, IntOp.andi (IntOp.shrui .vector (V (16 + (j 0).val)) 10#32) 1023#32
        = BitVec.ofNat 32 (bin2 (L2 (eX X (16 + (j 0).val)))[k.val]) := fun h => by
      rw [hV h, field2 _ (key_lt _)]; rfl
    have e1 := there_word j (k := k.val) (n := (L2 (eX X (16 + (j 0).val))).length) (by omega) (lt_of_le_of_lt hl (by norm_num))
    rw [pay110_eq]
    change IntOp.andi (IntOp.cmpi .slt (IntOp.addi (IntOp.muli (lanes j) 0#32) (Scf.iv 0#32 1#32 k)) (BitVec.ofNat 32 (L2 (eX X (16 + (j 0).val))).length))
      (IntOp.cmpi .eq (IntOp.andi (IntOp.shrui .vector (V (16 + (j 0).val)) 10#32) 1023#32) (BitVec.ofNat 32 (B2 (eX X (16 + (j 0).val))))) = 1#1 ↔ _
    rw [and_word, e1]
    constructor
    · rintro ⟨h, h'⟩
      rw [e2 h, eq_word (lt_trans (bin2_lt _) (by norm_num)) (lt_trans (B2_lt _) (by norm_num))] at h'
      exact ⟨h, decide_eq_true h'⟩
    · rintro ⟨h, h'⟩
      refine ⟨h, ?_⟩
      rw [e2 h, eq_word (lt_trans (bin2_lt _) (by norm_num)) (lt_trans (B2_lt _) (by norm_num))]
      exact of_decide_eq_true h'

/-- A program, then the rest. -/
theorem wp_seq {α β : Type} {Φ : β → sProp 𝕄} {Q : α → sProp 𝕄} {P : sProp 𝕄} {c : Thread nD τ} {p : Prog (TpuEff nD τ sig (Elt F) Λ₀ c.2) α}
    {kk : α → Prog (TpuEff nD τ sig (Elt F) Λ₀ c.2) β} (h : P ⊢ WP c p Q) :
    P ⊢ iprop((∀ a, Q a -∗ WP c (kk a) Φ) -∗ WP c (p >>= kk) Φ) := by
  iintro HP Hk
  rw [WP, wp_bind]
  iapply (wp_wand frame (wpE (defs₀ (F := F)) 𝒱₀ c none) Set.univ) $$ [HP]
  · iapply h $$ HP
  iintro %a HQ
  ispecialize Hk $$ %a HQ
  iexact Hk

/-- What the batch's result is, column by column. -/
abbrev outY (X : ℕ → ℕ → F .f32) (c r : ℕ) : F .f32 := outE (eX X c) (X c r)

/-- The state of the last scan after `n` chunks. -/
def scan3I (X : ℕ → ℕ → F .f32) (n : ℕ) : sProp 𝕄 :=
  iprop((∃ Y, owns (tid d i) arg6 fullShare Y) ∗ (∃ Y, owns (tid d i) arg4 fullShare Y) ∗ batch d i arg2 (bOf i k0_t1) X ∗ batchN d i arg3 (bOf i k0_t1) (outY X) n
    ∗ semVal (tid d i, .dma v152_r2.sem) 0 ∗ semVal (tid d i, .dma v152_r3.sem) 0 ∗ debt (tid d i) O W)

theorem t34_step (X : ℕ → ℕ → F .f32) (k : Fin k0_t34_loop.trips) (acc : BitVec 32) :
    scan3I d i arg2 arg3 arg4 arg6 v152_r2 v152_r3 k0_t1 O W X k.val ⊢ WP (tid d i) (k0_t34_body i arg2 harg2 arg3 harg3 arg4 harg4 arg5 harg5 arg6 harg6 arg7 harg7 v151_r0 v152_r1 v152_r2 v152_r3 v1 lanes c0_i32_0 c1_i32 k0_t1
        (vec 0 fun c => sumE (eX X c)) (vec 16 fun c => sumE (eX X c)) (vec 16 fun c => BitVec.ofNat 32 (B1 (eX X c)))
        (vec 0 fun c => FloatOps.ofBits .f32 (BitVec.ofNat 32 (tau (eX X c)))) (vec 16 fun c => BitVec.ofNat 32 (B2 (eX X c))) (vec 16 fun c => BitVec.ofNat 32 (B3 (eX X c))) k acc)
      fun _ => scan3I d i arg2 arg3 arg4 arg6 v152_r2 v152_r3 k0_t1 O W X (k.val + 1) := by
  have hk : k.val < 16 := k.isLt
  unfold k0_t34_body scan3I
  dsimp only
  iintro ⟨⟨%Y6, H6⟩, H4, HB, HN, Hs2, Hs3, HO⟩
  obtain ⟨G6, rfl⟩ := exists_mk2 (by decide) Y6
  iapply (wp_copy_in d i O W arg2 arg4 (bOf i k0_t1) X ⟨k.val, hk⟩ (k0_off27_eq i k0_t1 k)) $$ [H4 HB Hs2 HO]
  · isplitl [HB]; · iexact HB
    isplitl [H4]; · iexact H4
    isplitl [Hs2]; · iexact Hs2
    iexact HO
  iintro ⟨HB, H4, Hs2, HO⟩
  iapply (wp_loop (c := tid d i) k0_t35_loop k0_t35_ok () _ (fun j _ => iprop(outI (tid d i) arg6 (fun c => eX X c) X (512 * k.val) j
      ∗ owns (tid d i) arg4 fullShare (mk2 (R := 512) fun r c => X c (512 * k.val + r)))) 512 (by decide)
      (fun j acc _ => t35_step d i arg2 harg2 arg3 harg3 arg4 harg4 arg5 harg5 arg6 harg6 arg7 harg7 v151_r0 v152_r1 v152_r2 v152_r3 v1 c0_i32_0 c1_i32 k0_t1 (fun c => eX X c) X (512 * k.val) _ j (fun c _ => rfl))) $$ [H6 H4]
  · isplitl [H6]
    · unfold outI
      iexists G6
      isplitr; · ipureintro; intro c _ r hr; exact absurd hr (Nat.not_lt_zero r)
      iexact H6
    iexact H4
  iintro %acc ⟨H6, H4⟩
  unfold outI
  icases H6 with ⟨%G, %hG, H6⟩
  iapply (wp_copy_out d i O W arg3 arg6 (bOf i k0_t1) (outY X) G ⟨k.val, hk⟩ hG (k0_off27_eq i k0_t1 k)) $$ [H6 HN Hs3 HO]
  · isplitl [HN]; · iexact HN
    isplitl [H6]; · iexact H6
    isplitl [Hs3]; · iexact Hs3
    iexact HO
  iintro ⟨HN, H6, Hs3, HO⟩
  rw [WP, wp_pure]; imodintro
  isplitl [H6]; · iexists _; iexact H6
  isplitl [H4]; · iexists _; iexact H4
  isplitl [HB]; · iexact HB
  isplitl [HN]; · iexact HN
  isplitl [Hs2]; · iexact Hs2
  isplitl [Hs3]; · iexact Hs3
  iexact HO

/-- A whole batch: its result is written. -/
theorem part6 (X : ℕ → ℕ → F .f32) :
    (iprop((∃ Y, owns (tid d i) arg4 fullShare Y) ∗ (∃ Y, owns (tid d i) arg5 fullShare Y) ∗ (∃ Y, owns (tid d i) arg6 fullShare Y) ∗ (∃ Y, owns (tid d i) arg7 fullShare Y)
        ∗ batch d i arg2 (bOf i k0_t1) X ∗ batchN d i arg3 (bOf i k0_t1) (outY X) 0
        ∗ semVal (tid d i, .dma v151_r0.sem) 0 ∗ semVal (tid d i, .dma v152_r1.sem) 0 ∗ semVal (tid d i, .dma v152_r2.sem) 0 ∗ semVal (tid d i, .dma v152_r3.sem) 0 ∗ debt (tid d i) O W) : sProp 𝕄)
      ⊢ WP (tid d i) (k0_part6_skel i arg2 harg2 arg3 harg3 arg4 harg4 arg5 harg5 arg6 harg6 arg7 harg7 v151_r0 v152_r1 v152_r2 v152_r3 v1 lanes c0_i32_0 c1_i32 k0_t1) fun _ =>
        iprop((∃ Y, owns (tid d i) arg4 fullShare Y) ∗ (∃ Y, owns (tid d i) arg5 fullShare Y) ∗ (∃ Y, owns (tid d i) arg6 fullShare Y) ∗ (∃ Y, owns (tid d i) arg7 fullShare Y)
        ∗ batch d i arg2 (bOf i k0_t1) X ∗ batchN d i arg3 (bOf i k0_t1) (outY X) 16
        ∗ semVal (tid d i, .dma v151_r0.sem) 0 ∗ semVal (tid d i, .dma v152_r1.sem) 0 ∗ semVal (tid d i, .dma v152_r2.sem) 0 ∗ semVal (tid d i, .dma v152_r3.sem) 0 ∗ debt (tid d i) O W) := by
  unfold k0_part6_skel
  rw [k0_part2_eq_skeleton, k0_part3_eq_skeleton, k0_part4_eq_skeleton, k0_part5_eq_skeleton]
  iintro ⟨H4, H5, H6, H7, HB, HN, Hs0, Hs1, Hs2, Hs3, HO⟩
  iapply (wp_seq (part2 d i arg2 harg2 arg3 harg3 arg4 harg4 arg5 harg5 arg6 harg6 arg7 harg7 v151_r0 v152_r1 v152_r2 v152_r3 v1 c0_i32_0 c1_i32 k0_t1 O W X)) $$ [H5 H4 HB Hs0 HO]
  · isplitl [H5]; · iexact H5
    isplitl [H4]; · iexact H4
    isplitl [HB]; · iexact HB
    isplitl [Hs0]; · iexact Hs0
    iexact HO
  iintro %r ⟨%hr, H5, H4, HB, Hs0, HO⟩
  subst hr
  dsimp only
  iapply (wp_seq (part3 d i arg2 harg2 arg3 harg3 arg4 harg4 arg5 harg5 arg6 harg6 arg7 harg7 v151_r0 v152_r1 v152_r2 v152_r3 k0_t1 O W X)) $$ [H5 H6 H7 H4 HB Hs1 HO]
  · isplitl [H5]; · iexact H5
    isplitl [H6]; · iexact H6
    isplitl [H7]; · iexact H7
    isplitl [H4]; · iexact H4
    isplitl [HB]; · iexact HB
    isplitl [Hs1]; · iexact Hs1
    iexact HO
  iintro %r ⟨%m, %hw, %hr, H5, HC, H4, HB, Hs1, HO⟩
  obtain ⟨hm, hmax, rfl⟩ := hr
  dsimp only
  iapply (wp_seq (part4 d i arg2 harg2 arg3 harg3 arg4 harg4 arg5 harg5 arg6 harg6 arg7 harg7 v151_r0 v152_r1 v152_r2 v152_r3 X m hm hmax hw)) $$ [H5 HC]
  · isplitl [H5]; · iexact H5
    iexact HC
  iintro %r ⟨%hr, H5, HC⟩
  subst hr
  iapply (wp_seq (part5 d i arg2 harg2 arg3 harg3 arg4 harg4 arg5 harg5 arg6 harg6 arg7 harg7 v151_r0 v152_r1 v152_r2 v152_r3 X _)) $$ [H5 HC]
  · isplitl [H5]; · iexact H5
    iexact HC
  iintro %r ⟨%m', %hw', %hr, H5, HC⟩
  clear hm hmax hw m
  obtain ⟨hm, hmax, rfl⟩ := hr
  dsimp only
  unfold candsI
  icases HC with ⟨%H6, %H7, %hcand, H6, H7⟩
  iapply (wp_hist (c := tid d i) arg5 arg6 arg7 H6 H7 16 bin3 (fun c => L2 (eX X c)) (fun c e => decide (bin2 e = B2 (eX X c))) m' hmax _ (k0_t30_ok _ hw') (t30_trips hm) _ _
    (fun k acc => t30_step d i arg2 harg2 arg3 harg3 arg4 harg4 arg5 harg5 arg6 harg6 arg7 harg7 v151_r0 v152_r1 v152_r2 v152_r3 v1 c0_i32_0 c1_i32 k0_t1 X m' hm H6 H7 (fun c hc => hcand c (by have := hc.2; omega)) _ k acc)) $$ [H5 H6 H7]
  · isplitl [H5]; · iexact H5
    isplitl [H6]; · iexact H6
    iexact H7
  iintro %wt30 ⟨H5, H6, H7⟩
  iapply (wp_none (c := tid d i) _ (k0_t31_ok _ hw') (t31_trips hm))
  iintro %wt31
  iapply (wp_sums (c := tid d i) arg5 16 k0_t32_loop k0_t32_ok (by decide) _ rfl _ (fun C k acc hk => by
    unfold k0_t32_body
    exact suf_step (c := tid d i) arg5 C 1024 k.val 16 hk (by norm_num) (k0_off26_eq k) k0_pay118 (fun A B => by unfold k0_pay118; dsimp only; rw [cast_rowv]; rfl) acc) _) $$ H5
  iintro %wt32 H5
  unfold colI
  icases H5 with ⟨%H', %hS', H5⟩
  iapply (wp_search (c := tid d i) arg5 16 10 k0_t33_loop k0_t33_ok (by decide) _ rfl _ (fun c => S3 (eX X c)) (fun c => A2 (eX X c)) (fun c => tgt (sumE (eX X c))) H'
    (fun c hc r hr => hS' c hc r (by omega)) (fun k acc hk => by
      obtain ⟨lo, hi⟩ := acc
      unfold k0_t33_body
      exact srch_step (c := tid d i) (R := 2052) arg5 H' (by decide) (by decide) hk (by decide) _ _ _ (fun c hc r hr => hS' c hc r (by omega)) lanes_add_toNat rfl (fun h => h) _ _ _
        (fun v => rfl) (fun v => rfl))) $$ H5
  iintro %wt33 H5
  dsimp only
  iapply (wp_next (c := tid d i) arg5 (c0 := 16) (by decide) (fun c => S3 (eX X c)) H' (fun c => B3 (eX X c)) 1024 (fun c => B3_lt _) (by decide)
    (fun c hc r hr => hS' c hc r (by omega)) rfl lanes_add_toNat (fun h => h) _) $$ H5
  iintro H5
  iapply (wp_loop (c := tid d i) k0_t34_loop k0_t34_ok 0#32 _ (fun k _ => scan3I d i arg2 arg3 arg4 arg6 v152_r2 v152_r3 k0_t1 O W X k) 16 (by decide)
    (fun k acc _ => t34_step d i arg2 harg2 arg3 harg3 arg4 harg4 arg5 harg5 arg6 harg6 arg7 harg7 v151_r0 v152_r1 v152_r2 v152_r3 v1 c0_i32_0 c1_i32 k0_t1 O W X k acc)) $$ [H6 H4 HB HN Hs2 Hs3 HO]
  · unfold scan3I
    isplitl [H6]; · iexists _; iexact H6
    isplitl [H4]; · iexact H4
    isplitl [HB]; · iexact HB
    isplitl [HN]; · iexact HN
    isplitl [Hs2]; · iexact Hs2
    isplitl [Hs3]; · iexact Hs3
    iexact HO
  iintro %acc HI
  unfold scan3I
  icases HI with ⟨H6, H4, HB, HN, Hs2, Hs3, HO⟩
  rw [WP, wp_pure]; imodintro
  isplitl [H4]; · iexact H4
  isplitl [H5]; · iexists _; iexact H5
  isplitl [H6]; · iexact H6
  isplitl [H7]; · iexists _; iexact H7
  isplitl [HB]; · iexact HB
  isplitl [HN]; · iexact HN
  isplitl [Hs0]; · iexact Hs0
  isplitl [Hs1]; · iexact Hs1
  isplitl [Hs2]; · iexact Hs2
  isplitl [Hs3]; · iexact Hs3
  iexact HO

end Cert.Proof.Radix
end
-- ==== Proof.Tile.lean ====
/-
A tile's two turns: two batches, each read whole and written whole.
-/
module

public import proofs.«01_k».proof.Proof.Part6

@[expose] public section

noncomputable section

namespace Cert.Proof.Radix

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid0.Coords) (arg2 : Memref sig .scVector .hbm S64x8192x32 .f32) (harg2 : arg2.IsWhole) (arg3 : Memref sig .scVector .hbm S64x8192x32 .f32) (harg3 : arg3.IsWhole) (arg4 : Memref sig .scVector .vmem S512x32 .f32) (harg4 : arg4.IsWhole) (arg5 : Memref sig .scVector .vmem S2052x32 .f32) (harg5 : arg5.IsWhole) (arg6 : Memref sig .scVector .vmem S520x32 .f32) (harg6 : arg6.IsWhole) (arg7 : Memref sig .scVector .vmem S520x32 .i32) (harg7 : arg7.IsWhole) (v151_r0 : DmaSems sig S_) (v152_r1 : DmaSems sig S_) (v152_r2 : DmaSems sig S_) (v152_r3 : DmaSems sig S_)
variable (v1 : BitVec 32)
variable (O : CellTallies nD τ sig (HIx 1)) (W : Waits sig (HIx 1))

variable (Xf : Fin 64 → ℕ → ℕ → F .f32)

/-- The lane numbers, as the kernel makes them. -/
theorem iota_lanes (h : S16.Iotas .scVector 32 [0]) : iota .scVector S16 32 [0] h = lanes := by
  funext j
  unfold iota lanes
  simp

/-- A turn's batch of the input, and of the output: written when `n` turns or more are done. -/
def turn (n : ℕ) (t : Fin k0_t1_loop.trips) : sProp 𝕄 :=
  iprop(batch d i arg2 (bOf i t) (Xf (bOf i t)) ∗ batchN d i arg3 (bOf i t) (outY (Xf (bOf i t))) (if t.val < n then 16 else 0))

/-- What a tile holds after `n` turns. -/
def turnsI (n : ℕ) : sProp 𝕄 :=
  iprop((∃ Y, owns (tid d i) arg4 fullShare Y) ∗ (∃ Y, owns (tid d i) arg5 fullShare Y) ∗ (∃ Y, owns (tid d i) arg6 fullShare Y) ∗ (∃ Y, owns (tid d i) arg7 fullShare Y)
    ∗ (bigSep (Finset.univ : Finset (Fin k0_t1_loop.trips)) fun t => turn d i arg2 arg3 Xf n t)
    ∗ semVal (tid d i, .dma v151_r0.sem) 0 ∗ semVal (tid d i, .dma v152_r1.sem) 0 ∗ semVal (tid d i, .dma v152_r2.sem) 0 ∗ semVal (tid d i, .dma v152_r3.sem) 0 ∗ debt (tid d i) O W)

theorem t1_step (k : Fin k0_t1_loop.trips) (acc : BitVec 32) :
    turnsI d i arg2 arg3 arg4 arg5 arg6 arg7 v151_r0 v152_r1 v152_r2 v152_r3 O W Xf k.val ⊢ WP (tid d i) (k0_t1_body i arg2 harg2 arg3 harg3 arg4 harg4 arg5 harg5 arg6 harg6 arg7 harg7 v151_r0 v152_r1 v152_r2 v152_r3 v1 lanes k acc) fun _ => turnsI d i arg2 arg3 arg4 arg5 arg6 arg7 v151_r0 v152_r1 v152_r2 v152_r3 O W Xf (k.val + 1) := by
  unfold k0_t1_body turnsI
  rw [k0_part6_eq_skeleton]
  rw [SparseCore.bigSep_erase' (Finset.mem_univ k), SparseCore.bigSep_erase' (Finset.mem_univ k)]
  have hrest : (bigSep ((Finset.univ : Finset (Fin k0_t1_loop.trips)).erase k) fun t => turn d i arg2 arg3 Xf k.val t)
      = (bigSep ((Finset.univ : Finset (Fin k0_t1_loop.trips)).erase k) fun t => turn d i arg2 arg3 Xf (k.val + 1) t : sProp 𝕄) := by
    refine bigSep_congr fun t ht => ?_
    have hne : t.val ≠ k.val := fun e => (Finset.mem_erase.mp ht).1 (Fin.ext e)
    unfold turn
    by_cases h : t.val < k.val
    · rw [if_pos h, if_pos (by omega)]
    · rw [if_neg h, if_neg (by omega)]
  rw [hrest]
  iintro ⟨H4, H5, H6, H7, ⟨HT, HR⟩, Hs0, Hs1, Hs2, Hs3, HO⟩
  ihave HT' := (show (turn d i arg2 arg3 Xf k.val k : sProp 𝕄) ⊢ iprop(batch d i arg2 (bOf i k) (Xf (bOf i k)) ∗ batchN d i arg3 (bOf i k) (outY (Xf (bOf i k))) 0) from by
    unfold turn; rw [if_neg (Nat.lt_irrefl _)]) $$ HT
  icases HT' with ⟨HB, HN⟩
  rw [WP]
  iapply (wp_wand frame (wpE (defs₀ (F := F)) 𝒱₀ (tid d i) none) Set.univ) $$ [H4 H5 H6 H7 HB HN Hs0 Hs1 Hs2 Hs3 HO]
  · iapply (part6 d i arg2 harg2 arg3 harg3 arg4 harg4 arg5 harg5 arg6 harg6 arg7 harg7 v151_r0 v152_r1 v152_r2 v152_r3 v1 0#32 1#32 k O W (Xf (bOf i k)))
    isplitl [H4]; · iexact H4
    isplitl [H5]; · iexact H5
    isplitl [H6]; · iexact H6
    isplitl [H7]; · iexact H7
    isplitl [HB]; · iexact HB
    isplitl [HN]; · iexact HN
    isplitl [Hs0]; · iexact Hs0
    isplitl [Hs1]; · iexact Hs1
    isplitl [Hs2]; · iexact Hs2
    isplitl [Hs3]; · iexact Hs3
    iexact HO
  iintro %r ⟨H4, H5, H6, H7, HB, HN, Hs0, Hs1, Hs2, Hs3, HO⟩
  isplitl [H4]; · iexact H4
  isplitl [H5]; · iexact H5
  isplitl [H6]; · iexact H6
  isplitl [H7]; · iexact H7
  isplitl [HB HN HR]
  · isplitl [HB HN]
    · iapply (show iprop(batch d i arg2 (bOf i k) (Xf (bOf i k)) ∗ batchN d i arg3 (bOf i k) (outY (Xf (bOf i k))) 16) ⊢ (turn d i arg2 arg3 Xf (k.val + 1) k : sProp 𝕄) from by
        unfold turn; rw [if_pos (Nat.lt_succ_self _)])
      isplitl [HB]; · iexact HB
      iexact HN
    iexact HR
  isplitl [Hs0]; · iexact Hs0
  isplitl [Hs1]; · iexact Hs1
  isplitl [Hs2]; · iexact Hs2
  isplitl [Hs3]; · iexact Hs3
  iexact HO

/-- The tile: from its two batches of the input and of the output, the output's end at the kernel's values. -/
theorem tile_run : turnsI d i arg2 arg3 arg4 arg5 arg6 arg7 v151_r0 v152_r1 v152_r2 v152_r3 O W Xf 0 ⊢ WP (tid d i) (cc0__sc_body i arg2 harg2 arg3 harg3 arg4 harg4 arg5 harg5 arg6 harg6 arg7 harg7 v151_r0 v152_r1 v152_r2 v152_r3) fun _ => turnsI d i arg2 arg3 arg4 arg5 arg6 arg7 v151_r0 v152_r1 v152_r2 v152_r3 O W Xf 2 := by
  rw [cc0__sc_body_eq_skeleton]
  unfold cc0__sc_body_skel
  rw [iota_lanes]
  iintro H
  iapply (wp_loop (c := tid d i) k0_t1_loop k0_t1_ok 0#32 _ (fun n _ => turnsI d i arg2 arg3 arg4 arg5 arg6 arg7 v151_r0 v152_r1 v152_r2 v152_r3 O W Xf n) 2 (by decide)
    (fun k acc _ => t1_step d i arg2 harg2 arg3 harg3 arg4 harg4 arg5 harg5 arg6 harg6 arg7 harg7 v151_r0 v152_r1 v152_r2 v152_r3 _ O W Xf k acc)) $$ H
  iintro %acc H
  rw [WP, wp_pure]; imodintro
  iexact H

end Cert.Proof.Radix
end
-- ==== Proof.Arrays.lean ====
/-
The two arrays in chunks: which elements a chunk names, what reading one gives, and an array as its 1024 chunks.
-/
module

public import proofs.«01_k».proof.Proof.Tile

@[expose] public section

noncomputable section

namespace Cert.Proof.Radix

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The position of row `r`, column `c` of batch `b`. -/
def at3 (b r c : ℕ) : S64x8192x32.Idx := fun a => match a with
  | 0 => ⟨b % 64, Nat.mod_lt _ (by decide)⟩ | 1 => ⟨r % 8192, Nat.mod_lt _ (by decide)⟩ | 2 => ⟨c % 32, Nat.mod_lt _ (by decide)⟩

theorem at3_eta (j : S64x8192x32.Idx) : at3 (j 0).val (j 1).val (j 2).val = j := by
  funext a
  match a with
  | 0 => exact Fin.ext (Nat.mod_eq_of_lt (j 0).isLt)
  | 1 => exact Fin.ext (Nat.mod_eq_of_lt (j 1).isLt)
  | 2 => exact Fin.ext (Nat.mod_eq_of_lt (j 2).isLt)

/-- The elements of chunk `k` of batch `b`. -/
def cset (b : Fin 64) (k : Fin 16) : Finset S64x8192x32.Idx :=
  (Rect.unit (s := S64x8192x32) ![b.val, 512 * k.val, 0] S1x512x32.size (coff_inb b k)).set

theorem mem_cset {b : Fin 64} {k : Fin 16} {j : S64x8192x32.Idx} :
    j ∈ cset b k ↔ (j 0).val = b.val ∧ 512 * k.val ≤ (j 1).val ∧ (j 1).val < 512 * k.val + 512 := by
  unfold cset
  rw [Rect.mem_set_unit]
  constructor
  · intro h
    have h0 := h 0
    have h1 := h 1
    change b.val ≤ (j 0).val ∧ (j 0).val < b.val + 1 at h0
    change 512 * k.val ≤ (j 1).val ∧ (j 1).val < 512 * k.val + 512 at h1
    omega
  · intro h a
    have h2 : (j 2).val < 32 := (j 2).isLt
    match a with
    | 0 => change b.val ≤ (j 0).val ∧ (j 0).val < b.val + 1; omega
    | 1 => change 512 * k.val ≤ (j 1).val ∧ (j 1).val < 512 * k.val + 512; omega
    | 2 => change 0 ≤ (j 2).val ∧ (j 2).val < 0 + 32; omega

/-- Which element a chunk's row and column name. -/
theorem emb_chunk (b : Fin 64) (k : Fin 16) (x : S512x32.Idx) :
    (Rect.unit (s := S64x8192x32) ![b.val, 512 * k.val, 0] S1x512x32.size (coff_inb b k)).emb
      (Shape.reshapeEquiv squeezes_S1x512x32_S512x32.numel_eq x) = at3 b.val (512 * k.val + (x 0).val) (x 1).val := by
  have hb := b.isLt
  have hk := k.isLt
  have h0 : (x 0).val < 512 := (x 0).isLt
  have h1 : (x 1).val < 32 := (x 1).isLt
  have e : Shape.reshapeEquiv squeezes_S1x512x32_S512x32.numel_eq x = (Fin.cons ⟨0, Nat.one_pos⟩ x : S1x512x32.Idx) :=
    Shape.reshapeEquiv_cons_one (d := ![512, 32]) _ x
  rw [e]
  funext a
  match a with
  | 0 => exact Fin.ext (by show b.val + 1 * 0 = b.val % 64; omega)
  | 1 => exact Fin.ext (by show 512 * k.val + 1 * (x 0).val = (512 * k.val + (x 0).val) % 8192; omega)
  | 2 => exact Fin.ext (by show 0 + 1 * (x 1).val = (x 1).val % 32; omega)

section Whole

local notation "xV" => (Memref.whole Cert.KernelIdeal.main_arg0_scv : Memref Cert.KernelIdeal.sig Kind.scVector Space.hbm Cert.KernelIdeal.S64x8192x32 EltTy.f32)
local notation "oV" => (Memref.whole Cert.KernelIdeal.main_v0_scv : Memref Cert.KernelIdeal.sig Kind.scVector Space.hbm Cert.KernelIdeal.S64x8192x32 EltTy.f32)

abbrev xLoc (d : Dev nD) : Loc nD τ sig := (SparseCore.T d).loc main_arg0
abbrev oLoc (d : Dev nD) : Loc nD τ sig := (SparseCore.T d).loc main_v0

variable (d : Dev nD) (i : grid0.Coords) (b : Fin 64) (k : Fin 16)

theorem set_chunk_x : (chunk xV b k).view.set = cset b k := by
  show (((xV).view.slice (Rect.unit (s := S64x8192x32) ![b.val, 512 * k.val, 0] S1x512x32.size (coff_inb b k))).reshape S512x32 squeezes_S1x512x32_S512x32.numel_eq).set = _
  rw [View.set_reshape, View.set_slice]
  exact Finset.map_refl

theorem read_chunk_x (f : Buf (Elt F) (xLoc d)) :
    (chunk xV b k).view.read (Elt F) f = mk2 (R := 512) fun r c => f (at3 b.val (512 * k.val + r) c) := by
  funext x
  rw [View.read_apply]
  refine (cast_eq _ _).trans ?_
  exact congrArg f (emb_chunk b k x)

/-- A chunk held through the tile's view of the array is its elements held. -/
theorem owns_chunk_x (Y : ℕ → ℕ → F .f32) (f : Buf (Elt F) (xLoc d)) (h : ∀ r < 512, ∀ c < 32, f (at3 b.val (512 * k.val + r) c) = Y r c) :
    (owns (tid d i) (chunk xV b k) fullShare (mk2 (R := 512) Y) : sProp 𝕄) = (xLoc d ↦[cset b k]{fullShare} f) := by
  have hr : (chunk xV b k).view.read (Elt F) f = mk2 (R := 512) Y := by
    rw [read_chunk_x]; exact mk2_congr h
  have hs := set_chunk_x b k
  have h1 : (owns (tid d i) (chunk xV b k) fullShare (mk2 (R := 512) Y) : sProp 𝕄) ⊢ (xLoc d ↦[cset b k]{fullShare} f) := by
    unfold owns
    iintro ⟨%g, %hg, H⟩
    have hc : ∀ j ∈ (chunk xV b k).view.set, g j = f j := by
      intro j hj
      obtain ⟨x, -, rfl⟩ := Finset.mem_map.mp hj
      have := congrFun (hg.trans hr.symm) x
      rw [View.read_apply, View.read_apply] at this
      exact ((cast_eq _ _).symm.trans this).trans (cast_eq _ _)
    ihave H' := (Entails.of_eq (pointsTo_congr (q := fullShare) hc)) $$ H
    iapply (Entails.of_eq (show ((chunk xV b k).view.loc (tid d i) ↦[(chunk xV b k).view.set]{fullShare} f : sProp 𝕄) = (xLoc d ↦[cset b k]{fullShare} f) by rw [hs]))
    iexact H'
  have h2 : (xLoc d ↦[cset b k]{fullShare} f : sProp 𝕄) ⊢ owns (tid d i) (chunk xV b k) fullShare (mk2 (R := 512) Y) := by
    rw [← hr]
    refine (Entails.of_eq (show (xLoc d ↦[cset b k]{fullShare} f : sProp 𝕄) = ((chunk xV b k).view.loc (tid d i) ↦[(chunk xV b k).view.set]{fullShare} f) by rw [hs])).trans ?_
    exact owns_intro (tid d i) (chunk xV b k) fullShare f
  exact BI.Entails.antisymm h1 h2

theorem set_chunk_o : (chunk oV b k).view.set = cset b k := by
  show (((oV).view.slice (Rect.unit (s := S64x8192x32) ![b.val, 512 * k.val, 0] S1x512x32.size (coff_inb b k))).reshape S512x32 squeezes_S1x512x32_S512x32.numel_eq).set = _
  rw [View.set_reshape, View.set_slice]
  exact Finset.map_refl

theorem read_chunk_o (f : Buf (Elt F) (oLoc d)) :
    (chunk oV b k).view.read (Elt F) f = mk2 (R := 512) fun r c => f (at3 b.val (512 * k.val + r) c) := by
  funext x
  rw [View.read_apply]
  refine (cast_eq _ _).trans ?_
  exact congrArg f (emb_chunk b k x)

/-- A chunk held through the tile's view of the array is its elements held. -/
theorem owns_chunk_o (Y : ℕ → ℕ → F .f32) (f : Buf (Elt F) (oLoc d)) (h : ∀ r < 512, ∀ c < 32, f (at3 b.val (512 * k.val + r) c) = Y r c) :
    (owns (tid d i) (chunk oV b k) fullShare (mk2 (R := 512) Y) : sProp 𝕄) = (oLoc d ↦[cset b k]{fullShare} f) := by
  have hr : (chunk oV b k).view.read (Elt F) f = mk2 (R := 512) Y := by
    rw [read_chunk_o]; exact mk2_congr h
  have hs := set_chunk_o b k
  have h1 : (owns (tid d i) (chunk oV b k) fullShare (mk2 (R := 512) Y) : sProp 𝕄) ⊢ (oLoc d ↦[cset b k]{fullShare} f) := by
    unfold owns
    iintro ⟨%g, %hg, H⟩
    have hc : ∀ j ∈ (chunk oV b k).view.set, g j = f j := by
      intro j hj
      obtain ⟨x, -, rfl⟩ := Finset.mem_map.mp hj
      have := congrFun (hg.trans hr.symm) x
      rw [View.read_apply, View.read_apply] at this
      exact ((cast_eq _ _).symm.trans this).trans (cast_eq _ _)
    ihave H' := (Entails.of_eq (pointsTo_congr (q := fullShare) hc)) $$ H
    iapply (Entails.of_eq (show ((chunk oV b k).view.loc (tid d i) ↦[(chunk oV b k).view.set]{fullShare} f : sProp 𝕄) = (oLoc d ↦[cset b k]{fullShare} f) by rw [hs]))
    iexact H'
  have h2 : (oLoc d ↦[cset b k]{fullShare} f : sProp 𝕄) ⊢ owns (tid d i) (chunk oV b k) fullShare (mk2 (R := 512) Y) := by
    rw [← hr]
    refine (Entails.of_eq (show (oLoc d ↦[cset b k]{fullShare} f : sProp 𝕄) = ((chunk oV b k).view.loc (tid d i) ↦[(chunk oV b k).view.set]{fullShare} f) by rw [hs])).trans ?_
    exact owns_intro (tid d i) (chunk oV b k) fullShare f
  exact BI.Entails.antisymm h1 h2

end Whole

/-! ## An array as its chunks -/

/-- The batch of turn `t` of the tile on core `c`, subcore `s`. -/
def bAt (c : Fin 2) (s : Fin 16) (t : Fin k0_t1_loop.trips) : Fin 64 := ⟨32 * t.val + 2 * s.val + c.val, by
  have h2 : t.val < 2 := t.isLt
  omega⟩

theorem cset_disjoint : ∀ p ∈ (Finset.univ : Finset (Fin 2 × Fin 16 × Fin k0_t1_loop.trips × Fin 16)),
    ∀ p' ∈ (Finset.univ : Finset (Fin 2 × Fin 16 × Fin k0_t1_loop.trips × Fin 16)), p ≠ p' →
      Disjoint (cset (bAt p.1 p.2.1 p.2.2.1) p.2.2.2) (cset (bAt p'.1 p'.2.1 p'.2.2.1) p'.2.2.2) := by
  rintro ⟨c, s, t, k⟩ - ⟨c', s', t', k'⟩ - hne
  rw [Finset.disjoint_left]
  intro j h h'
  rw [mem_cset] at h h'
  apply hne
  have hc := c.isLt
  have hc' := c'.isLt
  have hs := s.isLt
  have hs' := s'.isLt
  have ht : t.val < 2 := t.isLt
  have ht' : t'.val < 2 := t'.isLt
  simp only [bAt] at h h'
  have e1 : c = c' := Fin.ext (by omega)
  have e2 : s = s' := Fin.ext (by omega)
  have e3 : t = t' := Fin.ext (by omega)
  have e4 : k = k' := Fin.ext (by omega)
  rw [e1, e2, e3, e4]

theorem cset_cover : (Finset.univ : Finset (Fin 2 × Fin 16 × Fin k0_t1_loop.trips × Fin 16)).biUnion
    (fun p => cset (bAt p.1 p.2.1 p.2.2.1) p.2.2.2) = Finset.univ := by
  ext j
  simp only [Finset.mem_biUnion, Finset.mem_univ, true_and, iff_true]
  have h0 : (j 0).val < 64 := (j 0).isLt
  have h1 : (j 1).val < 8192 := (j 1).isLt
  refine ⟨⟨⟨(j 0).val % 2, by omega⟩, ⟨(j 0).val % 32 / 2, by omega⟩, ⟨(j 0).val / 32, ?_⟩, ⟨(j 1).val / 512, by omega⟩⟩, ?_⟩
  · show (j 0).val / 32 < 2
    omega
  · rw [mem_cset]
    simp only [bAt]
    omega

/-- An array held whole is its chunks, by core, subcore, turn and chunk. -/
theorem x_chunks (d : Dev nD) (f : Buf (Elt F) (xLoc d)) :
    (xLoc d ↦{fullShare} f : sProp 𝕄) = bigSep Finset.univ fun c : Fin 2 => bigSep Finset.univ fun s : Fin 16 =>
      bigSep Finset.univ fun t : Fin k0_t1_loop.trips => bigSep Finset.univ fun k : Fin 16 => xLoc d ↦[cset (bAt c s t) k]{fullShare} f := by
  have h := pointsTo_biUnion (Val := Elt F) (f := f) (q := fullShare) Finset.univ (ℓ := xLoc d) (fun p : Fin 2 × Fin 16 × Fin k0_t1_loop.trips × Fin 16 => cset (bAt p.1 p.2.1 p.2.2.1) p.2.2.2) cset_disjoint (Ix := HIx 1) (Name := ℕ) (U := UU) (Lvl := ℕ)
  rw [cset_cover] at h
  refine h.trans ?_
  rw [bigSep_univ_prod]
  refine bigSep_congr fun c _ => ?_
  rw [bigSep_univ_prod]
  refine bigSep_congr fun s _ => ?_
  rw [bigSep_univ_prod]

theorem o_chunks (d : Dev nD) (f : Buf (Elt F) (oLoc d)) :
    (oLoc d ↦{fullShare} f : sProp 𝕄) = bigSep Finset.univ fun c : Fin 2 => bigSep Finset.univ fun s : Fin 16 =>
      bigSep Finset.univ fun t : Fin k0_t1_loop.trips => bigSep Finset.univ fun k : Fin 16 => oLoc d ↦[cset (bAt c s t) k]{fullShare} f := by
  have h := pointsTo_biUnion (Val := Elt F) (f := f) (q := fullShare) Finset.univ (ℓ := oLoc d) (fun p : Fin 2 × Fin 16 × Fin k0_t1_loop.trips × Fin 16 => cset (bAt p.1 p.2.1 p.2.2.1) p.2.2.2) cset_disjoint (Ix := HIx 1) (Name := ℕ) (U := UU) (Lvl := ℕ)
  rw [cset_cover] at h
  refine h.trans ?_
  rw [bigSep_univ_prod]
  refine bigSep_congr fun c _ => ?_
  rw [bigSep_univ_prod]
  refine bigSep_congr fun s _ => ?_
  rw [bigSep_univ_prod]

end Cert.Proof.Radix
end
-- ==== Proof.Launch.lean ====
/-
The launch: what the handshakes carry, each task's obligation, and the run of the whole program with the value of its result.
-/
module

public import proofs.«01_k».proof.Proof.Arrays

@[expose] public section

noncomputable section

namespace Cert.Proof.Radix

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

local notation "xV" => (Memref.whole Cert.KernelIdeal.main_arg0_scv : Memref Cert.KernelIdeal.sig Kind.scVector Space.hbm Cert.KernelIdeal.S64x8192x32 EltTy.f32)
local notation "oV" => (Memref.whole Cert.KernelIdeal.main_v0_scv : Memref Cert.KernelIdeal.sig Kind.scVector Space.hbm Cert.KernelIdeal.S64x8192x32 EltTy.f32)

variable (m : (ℓ : Loc nD τ sig) → Buf (Elt F) ℓ) (ρ : Dev nD → PrngReg)

variable [FloatOps F]

/-! ## What the handshakes carry -/

/-- The input's column `c`, row `r` in batch `b`. -/
def Xm (d : Dev nD) (b : Fin 64) (c r : ℕ) : F .f32 := m (xLoc d) (at3 b.val r c)

/-- What the kernel leaves in the output. -/
def outG (d : Dev nD) : Buf (Elt F) (oLoc d) := fun j : S64x8192x32.Idx => outY (Xm m d ⟨(j 0).val, (j 0).isLt⟩) (j 2).val (j 1).val

/-- A tile's chunks of the input, and of the output at contents `f`. -/
def xT (d : Dev nD) (c : Fin 2) (s : Fin 16) : sProp 𝕄 :=
  bigSep Finset.univ fun t : Fin k0_t1_loop.trips => bigSep Finset.univ fun k : Fin 16 => xLoc d ↦[cset (bAt c s t) k]{fullShare} m (xLoc d)
def oT (d : Dev nD) (c : Fin 2) (s : Fin 16) (f : Buf (Elt F) (oLoc d)) : sProp 𝕄 :=
  bigSep Finset.univ fun t : Fin k0_t1_loop.trips => bigSep Finset.univ fun k : Fin 16 => oLoc d ↦[cset (bAt c s t) k]{fullShare} f

instance xT_storable (d : Dev nD) (c : Fin 2) (s : Fin 16) : BI.Storable (upEmb : UEmb _ 𝕄) (xT m d c s) := by unfold xT; infer_instance
instance oT_storable (d : Dev nD) (c : Fin 2) (s : Fin 16) (f : Buf (Elt F) (oLoc d)) : BI.Storable (upEmb : UEmb _ 𝕄) (oT d c s f) := by unfold oT; infer_instance

/-- A core's tiles' chunks of both arrays, the output's at contents `f`. -/
def coreT (d : Dev nD) (c : Fin 2) (f : Buf (Elt F) (oLoc d)) : sProp 𝕄 :=
  bigSep Finset.univ fun s : Fin ((K (F := F)).nSub 0) => iprop(xT m d c (Fin.cast nSub_zero s) ∗ oT d c (Fin.cast nSub_zero s) f)

instance coreT_storable (d : Dev nD) (c : Fin 2) (f : Buf (Elt F) (oLoc d)) : BI.Storable (upEmb : UEmb _ 𝕄) (coreT m d c f) := by unfold coreT; infer_instance

/-- Each core and each tile takes its chunks of both arrays and brings them back, the output's at the kernel's values. -/
def P : (K (F := F)).Pay (nD := nD) (Val := Elt F) (Name := ℕ) (U := UU) where
  st := fun q d c => match q with | 0 => coreT m d (Fin.cast nCore_zero c) (m (oLoc d))
  dn := fun q d c => match q with | 0 => coreT m d (Fin.cast nCore_zero c) (outG m d)
  go := fun q d c s => match q with
    | 0 => iprop(xT m d (Fin.cast nCore_zero c) (Fin.cast nSub_zero s) ∗ oT d (Fin.cast nCore_zero c) (Fin.cast nSub_zero s) (m (oLoc d)))
  td := fun q d c s => match q with
    | 0 => iprop(xT m d (Fin.cast nCore_zero c) (Fin.cast nSub_zero s) ∗ oT d (Fin.cast nCore_zero c) (Fin.cast nSub_zero s) (outG m d))
  x := fun _ _ => iprop(emp)

instance P_storable : (P (F := F) m).IsStorable where
  st q d c := match q with
    | 0 => (inferInstance : BI.Storable (upEmb : UEmb _ 𝕄) (coreT m d (Fin.cast nCore_zero c) (m (oLoc d))))
  dn q d c := match q with
    | 0 => (inferInstance : BI.Storable (upEmb : UEmb _ 𝕄) (coreT m d (Fin.cast nCore_zero c) (outG m d)))
  go q d c s := match q with
    | 0 => (inferInstance : BI.Storable (upEmb : UEmb _ 𝕄) iprop(xT m d (Fin.cast nCore_zero c) (Fin.cast nSub_zero s) ∗ oT d (Fin.cast nCore_zero c) (Fin.cast nSub_zero s) (m (oLoc d))))
  td q d c s := match q with
    | 0 => (inferInstance : BI.Storable (upEmb : UEmb _ 𝕄) iprop(xT m d (Fin.cast nCore_zero c) (Fin.cast nSub_zero s) ∗ oT d (Fin.cast nCore_zero c) (Fin.cast nSub_zero s) (outG m d)))

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)

abbrev cell0 (d : Dev nD) (L : grid0.Coords) : GSem nD τ sig := (tid d L, .dma cc0_scoped0.sem)
abbrev cell1 (d : Dev nD) (L : grid0.Coords) : GSem nD τ sig := (tid d L, .dma cc0_scoped1.sem)
abbrev cell2 (d : Dev nD) (L : grid0.Coords) : GSem nD τ sig := (tid d L, .dma cc0_scoped2.sem)
abbrev cell3 (d : Dev nD) (L : grid0.Coords) : GSem nD τ sig := (tid d L, .dma cc0_scoped3.sem)

omit [FloatOps F] in
/-- The four copies' semaphores among the subcore's own. -/
theorem ownSems0_V :
    (ownSems0 (tid d L) : sProp 𝕄)
      = iprop(semVal (cell0 d L) 0 ∗ semVal (cell1 d L) 0 ∗ semVal (cell2 d L) 0 ∗ semVal (cell3 d L) 0
          ∗ bigSep (((((ownCells (tid d L)).erase (cell0 d L)).erase (cell1 d L)).erase (cell2 d L)).erase (cell3 d L)) fun g => semVal g 0) := by
  unfold SparseCore.Cfg.ownSems0
  rw [SparseCore.bigSep_erase' ((mem_ownCells (g := cell0 d L)).mpr ⟨rfl, by show (SemLoc.dma cc0_scoped0.sem : SemLoc sig).isScoped .scVector = true; decide⟩),
    SparseCore.bigSep_erase' (Finset.mem_erase.mpr ⟨by simp [cell0, cell1]; decide, (mem_ownCells (g := cell1 d L)).mpr ⟨rfl, by show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide, (mem_ownCells (g := cell2 d L)).mpr ⟨rfl, by show (SemLoc.dma cc0_scoped2.sem : SemLoc sig).isScoped .scVector = true; decide⟩⟩⟩),
    SparseCore.bigSep_erase' (Finset.mem_erase.mpr ⟨by simp [cell2, cell3]; decide, Finset.mem_erase.mpr ⟨by simp [cell1, cell3]; decide, Finset.mem_erase.mpr ⟨by simp [cell0, cell3]; decide, (mem_ownCells (g := cell3 d L)).mpr ⟨rfl, by show (SemLoc.dma cc0_scoped3.sem : SemLoc sig).isScoped .scVector = true; decide⟩⟩⟩⟩)]

omit [FloatOps F] in
/-- The four scratch buffers among the subcore's own. -/
theorem ownBufs_V :
    (ownBufs (tid d L) : sProp 𝕄)
      = iprop((∃ f, (tid d L).loc cc0_scratch0 ↦{fullShare} f) ∗ (∃ f, (tid d L).loc cc0_scratch1 ↦{fullShare} f)
          ∗ (∃ f, (tid d L).loc cc0_scratch2 ↦{fullShare} f) ∗ (∃ f, (tid d L).loc cc0_scratch3 ↦{fullShare} f)
          ∗ bigSep (((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩)]

theorem batch_x (t : Fin k0_t1_loop.trips) :
    (batch d L xV (bOf L t) (Xm m d (bOf L t)) : sProp 𝕄) = bigSep Finset.univ fun k : Fin 16 => xLoc d ↦[cset (bAt (cL L) (jL L) t) k]{fullShare} m (xLoc d) := by
  unfold batch
  refine bigSep_congr fun k _ => ?_
  exact owns_chunk_x d L (bOf L t) k _ (m (xLoc d)) fun r _ c _ => rfl

theorem batchN_o_start (t : Fin k0_t1_loop.trips) (Y : ℕ → ℕ → F .f32) :
    (bigSep Finset.univ fun k : Fin 16 => oLoc d ↦[cset (bAt (cL L) (jL L) t) k]{fullShare} m (oLoc d)) ⊢ (batchN d L oV (bOf L t) Y 0 : sProp 𝕄) := by
  unfold batchN
  refine bigSep_mono fun k _ => ?_
  refine (show (oLoc d ↦[cset (bOf L t) k]{fullShare} m (oLoc d) : sProp 𝕄) ⊢ (iprop(∃ Z : ℕ → ℕ → F .f32, ⌜k.val < 0 → Z = fun r c => Y c (512 * k.val + r)⌝
    ∗ owns (tid d L) (chunk oV (bOf L t) k) fullShare (mk2 (R := 512) Z)) : sProp 𝕄) from ?_)
  iintro H
  iexists (fun r c => m (oLoc d) (at3 (bOf L t).val (512 * k.val + r) c))
  isplitr
  · ipureintro; intro h; exact absurd h (Nat.not_lt_zero _)
  · iapply (Entails.of_eq (owns_chunk_o d L (bOf L t) k _ (m (oLoc d)) fun r _ c _ => rfl).symm)
    iexact H

theorem batchN_o_end (t : Fin k0_t1_loop.trips) :
    (batchN d L oV (bOf L t) (outY (Xm m d (bOf L t))) 16 : sProp 𝕄) ⊢ (bigSep Finset.univ fun k : Fin 16 => oLoc d ↦[cset (bAt (cL L) (jL L) t) k]{fullShare} outG m d) := by
  unfold batchN
  refine bigSep_mono fun k _ => ?_
  refine (show (iprop(∃ Z : ℕ → ℕ → F .f32, ⌜k.val < 16 → Z = fun r c => outY (Xm m d (bOf L t)) c (512 * k.val + r)⌝
    ∗ owns (tid d L) (chunk oV (bOf L t) k) fullShare (mk2 (R := 512) Z)) : sProp 𝕄) ⊢ (oLoc d ↦[cset (bOf L t) k]{fullShare} outG m d : sProp 𝕄) from ?_)
  iintro ⟨%Z, %hZ, H⟩
  iapply (Entails.of_eq (owns_chunk_o d L (bOf L t) k Z (outG m d) fun r hr c hc => by
    rw [hZ k.isLt]
    have hk := k.isLt
    have e0 : (bOf L t).val % 64 = (bOf L t).val := Nat.mod_eq_of_lt (bOf L t).isLt
    have e1 : (512 * k.val + r) % 8192 = 512 * k.val + r := Nat.mod_eq_of_lt (by omega)
    have e2 : c % 32 = c := Nat.mod_eq_of_lt hc
    show outY (Xm m d ⟨(bOf L t).val % 64, _⟩) (c % 32) ((512 * k.val + r) % 8192) = outY (Xm m d (bOf L t)) c (512 * k.val + r)
    rw [e1, e2]
    congr 2
    exact Fin.ext e0))
  iexact H

/-- The tile's turns start from its chunks. -/
theorem turns_start :
    iprop(xT m d (cL L) (jL L) ∗ oT d (cL L) (jL L) (m (oLoc d))) ⊢ (bigSep Finset.univ fun t : Fin k0_t1_loop.trips => turn d L xV oV (Xm m d) 0 t : sProp 𝕄) := by
  unfold xT oT
  rw [← bigSep_sep']
  refine bigSep_mono fun t _ => ?_
  refine (show iprop((bigSep Finset.univ fun k : Fin 16 => xLoc d ↦[cset (bAt (cL L) (jL L) t) k]{fullShare} m (xLoc d)) ∗ (bigSep Finset.univ fun k : Fin 16 => oLoc d ↦[cset (bAt (cL L) (jL L) t) k]{fullShare} m (oLoc d))) ⊢ (turn d L xV oV (Xm m d) 0 t : sProp 𝕄) from ?_)
  unfold turn
  rw [if_neg (Nat.not_lt_zero _)]
  iintro ⟨Hx, Ho⟩
  isplitl [Hx]
  · iapply (Entails.of_eq (batch_x m d L t).symm); iexact Hx
  · iapply (batchN_o_start m d L t _); iexact Ho

/-- The tile's turns end in its chunks, the output's at the kernel's values. -/
theorem turns_end :
    (bigSep Finset.univ fun t : Fin k0_t1_loop.trips => turn d L xV oV (Xm m d) 2 t : sProp 𝕄) ⊢ iprop(xT m d (cL L) (jL L) ∗ oT d (cL L) (jL L) (outG m d)) := by
  unfold xT oT
  rw [← bigSep_sep']
  refine bigSep_mono fun t _ => ?_
  refine (show (turn d L xV oV (Xm m d) 2 t : sProp 𝕄) ⊢ iprop((bigSep Finset.univ fun k : Fin 16 => xLoc d ↦[cset (bAt (cL L) (jL L) t) k]{fullShare} m (xLoc d)) ∗ (bigSep Finset.univ fun k : Fin 16 => oLoc d ↦[cset (bAt (cL L) (jL L) t) k]{fullShare} outG m d)) from ?_)
  unfold turn
  rw [if_pos (show t.val < 2 from t.isLt)]
  iintro ⟨Hx, Ho⟩
  isplitl [Hx]
  · iapply (Entails.of_eq (batch_x m d L t)); iexact Hx
  · iapply (batchN_o_end m d L t); iexact Ho

/-- The task on the tile: from its chunks of both arrays, the output's chunks end at the kernel's values. -/
theorem tile_body (hF : (K (F := F)).Facts) (O : CellTallies nD τ sig (HIx 1)) (W : Waits sig (HIx 1)) (hO : ∀ g, O g none = 0) :
    iprop(levAts (K (F := F)).L (K (F := F)).lev ∗ emp
        ∗ (xT m d (cL L) (jL L) ∗ oT d (cL L) (jL L) (m (oLoc d)))
        ∗ scopedBufs (tid d L) ∗ scopedSems0 (tid d L) ∗ owes (tid d L) O W)
      ⊢ wp frame (wpE (defs₀ (F := F)) 𝒱₀ (tid d L) none) Set.univ
          (cc0__sc_body L xV (Memref.isWhole_whole _) oV (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3)
          fun _ => iprop((xT m d (cL L) (jL L) ∗ oT d (cL L) (jL L) (outG m d))
            ∗ scopedBufs (tid d L) ∗ scopedSems0 (tid d L)
            ∗ ∃ W', ⌜∀ p ∈ W', p ∈ W ∨ p.2 = none⌝ ∗ owes (tid d L) O W') := by
  rw [(K (F := F)).scopedBufs_V hF d (cV L) (jV L), SparseCore.Cfg.scopedSems0_V (Val := Elt F) d (cV L) (jV L), ownSems0_V, ownBufs_V]
  iintro ⟨#Hlv, -, Hgo, ⟨⟨%f0, H0⟩, ⟨%f1, H1⟩, ⟨%f2, H2⟩, ⟨%f3, H3⟩, Hbufs⟩, ⟨Hs0, Hs1, Hs2, Hs3, Hsems⟩, HO⟩
  ihave Hmw := (show levAts (K (F := F)).L (K (F := F)).lev ⊢ Transfers.MayWaits (tid d L) (default : HIx 1) O from
    (K (F := F)).mayWaits_none (thr := tid d L) hO) $$ Hlv
  ihave HT := (turns_start m d L) $$ Hgo
  iapply (wp_wand frame (wpE (defs₀ (F := F)) 𝒱₀ (tid d L) none) Set.univ) $$ [H0 H1 H2 H3 HT Hs0 Hs1 Hs2 Hs3 HO Hmw]
  · iapply (tile_run d L xV (Memref.isWhole_whole _) oV (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 O W (Xm m d))
    unfold turnsI
    isplitl [H0]; · iexists f0; iapply (Entails.of_eq (owns_whole (tid d L) cc0_scratch0 fullShare f0).symm); iexact H0
    isplitl [H1]; · iexists f1; iapply (Entails.of_eq (owns_whole (tid d L) cc0_scratch1 fullShare f1).symm); iexact H1
    isplitl [H2]; · iexists f2; iapply (Entails.of_eq (owns_whole (tid d L) cc0_scratch2 fullShare f2).symm); iexact H2
    isplitl [H3]; · iexists f3; iapply (Entails.of_eq (owns_whole (tid d L) cc0_scratch3 fullShare f3).symm); iexact H3
    isplitl [HT]; · iexact HT
    isplitl [Hs0]; · iexact Hs0
    isplitl [Hs1]; · iexact Hs1
    isplitl [Hs2]; · iexact Hs2
    isplitl [Hs3]; · iexact Hs3
    unfold debt
    isplitl [Hmw]; · iexact Hmw
    iexists W; isplitr
    · ipureintro; exact fun p hp => Or.inl hp
    · iexact HO
  iintro %r HI
  unfold turnsI debt
  icases HI with ⟨⟨%g0, H0⟩, ⟨%g1, H1⟩, ⟨%g2, H2⟩, ⟨%g3, H3⟩, HT, Hs0, Hs1, Hs2, Hs3, -, HO⟩
  isplitl [HT]; · iapply (turns_end m d L); iexact HT
  isplitl [H0 H1 H2 H3 Hbufs]
  · isplitl [H0]; · iexists g0; iapply (Entails.of_eq (owns_whole (tid d L) cc0_scratch0 fullShare g0)); iexact H0
    isplitl [H1]; · iexists g1; iapply (Entails.of_eq (owns_whole (tid d L) cc0_scratch1 fullShare g1)); iexact H1
    isplitl [H2]; · iexists g2; iapply (Entails.of_eq (owns_whole (tid d L) cc0_scratch2 fullShare g2)); iexact H2
    isplitl [H3]; · iexists g3; iapply (Entails.of_eq (owns_whole (tid d L) cc0_scratch3 fullShare g3)); iexact H3
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s) xV (Memref.isWhole_whole _) oV (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task meets what its handshakes promise. -/
theorem tileObl (hF : (K (F := F)).Facts) : (K (F := F)).TileObl (D (F := F)) 𝒱 (P m) v₀ 0 := by
  intro d c s O W hO _ _
  simp only [show (P m).ox = fun _ _ => 0 from rfl, add_zero]
  have hci : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

end Tile

/-! ## The launch -/

theorem split_core (A B : sProp 𝕄) : A ⊢ |={Set.univ}=> iprop(A ∗ (B -∗ B)) := by
  iintro H; imodintro
  isplitl [H]; · iexact H
  iintro H; iexact H

set_option maxHeartbeats 2000000 in
/-- A core's chunks are its tiles' chunks. -/
theorem vecSplit : (K (F := F)).VecSplit' (P m) 0 := fun d c => split_core (coreT m d (Fin.cast nCore_zero c) (m (oLoc d))) (coreT m d (Fin.cast nCore_zero c) (outG m d))

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- The two arrays whole are both cores' chunks. -/
theorem cores_eq (d : Dev nD) (f : Buf (Elt F) (oLoc d)) :
    (bigSep Finset.univ fun c : Fin ((K (F := F)).nCore 0) => coreT m d (Fin.cast nCore_zero c) f)
      = (iprop((xLoc d ↦{fullShare} m (xLoc d)) ∗ oLoc d ↦{fullShare} f) : sProp 𝕄) := by
  rw [x_chunks d (m (xLoc d)), o_chunks d f, ← bigSep_sep']
  show (bigSep Finset.univ fun c : Fin 2 => coreT m d c f) = _
  refine bigSep_congr fun c _ => ?_
  unfold coreT
  rw [← bigSep_sep']
  rfl

theorem st0_eq (d : Dev nD) : (bigSep Finset.univ fun c : Fin ((K (F := F)).nCore 0) => (P m).st 0 d c)
    = (iprop((xLoc d ↦{fullShare} m (xLoc d)) ∗ oLoc d ↦{fullShare} m (oLoc d)) : sProp 𝕄) := cores_eq m d (m (oLoc d))
theorem dn0_eq (d : Dev nD) : (bigSep Finset.univ fun c : Fin ((K (F := F)).nCore 0) => (P m).dn 0 d c)
    = (iprop((xLoc d ↦{fullShare} m (xLoc d)) ∗ oLoc d ↦{fullShare} outG m d) : sProp 𝕄) := cores_eq m d (outG m d)

abbrev FIN (d : Dev nD) : sProp 𝕄 := iprop((xLoc d ↦{fullShare} m (xLoc d)) ∗ oLoc d ↦{fullShare} outG m d)

/-- @main on a device: the one call, from the two arrays to the same arrays, the output at the kernel's values. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ho⟩, Hts, -⟩, -⟩
  iapply ((K (F := F)).wp_run (D (F := F)) 𝒱 (EH := EH) (P := P m) κ d 0) $$ [Hst Hx Ho Hb Hts]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  imodintro
  isplitl [Hst]; · iexact Hst
  isplitr [Hb Hts]
  · iexact Hdn'
  isplitl [Hb] <;> iassumption

def fq (d : Dev nD) (s' : Phys nD τ sig (Elt F)) : Prop := s'.mem.mem (xLoc d) = m (xLoc d) ∧ s'.mem.mem (oLoc d) = outG m d

set_option maxRecDepth 16384 in
theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare) (f := outG m d)) $$ [HSI Ho]
  · isplitl [HSI] <;> iassumption
  icases H with %h2
  ipureintro; exact ⟨funext fun i => h1 i (Finset.mem_univ i), funext fun i => h2 i (Finset.mem_univ i)⟩

/-! ## The program's run -/

/-- The input as it was, the output at the kernel's values, every semaphore at zero. -/
def QC : PUnit × MemSt nD τ sig (Elt F) → Prop := fun r => (∀ c : Dev nD, r.2.mem (xLoc c) = m (xLoc c) ∧ r.2.mem (oLoc c) = outG m c) ∧ r.2.sem = fun _ => 0

/-- The program runs from any memory, at any floats, and ends so. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-- The ideal program runs, its input unchanged, every semaphore at zero. -/
theorem frame_ideal : Cert.quiescent_KernelIdeal := fun m ρ _ =>
  (θ_run Cert.KernelIdeal.defs _ _).mono (fun _ h => ⟨fun c => (h.1 c).1, h.2⟩) (run_main (F := Ideal) m ρ)

end Cert.Proof.Radix
end
-- ==== Proof.Frames.lean ====
/-
The frames of the kernel and of the ideal programs: each runs, leaves its arguments unchanged and every semaphore at zero.
-/
module

public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Proof.Radix

open Idealize.ShloMosaic Idealize.SL.Sem

set_option maxRecDepth 65536 in
/-- The kernel as printed runs, its input unchanged, every semaphore at zero. -/
theorem frame_kernel : Cert.quiescent_Kernel := fun m ρ _ =>
  (θ_run Cert.KernelIdeal.defs _ _).mono (fun _ h => ⟨fun c => (h.1 c).1, h.2⟩) (run_main (F := Bits) m ρ)

/-- The reference runs, its argument unchanged; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Radix
end
-- ==== Proof.Search.lean ====
/-
  The function `one_cut` that states the precondition, cut into its search (31 steps, one bit each) and what is made of
  the word found; and each of the two read at an index.
-/
module

public import proofs.«01_k».proof.Defs
public import Idealize.ShloMosaic.Lib.Pointwise

@[expose] public section

noncomputable section

namespace Cert.Proof.Radix

open Idealize.ShloMosaic
open Cert.Pre_one_cut Cert.Pre_one_cut.Facts

/-- The function's side conditions. -/
instance preFacts : Cert.Pre_one_cut.Facts where
  reducesTo_S64x8192x32_S64x32_d1 := by decide
  h_S_ := by decide
  bcast_S64x32_S64x1x32_0_2 := by decide
  bcast_S_S64x1x32 := by decide
  bcast_S64x1x32_S64x8192x32_0_1_2 := by decide
  bcast_S_S64x8192x32 := by decide

variable {F : FTy → Type} [FloatOps F]

/-- The sums down the columns. -/
def sums (w : FVec F S64x8192x32 .f32) (z : FVec F S_ .f32) : FVec F S64x32 .f32 :=
  Host.reduceAdd w z reducesTo_S64x8192x32_S64x32_d1 h_S_

/-- One step of the search, at the bit `w`: the word is moved up by `w` in the columns whose elements at and above the
    new word's number still sum to the share `h`. -/
def cutStep (e : FVec F S64x8192x32 .f32) (h : FVec F S64x1x32 .f32) (w : BitVec 32) (t : IVec S64x1x32 32) : IVec S64x1x32 32 :=
  fn_where_0 (F := F) (cmpf .oge (broadcastInDim S64x1x32 ![0, 2] bcast_S64x32_S64x1x32_0_2 (sums (fn_where (F := F)
      (cmpf .oge e (broadcastInDim S64x8192x32 ![0, 1, 2] bcast_S64x1x32_S64x8192x32_0_1_2
        (bitcastToFloat .f32 (addi t (broadcastInDim S64x1x32 ![] bcast_S_S64x1x32 (constantI S_ 32 w))))))
      e (constant S_ .f32 0x00000000#32)) (constant S_ .f32 0x00000000#32))) h)
    (addi t (broadcastInDim S64x1x32 ![] bcast_S_S64x1x32 (constantI S_ 32 w))) t

/-- The last `n` steps. -/
def cutRun (e : FVec F S64x8192x32 .f32) (h : FVec F S64x1x32 .f32) : ℕ → IVec S64x1x32 32 → IVec S64x1x32 32
  | 0, t => t
  | n + 1, t => cutRun e h n (cutStep e h (BitVec.ofNat 32 (2 ^ n)) t)

theorem cutRun_succ (e : FVec F S64x8192x32 .f32) (h : FVec F S64x1x32 .f32) (n : ℕ) (w : BitVec 32) (hw : BitVec.ofNat 32 (2 ^ n) = w)
    (t : IVec S64x1x32 32) : cutRun e h (n + 1) t = cutRun e h n (cutStep e h w t) := by
  subst hw; rfl

/-- The elements at and above the word's number. -/
def cutKept (e : FVec F S64x8192x32 .f32) (t : IVec S64x1x32 32) : IVec S64x8192x32 1 :=
  cmpf .oge e (broadcastInDim S64x8192x32 ![0, 1, 2] bcast_S64x1x32_S64x8192x32_0_1_2 (bitcastToFloat .f32 t))

/-- The kept elements' sum, -/
def cutMass (e : FVec F S64x8192x32 .f32) (t : IVec S64x1x32 32) : FVec F S64x1x32 .f32 :=
  broadcastInDim S64x1x32 ![0, 2] bcast_S64x32_S64x1x32_0_2
    (sums (fn_where (F := F) (cutKept e t) e (constant S_ .f32 0x00000000#32)) (constant S_ .f32 0x00000000#32))

/-- and the least of them. -/
def cutLeast (e : FVec F S64x8192x32 .f32) (t : IVec S64x1x32 32) : FVec F S64x1x32 .f32 :=
  broadcastInDim S64x1x32 ![0, 2] bcast_S64x32_S64x1x32_0_2
    (Host.reduce FloatOps.minimumf (fn_where (F := F) (cutKept e t) e (constant S_ .f32 0x7F800000#32)) (constant S_ .f32 0x7F800000#32)
      reducesTo_S64x8192x32_S64x32_d1 h_S_)

/-- The word of the first key of the bin that holds the word. -/
def cutLow (t : IVec S64x1x32 32) : IVec S64x1x32 32 :=
  Host.shli (Host.shrui t (broadcastInDim S64x1x32 ![] bcast_S_S64x1x32 (constantI S_ 32 20#32)))
    (broadcastInDim S64x1x32 ![] bcast_S_S64x1x32 (constantI S_ 32 20#32))

/-- The elements of that bin, -/
def cutBin (e : FVec F S64x8192x32 .f32) (t : IVec S64x1x32 32) : IVec S64x8192x32 1 :=
  andi (cmpf .oge e (broadcastInDim S64x8192x32 ![0, 1, 2] bcast_S64x1x32_S64x8192x32_0_1_2 (bitcastToFloat .f32 (cutLow t))))
    (cmpf .olt e (broadcastInDim S64x8192x32 ![0, 1, 2] bcast_S64x1x32_S64x8192x32_0_1_2
      (bitcastToFloat .f32 (addi (cutLow t) (broadcastInDim S64x1x32 ![] bcast_S_S64x1x32 (constantI S_ 32 1048576#32))))))

/-- and whether they are at most 520. -/
def cutFits (e : FVec F S64x8192x32 .f32) (t : IVec S64x1x32 32) : IVec S64x1x32 1 :=
  cmpi .sle (broadcastInDim S64x1x32 ![0, 2] bcast_S64x32_S64x1x32_0_2
      (Host.reduce IntOp.addi (fn_where_1 (F := F) (cutBin e t) (constantI S_ 32 1#32) (constantI S_ 32 0#32)) (constantI S_ 32 0#32)
        reducesTo_S64x8192x32_S64x32_d1 h_S_))
    (broadcastInDim S64x1x32 ![] bcast_S_S64x1x32 (constantI S_ 32 520#32))

/-- What is made of the word found. -/
def cutTail (e : FVec F S64x8192x32 .f32) (h : FVec F S64x1x32 .f32) (t : IVec S64x1x32 32) : IVec S64x1x32 1 :=
  andi (cmpf .olt (subf (cutMass e t) (cutLeast e t)) h) (cutFits e t)

/-- The kept share of the columns' sums. -/
def cutShare (e : FVec F S64x8192x32 .f32) : FVec F S64x1x32 .f32 :=
  mulf (broadcastInDim S64x1x32 ![] bcast_S_S64x1x32 (constant S_ .f32 0x3F5C28F6#32))
    (broadcastInDim S64x1x32 ![0, 2] bcast_S64x32_S64x1x32_0_2 (sums e (constant S_ .f32 0x00000000#32)))

/-! The function's pieces, from the last: each is the rest of the search and what follows it. -/

private theorem part17 (e : FVec F S64x8192x32 .f32) (h : FVec F S64x1x32 .f32) (v305 : IVec S64x1x32 32) (v307 : IVec S64x1x32 32) (v311 : FVec F S64x8192x32 .f32) (z93 : FVec F S_ .f32) :
    fn_part17 (F := F) e h v305 v307 v311 z93 = cutTail e h (cutRun e h 0 (fn_where_0 (F := F) (cmpf .oge (broadcastInDim S64x1x32 ![0, 2] bcast_S64x32_S64x1x32_0_2 (sums v311 z93)) h) v307 v305)) := rfl

private theorem part16 (e : FVec F S64x8192x32 .f32) (h : FVec F S64x1x32 .f32) (v285 : IVec S64x1x32 32) (v287 : IVec S64x1x32 32) (v293 : FVec F S64x1x32 .f32) :
    fn_part16 (F := F) e h v285 v287 v293 = cutTail e h (cutRun e h 2 (fn_where_0 (F := F) (cmpf .oge v293 h) v287 v285)) := by
  unfold fn_part16
  refine (part17 ..).trans (congrArg (cutTail e h) ?_)
  refine Eq.trans ?_ (cutRun_succ e h 1 2#32 (by decide) _).symm
  refine Eq.trans ?_ (cutRun_succ e h 0 1#32 (by decide) _).symm
  exact congrArg (cutRun e h 0) rfl

private theorem part15 (e : FVec F S64x8192x32 .f32) (h : FVec F S64x1x32 .f32) (v275 : IVec S64x1x32 32) :
    fn_part15 (F := F) e h v275 = cutTail e h (cutRun e h 3 (fn_where_0 (F := F) (cmpf .oge (broadcastInDim S64x1x32 ![0, 2] bcast_S64x32_S64x1x32_0_2 (sums (fn_where (F := F) (cmpf .oge e (broadcastInDim S64x8192x32 ![0, 1, 2] bcast_S64x1x32_S64x8192x32_0_1_2 (bitcastToFloat .f32 (addi v275 (broadcastInDim S64x1x32 ![] bcast_S_S64x1x32 (constantI S_ 32 8#32)))))) e (constant S_ .f32 0x00000000#32)) (constant S_ .f32 0x00000000#32))) h) (addi v275 (broadcastInDim S64x1x32 ![] bcast_S_S64x1x32 (constantI S_ 32 8#32))) v275)) := by
  unfold fn_part15
  refine (part16 ..).trans (congrArg (cutTail e h) ?_)
  refine Eq.trans ?_ (cutRun_succ e h 2 4#32 (by decide) _).symm
  exact congrArg (cutRun e h 2) rfl

private theorem part14 (e : FVec F S64x8192x32 .f32) (h : FVec F S64x1x32 .f32) (v255 : IVec S64x1x32 32) (v256 : IVec S64x1x32 32) :
    fn_part14 (F := F) e h v255 v256 = cutTail e h (cutRun e h 5 (fn_where_0 (F := F) (cmpf .oge (broadcastInDim S64x1x32 ![0, 2] bcast_S64x32_S64x1x32_0_2 (sums (fn_where (F := F) (cmpf .oge e (broadcastInDim S64x8192x32 ![0, 1, 2] bcast_S64x1x32_S64x8192x32_0_1_2 (bitcastToFloat .f32 (addi v255 v256)))) e (constant S_ .f32 0x00000000#32)) (constant S_ .f32 0x00000000#32))) h) (addi v255 v256) v255)) := by
  unfold fn_part14
  refine (part15 ..).trans (congrArg (cutTail e h) ?_)
  refine Eq.trans ?_ (cutRun_succ e h 4 16#32 (by decide) _).symm
  refine Eq.trans ?_ (cutRun_succ e h 3 8#32 (by decide) _).symm
  exact congrArg (cutRun e h 3) rfl

private theorem part13 (e : FVec F S64x8192x32 .f32) (h : FVec F S64x1x32 .f32) (v235 : IVec S64x1x32 32) (v237 : IVec S64x1x32 32) (v238 : FVec F S64x1x32 .f32) :
    fn_part13 (F := F) e h v235 v237 v238 = cutTail e h (cutRun e h 7 (fn_where_0 (F := F) (cmpf .oge (broadcastInDim S64x1x32 ![0, 2] bcast_S64x32_S64x1x32_0_2 (sums (fn_where (F := F) (cmpf .oge e (broadcastInDim S64x8192x32 ![0, 1, 2] bcast_S64x1x32_S64x8192x32_0_1_2 v238)) e (constant S_ .f32 0x00000000#32)) (constant S_ .f32 0x00000000#32))) h) v237 v235)) := by
  unfold fn_part13
  refine (part14 ..).trans (congrArg (cutTail e h) ?_)
  refine Eq.trans ?_ (cutRun_succ e h 6 64#32 (by decide) _).symm
  refine Eq.trans ?_ (cutRun_succ e h 5 32#32 (by decide) _).symm
  exact congrArg (cutRun e h 5) rfl

private theorem part12 (e : FVec F S64x8192x32 .f32) (h : FVec F S64x1x32 .f32) (v215 : IVec S64x1x32 32) (v217 : IVec S64x1x32 32) (v220 : IVec S64x8192x32 1) :
    fn_part12 (F := F) e h v215 v217 v220 = cutTail e h (cutRun e h 9 (fn_where_0 (F := F) (cmpf .oge (broadcastInDim S64x1x32 ![0, 2] bcast_S64x32_S64x1x32_0_2 (sums (fn_where (F := F) v220 e (constant S_ .f32 0x00000000#32)) (constant S_ .f32 0x00000000#32))) h) v217 v215)) := by
  unfold fn_part12
  refine (part13 ..).trans (congrArg (cutTail e h) ?_)
  refine Eq.trans ?_ (cutRun_succ e h 8 256#32 (by decide) _).symm
  refine Eq.trans ?_ (cutRun_succ e h 7 128#32 (by decide) _).symm
  exact congrArg (cutRun e h 7) rfl

private theorem part11 (e : FVec F S64x8192x32 .f32) (h : FVec F S64x1x32 .f32) (v195 : IVec S64x1x32 32) (v197 : IVec S64x1x32 32) (v201 : FVec F S64x8192x32 .f32) :
    fn_part11 (F := F) e h v195 v197 v201 = cutTail e h (cutRun e h 11 (fn_where_0 (F := F) (cmpf .oge (broadcastInDim S64x1x32 ![0, 2] bcast_S64x32_S64x1x32_0_2 (sums v201 (constant S_ .f32 0x00000000#32))) h) v197 v195)) := by
  unfold fn_part11
  refine (part12 ..).trans (congrArg (cutTail e h) ?_)
  refine Eq.trans ?_ (cutRun_succ e h 10 1024#32 (by decide) _).symm
  refine Eq.trans ?_ (cutRun_succ e h 9 512#32 (by decide) _).symm
  exact congrArg (cutRun e h 9) rfl

private theorem part10 (e : FVec F S64x8192x32 .f32) (h : FVec F S64x1x32 .f32) (v175 : IVec S64x1x32 32) (v177 : IVec S64x1x32 32) (v182 : FVec F S64x32 .f32) :
    fn_part10 (F := F) e h v175 v177 v182 = cutTail e h (cutRun e h 13 (fn_where_0 (F := F) (cmpf .oge (broadcastInDim S64x1x32 ![0, 2] bcast_S64x32_S64x1x32_0_2 v182) h) v177 v175)) := by
  unfold fn_part10
  refine (part11 ..).trans (congrArg (cutTail e h) ?_)
  refine Eq.trans ?_ (cutRun_succ e h 12 4096#32 (by decide) _).symm
  refine Eq.trans ?_ (cutRun_succ e h 11 2048#32 (by decide) _).symm
  exact congrArg (cutRun e h 11) rfl

private theorem part9 (e : FVec F S64x8192x32 .f32) (h : FVec F S64x1x32 .f32) (v155 : IVec S64x1x32 32) (v157 : IVec S64x1x32 32) (v164 : IVec S64x1x32 1) :
    fn_part9 (F := F) e h v155 v157 v164 = cutTail e h (cutRun e h 15 (fn_where_0 (F := F) v164 v157 v155)) := by
  unfold fn_part9
  refine (part10 ..).trans (congrArg (cutTail e h) ?_)
  refine Eq.trans ?_ (cutRun_succ e h 14 16384#32 (by decide) _).symm
  refine Eq.trans ?_ (cutRun_succ e h 13 8192#32 (by decide) _).symm
  exact congrArg (cutRun e h 13) rfl

private theorem part8 (e : FVec F S64x8192x32 .f32) (h : FVec F S64x1x32 .f32) (v145 : IVec S64x1x32 32) (c_43 : IVec S_ 32) :
    fn_part8 (F := F) e h v145 c_43 = cutTail e h (cutRun e h 16 (fn_where_0 (F := F) (cmpf .oge (broadcastInDim S64x1x32 ![0, 2] bcast_S64x32_S64x1x32_0_2 (sums (fn_where (F := F) (cmpf .oge e (broadcastInDim S64x8192x32 ![0, 1, 2] bcast_S64x1x32_S64x8192x32_0_1_2 (bitcastToFloat .f32 (addi v145 (broadcastInDim S64x1x32 ![] bcast_S_S64x1x32 c_43))))) e (constant S_ .f32 0x00000000#32)) (constant S_ .f32 0x00000000#32))) h) (addi v145 (broadcastInDim S64x1x32 ![] bcast_S_S64x1x32 c_43)) v145)) := by
  unfold fn_part8
  refine (part9 ..).trans (congrArg (cutTail e h) ?_)
  refine Eq.trans ?_ (cutRun_succ e h 15 32768#32 (by decide) _).symm
  exact congrArg (cutRun e h 15) rfl

private theorem part7 (e : FVec F S64x8192x32 .f32) (h : FVec F S64x1x32 .f32) (v125 : IVec S64x1x32 32) (v127 : IVec S64x1x32 32) :
    fn_part7 (F := F) e h v125 v127 = cutTail e h (cutRun e h 18 (fn_where_0 (F := F) (cmpf .oge (broadcastInDim S64x1x32 ![0, 2] bcast_S64x32_S64x1x32_0_2 (sums (fn_where (F := F) (cmpf .oge e (broadcastInDim S64x8192x32 ![0, 1, 2] bcast_S64x1x32_S64x8192x32_0_1_2 (bitcastToFloat .f32 v127))) e (constant S_ .f32 0x00000000#32)) (constant S_ .f32 0x00000000#32))) h) v127 v125)) := by
  unfold fn_part7
  refine (part8 ..).trans (congrArg (cutTail e h) ?_)
  refine Eq.trans ?_ (cutRun_succ e h 17 131072#32 (by decide) _).symm
  refine Eq.trans ?_ (cutRun_succ e h 16 65536#32 (by decide) _).symm
  exact congrArg (cutRun e h 16) rfl

private theorem part6 (e : FVec F S64x8192x32 .f32) (h : FVec F S64x1x32 .f32) (v105 : IVec S64x1x32 32) (v107 : IVec S64x1x32 32) (v109 : FVec F S64x8192x32 .f32) :
    fn_part6 (F := F) e h v105 v107 v109 = cutTail e h (cutRun e h 20 (fn_where_0 (F := F) (cmpf .oge (broadcastInDim S64x1x32 ![0, 2] bcast_S64x32_S64x1x32_0_2 (sums (fn_where (F := F) (cmpf .oge e v109) e (constant S_ .f32 0x00000000#32)) (constant S_ .f32 0x00000000#32))) h) v107 v105)) := by
  unfold fn_part6
  refine (part7 ..).trans (congrArg (cutTail e h) ?_)
  refine Eq.trans ?_ (cutRun_succ e h 19 524288#32 (by decide) _).symm
  refine Eq.trans ?_ (cutRun_succ e h 18 262144#32 (by decide) _).symm
  exact congrArg (cutRun e h 18) rfl

private theorem part5 (e : FVec F S64x8192x32 .f32) (h : FVec F S64x1x32 .f32) (v85 : IVec S64x1x32 32) (v87 : IVec S64x1x32 32) (v90 : IVec S64x8192x32 1) (z26 : FVec F S_ .f32) :
    fn_part5 (F := F) e h v85 v87 v90 z26 = cutTail e h (cutRun e h 22 (fn_where_0 (F := F) (cmpf .oge (broadcastInDim S64x1x32 ![0, 2] bcast_S64x32_S64x1x32_0_2 (sums (fn_where (F := F) v90 e z26) (constant S_ .f32 0x00000000#32))) h) v87 v85)) := by
  unfold fn_part5
  refine (part6 ..).trans (congrArg (cutTail e h) ?_)
  refine Eq.trans ?_ (cutRun_succ e h 21 2097152#32 (by decide) _).symm
  refine Eq.trans ?_ (cutRun_succ e h 20 1048576#32 (by decide) _).symm
  exact congrArg (cutRun e h 20) rfl

private theorem part4 (e : FVec F S64x8192x32 .f32) (h : FVec F S64x1x32 .f32) (v65 : IVec S64x1x32 32) (v67 : IVec S64x1x32 32) (v71 : FVec F S64x8192x32 .f32) (z21 : FVec F S_ .f32) :
    fn_part4 (F := F) e h v65 v67 v71 z21 = cutTail e h (cutRun e h 24 (fn_where_0 (F := F) (cmpf .oge (broadcastInDim S64x1x32 ![0, 2] bcast_S64x32_S64x1x32_0_2 (sums v71 z21)) h) v67 v65)) := by
  unfold fn_part4
  refine (part5 ..).trans (congrArg (cutTail e h) ?_)
  refine Eq.trans ?_ (cutRun_succ e h 23 8388608#32 (by decide) _).symm
  refine Eq.trans ?_ (cutRun_succ e h 22 4194304#32 (by decide) _).symm
  exact congrArg (cutRun e h 22) rfl

private theorem part3 (e : FVec F S64x8192x32 .f32) (h : FVec F S64x1x32 .f32) (v45 : IVec S64x1x32 32) (v47 : IVec S64x1x32 32) (v53 : FVec F S64x1x32 .f32) :
    fn_part3 (F := F) e h v45 v47 v53 = cutTail e h (cutRun e h 26 (fn_where_0 (F := F) (cmpf .oge v53 h) v47 v45)) := by
  unfold fn_part3
  refine (part4 ..).trans (congrArg (cutTail e h) ?_)
  refine Eq.trans ?_ (cutRun_succ e h 25 33554432#32 (by decide) _).symm
  refine Eq.trans ?_ (cutRun_succ e h 24 16777216#32 (by decide) _).symm
  exact congrArg (cutRun e h 24) rfl

private theorem part2 (e : FVec F S64x8192x32 .f32) (h : FVec F S64x1x32 .f32) (v35 : IVec S64x1x32 32) :
    fn_part2 (F := F) e h v35 = cutTail e h (cutRun e h 27 (fn_where_0 (F := F) (cmpf .oge (broadcastInDim S64x1x32 ![0, 2] bcast_S64x32_S64x1x32_0_2 (sums (fn_where (F := F) (cmpf .oge e (broadcastInDim S64x8192x32 ![0, 1, 2] bcast_S64x1x32_S64x8192x32_0_1_2 (bitcastToFloat .f32 (addi v35 (broadcastInDim S64x1x32 ![] bcast_S_S64x1x32 (constantI S_ 32 134217728#32)))))) e (constant S_ .f32 0x00000000#32)) (constant S_ .f32 0x00000000#32))) h) (addi v35 (broadcastInDim S64x1x32 ![] bcast_S_S64x1x32 (constantI S_ 32 134217728#32))) v35)) := by
  unfold fn_part2
  refine (part3 ..).trans (congrArg (cutTail e h) ?_)
  refine Eq.trans ?_ (cutRun_succ e h 26 67108864#32 (by decide) _).symm
  exact congrArg (cutRun e h 26) rfl

private theorem part1 (e : FVec F S64x8192x32 .f32) (h : FVec F S64x1x32 .f32) (v15 : IVec S64x1x32 32) (v16 : IVec S64x1x32 32) :
    fn_part1 (F := F) e h v15 v16 = cutTail e h (cutRun e h 29 (fn_where_0 (F := F) (cmpf .oge (broadcastInDim S64x1x32 ![0, 2] bcast_S64x32_S64x1x32_0_2 (sums (fn_where (F := F) (cmpf .oge e (broadcastInDim S64x8192x32 ![0, 1, 2] bcast_S64x1x32_S64x8192x32_0_1_2 (bitcastToFloat .f32 (addi v15 v16)))) e (constant S_ .f32 0x00000000#32)) (constant S_ .f32 0x00000000#32))) h) (addi v15 v16) v15)) := by
  unfold fn_part1
  refine (part2 ..).trans (congrArg (cutTail e h) ?_)
  refine Eq.trans ?_ (cutRun_succ e h 28 268435456#32 (by decide) _).symm
  refine Eq.trans ?_ (cutRun_succ e h 27 134217728#32 (by decide) _).symm
  exact congrArg (cutRun e h 27) rfl

/-- The function is the search's 31 steps from the word 0 and what follows them. -/
theorem one_cut_eq (x : FVec F S64x8192x32 .f32) :
    fn (F := F) x = cutTail (Host.exp x) (cutShare (Host.exp x))
      (cutRun (Host.exp x) (cutShare (Host.exp x)) 31 (broadcastInDim S64x1x32 ![] bcast_S_S64x1x32 (constantI S_ 32 0#32))) := by
  unfold fn
  refine (part1 ..).trans (congrArg (cutTail _ _) ?_)
  refine Eq.trans ?_ (cutRun_succ _ _ 30 1073741824#32 (by decide) _).symm
  refine Eq.trans ?_ (cutRun_succ _ _ 29 536870912#32 (by decide) _).symm
  exact congrArg (cutRun _ _ 29) rfl

end Cert.Proof.Radix
end
-- ==== Proof.Reads.lean ====
/-
  The precondition's pieces read at an index, on the extended reals.
-/
module

public import proofs.«01_k».proof.Proof.Search

@[expose] public section

set_option maxRecDepth 16384

noncomputable section

namespace Cert.Proof.Radix

open Idealize.ShloMosaic
open Cert.Pre_one_cut Cert.Pre_one_cut.Facts

/-- A step moves the column's word up by `w` if the elements at and above the new word's number sum to the share. -/
theorem cutStep_at (e : FVec Ideal S64x8192x32 .f32) (h : FVec Ideal S64x1x32 .f32) (w : BitVec 32) (t : IVec S64x1x32 32) (b : Fin 64) (c : Fin 32) :
    cutStep e h w t (ix3 b 0 c) = if (h (ix3 b 0 c) : EReal)
        ≤ ∑ k : Fin 8192, (if Ideal.ofBits .f32 (t (ix3 b 0 c) + w) ≤ e (ix3 b k c) then (e (ix3 b k c) : EReal) else 0)
      then t (ix3 b 0 c) + w else t (ix3 b 0 c) := by
  pointwise [cutStep, sums, fn_where, fn_where_0]
  have z : (id (constant S_ .f32 0#32 : FVec Ideal S_ .f32) ix0 : EReal) = 0 := by
    show Ideal.ofBits .f32 0#32 = 0
    simp [Ideal.ofBits, Ideal.ieee]
  rw [z]
  rfl

/-- The kept elements' sum, -/
theorem cutMass_at (e : FVec Ideal S64x8192x32 .f32) (t : IVec S64x1x32 32) (b : Fin 64) (c : Fin 32) :
    cutMass e t (ix3 b 0 c)
      = ∑ k : Fin 8192, (if Ideal.ofBits .f32 (t (ix3 b 0 c)) ≤ e (ix3 b k c) then (e (ix3 b k c) : EReal) else 0) := by
  pointwise [cutMass, cutKept, sums, fn_where]
  have z : (id (constant S_ .f32 0#32 : FVec Ideal S_ .f32) ix0 : EReal) = 0 := by
    show Ideal.ofBits .f32 0#32 = 0
    simp [Ideal.ofBits, Ideal.ieee]
  rw [z]

/-- the least of them, -/
theorem cutLeast_at (e : FVec Ideal S64x8192x32 .f32) (t : IVec S64x1x32 32) (b : Fin 64) (c : Fin 32) :
    cutLeast e t (ix3 b 0 c) = Finset.univ.fold min (⊤ : EReal)
      fun k : Fin 8192 => if Ideal.ofBits .f32 (t (ix3 b 0 c)) ≤ e (ix3 b k c) then (e (ix3 b k c) : EReal) else ⊤ := by
  pointwise [cutLeast, cutKept, fn_where]
  have z : Ideal.ofBits .f32 2139095040#32 = ⊤ := by
    simp [Ideal.ofBits, Ideal.ieee]
  have z' : (id (constant S_ .f32 2139095040#32 : FVec Ideal S_ .f32) ix0 : EReal) = ⊤ := z
  rw [z, z']

/-- whether the bin's elements are at most 520, -/
theorem cutFits_at (e : FVec Ideal S64x8192x32 .f32) (t : IVec S64x1x32 32) (b : Fin 64) (c : Fin 32) :
    cutFits e t (ix3 b 0 c) = IntOp.cmpi .sle (Finset.univ.fold IntOp.addi 0#32 fun k : Fin 8192 => Scalar.select (IntOp.andi
        (BitVec.ofBool (decide (Ideal.ofBits .f32 (IntOp.shli .host (IntOp.shrui .host (t (ix3 b 0 c)) 20#32) 20#32) ≤ e (ix3 b k c))))
        (BitVec.ofBool (decide (e (ix3 b k c)
          < Ideal.ofBits .f32 (IntOp.addi (IntOp.shli .host (IntOp.shrui .host (t (ix3 b 0 c)) 20#32) 20#32) 1048576#32))))) 1#32 0#32) 520#32 := by
  pointwise [cutFits, cutBin, cutLow, fn_where_1]

/-- the two conditions together, -/
theorem cutTail_at (e : FVec Ideal S64x8192x32 .f32) (h : FVec Ideal S64x1x32 .f32) (t : IVec S64x1x32 32) (b : Fin 64) (c : Fin 32) :
    cutTail e h t (ix3 b 0 c) = IntOp.andi
        (BitVec.ofBool (decide ((cutMass e t (ix3 b 0 c) : EReal) - cutLeast e t (ix3 b 0 c) < h (ix3 b 0 c))))
      (cutFits e t (ix3 b 0 c)) := by
  unfold cutTail
  generalize cutMass e t = m
  generalize cutLeast e t = l
  generalize cutFits e t = f
  rfl

/-- and the share. -/
theorem cutShare_at (e : FVec Ideal S64x8192x32 .f32) (b : Fin 64) (c : Fin 32) :
    cutShare e (ix3 b 0 c) = Ideal.ofBits .f32 0x3F5C28F6#32 * ∑ k : Fin 8192, (e (ix3 b k c) : EReal) := by
  pointwise [cutShare, sums]

end Cert.Proof.Radix
end
-- ==== Proof.Words.lean ====
/-
  Words and the numbers they stand for, on the extended reals: the words below `255 * 2^23` stand for increasing
  numbers, the word `255 * 2^23` for the infinity. The bitwise search finds the greatest place of a decreasing
  predicate, and it never meets a word beyond the infinity's, so the key of a finite positive number is the greatest
  word whose number is at most it.
-/
module

public import proofs.«01_k».proof.Proof.Model
public import Idealize.ShloMosaic.Lib.TotalOrder

@[expose] public section

noncomputable section

namespace Cert.Proof.Radix

open Idealize.ShloMosaic

/-! ## The bitwise search -/

/-- Of a decreasing predicate the search finds the greatest place: below `2^m`, a place is at most the one found if and
    only if it is 0 or the predicate holds there. -/
theorem le_bs (P : ℕ → Prop) [DecidablePred P] {m : ℕ} (anti : ∀ s t, s ≤ t → P t → P s) {r : ℕ} (hr : r < 2 ^ m) :
    r ≤ bs P m m ↔ r = 0 ∨ P r := by
  have key : ∀ n ≤ m, (bs P m n = 0 ∨ P (bs P m n)) ∧ ∀ r < 2 ^ m, bs P m n + 2 ^ (m - n) ≤ r → ¬ P r := by
    intro n
    induction n with
    | zero => intro _; exact ⟨Or.inl rfl, fun r hr h => by simp [bs_zero] at h; omega⟩
    | succ n ih =>
      intro hn
      obtain ⟨h1, h2⟩ := ih (by omega)
      have hp := pow_step (m := m) (n := n) (by omega)
      rw [bs_succ, show m - (n + 1) = m - 1 - n by omega]
      by_cases h : P (bs P m n + 2 ^ (m - 1 - n))
      · rw [if_pos h]
        exact ⟨Or.inr h, fun r hr hle => h2 r hr (by omega)⟩
      · rw [if_neg h]
        exact ⟨h1, fun r _ hle hP => h (anti _ _ hle hP)⟩
  obtain ⟨h1, h2⟩ := key m le_rfl
  rw [Nat.sub_self, pow_zero] at h2
  constructor
  · intro h
    rcases h1 with h1 | h1
    · left; omega
    · right; exact anti _ _ h h1
  · rintro (h | h)
    · omega
    · by_contra hc
      exact h2 r hr (by omega) h

/-- Two predicates that agree below the infinity's word `255 * 2^23` and both fail at it have one search: the search
    never asks beyond that word. -/
theorem bs_congr_below (P Q : ℕ → Prop) [DecidablePred P] [DecidablePred Q] (h : ∀ t < 255 * 2 ^ 23, P t ↔ Q t)
    (hP : ¬ P (255 * 2 ^ 23)) (hQ : ¬ Q (255 * 2 ^ 23)) {n : ℕ} (hn : n ≤ 31) :
    bs P 31 n = bs Q 31 n ∧ bs P 31 n < 255 * 2 ^ 23 := by
  induction n with
  | zero => exact ⟨rfl, by rw [bs_zero]; norm_num⟩
  | succ n ih =>
    obtain ⟨h1, h2⟩ := ih (by omega)
    have hd : 2 ^ (31 - n) ∣ bs P 31 n := bs_dvd P (by omega)
    have hlt : bs P 31 n + 2 ^ (31 - 1 - n) ≤ 255 * 2 ^ 23 := by
      have : n < 31 := by omega
      clear h1 ih
      generalize bs P 31 n = b at *
      norm_num at h2 ⊢
      interval_cases n <;> norm_num at hd ⊢ <;> omega
    rw [bs_succ, bs_succ, ← h1]
    rcases hlt.eq_or_lt with he | hl
    · rw [he, if_neg hP, if_neg hQ]
      exact ⟨rfl, h2⟩
    · by_cases hp : P (bs P 31 n + 2 ^ (31 - 1 - n))
      · rw [if_pos hp, if_pos ((h _ hl).mp hp)]; exact ⟨rfl, hl⟩
      · rw [if_neg hp, if_neg (fun hq => hp ((h _ hl).mpr hq))]; exact ⟨rfl, h2⟩

/-! ## The numbers of words -/

/-- The number of a word. -/
def val (t : ℕ) : EReal := Ideal.ofBits .f32 (BitVec.ofNat 32 t)

private theorem toNat_word {t : ℕ} (h : t < 2 ^ 31) : (BitVec.ofNat 32 t).toNat = t := by
  rw [BitVec.toNat_ofNat]; omega

/-- The words below the infinity's stand for increasing numbers. -/
theorem val_lt {s t : ℕ} (h : s < t) (ht : t ≤ 255 * 2 ^ 23) : val s < val t := by
  have hs : s < 2 ^ 31 := by omega
  have ht' : t < 2 ^ 31 := by omega
  have nn : ∀ u ≤ 255 * 2 ^ 23, ¬ TotalOrder.IsNaN 8 23 (BitVec.ofNat 32 u) := by
    intro u hu
    unfold TotalOrder.IsNaN
    rw [TotalOrder.expo_eq, TotalOrder.frac_eq, toNat_word (by omega)]
    omega
  have ms : ∀ u < 2 ^ 31, (BitVec.ofNat 32 u).msb = false := by
    intro u hu
    rw [BitVec.msb_eq_false_iff_two_mul_lt, toNat_word hu]; omega
  have mg : ∀ u < 2 ^ 31, TotalOrder.mag 8 23 (BitVec.ofNat 32 u) = u := by
    intro u hu
    unfold TotalOrder.mag
    rw [TotalOrder.expo_eq, TotalOrder.frac_eq, toNat_word hu]
    omega
  refine (TotalOrder.lt_iff (e := 8) (m := 23) (nn s (by omega)) (nn t ht) ?_).mp ?_
  · rintro ⟨_, _, h3⟩
    exact h3 (by rw [ms s hs, ms t ht'])
  · refine (TotalOrder.toNat_totalOrderKey_lt_iff (e := 8) (m := 23) _ _).mpr ?_
    exact Or.inr (Or.inl ⟨ms s hs, ms t ht', by rw [mg s hs, mg t ht']; exact h⟩)

theorem val_le {s t : ℕ} (h : s ≤ t) (ht : t ≤ 255 * 2 ^ 23) : val s ≤ val t := by
  rcases h.eq_or_lt with h | h
  · rw [h]
  · exact (val_lt h ht).le

/-- The word 0 stands for 0, -/
theorem val_zero : val 0 = 0 := by
  unfold val; simp [Ideal.ofBits, Ideal.ieee]

/-- and the infinity's word for the infinity. -/
theorem val_inf : val (255 * 2 ^ 23) = ⊤ := by
  unfold val; simp [Ideal.ofBits, Ideal.ieee]

/-! ## The key of a finite number -/

/-- A word is at most the key of a finite positive number if and only if its number is at most it; the key is below
    the infinity's word. -/
theorem key_spec {e : EReal} (h0 : 0 ≤ e) (h1 : e < ⊤) :
    key (F := Ideal) e < 255 * 2 ^ 23 ∧ ∀ t < 255 * 2 ^ 23, t ≤ key (F := Ideal) e ↔ val t ≤ e := by
  classical
  have hc : ∀ t, (FloatOps.cmpf .ole (FloatOps.ofBits .f32 (BitVec.ofNat 32 t) : Ideal .f32) (e : Ideal .f32) = 1#1) ↔ val t ≤ e := by
    intro t
    show BitVec.ofBool (decide (val t ≤ e)) = 1#1 ↔ _
    by_cases h : val t ≤ e <;> simp [h]
  let Q : ℕ → Prop := fun t => t < 255 * 2 ^ 23 ∧ val t ≤ e
  obtain ⟨he, hl⟩ := bs_congr_below (fun t => FloatOps.cmpf .ole (FloatOps.ofBits .f32 (BitVec.ofNat 32 t) : Ideal .f32) (e : Ideal .f32) = 1#1) Q
    (fun t ht => by rw [hc]; exact ⟨fun h => ⟨ht, h⟩, fun h => h.2⟩)
    (by rw [hc, val_inf]; exact not_le.mpr h1) (fun h => absurd h.1 (lt_irrefl _)) (le_refl 31)
  refine ⟨hl, fun t ht => ?_⟩
  have := le_bs Q (m := 31) (fun s t hst hQ => ⟨lt_of_le_of_lt hst hQ.1, (val_le hst hQ.1.le).trans hQ.2⟩) (r := t)
    (lt_trans ht (by norm_num))
  rw [← he] at this
  refine this.trans ⟨?_, fun h => Or.inr ⟨ht, h⟩⟩
  rintro (h | h)
  · rw [h, val_zero]; exact h0
  · exact h.2

end Cert.Proof.Radix
end
-- ==== Proof.Select.lean ====
/-
  The three searches over the histograms, on the extended reals: if the candidates' list holds the whole chosen bin,
  the assembled threshold is the greatest key at and above which the elements still sum to the target.
-/
module

public import proofs.«01_k».proof.Proof.Words

@[expose] public section

noncomputable section

namespace Cert.Proof.Radix

open Idealize.ShloMosaic

/-! ## Sums of the elements that satisfy a predicate -/

/-- The sum of the list's elements that satisfy `p`. -/
def wsum (p : EReal → Prop) [DecidablePred p] (es : List EReal) : EReal := (es.map fun e => if p e then e else 0).sum

theorem wsum_nil (p : EReal → Prop) [DecidablePred p] : wsum p [] = 0 := rfl

theorem wsum_cons (p : EReal → Prop) [DecidablePred p] (e : EReal) (es : List EReal) :
    wsum p (e :: es) = (if p e then e else 0) + wsum p es := by
  unfold wsum; rw [List.map_cons, List.sum_cons]

theorem wsum_concat (p : EReal → Prop) [DecidablePred p] (e : EReal) (es : List EReal) :
    wsum p (es ++ [e]) = wsum p es + (if p e then e else 0) := by
  unfold wsum; rw [List.map_append, List.sum_append]; simp

theorem wsum_congr {p q : EReal → Prop} [DecidablePred p] [DecidablePred q] {es : List EReal} (h : ∀ e ∈ es, p e ↔ q e) :
    wsum p es = wsum q es := by
  unfold wsum
  congr 1
  refine List.map_congr_left fun e he => ?_
  by_cases hp : p e
  · rw [if_pos hp, if_pos ((h e he).mp hp)]
  · rw [if_neg hp, if_neg (fun hq => hp ((h e he).mpr hq))]

theorem wsum_none {p : EReal → Prop} [DecidablePred p] {es : List EReal} (h : ∀ e ∈ es, ¬ p e) : wsum p es = 0 := by
  induction es with
  | nil => rfl
  | cons e es ih =>
    rw [wsum_cons, if_neg (h e (by simp)), ih fun x hx => h x (by simp [hx]), add_zero]

/-- Sums over two predicates of which no element satisfies both add up. -/
theorem wsum_or (p q : EReal → Prop) [DecidablePred p] [DecidablePred q] (h : ∀ e, ¬ (p e ∧ q e)) (es : List EReal) :
    wsum p es + wsum q es = wsum (fun e => p e ∨ q e) es := by
  induction es with
  | nil => simp [wsum_nil]
  | cons e es ih =>
    rw [wsum_cons, wsum_cons, wsum_cons, ← ih, add_add_add_comm]
    congr 1
    by_cases hp : p e
    · rw [if_pos hp, if_neg (fun hq => h e ⟨hp, hq⟩), if_pos (Or.inl hp), add_zero]
    · by_cases hq : q e
      · rw [if_neg hp, if_pos hq, if_pos (Or.inr hq), zero_add]
      · rw [if_neg hp, if_neg hq, if_neg (by tauto), add_zero]

theorem wsum_filter (p q : EReal → Prop) [DecidablePred p] [DecidablePred q] (es : List EReal) :
    wsum p (es.filter fun e => q e) = wsum (fun e => q e ∧ p e) es := by
  induction es with
  | nil => rfl
  | cons e es ih =>
    by_cases hq : q e
    · rw [List.filter_cons_of_pos (by simpa using hq), wsum_cons, wsum_cons, ih]
      simp [hq]
    · rw [List.filter_cons_of_neg (by simpa using hq), wsum_cons, ih]
      simp [hq]

/-- Of elements that are not negative, a weaker predicate's sum is the larger. -/
theorem wsum_mono {p q : EReal → Prop} [DecidablePred p] [DecidablePred q] {es : List EReal} (h0 : ∀ e ∈ es, 0 ≤ e)
    (h : ∀ e, p e → q e) : wsum p es ≤ wsum q es := by
  induction es with
  | nil => rfl
  | cons e es ih =>
    rw [wsum_cons, wsum_cons]
    refine add_le_add ?_ (ih fun x hx => h0 x (by simp [hx]))
    by_cases hp : p e
    · rw [if_pos hp, if_pos (h e hp)]
    · rw [if_neg hp]
      split
      · exact h0 e (by simp)
      · exact le_rfl

/-! ## The histograms -/

variable (es : List EReal)

/-- A bin of the histogram is the sum of the elements of that bin, -/
theorem histo_ideal (b : EReal → ℕ) (r : ℕ) : histo (F := Ideal) b es r = wsum (fun e => b e = r) es := by
  induction es using List.reverseRecOn with
  | nil => rw [histo_nil]; exact val_zero
  | append_singleton es e ih =>
    have := congrFun (histo_concat (F := Ideal) b es e) r
    refine this.trans ?_
    rw [wsum_concat]
    by_cases h : b e = r
    · rw [if_pos h, if_pos h.symm]
      show histo (F := Ideal) b es r + e = _
      rw [ih]
    · rw [if_neg h, if_neg (fun h' => h h'.symm), add_zero, ih]

/-- the sum of its top `n` bins the sum of the elements of those bins, -/
theorem sacc_ideal (b : EReal → ℕ) (nb : ℕ) {n : ℕ} (hn : n ≤ nb) :
    sacc (histo (F := Ideal) b es) nb n = wsum (fun e => nb - n ≤ b e ∧ b e < nb) es := by
  induction n with
  | zero =>
    rw [wsum_none fun e _ => by omega]
    exact val_zero
  | succ n ih =>
    show sacc (histo (F := Ideal) b es) nb n + histo (F := Ideal) b es (nb - 1 - n) = _
    rw [ih (by omega), histo_ideal, wsum_or _ _ fun e => by omega]
    exact wsum_congr fun e _ => by omega

/-- and the sum of the bins from `r` on the sum of the elements whose bin is at least `r`. -/
theorem suf_ideal (b : EReal → ℕ) {nb : ℕ} (hb : ∀ e, b e < nb) (r : ℕ) :
    suf (histo (F := Ideal) b es) nb r = wsum (fun e => r ≤ b e) es := by
  unfold suf
  by_cases hr : r < nb
  · rw [if_pos hr, sacc_ideal _ _ _ (by omega)]
    exact wsum_congr fun e _ => by have := hb e; omega
  · rw [if_neg hr, histo_ideal, wsum_none fun e _ => by have := hb e; omega, wsum_none fun e _ => by have := hb e; omega]

/-- The sum of all bins is the sum of all elements. -/
theorem sumE_ideal : sumE (F := Ideal) es = es.sum := by
  unfold sumE
  rw [sacc_ideal _ _ _ le_rfl]
  unfold wsum
  congr 1
  conv_rhs => rw [← List.map_id es]
  refine List.map_congr_left fun e _ => ?_
  rw [if_pos ⟨by omega, bin1_lt (F := Ideal) e⟩]
  rfl

/-! ## The threshold -/

/-- The sum of the elements whose key is at least `t`. -/
def massK (t : ℕ) : EReal := wsum (fun e => t ≤ key (F := Ideal) e) es

theorem cmp_oge (x y : EReal) : (FloatOps.cmpf (F := Ideal) (φ := .f32) .oge x y = 1#1) ↔ y ≤ x := by
  show BitVec.ofBool (decide (y ≤ x)) = 1#1 ↔ _
  by_cases h : y ≤ x <;> simp [h]

private theorem bin2_lt (e : EReal) : bin2 (F := Ideal) e < 1024 := by unfold bin2; omega
private theorem bin3_lt (e : EReal) : bin3 (F := Ideal) e < 1024 := by unfold bin3; omega

private theorem S1_ideal (r : ℕ) : S1 (F := Ideal) es r = wsum (fun e => r ≤ bin1 (F := Ideal) e) es :=
  suf_ideal es _ (bin1_lt (F := Ideal)) r

/-- Of a search over decreasing sums, the places at most the one found. -/
theorem le_srch (S : ℕ → EReal) (a T : EReal) (m : ℕ) (hS : ∀ r s, r ≤ s → S s ≤ S r) {r : ℕ} (hr : r < 2 ^ m) :
    r ≤ srchN (F := Ideal) S a T m m ↔ r = 0 ∨ T ≤ a + S r := by
  have h := le_bs (fun r => FloatOps.cmpf (F := Ideal) (φ := .f32) .oge (FloatOps.addf (F := Ideal) (φ := .f32) a (S r)) T = 1#1) (m := m)
    (fun s t hst hP => (cmp_oge _ _).mpr (((cmp_oge _ _).mp hP).trans (add_le_add le_rfl (hS s t hst)))) hr
  exact h.trans (or_congr Iff.rfl (cmp_oge _ _))

private theorem fields_lt {t : ℕ} (ht : t < 2 ^ 31) : t / 2 ^ 20 < 2048 ∧ t / 2 ^ 10 % 2 ^ 10 < 1024 ∧ t % 2 ^ 10 < 1024 := by omega
private theorem fields_le (t : ℕ) : t / 2 ^ 20 * 2 ^ 20 ≤ t ∧ t / 2 ^ 20 * 2 ^ 20 + t / 2 ^ 10 % 2 ^ 10 * 2 ^ 10 ≤ t
    ∧ t / 2 ^ 10 * 2 ^ 10 + t % 2 ^ 10 ≤ t := by omega
private theorem field1 {b t : ℕ} (h1 : b * 2 ^ 20 ≤ t) (h2 : t / 2 ^ 20 ≤ b) : b = t / 2 ^ 20 := by omega
private theorem field2' {b t : ℕ} (h1 : t / 2 ^ 20 * 2 ^ 20 + b * 2 ^ 10 ≤ t) (h2 : t / 2 ^ 10 % 2 ^ 10 ≤ b) : b = t / 2 ^ 10 % 2 ^ 10 := by omega
private theorem field3' {b t : ℕ} (h1 : t / 2 ^ 10 * 2 ^ 10 + b ≤ t) (h2 : t % 2 ^ 10 ≤ b) : b = t % 2 ^ 10 := by omega
private theorem fields_sum (t : ℕ) : t / 2 ^ 20 * 2 ^ 20 + t / 2 ^ 10 % 2 ^ 10 * 2 ^ 10 + t % 2 ^ 10 = t := by omega

/-- If `t` is the greatest key at and above which the elements sum to the target, and the bin that holds it has at most
    520 elements, then the threshold the kernel assembles is `t`. -/
theorem tau_ideal (h0 : ∀ e ∈ es, 0 ≤ e) {t : ℕ} (ht : t < 2 ^ 31)
    (hM : ∀ r < 2 ^ 31, r ≤ t ↔ r = 0 ∨ tgt (F := Ideal) (sumE (F := Ideal) es) ≤ massK es r)
    (hfit : (es.filter fun e => bin1 (F := Ideal) e = t / 2 ^ 20).length ≤ 520) : tau (F := Ideal) es = t := by
  have z0 : (zf : Ideal .f32) = (0 : EReal) := val_zero
  -- the first field
  have b1 : ∀ r < 2048, r ≤ B1 (F := Ideal) es ↔ r * 2 ^ 20 ≤ t := by
    intro r hr
    have h := le_srch (S1 (F := Ideal) es) (zf : Ideal .f32) (tgt (F := Ideal) (sumE (F := Ideal) es)) 11
      (fun r s hrs => by rw [S1_ideal, S1_ideal]; exact wsum_mono h0 fun e he => hrs.trans he) (r := r) hr
    refine h.trans ?_
    rw [hM _ (by omega), z0, zero_add, S1_ideal]
    have e1 : wsum (fun e => r ≤ bin1 (F := Ideal) e) es = massK es (r * 2 ^ 20) :=
      wsum_congr fun e _ => by unfold bin1; omega
    rw [e1]
    exact or_congr (by omega) Iff.rfl
  have hB1 : B1 (F := Ideal) es = t / 2 ^ 20 := by
    have l1 := B1_lt (F := Ideal) es
    have h1 := (b1 _ l1).mp le_rfl
    exact field1 h1 ((b1 _ (fields_lt ht).1).mpr (fields_le t).1)
  have hL2 : L2 (F := Ideal) es = es.filter fun e => bin1 (F := Ideal) e = t / 2 ^ 20 := by
    unfold L2 cand
    rw [hB1]
    exact List.take_of_length_le hfit
  have hA1 : A1 (F := Ideal) es = wsum (fun e => t / 2 ^ 20 + 1 ≤ bin1 (F := Ideal) e) es := by
    show (zf : Ideal .f32) + S1 (F := Ideal) es (B1 (F := Ideal) es + 1) = _
    rw [z0, zero_add, S1_ideal, hB1]
  -- the second
  have s2 : ∀ r, S2 (F := Ideal) es r = wsum (fun e => bin1 (F := Ideal) e = t / 2 ^ 20 ∧ r ≤ bin2 (F := Ideal) e) es := by
    intro r
    unfold S2
    rw [hL2]
    exact (suf_ideal _ _ bin2_lt r).trans (wsum_filter _ _ es)
  have b2 : ∀ r < 1024, r ≤ B2 (F := Ideal) es ↔ t / 2 ^ 20 * 2 ^ 20 + r * 2 ^ 10 ≤ t := by
    intro r hr
    have h := le_srch (S2 (F := Ideal) es) (A1 (F := Ideal) es) (tgt (F := Ideal) (sumE (F := Ideal) es)) 10
      (fun r s hrs => by rw [s2, s2]; exact wsum_mono h0 fun e he => ⟨he.1, hrs.trans he.2⟩) (r := r) hr
    refine h.trans ?_
    rw [hM _ (by omega), s2, hA1, wsum_or _ _ fun e => by omega]
    have e1 : wsum (fun e => t / 2 ^ 20 + 1 ≤ bin1 (F := Ideal) e ∨ bin1 (F := Ideal) e = t / 2 ^ 20 ∧ r ≤ bin2 (F := Ideal) e) es
        = massK es (t / 2 ^ 20 * 2 ^ 20 + r * 2 ^ 10) :=
      wsum_congr fun e _ => by unfold bin1 bin2; omega
    rw [e1]
    constructor
    · rintro (h | h)
      · rw [← hM _ (by omega)]; omega
      · exact Or.inr h
    · rintro (h | h)
      · left; omega
      · exact Or.inr h
  have hB2 : B2 (F := Ideal) es = t / 2 ^ 10 % 2 ^ 10 := by
    have l1 := B2_lt (F := Ideal) es
    have h1 := (b2 _ l1).mp le_rfl
    exact field2' h1 ((b2 _ (fields_lt ht).2.1).mpr (fields_le t).2.1)
  have hA2 : A2 (F := Ideal) es = wsum (fun e => t / 2 ^ 20 + 1 ≤ bin1 (F := Ideal) e
      ∨ bin1 (F := Ideal) e = t / 2 ^ 20 ∧ t / 2 ^ 10 % 2 ^ 10 + 1 ≤ bin2 (F := Ideal) e) es := by
    show A1 (F := Ideal) es + S2 (F := Ideal) es (B2 (F := Ideal) es + 1) = _
    rw [hA1, s2, hB2, wsum_or _ _ fun e => by omega]
  -- the third
  have s3 : ∀ r, S3 (F := Ideal) es r = wsum (fun e => bin1 (F := Ideal) e = t / 2 ^ 20
      ∧ bin2 (F := Ideal) e = t / 2 ^ 10 % 2 ^ 10 ∧ r ≤ bin3 (F := Ideal) e) es := by
    intro r
    unfold S3 L3
    rw [hL2, hB2]
    exact (suf_ideal _ _ bin3_lt r).trans ((wsum_filter _ _ _).trans (wsum_filter _ _ es))
  have b3 : ∀ r < 1024, r ≤ B3 (F := Ideal) es ↔ t / 2 ^ 10 * 2 ^ 10 + r ≤ t := by
    intro r hr
    have h := le_srch (S3 (F := Ideal) es) (A2 (F := Ideal) es) (tgt (F := Ideal) (sumE (F := Ideal) es)) 10
      (fun r s hrs => by rw [s3, s3]; exact wsum_mono h0 fun e he => ⟨he.1, he.2.1, hrs.trans he.2.2⟩) (r := r) hr
    refine h.trans ?_
    rw [hM _ (by omega), s3, hA2, wsum_or _ _ fun e => by omega]
    have e1 : wsum (fun e => (t / 2 ^ 20 + 1 ≤ bin1 (F := Ideal) e
          ∨ bin1 (F := Ideal) e = t / 2 ^ 20 ∧ t / 2 ^ 10 % 2 ^ 10 + 1 ≤ bin2 (F := Ideal) e)
          ∨ (bin1 (F := Ideal) e = t / 2 ^ 20 ∧ bin2 (F := Ideal) e = t / 2 ^ 10 % 2 ^ 10 ∧ r ≤ bin3 (F := Ideal) e)) es
        = massK es (t / 2 ^ 10 * 2 ^ 10 + r) :=
      wsum_congr fun e _ => by unfold bin1 bin2 bin3; omega
    rw [e1]
    constructor
    · rintro (h | h)
      · rw [← hM _ (by omega)]; omega
      · exact Or.inr h
    · rintro (h | h)
      · left; omega
      · exact Or.inr h
  have hB3 : B3 (F := Ideal) es = t % 2 ^ 10 := by
    have l1 := B3_lt (F := Ideal) es
    have h1 := (b3 _ l1).mp le_rfl
    exact field3' h1 ((b3 _ (fields_lt ht).2.2).mpr (fields_le t).2.2)
  unfold tau
  rw [hB1, hB2, hB3]
  exact fields_sum t

end Cert.Proof.Radix
end
-- ==== Proof.Cut.lean ====
/-
  What the precondition says of a column. Either every logit is the infinity, or none is and in real numbers the
  searched word is the kernel's threshold, the exponentials at and above it reach the share, and any one of them less
  they do not.
-/
module

public import proofs.«01_k».proof.Proof.Reads
public import proofs.«01_k».proof.Proof.Select
public import Idealize.ShloMosaic.Lib.StableHlo.Predicate

@[expose] public section

noncomputable section

namespace Cert.Proof.Radix

open Idealize.ShloMosaic
open Cert.Pre_one_cut Cert.Pre_one_cut.Facts

/-! ## Bits, sums and lists -/

theorem andi_one (a b : BitVec 1) : IntOp.andi a b = 1#1 ↔ a = 1#1 ∧ b = 1#1 := by
  unfold IntOp.andi; revert a b; decide

theorem ofBool_one (p : Prop) [Decidable p] : BitVec.ofBool (decide p) = 1#1 ↔ p := by
  by_cases h : p <;> simp [h]

/-- A finite sum of reals is the same sum on the extended reals. -/
theorem coe_sum' {ι : Type} (s : Finset ι) (f : ι → ℝ) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- A list's sum over a predicate is the sum over its places. -/
theorem wsum_range (p : EReal → Prop) [DecidablePred p] (g : ℕ → EReal) (n : ℕ) :
    wsum p ((List.range n).map g) = ∑ k : Fin n, if p (g k) then g k else 0 := by
  induction n with
  | zero => rfl
  | succ n ih =>
    rw [List.range_succ, List.map_append, List.map_singleton, wsum_concat, ih, Fin.sum_univ_castSucc]
    rfl

theorem list_sum_range (g : ℕ → EReal) (n : ℕ) : ((List.range n).map g).sum = ∑ k : Fin n, g k := by
  induction n with
  | zero => rfl
  | succ n ih =>
    rw [List.range_succ, List.map_append, List.map_singleton, List.sum_append, ih, Fin.sum_univ_castSucc]
    simp

theorem filter_range (p : EReal → Prop) [DecidablePred p] (g : ℕ → EReal) (n : ℕ) :
    (((List.range n).map g).filter fun e => p e).length = ∑ k : Fin n, if p (g k) then 1 else 0 := by
  induction n with
  | zero => rfl
  | succ n ih =>
    rw [List.range_succ, List.map_append, List.map_singleton, List.filter_append, List.length_append, ih, Fin.sum_univ_castSucc]
    congr 1
    by_cases h : p (g n) <;> simp [h]

/-! ## The kept share's number -/

/-- The kept share. -/
def share : ℝ := 14428406 / 16777216

theorem share_word : Ideal.ofBits .f32 0x3F5C28F6#32 = ((share : ℝ) : EReal) := by
  unfold share
  simp [Ideal.ofBits, Ideal.ieee]
  rw [← EReal.coe_mul]
  norm_num

theorem share_pos : 0 < share := by unfold share; norm_num
theorem share_lt_one : share < 1 := by unfold share; norm_num

/-! ## The searched word -/

/-- Whether the elements at and above the word's number sum to the share. -/
def reaches (e : FVec Ideal S64x8192x32 .f32) (h : FVec Ideal S64x1x32 .f32) (b : Fin 64) (c : Fin 32) (t : ℕ) : Prop :=
  (h (ix3 b 0 c) : EReal) ≤ ∑ k : Fin 8192, (if val t ≤ e (ix3 b k c) then (e (ix3 b k c) : EReal) else 0)

instance (e : FVec Ideal S64x8192x32 .f32) (h : FVec Ideal S64x1x32 .f32) (b : Fin 64) (c : Fin 32) : DecidablePred (reaches e h b c) :=
  fun _ => Classical.propDecidable _

/-- The precondition's search is the search for the greatest word that reaches the share. -/
theorem cutRun_at (e : FVec Ideal S64x8192x32 .f32) (h : FVec Ideal S64x1x32 .f32) (b : Fin 64) (c : Fin 32) (n : ℕ) (hn : n ≤ 31)
    (t : IVec S64x1x32 32) (ht : t (ix3 b 0 c) = BitVec.ofNat 32 (bs (reaches e h b c) 31 (31 - n))) :
    cutRun e h n t (ix3 b 0 c) = BitVec.ofNat 32 (bs (reaches e h b c) 31 31) := by
  induction n generalizing t with
  | zero => exact ht
  | succ n ih =>
    refine ih (by omega) _ ?_
    rw [cutStep_at, ht, ← BitVec.ofNat_add, show 31 - n = (31 - (n + 1)) + 1 by omega]
    show _ = BitVec.ofNat 32 (if reaches e h b c (bs (reaches e h b c) 31 (31 - (n + 1)) + 2 ^ (31 - 1 - (31 - (n + 1)))) then _ else _)
    rw [show 31 - 1 - (31 - (n + 1)) = n by omega]
    by_cases hr : reaches e h b c (bs (reaches e h b c) 31 (31 - (n + 1)) + 2 ^ n)
    · rw [if_pos hr]; exact if_pos hr
    · rw [if_neg hr]; exact if_neg hr

/-! ## The bin's words -/

theorem low_word {t : ℕ} (ht : t < 2 ^ 31) :
    IntOp.shli .host (IntOp.shrui .host (BitVec.ofNat 32 t) 20#32) 20#32 = BitVec.ofNat 32 (t / 2 ^ 20 * 2 ^ 20) := by
  unfold IntOp.shli IntOp.shrui
  rw [if_pos (by decide), if_pos (by decide)]
  apply BitVec.eq_of_toNat_eq
  rw [BitVec.shiftLeft_eq', BitVec.ushiftRight_eq', BitVec.toNat_shiftLeft, BitVec.toNat_ushiftRight, BitVec.toNat_ofNat, BitVec.toNat_ofNat,
    show 20 % 2 ^ 32 = 20 from rfl, Nat.shiftLeft_eq, Nat.shiftRight_eq_div_pow, Nat.mod_eq_of_lt (show t < 2 ^ 32 by omega), BitVec.toNat_ofNat]

private theorem bin_iff {k t : ℕ} : k / 2 ^ 20 = t / 2 ^ 20 ↔ t / 2 ^ 20 * 2 ^ 20 ≤ k ∧ ¬ t / 2 ^ 20 * 2 ^ 20 + 2 ^ 20 ≤ k := by omega
private theorem bin_top {t : ℕ} (ht : t < 255 * 2 ^ 23) : t / 2 ^ 20 * 2 ^ 20 < 255 * 2 ^ 23 ∧ t / 2 ^ 20 * 2 ^ 20 + 2 ^ 20 ≤ 255 * 2 ^ 23 := by omega

/-- A finite positive number lies in the word's bin if and only if it is between the bin's ends. -/
theorem bin_spec {e : EReal} (h0 : 0 ≤ e) (h1 : e < ⊤) {t : ℕ} (ht : t < 255 * 2 ^ 23) :
    bin1 (F := Ideal) e = t / 2 ^ 20 ↔ val (t / 2 ^ 20 * 2 ^ 20) ≤ e ∧ e < val (t / 2 ^ 20 * 2 ^ 20 + 2 ^ 20) := by
  obtain ⟨hk, hs⟩ := key_spec h0 h1
  obtain ⟨l1, l2⟩ := bin_top ht
  unfold bin1
  rw [bin_iff, hs _ l1]
  refine and_congr_right fun _ => ?_
  rcases l2.lt_or_eq with l2 | l2
  · rw [hs _ l2, not_le]
  · rw [l2, val_inf]
    exact ⟨fun _ => h1, fun _ => by omega⟩

/-! ## The column -/

/-- Numbers of which the sum less the least stays below the share of the sum, where every word reaches the share, are
    all the infinity. -/
theorem all_top {n : ℕ} (e : Fin (n + 1) → EReal) (h0 : ∀ k, 0 ≤ e k)
    (hr : ((share : ℝ) : EReal) * ∑ k, e k ≤ ∑ k, if ⊤ ≤ e k then e k else 0)
    (hm : ∑ k, e k - Finset.univ.fold min ⊤ e < ((share : ℝ) : EReal) * ∑ k, e k) (k : Fin (n + 1)) : e k = ⊤ := by
  have hmin : ∀ k, Finset.univ.fold min ⊤ e ≤ e k := fun k => (Finset.fold_min_le _).mpr (Or.inr ⟨k, Finset.mem_univ _, le_rfl⟩)
  have hle : ∀ k, e k ≤ ∑ k, e k := fun k => Finset.single_le_sum (fun i _ => h0 i) (Finset.mem_univ k)
  by_cases hex : ∃ k, e k = ⊤
  · obtain ⟨k0, hk0⟩ := hex
    have hS : ∑ k, e k = ⊤ := top_le_iff.mp (hk0 ▸ hle k0)
    rw [hS] at hm
    have hmt : Finset.univ.fold min ⊤ e = ⊤ := by
      by_contra hne
      rw [EReal.top_sub hne] at hm
      exact absurd hm not_top_lt
    exact top_le_iff.mp (hmt ▸ hmin k)
  · rw [Finset.sum_eq_zero fun k _ => if_neg fun h => hex ⟨k, top_le_iff.mp h⟩] at hr
    have h2 : 0 ≤ ∑ k, e k - Finset.univ.fold min ⊤ e := by
      have hne : Finset.univ.fold min ⊤ e ≠ ⊤ := fun h => hex ⟨0, top_le_iff.mp (h ▸ hmin 0)⟩
      have hnb : ∑ k, e k ≠ ⊥ := fun h => by
        have := (h0 0).trans (hle 0)
        rw [h] at this
        exact absurd this (by simp)
      exact (EReal.sub_nonneg (Or.inr hne) (Or.inl hnb)).mpr ((hmin 0).trans (hle 0))
    exact absurd (hm.trans_le hr) (not_lt.mpr h2)

/-- An exponential is not negative. -/
theorem exp_nonneg' (x : EReal) : (0 : EReal) ≤ FloatOps.exp (F := Ideal) (φ := .f32) x := by
  induction x with
  | bot => exact le_rfl
  | top => exact le_top
  | coe r => exact EReal.coe_nonneg.mpr (Real.exp_pos r).le

/-- The logit `x` is not the infinity and `E` is its exponential. -/
def ExpOf (x : EReal) (E : ℝ) : Prop := (x = ⊥ ∧ E = 0) ∨ ∃ y : ℝ, x = ((y : ℝ) : EReal) ∧ E = Real.exp y

theorem ExpOf.nonneg {x : EReal} {E : ℝ} (h : ExpOf x E) : 0 ≤ E := by
  rcases h with ⟨_, rfl⟩ | ⟨y, _, rfl⟩
  · exact le_rfl
  · exact (Real.exp_pos y).le

theorem ExpOf.exp {x : EReal} {E : ℝ} (h : ExpOf x E) : FloatOps.exp (F := Ideal) (φ := .f32) x = ((E : ℝ) : EReal) := by
  rcases h with ⟨rfl, rfl⟩ | ⟨y, rfl, rfl⟩
  · exact EReal.coe_zero.symm
  · rfl

/-- A logit that is not the infinity has an exponential. -/
theorem exists_expOf {x : EReal} (h : x ≠ ⊤) : ∃ E : ℝ, ExpOf x E := by
  induction x with
  | bot => exact ⟨0, Or.inl ⟨rfl, rfl⟩⟩
  | top => exact absurd rfl h
  | coe r => exact ⟨Real.exp r, Or.inr ⟨r, rfl, rfl⟩⟩

/-- What the precondition says of a column. -/
theorem column (x : FVec Ideal S64x8192x32 .f32) (hx : fn (F := Ideal) x = fun _ => 1#1) (b : Fin 64) (c : Fin 32) :
    (∀ k : Fin 8192, x (ix3 b k c) = (⊤ : EReal))
    ∨ ∃ (E : Fin 8192 → ℝ) (t : ℕ), (∀ k, ExpOf (x (ix3 b k c)) (E k)) ∧ 0 < ∑ k, E k
      ∧ (∀ g : ℕ → EReal, (∀ k : Fin 8192, g k = ((E k : ℝ) : EReal)) → tau (F := Ideal) ((List.range 8192).map g) = t)
      ∧ share * ∑ k, E k ≤ ∑ k, (if val t ≤ ((E k : ℝ) : EReal) then E k else 0)
      ∧ ∀ i, val t ≤ ((E i : ℝ) : EReal) →
        ∑ k, (if val t ≤ ((E k : ℝ) : EReal) then E k else 0) - E i < share * ∑ k, E k := by
  classical
  rw [one_cut_eq] at hx
  have hall := congrFun hx (ix3 b 0 c)
  rw [cutTail_at, andi_one, ofBool_one] at hall
  obtain ⟨hmass, hfits⟩ := hall
  have hexp : ∀ k, (Host.exp x : FVec Ideal S64x8192x32 .f32) (ix3 b k c) = FloatOps.exp (F := Ideal) (φ := .f32) (x (ix3 b k c)) := fun _ => rfl
  have hnn : ∀ k, (0 : EReal) ≤ (Host.exp x : FVec Ideal S64x8192x32 .f32) (ix3 b k c) := fun k => exp_nonneg' _
  have hword := cutRun_at (Host.exp x) (cutShare (Host.exp x)) b c 31 le_rfl
    (broadcastInDim S64x1x32 ![] bcast_S_S64x1x32 (constantI S_ 32 0#32)) rfl
  generalize cutRun (Host.exp x) (cutShare (Host.exp x)) 31 (broadcastInDim S64x1x32 ![] bcast_S_S64x1x32 (constantI S_ 32 0#32)) = w at *
  by_cases hfull : ∀ t, reaches (Host.exp x) (cutShare (Host.exp x)) b c t
  · left
    have hw : bs (reaches (Host.exp x) (cutShare (Host.exp x)) b c) 31 31 = 2 ^ 31 - 1 := by
      have h1 := (le_bs (reaches (Host.exp x) (cutShare (Host.exp x)) b c) (m := 31) (fun _ _ _ _ => hfull _) (r := 2 ^ 31 - 1) (by norm_num)).mpr (Or.inr (hfull _))
      have h2 := bs_lt (reaches (Host.exp x) (cutShare (Host.exp x)) b c) (le_refl 31)
      omega
    rw [hw] at hword
    have hv : Ideal.ofBits .f32 (BitVec.ofNat 32 (2 ^ 31 - 1)) = ⊥ := by simp [Ideal.ofBits, Ideal.ieee]
    rw [cutMass_at, cutLeast_at, cutShare_at, hword, hv, share_word] at hmass
    simp only [bot_le, if_true] at hmass
    have hr := hfull (255 * 2 ^ 23)
    unfold reaches at hr
    rw [val_inf, cutShare_at, share_word] at hr
    intro k
    have h := all_top (n := 8191) (fun k : Fin 8192 => (Host.exp x : FVec Ideal S64x8192x32 .f32) (ix3 b k c)) hnn hr hmass k
    by_contra hne
    obtain ⟨E, hE⟩ := exists_expOf hne
    exact absurd ((hE.exp.symm.trans (hexp k).symm).trans h) (EReal.coe_ne_top E)
  right
  obtain ⟨t0, ht0⟩ := not_forall.mp hfull
  have hfin : ∀ k, (x (ix3 b k c) : EReal) ≠ ⊤ := by
    intro k hk
    refine ht0 ?_
    have hek : (Host.exp x : FVec Ideal S64x8192x32 .f32) (ix3 b k c) = (⊤ : EReal) := by rw [hexp, hk]; rfl
    unfold reaches
    have h1 := Finset.single_le_sum (f := fun k : Fin 8192 => if val t0 ≤ (Host.exp x : FVec Ideal S64x8192x32 .f32) (ix3 b k c)
        then ((Host.exp x : FVec Ideal S64x8192x32 .f32) (ix3 b k c) : EReal) else 0)
      (fun i _ => by split_ifs; exacts [hnn i, le_rfl]) (Finset.mem_univ k)
    refine le_trans ?_ h1
    show _ ≤ (if val t0 ≤ (Host.exp x : FVec Ideal S64x8192x32 .f32) (ix3 b k c)
        then ((Host.exp x : FVec Ideal S64x8192x32 .f32) (ix3 b k c) : EReal) else 0)
    rw [hek, if_pos le_top]
    exact le_top
  choose E hE using fun k => exists_expOf (hfin k)
  have hE0 : ∀ k, 0 ≤ E k := fun k => (hE k).nonneg
  have he : ∀ k, (Host.exp x : FVec Ideal S64x8192x32 .f32) (ix3 b k c) = ((E k : ℝ) : EReal) := fun k => (hexp k).trans (hE k).exp
  have hT : cutShare (Host.exp x : FVec Ideal S64x8192x32 .f32) (ix3 b 0 c) = ((share * ∑ k, E k : ℝ) : EReal) := by
    rw [cutShare_at, share_word, EReal.coe_mul, coe_sum']
    simp only [he]
  have hSpos : 0 < ∑ k, E k := by
    refine lt_of_le_of_ne (Finset.sum_nonneg fun k _ => hE0 k) fun h => ht0 ?_
    unfold reaches
    rw [hT, ← h, mul_zero, EReal.coe_zero]
    refine Finset.sum_nonneg fun k _ => ?_
    split_ifs
    exacts [hnn k, le_rfl]
  have hTpos : 0 < share * ∑ k, E k := mul_pos share_pos hSpos
  have hmem0 : ∀ k, (0 : EReal) ≤ ((E k : ℝ) : EReal) := fun k => EReal.coe_nonneg.mpr (hE0 k)
  have hmem1 : ∀ k, ((E k : ℝ) : EReal) < ⊤ := fun k => EReal.coe_lt_top _
  have hreach : ∀ t, reaches (Host.exp x) (cutShare (Host.exp x)) b c t ↔ ((share * ∑ k, E k : ℝ) : EReal)
      ≤ ∑ k : Fin 8192, (if val t ≤ ((E k : ℝ) : EReal) then ((E k : ℝ) : EReal) else 0) := by
    intro t
    unfold reaches
    rw [hT]
    simp only [he]
  let P : ℕ → Prop := fun t => ((share * ∑ k, E k : ℝ) : EReal)
      ≤ ∑ k : Fin 8192, (if t ≤ key (F := Ideal) ((E k : ℝ) : EReal) then ((E k : ℝ) : EReal) else 0)
  obtain ⟨hbs, hlt⟩ := bs_congr_below P (reaches (Host.exp x) (cutShare (Host.exp x)) b c)
    (fun t ht => by
      rw [hreach]
      show _ ≤ _ ↔ _ ≤ _
      simp only [fun k => (key_spec (hmem0 k) (hmem1 k)).2 t ht])
    (by
      show ¬ _ ≤ _
      rw [Finset.sum_eq_zero fun k _ => if_neg (not_le.mpr (key_spec (hmem0 k) (hmem1 k)).1), not_le]
      exact_mod_cast hTpos)
    (by
      rw [hreach, val_inf, Finset.sum_eq_zero fun k _ => if_neg (not_le.mpr (hmem1 k)), not_le]
      exact_mod_cast hTpos) (le_refl 31)
  set t := bs P 31 31 with ht
  rw [← hbs] at hword
  have ht31 : t < 2 ^ 31 := by omega
  have hval : Ideal.ofBits .f32 (w (ix3 b 0 c)) = val t := by rw [hword]; rfl
  have hanti : ∀ r s, r ≤ s → P s → P r := by
    intro r s hrs hs
    refine le_trans hs (Finset.sum_le_sum fun k _ => ?_)
    by_cases h : s ≤ key (F := Ideal) ((E k : ℝ) : EReal)
    · rw [if_pos h, if_pos (hrs.trans h)]
    · rw [if_neg h]; split_ifs
      · exact hmem0 k
      · exact le_rfl
  have hM : ∀ r < 2 ^ 31, r ≤ t ↔ r = 0 ∨ P r := fun r hr => le_bs P hanti hr
  have hreal : ∑ k : Fin 8192, (if val t ≤ ((E k : ℝ) : EReal) then ((E k : ℝ) : EReal) else 0)
      = ((∑ k, (if val t ≤ ((E k : ℝ) : EReal) then E k else 0) : ℝ) : EReal) := by
    rw [coe_sum']
    refine Finset.sum_congr rfl fun k _ => ?_
    split_ifs <;> rfl
  refine ⟨E, t, hE, hSpos, ?_, ?_, ?_⟩
  · intro g hg
    have hsum : sumE (F := Ideal) ((List.range 8192).map g) = ((∑ k, E k : ℝ) : EReal) := by
      rw [sumE_ideal, list_sum_range, coe_sum']
      exact Finset.sum_congr rfl fun k _ => hg k
    refine tau_ideal _ ?_ ht31 ?_ ?_
    · intro e hmem
      obtain ⟨i, hi, rfl⟩ := List.mem_map.mp hmem
      rw [hg ⟨i, List.mem_range.mp hi⟩]
      exact hmem0 _
    · intro r hr
      rw [hM r hr, hsum]
      have h1 : tgt (F := Ideal) ((∑ k, E k : ℝ) : EReal) = ((share * ∑ k, E k : ℝ) : EReal) := by
        show Ideal.ofBits .f32 0x3F5C28F6#32 * _ = _
        rw [share_word, EReal.coe_mul]
      rw [h1]
      unfold massK
      rw [wsum_range]
      simp only [hg]
      rfl
    · rw [filter_range]
      rw [cutFits_at, hword] at hfits
      rw [low_word ht31] at hfits
      have hf : ∀ k : Fin 8192, (Scalar.select (IntOp.andi
          (BitVec.ofBool (decide (Ideal.ofBits .f32 (BitVec.ofNat 32 (t / 2 ^ 20 * 2 ^ 20)) ≤ (Host.exp x : FVec Ideal S64x8192x32 .f32) (ix3 b k c))))
          (BitVec.ofBool (decide ((Host.exp x : FVec Ideal S64x8192x32 .f32) (ix3 b k c)
            < Ideal.ofBits .f32 (IntOp.addi (BitVec.ofNat 32 (t / 2 ^ 20 * 2 ^ 20)) 1048576#32))))) 1#32 0#32 : BitVec 32)
            = if bin1 (F := Ideal) (g k) = t / 2 ^ 20 then 1#32 else 0#32 := by
        intro k
        have hadd : IntOp.addi (BitVec.ofNat 32 (t / 2 ^ 20 * 2 ^ 20)) 1048576#32 = BitVec.ofNat 32 (t / 2 ^ 20 * 2 ^ 20 + 2 ^ 20) :=
          (BitVec.ofNat_add _ _).symm
        rw [hadd, he, hg]
        have := bin_spec (hmem0 k) (hmem1 k) hlt
        unfold Scalar.select
        by_cases hb : bin1 (F := Ideal) ((E k : ℝ) : EReal) = t / 2 ^ 20
        · rw [if_pos hb, if_pos]
          refine (andi_one _ _).mpr ?_
          rw [ofBool_one, ofBool_one]
          exact this.mp hb
        · rw [if_neg hb, if_neg]
          intro h
          have h' := (andi_one _ _).mp h
          rw [ofBool_one, ofBool_one] at h'
          exact hb (this.mpr h')
      simp only [hf] at hfits
      have hle : ∀ k : Fin 8192, (if bin1 (F := Ideal) (g k) = t / 2 ^ 20 then 1#32 else 0#32 : BitVec 32).toNat
          = if bin1 (F := Ideal) (g k) = t / 2 ^ 20 then 1 else 0 := by
        intro k; split_ifs <;> rfl
      have hbound : ∑ k : Fin 8192, (if bin1 (F := Ideal) (g k) = t / 2 ^ 20 then 1 else 0) ≤ 8192 := by
        refine (Finset.sum_le_card_nsmul _ _ 1 fun k _ => ?_).trans (by simp)
        split_ifs <;> omega
      have hcount := StableHlo.Predicate.toNat_fold_addi Finset.univ (fun k : Fin 8192 => (if bin1 (F := Ideal) (g k) = t / 2 ^ 20 then 1#32 else 0#32 : BitVec 32))
        (by simp only [hle]; omega)
      simp only [hle] at hcount
      rw [StableHlo.Predicate.sle_iff_toNat (by rw [hcount]; omega) (by decide), hcount] at hfits
      exact hfits
  · have h0 : P t := by
      rcases (hM t ht31).mp le_rfl with h | h
      · rw [h]
        show _ ≤ _
        simp only [Nat.zero_le, if_true, ← coe_sum']
        have hp : 0 ≤ ∑ k, E k := Finset.sum_nonneg fun k _ => hE0 k
        exact EReal.coe_le_coe_iff.mpr (mul_le_of_le_one_left hp share_lt_one.le)
      · exact h
    have h1 : ((share * ∑ k, E k : ℝ) : EReal)
        ≤ ∑ k : Fin 8192, (if val t ≤ ((E k : ℝ) : EReal) then ((E k : ℝ) : EReal) else 0) := by
      have h2 : _ ≤ _ := h0
      simpa only [fun k => (key_spec (hmem0 k) (hmem1 k)).2 t hlt] using h2
    rw [hreal] at h1
    exact_mod_cast h1
  · intro i hi
    rw [cutMass_at, cutLeast_at, hval, hT] at hmass
    simp only [he] at hmass
    rw [hreal] at hmass
    have hmin : Finset.univ.fold min (⊤ : EReal) (fun k : Fin 8192 => if val t ≤ ((E k : ℝ) : EReal) then ((E k : ℝ) : EReal) else ⊤)
        ≤ ((E i : ℝ) : EReal) := by
      refine (Finset.fold_min_le _).mpr (Or.inr ⟨i, Finset.mem_univ _, ?_⟩)
      rw [if_pos hi]
    have h3 := (EReal.sub_le_sub le_rfl hmin).trans_lt hmass
    rw [← EReal.coe_sub] at h3
    exact_mod_cast h3

end Cert.Proof.Radix
end
-- ==== Proof.Ref.lean ====
/-
  The reference's result in named steps: the log-probabilities, the order that sorts them, the order's inverse, the
  values taken along an order, the mask over the sorted places, and the mask brought back.
-/
module

public import proofs.«01_k».proof.Proof.Gen.ReferenceIdeal.Run

@[expose] public section

noncomputable section

namespace Cert.Proof.Radix.Ref

open Idealize.ShloMosaic Idealize.ShloMosaic.TcCoe Idealize.SL.Sem
open Cert.ReferenceIdeal Cert.ReferenceIdeal.Facts₀

variable {F : FTy → Type} [FloatOps F]

/-- The columns' greatest logits. -/
def greatest (x : FVec F S64x8192x32 .f32) : FVec F S64x32 .f32 :=
  Host.reduce FloatOps.maximumf x (constant S_ .f32 0xFF800000#32) reducesTo_S64x8192x32_S64x32_d1 h_S_

/-- Logits less some numbers of their columns. -/
def less (x : FVec F S64x8192x32 .f32) (g : FVec F S64x32 .f32) : FVec F S64x8192x32 .f32 :=
  subf x (broadcastInDim S64x8192x32 ![0, 1, 2] bcast_S64x1x32_S64x8192x32_0_1_2 (broadcastInDim S64x1x32 ![0, 2] bcast_S64x32_S64x1x32_0_2
    (maximumf (broadcastInDim S64x32 ![] bcast_S_S64x32 (constant S_ .f32 0xFF800000#32)) g)))

/-- The logits less their column's greatest. -/
def shifted (x : FVec F S64x8192x32 .f32) : FVec F S64x8192x32 .f32 := less x (greatest x)

/-- Numbers less the logarithm of their columns' summed exponentials. -/
def lessLog (x : FVec F S64x8192x32 .f32) : FVec F S64x8192x32 .f32 :=
  subf x (broadcastInDim S64x8192x32 ![0, 1, 2] bcast_S64x1x32_S64x8192x32_0_1_2 (Host.log (broadcastInDim S64x1x32 ![0, 2] bcast_S64x32_S64x1x32_0_2
    (Host.reduceAdd (Host.exp x) (constant S_ .f32 0x00000000#32) reducesTo_S64x8192x32_S64x32_d1 h_S_))))

/-- The log-probabilities. -/
def logp (x : FVec F S64x8192x32 .f32) : FVec F S64x8192x32 .f32 := lessLog (shifted x)

/-- The order that sorts the log-probabilities down. -/
def order (lp : FVec F S64x8192x32 .f32) : IVec S64x8192x32 32 :=
  (Host.sort2 S64x8192x32 1 comparator_f32_i32_d1 (Host.negf lp) (iotaInDim S64x8192x32 32 1)).2

/-- The order that sorts an order. -/
def inverse (o : IVec S64x8192x32 32) : IVec S64x8192x32 32 :=
  (Host.sort2 S64x8192x32 1 comparator_i32_i32_d1 o (iotaInDim S64x8192x32 32 1)).2

/-- The rows to take, a negative one counted from the end. -/
def rows (o : IVec S64x8192x32 32) : IVec S64x8192x32x1 32 :=
  shapeCast _ (select (cmpi .slt o (broadcastInDim S64x8192x32 ![] bcast_S_S64x8192x32 (constantI S_ 32 0#32)))
    (addi o (broadcastInDim S64x8192x32 ![] bcast_S_S64x8192x32 (constantI S_ 32 8192#32))) o) shapeCasts_S64x8192x32_S64x8192x32x1

/-- Whether the row to take is one of the column's. -/
def inRange (i : IVec S64x8192x32x1 32) : IVec S64x8192x32 1 :=
  Host.reduce IntOp.andi (andi (cmpi .sge i (broadcastInDim S64x8192x32x1 ![] bcast_S_S64x8192x32x1 (constantI S_ 32 0#32)))
      (cmpi .sle i (broadcastInDim S64x8192x32x1 ![0, 1, 2, 3] bcast_S1x1x1x1_S64x8192x32x1_0_1_2_3 (broadcastInDim S1x1x1x1 ![3] bcast_S1_S1x1x1x1_3 (constantI S1 32 8191#32)))))
    (constantI S_ 1 1#1) reducesTo_S64x8192x32x1_S64x8192x32_d3 h_S_

/-- The elements of `x` at the rows, `z` where a row is out of range. -/
def take {α : Type} (x : S64x8192x32.Idx → α) (i : IVec S64x8192x32x1 32) (z : S_.Idx → α) : S64x8192x32.Idx → α :=
  select (inRange i) (Host.gather gather_S64x8192x32_S64x8192x32x1_S64x8192x32_n_1_02_02_1_3_111 x i)
    (broadcastInDim S64x8192x32 ![] bcast_S_S64x8192x32 z)

/-- The running sums down the columns. -/
def running (p : FVec F S64x8192x32 .f32) : FVec F S64x8192x32 .f32 :=
  Host.reduceWindowAdd ![1, 8192, 1] ![1, 1, 1] ![0, 8191, 0] ![0, 0, 0] p (broadcastInDim S_ ![] bcast_S_S_ (constant S_ .f32 0x00000000#32))
    reduceWindows_S64x8192x32_S64x8192x32_w1s1p0_0_w8192s1p8191_0_w1s1p0_0 h_S_

/-- The mask over the sorted places: the first, and each whose predecessor's running sum is below the kept share. -/
def mask (p : FVec F S64x8192x32 .f32) : IVec S64x8192x32 1 :=
  extractStridedSlice S64x8192x32 ![0, 0, 0] (concatenate S64x8193x32 1 [⟨S64x1x32, (broadcastInDim S64x1x32 ![] bcast_S_S64x1x32 (constantI S_ 1 1#1))⟩,
    ⟨S64x8192x32, (cmpf .olt (running p) (broadcastInDim S64x8192x32 ![] bcast_S_S64x8192x32 (constant S_ .f32 0x3F5C28F6#32)))⟩]
    concatenates_S64x1x32_S64x8192x32_S64x8193x32_d1) slices_S64x8193x32_S64x8192x32_0_0_0

/-- The mask in the columns' own order. -/
def kept (lp : FVec F S64x8192x32 .f32) : IVec S64x8192x32 1 :=
  take (mask (Host.exp (take lp (rows (order lp)) (constant S_ .f32 0x7FC00000#32)))) (rows (inverse (order lp))) (constantI S_ 1 1#1)

/-- The log-probability where the mask is 1, −70 where it is 0. -/
def blend (k : IVec S64x8192x32 1) (lp : FVec F S64x8192x32 .f32) : FVec F S64x8192x32 .f32 :=
  addf (mulf (uitofp .f32 k) lp) (mulf (subf (broadcastInDim S64x8192x32 ![] bcast_S_S64x8192x32 (constant S_ .f32 0x3F800000#32)) (uitofp .f32 k))
    (broadcastInDim S64x8192x32 ![] bcast_S_S64x8192x32 (constant S_ .f32 0xC28C0000#32)))

set_option maxRecDepth 8192 in
/-- The reference's result is these steps composed. -/
theorem result_eq (m : (ℓ : Loc nD τ sig) → Buf (Elt F) ℓ) (c : Dev nD) :
    Cert.ReferenceIdeal.Value.res_main_v20 m c
      = blend (kept (logp (m ((c.tc : Thread nD τ).loc main_arg0)))) (logp (m ((c.tc : Thread nD τ).loc main_arg0))) := rfl

end Cert.Proof.Radix.Ref
end
-- ==== Proof.Sorted.lean ====
/-
  The reference's two sorts on the extended reals: the order's rows, and the order's inverse.
-/
module

public import proofs.«01_k».proof.Proof.Ref
public import Idealize.ShloMosaic.Lib.Pointwise
public import Idealize.ShloMosaic.Lib.SortFacts
public import Idealize.ShloMosaic.Lib.StableHlo.Predicate

@[expose] public section

set_option maxRecDepth 16384

noncomputable section

namespace Cert.Proof.Radix.Ref

open Idealize.ShloMosaic
open Cert.ReferenceIdeal Cert.ReferenceIdeal.Facts₀

/-! ## The comparisons -/

/-- The float comparison orders the extended reals. -/
theorem before_float (l r : EReal) (i j : BitVec 32) :
    (comparator_f32_i32_d1 (F := Ideal) (l, i) (r, j) == 1#1) = decide (l < r) := by
  classical
  have z : Ideal.ofBits .f32 0#32 = 0 := by simp [Ideal.ofBits, Ideal.ieee]
  have h1 : ∀ v : EReal, (Scalar.select (FloatOps.cmpf (F := Ideal) (φ := .f32) .une v v) (FloatOps.ofBits (F := Ideal) .f32 0x7FC00000#32)
      (Scalar.select (FloatOps.cmpf (F := Ideal) (φ := .f32) .oeq v (FloatOps.ofBits (F := Ideal) .f32 0#32)) (FloatOps.ofBits (F := Ideal) .f32 0#32) v) : Ideal .f32) = v := by
    intro v
    have hu : FloatOps.cmpf (F := Ideal) (φ := .f32) .une v v = 0#1 := by
      show Ideal.cmp .une v v = 0#1
      simp [Ideal.cmp]
    have he : FloatOps.cmpf (F := Ideal) (φ := .f32) .oeq v (FloatOps.ofBits (F := Ideal) .f32 0#32) = BitVec.ofBool (decide (v = Ideal.ofBits .f32 0#32)) := rfl
    rw [hu, he]
    unfold Scalar.select
    rw [if_neg (by decide)]
    by_cases hv : v = Ideal.ofBits .f32 0#32
    · rw [if_pos (by simp [hv])]; exact hv.symm
    · rw [if_neg (by rw [decide_eq_false hv]; decide)]
  show (FloatOps.cmpfTotal (F := Ideal) (φ := .f32) .lt _ _ == 1#1) = _
  rw [h1, h1]
  show (BitVec.ofBool (decide (l < r)) == 1#1) = _
  by_cases h : l < r <;> simp [h]

/-- The integer comparison orders the words below 2³¹. -/
theorem before_int {l r : ℕ} (hl : l < 2 ^ 31) (hr : r < 2 ^ 31) (i j : BitVec 32) :
    (comparator_i32_i32_d1 (BitVec.ofNat 32 l, i) (BitVec.ofNat 32 r, j) == 1#1) = decide (l < r) := by
  show (IntOp.cmpi .slt (BitVec.ofNat 32 l) (BitVec.ofNat 32 r) == 1#1) = _
  have e : ∀ {n : ℕ}, n < 2 ^ 31 → (BitVec.ofNat 32 n).toNat = n := fun h => by rw [BitVec.toNat_ofNat]; omega
  have h := StableHlo.Predicate.slt_iff_toNat (a := BitVec.ofNat 32 l) (b := BitVec.ofNat 32 r) (by rw [e hl]; exact hl) (by rw [e hr]; exact hr)
  rw [e hl, e hr] at h
  by_cases hlr : l < r
  · rw [h.mpr hlr]; simp [hlr]
  · have : IntOp.cmpi .slt (BitVec.ofNat 32 l) (BitVec.ofNat 32 r) ≠ 1#1 := fun hh => hlr (h.mp hh)
    simp [this, hlr]

/-! ## The sorts -/

theorem along_ix3 {A N C : ℕ} (b : Fin A) (k k' : Fin N) (c : Fin C) :
    (ix3 b k c : (⟨3, ![A, N, C]⟩ : Shape).Idx).along 1 k' = ix3 b k' c := by
  funext a
  unfold Shape.Idx.along
  match a with
  | ⟨0, _⟩ => rfl
  | ⟨1, _⟩ => rfl
  | ⟨2, _⟩ => rfl

/-- A sort along the middle axis gives the second operand at the sorting permutation's rows. -/
theorem sort2_gen {α β : Type} {A N C : ℕ} (cmp : α × β → α × β → BitVec 1) (x : (⟨3, ![A, N, C]⟩ : Shape).Idx → α)
    (y : (⟨3, ![A, N, C]⟩ : Shape).Idx → β) (b : Fin A) (k : Fin N) (c : Fin C) :
    (Host.sort2 ⟨3, ![A, N, C]⟩ 1 cmp x y).2 (ix3 b k c)
      = y (ix3 b (sortedFrom (fun i j : Fin N => cmp (x (ix3 b i c), y (ix3 b i c)) (x (ix3 b j c), y (ix3 b j c)) == 1#1) k) c) := by
  unfold Host.sort2
  rw [dif_pos (show 1 < 3 by decide)]
  refine (congrArg y (along_ix3 b k _ c)).trans ?_
  exact congrArg (fun r => y (ix3 b (sortedFrom r k) c)) (funext fun i => funext fun j =>
    congrArg₂ (fun u v => cmp (x u, y u) (x v, y v) == 1#1) (along_ix3 b k i c) (along_ix3 b k j c))

/-- A sort that carries the row numbers gives the sorting permutation's words. -/
theorem sort2_at {α : Type} (cmp : α × BitVec 32 → α × BitVec 32 → BitVec 1) (x : S64x8192x32.Idx → α) (b : Fin 64) (k : Fin 8192) (c : Fin 32) :
    (Host.sort2 S64x8192x32 1 cmp x (iotaInDim S64x8192x32 32 1)).2 (ix3 b k c)
      = BitVec.ofNat 32 (sortedFrom (fun i j : Fin 8192 => cmp (x (ix3 b i c), BitVec.ofNat 32 i.val) (x (ix3 b j c), BitVec.ofNat 32 j.val) == 1#1) k).val :=
  sort2_gen (A := 64) (N := 8192) (C := 32) cmp x (iotaInDim S64x8192x32 32 1) b k c

/-- The order lists the column's rows, the log-probabilities falling. -/
theorem order_spec (lp : FVec Ideal S64x8192x32 .f32) (b : Fin 64) (c : Fin 32) :
    ∃ s : Fin 8192 → Fin 8192, Function.Bijective s ∧ (∀ k, order lp (ix3 b k c) = BitVec.ofNat 32 (s k).val)
      ∧ ∀ i j, i < j → (lp (ix3 b (s j) c) : EReal) ≤ lp (ix3 b (s i) c) := by
  classical
  let R : Fin 8192 → Fin 8192 → Bool := fun i j => decide ((-(lp (ix3 b i c)) : EReal) < -(lp (ix3 b j c)))
  refine ⟨sortedFrom R, ⟨sortedFrom_injective R, sortedFrom_surjective R⟩, ?_, ?_⟩
  · intro k
    exact (sort2_at _ _ b k c).trans (congrArg (fun r => BitVec.ofNat 32 (sortedFrom r k).val)
      (funext fun i => funext fun j => before_float _ _ _ _))
  · intro i j hij
    have h := sortedFrom_noInversion R R
      (fun a b' h => by simp only [R, decide_eq_true_eq, decide_eq_false_iff_not] at h ⊢; exact not_lt.mpr h.le)
      (fun a b' h => h)
      (fun a b' c' h h' => by
        simp only [R, decide_eq_false_iff_not, not_lt] at h h' ⊢; exact h'.trans h) i j hij
    simp only [R, decide_eq_false_iff_not, not_lt, EReal.neg_le_neg_iff] at h
    exact h

/-- The sort of an order gives its inverse. -/
theorem inverse_spec (o : IVec S64x8192x32 32) (b : Fin 64) (c : Fin 32) (s : Fin 8192 → Fin 8192) (hs : Function.Bijective s)
    (ho : ∀ k, o (ix3 b k c) = BitVec.ofNat 32 (s k).val) :
    ∃ p : Fin 8192 → Fin 8192, (∀ k, inverse o (ix3 b k c) = BitVec.ofNat 32 (p k).val) ∧ ∀ i, s (p i) = i := by
  classical
  let R : Fin 8192 → Fin 8192 → Bool := fun i j => decide ((s i).val < (s j).val)
  refine ⟨sortedFrom R, ?_, ?_⟩
  · intro k
    refine (sort2_at _ _ b k c).trans (congrArg (fun r => BitVec.ofNat 32 (sortedFrom r k).val) (funext fun i => funext fun j => ?_))
    rw [ho, ho]
    exact before_int (by have := (s i).isLt; omega) (by have := (s j).isLt; omega) _ _
  · have hmono : StrictMono fun i => s (sortedFrom R i) := by
      intro i j hij
      have h := sortedFrom_noInversion R R
        (fun a b' h => by simp only [R, decide_eq_true_eq, decide_eq_false_iff_not] at h ⊢; omega)
        (fun a b' h => h)
        (fun a b' c' h h' => by simp only [R, decide_eq_false_iff_not] at h h' ⊢; omega) i j hij
      simp only [R, decide_eq_false_iff_not, not_lt] at h
      refine lt_of_le_of_ne (Fin.le_def.mpr h) fun he => ?_
      exact hij.ne (sortedFrom_injective R (hs.1 he))
    have hid : (fun i => s (sortedFrom R i)) = id := by
      refine StrictMono.range_inj hmono strictMono_id |>.mp ?_
      rw [Set.range_id]
      exact (hs.2.comp (sortedFrom_surjective R)).range_eq
    exact fun i => congrFun hid i

end Cert.Proof.Radix.Ref
end
-- ==== Proof.Places.lean ====
/-
  The reference's takes, running sums and sorts, read at an index on the extended reals.
-/
module

public import proofs.«01_k».proof.Proof.Ref
public import Idealize.ShloMosaic.Lib.Pointwise
public import Idealize.ShloMosaic.Lib.SortFacts

@[expose] public section

set_option maxRecDepth 16384

noncomputable section

namespace Cert.Proof.Radix.Ref

open Idealize.ShloMosaic
open Cert.ReferenceIdeal Cert.ReferenceIdeal.Facts₀

/-! ## A take -/

/-- A take reads the element at the row the index names, clamped to the column. -/
theorem gather_at {α : Type} (x : S64x8192x32.Idx → α) (i : IVec S64x8192x32x1 32) (b : Fin 64) (k : Fin 8192) (c : Fin 32) :
    Host.gather gather_S64x8192x32_S64x8192x32x1_S64x8192x32_n_1_02_02_1_3_111 x i (ix3 b k c)
      = x (ix3 b ⟨min (i (ix4 b k c 0)).toInt.toNat 8191, by omega⟩ c) := by
  unfold Host.gather
  congr 1
  funext a
  refine Fin.ext ?_
  let d := gather_S64x8192x32_S64x8192x32x1_S64x8192x32_n_1_02_02_1_3_111
  show d.start (ix3 b k c) i a + d.batchCoord (ix3 b k c) a + d.offCoord (ix3 b k c) a = _
  have hbatch : ∀ a ∈ ([0, 2] : List (Fin 3)), d.start (ix3 b k c) i a + d.batchCoord (ix3 b k c) a + d.offCoord (ix3 b k c) a
      = d.batchCoord (ix3 b k c) a := by
    intro a ha
    rw [GatherDims.start_batching _ _ _ _ ha, GatherDims.offCoord_eq_zero _ _ _ (fun h => ((GatherDims.mem_sKept _ _).mp h).2 ha)]
    omega
  match a with
  | ⟨0, _⟩ =>
    refine (hbatch 0 (by decide)).trans ?_
    unfold GatherDims.batchCoord
    rw [dif_pos (show (0 : Fin 3) ∈ d.operandBatchingDims from by decide)]
    rfl
  | ⟨2, _⟩ =>
    refine (hbatch 2 (by decide)).trans ?_
    unfold GatherDims.batchCoord
    rw [dif_pos (show (2 : Fin 3) ∈ d.operandBatchingDims from by decide)]
    rfl
  | ⟨1, _⟩ =>
    rw [GatherDims.batchCoord_eq_zero _ _ _ (show (⟨1, by decide⟩ : Fin 3) ∉ d.operandBatchingDims from by decide),
      GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 3) ∈ d.startIndexMap from List.mem_singleton.mpr rfl)]
    have hsi : d.siIdx (ix3 b k c) ⟨List.idxOf (⟨1, by decide⟩ : Fin 3) d.startIndexMap,
        List.idxOf_lt_length_iff.2 (List.mem_singleton.mpr rfl)⟩ = ix4 b k c 0 := by
      funext e
      refine Fin.ext ?_
      match e with
      | ⟨0, _⟩ => rfl
      | ⟨1, _⟩ => rfl
      | ⟨2, _⟩ => rfl
      | ⟨3, _⟩ => rfl
    rw [hsi]
    rfl

/-! ## Running sums -/

private theorem foldl_add {n : ℕ} (f : Fin n → EReal) (v : EReal) (l : List (Fin n)) :
    l.foldl (fun r i => r + f i) v = v + (l.map f).sum := by
  induction l generalizing v with
  | nil => simp
  | cons a l ih => rw [List.foldl_cons, ih, List.map_cons, List.sum_cons, add_assoc]

/-- The window's shape is a column. -/
private def windowEquiv (N : ℕ) : (⟨3, ![1, N, 1]⟩ : Shape).Idx ≃ Fin N where
  toFun i := i 1
  invFun k := ix3 0 k 0
  left_inv i := by
    funext a
    match a with
    | ⟨0, _⟩ => exact Subsingleton.elim (α := Fin 1) _ _
    | ⟨1, _⟩ => rfl
    | ⟨2, _⟩ => exact Subsingleton.elim (α := Fin 1) _ _
  right_inv k := rfl

/-- The sums over a window of a column's length that ends at each element are the sums of the elements up to it. -/
theorem window_sum {A N M C : ℕ} (hN : M + 1 = N) (p : (⟨3, ![A, N, C]⟩ : Shape).Idx → EReal)
    (h : (⟨3, ![A, N, C]⟩ : Shape).ReduceWindows (![1, N, 1] : Fin 3 → ℕ) ![1, 1, 1] ![0, M, 0] ![0, 0, 0] ⟨3, ![A, N, C]⟩)
    {u : Shape} (init : u.Idx → EReal) (hu : 0 < u.numel) (hi : init (Shape.Idx.first hu) = 0) (b : Fin A) (k : Fin N) (c : Fin C) :
    Host.reduceWindow (fun r s : EReal => r + s) ![1, N, 1] ![1, 1, 1] ![0, M, 0] ![0, 0, 0] p init h hu (ix3 b k c)
      = ∑ j : Fin N, if j ≤ k then p (ix3 b j c) else 0 := by
  unfold Host.reduceWindow
  refine (foldl_add _ _ _).trans ?_
  rw [hi, zero_add, ← Fin.sum_univ_def]
  refine (Equiv.sum_comp (((windowEquiv N).symm.trans (Shape.rowMajor ⟨3, ![1, N, 1]⟩))) _).symm.trans ?_
  have hk := k.isLt
  have hc := c.isLt
  have hb := b.isLt
  have step : ∀ w : Fin N, (if hin : ∀ a : Fin 3, (![0, M, 0] : Fin 3 → ℕ) a
        ≤ ((ix3 b k c : (⟨3, ![A, N, C]⟩ : Shape).Idx) a).val * (![1, 1, 1] : Fin 3 → ℕ) a + ((ix3 0 w 0 : (⟨3, ![1, N, 1]⟩ : Shape).Idx) a).val
        ∧ ((ix3 b k c : (⟨3, ![A, N, C]⟩ : Shape).Idx) a).val * (![1, 1, 1] : Fin 3 → ℕ) a + ((ix3 0 w 0 : (⟨3, ![1, N, 1]⟩ : Shape).Idx) a).val
          - (![0, M, 0] : Fin 3 → ℕ) a < (![A, N, C] : Fin 3 → ℕ) a
        then p (fun a => ⟨((ix3 b k c : (⟨3, ![A, N, C]⟩ : Shape).Idx) a).val * (![1, 1, 1] : Fin 3 → ℕ) a
          + ((ix3 0 w 0 : (⟨3, ![1, N, 1]⟩ : Shape).Idx) a).val - (![0, M, 0] : Fin 3 → ℕ) a, (hin a).2⟩) else 0)
      = if M ≤ k.val + w.val then p (ix3 b ⟨k.val + w.val - M, by omega⟩ c) else 0 := by
    intro w
    have hw := w.isLt
    by_cases hin : M ≤ k.val + w.val
    · rw [if_pos hin, dif_pos]
      · congr 1
        funext a
        apply Fin.ext
        match a with
        | ⟨0, _⟩ => show b.val * 1 + 0 - 0 = b.val; omega
        | ⟨1, _⟩ => show k.val * 1 + w.val - M = k.val + w.val - M; omega
        | ⟨2, _⟩ => show c.val * 1 + 0 - 0 = c.val; omega
      · intro a
        match a with
        | ⟨0, _⟩ => show 0 ≤ b.val * 1 + 0 ∧ b.val * 1 + 0 - 0 < A; omega
        | ⟨1, _⟩ => show M ≤ k.val * 1 + w.val ∧ k.val * 1 + w.val - M < N; omega
        | ⟨2, _⟩ => show 0 ≤ c.val * 1 + 0 ∧ c.val * 1 + 0 - 0 < C; omega
    · rw [if_neg hin, dif_neg]
      intro ha
      have h1 := (ha 1).1
      change M ≤ k.val * 1 + w.val at h1
      omega
  refine (Finset.sum_congr (g := fun w : Fin N => if M ≤ k.val + w.val then p (ix3 b ⟨k.val + w.val - M, by omega⟩ c) else 0) rfl fun w _ => ?_).trans ?_
  · have e : (Shape.rowMajor ⟨3, ![1, N, 1]⟩).symm (((windowEquiv N).symm.trans (Shape.rowMajor ⟨3, ![1, N, 1]⟩)) w) = ix3 0 w 0 :=
      Equiv.symm_apply_apply _ _
    refine Eq.trans ?_ (step w)
    simp only [e]
    rfl
  · refine Finset.sum_bij_ne_zero (fun w _ _ => ⟨k.val + w.val - M, by omega⟩) (fun _ _ _ => Finset.mem_univ _) ?_ ?_ ?_
    · intro w₁ _ h₁ w₂ _ h₂ he
      have g₁ : M ≤ k.val + w₁.val := by by_contra hn; exact h₁ (if_neg hn)
      have g₂ : M ≤ k.val + w₂.val := by by_contra hn; exact h₂ (if_neg hn)
      have := congrArg Fin.val he
      apply Fin.ext
      simp only at this
      omega
    · intro j _ hj
      have hjk : j ≤ k := by by_contra hn; exact hj (if_neg hn)
      have hjk' : j.val ≤ k.val := hjk
      have hjv : (⟨k.val + (j.val + M - k.val) - M, by omega⟩ : Fin N) = j := Fin.ext (show k.val + (j.val + M - k.val) - M = j.val by omega)
      refine ⟨⟨j.val + M - k.val, by omega⟩, Finset.mem_univ _, ?_, hjv⟩
      rw [if_pos (show M ≤ k.val + (j.val + M - k.val) by omega), hjv]
      rwa [if_pos hjk] at hj
    · intro w _ h₁
      have g₁ : M ≤ k.val + w.val := by by_contra hn; exact h₁ (if_neg hn)
      have hw := w.isLt
      rw [if_pos g₁, if_pos]
      exact Fin.le_def.mpr (show k.val + w.val - M ≤ k.val by omega)

private theorem numel_one : 0 < (⟨0, ![]⟩ : Shape).numel := by decide

/-- A running sum is the sum of the column's elements up to its own. -/
theorem running_at (p : FVec Ideal S64x8192x32 .f32) (b : Fin 64) (k : Fin 8192) (c : Fin 32) :
    running p (ix3 b k c) = ∑ j : Fin 8192, if j ≤ k then (p (ix3 b j c) : EReal) else 0 := by
  have hz : (broadcastInDim S_ ![] bcast_S_S_ (constant S_ .f32 0x00000000#32 : FVec Ideal S_ .f32) (Shape.Idx.first h_S_) : EReal) = 0 := by
    show Ideal.ofBits .f32 0#32 = 0
    simp [Ideal.ofBits, Ideal.ieee]
  have h := window_sum (A := 64) (N := 8192) (M := 8191) (C := 32) (by norm_num) p
    reduceWindows_S64x8192x32_S64x8192x32_w1s1p0_0_w8192s1p8191_0_w1s1p0_0
    (fun _ : (⟨0, ![]⟩ : Shape).Idx => (broadcastInDim S_ ![] bcast_S_S_ (constant S_ .f32 0x00000000#32 : FVec Ideal S_ .f32) (Shape.Idx.first h_S_) : EReal))
    numel_one hz b k c
  refine Eq.trans ?_ h
  unfold running Host.reduceWindowAdd
  rw [Ideal.hostReduceWindowAdd_def]
  unfold Ideal.hostReduceWindowAdd
  rfl

end Cert.Proof.Radix.Ref
end
-- ==== Proof.RefReads.lean ====
/-
  The reference's arithmetic read at an index on the extended reals.
-/
module

public import proofs.«01_k».proof.Proof.Ref
public import Idealize.ShloMosaic.Lib.Pointwise

@[expose] public section

set_option maxRecDepth 16384

noncomputable section

namespace Cert.Proof.Radix.Ref

open Idealize.ShloMosaic
open Cert.ReferenceIdeal Cert.ReferenceIdeal.Facts₀

/-- A greatest along the middle axis, at sizes left open. -/
theorem greatest_gen {A N C : ℕ} (x : FVec Ideal (⟨3, ![A, N, C]⟩ : Shape) .f32) (z : S_.Idx → EReal)
    (h : (⟨3, ![A, N, C]⟩ : Shape).ReducesTo [1] (⟨2, ![A, C]⟩ : Shape)) (hu : 0 < S_.numel) (b : Fin A) (c : Fin C) :
    Host.reduce (max : EReal → EReal → EReal) x z h hu (ix2 b c)
      = Finset.univ.fold max (z (Shape.Idx.first hu)) fun k : Fin N => (x (ix3 b k c) : EReal) :=
  (Host.reduce_eq_fold max x z h hu (ix2 b c)).trans (h.fold_fiber_r3_a1 (ix2 b c) max _ x)

/-- A column's greatest logit, -/
theorem greatest_at (x : FVec Ideal S64x8192x32 .f32) (b : Fin 64) (c : Fin 32) :
    greatest x (ix2 b c) = Finset.univ.fold max (Ideal.ofBits .f32 0xFF800000#32) fun k : Fin 8192 => (x (ix3 b k c) : EReal) :=
  greatest_gen x (constant (F := Ideal) S_ .f32 0xFF800000#32) reducesTo_S64x8192x32_S64x32_d1 h_S_ b c

/-- logits less some numbers of their columns, -/
theorem less_at (x : FVec Ideal S64x8192x32 .f32) (g : FVec Ideal S64x32 .f32) (b : Fin 64) (k : Fin 8192) (c : Fin 32) :
    less x g (ix3 b k c) = (x (ix3 b k c) : EReal) - max (Ideal.ofBits .f32 0xFF800000#32) (g (ix2 b c)) := by
  pointwise [less]

/-- a logit less its column's greatest, -/
theorem shifted_at (x : FVec Ideal S64x8192x32 .f32) (b : Fin 64) (k : Fin 8192) (c : Fin 32) :
    shifted x (ix3 b k c) = (x (ix3 b k c) : EReal) - max (Ideal.ofBits .f32 0xFF800000#32) (greatest x (ix2 b c)) :=
  less_at x (greatest x) b k c

/-- numbers less the logarithm of their columns' summed exponentials, -/
theorem lessLog_at (x : FVec Ideal S64x8192x32 .f32) (b : Fin 64) (k : Fin 8192) (c : Fin 32) :
    lessLog x (ix3 b k c) = (x (ix3 b k c) : EReal)
      - FloatOps.log (F := Ideal) (φ := .f32) (∑ k : Fin 8192, FloatOps.exp (F := Ideal) (φ := .f32) (x (ix3 b k c))) := by
  pointwise [lessLog]

/-- a log-probability, -/
theorem logp_at (x : FVec Ideal S64x8192x32 .f32) (b : Fin 64) (k : Fin 8192) (c : Fin 32) :
    logp x (ix3 b k c) = (shifted x (ix3 b k c) : EReal)
      - FloatOps.log (F := Ideal) (φ := .f32) (∑ k : Fin 8192, FloatOps.exp (F := Ideal) (φ := .f32) (shifted x (ix3 b k c))) :=
  lessLog_at (shifted x) b k c

/-- a row to take, -/
theorem rows_at (o : IVec S64x8192x32 32) (b : Fin 64) (k : Fin 8192) (c : Fin 32) :
    rows o (ix4 b k c 0) = Scalar.select (IntOp.cmpi .slt (o (ix3 b k c)) 0#32) (IntOp.addi (o (ix3 b k c)) 8192#32) (o (ix3 b k c)) := by
  pointwise [rows]

/-- and the result at an element. -/
theorem blend_at (m : IVec S64x8192x32 1) (l : FVec Ideal S64x8192x32 .f32) (b : Fin 64) (k : Fin 8192) (c : Fin 32) :
    blend m l (ix3 b k c) = FloatOps.uitofp (F := Ideal) .f32 (m (ix3 b k c)) * (l (ix3 b k c) : EReal)
      + (1 - FloatOps.uitofp (F := Ideal) .f32 (m (ix3 b k c))) * Ideal.ofBits .f32 0xC28C0000#32 := by
  pointwise [blend]

end Cert.Proof.Radix.Ref
end
-- ==== Proof.Mask.lean ====
/-
  The reference's mask over the sorted places and its takes, read at an index on the extended reals.
-/
module

public import proofs.«01_k».proof.Proof.Places
public import proofs.«01_k».proof.Proof.RefReads
public import Idealize.ShloMosaic.Lib.Pipeline.Value
public import Idealize.ShloMosaic.Lib.ReduceAll
public import Idealize.ShloMosaic.Lib.StableHlo.Predicate

@[expose] public section

set_option maxRecDepth 16384

noncomputable section

namespace Cert.Proof.Radix.Ref

open Idealize.ShloMosaic
open Cert.ReferenceIdeal Cert.ReferenceIdeal.Facts₀

/-! ## The mask -/

/-- A column with one element put before it and its last dropped. -/
theorem before_gen {α : Type} {A N N' C : ℕ} (x : (⟨3, ![A, 1, C]⟩ : Shape).Idx → α) (y : (⟨3, ![A, N, C]⟩ : Shape).Idx → α)
    (h : Shape.Concatenates [⟨3, ![A, 1, C]⟩, ⟨3, ![A, N, C]⟩] ⟨3, ![A, N', C]⟩ 1)
    (hs : (⟨3, ![A, N', C]⟩ : Shape).Slices ![0, 0, 0] ⟨3, ![A, N, C]⟩) (b : Fin A) (k : Fin N) (c : Fin C) :
    extractStridedSlice ⟨3, ![A, N, C]⟩ ![0, 0, 0] (concatenate ⟨3, ![A, N', C]⟩ 1 [⟨⟨3, ![A, 1, C]⟩, x⟩, ⟨⟨3, ![A, N, C]⟩, y⟩] h) hs (ix3 b k c)
      = if k.val = 0 then x (ix3 b 0 c) else y (ix3 b ⟨k.val - 1, by have := k.isLt; omega⟩ c) := by
  unfold extractStridedSlice
  by_cases hk : k.val = 0
  · rw [if_pos hk]
    refine concatenate_pair_apply_left 1 x y h _ rfl (ix3 b 0 c) fun a => ?_
    match a with
    | ⟨0, _⟩ => show b.val = 0 + b.val; omega
    | ⟨1, _⟩ => show 0 = 0 + k.val; omega
    | ⟨2, _⟩ => show c.val = 0 + c.val; omega
  · rw [if_neg hk]
    refine concatenate_pair_apply_right 1 x y h _ rfl rfl (ix3 b ⟨k.val - 1, by have := k.isLt; omega⟩ c) (fun a ha => ?_) ?_
    · match a with
      | ⟨0, _⟩ => show b.val = 0 + b.val; omega
      | ⟨1, _⟩ => exact absurd rfl ha
      | ⟨2, _⟩ => show c.val = 0 + c.val; omega
    · show k.val - 1 + 1 = 0 + k.val; omega

/-- The mask is 1 at the first place and where the predecessor's running sum is below the kept share. -/
theorem mask_at (p : FVec Ideal S64x8192x32 .f32) (b : Fin 64) (k : Fin 8192) (c : Fin 32) :
    mask p (ix3 b k c) = if k.val = 0 then 1#1
      else BitVec.ofBool (decide ((running p (ix3 b ⟨k.val - 1, by have := k.isLt; omega⟩ c) : EReal) < Ideal.ofBits .f32 0x3F5C28F6#32)) := by
  unfold mask
  generalize running p = q
  refine Eq.trans (before_gen (A := 64) (N := 8192) (N' := 8193) (C := 32) _ _ _ _ b k c) ?_
  rfl

/-! ## A take of rows in range -/

/-- A take reads where the row is in range. -/
theorem take_select {α : Type} (x : S64x8192x32.Idx → α) (i : IVec S64x8192x32x1 32) (z : S_.Idx → α) (j : S64x8192x32.Idx) :
    take x i z j = Scalar.select (inRange i j) (Host.gather gather_S64x8192x32_S64x8192x32x1_S64x8192x32_n_1_02_02_1_3_111 x i j)
      (broadcastInDim S64x8192x32 ![] bcast_S_S64x8192x32 z j) := by
  unfold take
  generalize inRange i = r
  generalize Host.gather gather_S64x8192x32_S64x8192x32x1_S64x8192x32_n_1_02_02_1_3_111 x i = g
  rfl

/-- A take along rows in range reads them. -/
theorem take_at {α : Type} (x : S64x8192x32.Idx → α) (o : IVec S64x8192x32 32) (z : S_.Idx → α)
    (r : Fin 64 → Fin 8192 → Fin 32 → Fin 8192) (ho : ∀ b k c, o (ix3 b k c) = BitVec.ofNat 32 (r b k c).val)
    (b : Fin 64) (k : Fin 8192) (c : Fin 32) :
    take x (rows o) z (ix3 b k c) = x (ix3 b (r b k c) c) := by
  have e : ∀ v : Fin 8192, (BitVec.ofNat 32 v.val).toNat = v.val := by
    intro v; have hv := v.isLt; rw [BitVec.toNat_ofNat]; omega
  have hsmall : ∀ v : Fin 8192, (BitVec.ofNat 32 v.val).toNat < 2 ^ 31 := by
    intro v; have hv := v.isLt; rw [e]; omega
  have hrow : ∀ b k c, rows o (ix4 b k c 0) = BitVec.ofNat 32 (r b k c).val := by
    intro b k c
    rw [rows_at, ho]
    unfold Scalar.select
    rw [if_neg]
    intro h
    have h' := (StableHlo.Predicate.slt_iff_toNat (hsmall _) (by decide)).mp h
    exact absurd h' (Nat.not_lt_zero _)
  have hin : inRange (rows o) (ix3 b k c) = 1#1 := by
    refine Host.reduce_andi_one _ _ _ _ _ rfl fun i => ?_
    have hi : i = ix4 (i 0) (i 1) (i 2) 0 := by
      funext a
      match a with
      | ⟨0, _⟩ => rfl
      | ⟨1, _⟩ => rfl
      | ⟨2, _⟩ => rfl
      | ⟨3, _⟩ => exact Subsingleton.elim (α := Fin 1) _ _
    show IntOp.andi (IntOp.cmpi .sge (rows o i) 0#32) (IntOp.cmpi .sle (rows o i) 8191#32) = 1#1
    rw [show rows o i = BitVec.ofNat 32 (r (i 0) (i 1) (i 2)).val from (congrArg (rows o) hi).trans (hrow (i 0) (i 1) (i 2))]
    have h1 : IntOp.cmpi .sge (BitVec.ofNat 32 (r (i 0) (i 1) (i 2)).val) 0#32 = 1#1 :=
      (StableHlo.Predicate.sge_iff_toNat (hsmall _) (by decide)).mpr (Nat.zero_le _)
    have h2 : IntOp.cmpi .sle (BitVec.ofNat 32 (r (i 0) (i 1) (i 2)).val) 8191#32 = 1#1 :=
      (StableHlo.Predicate.sle_iff_toNat (hsmall _) (by decide)).mpr (by
        rw [e]; exact Nat.le_of_lt_succ (r (i 0) (i 1) (i 2)).isLt)
    rw [h1, h2]
    decide
  have ei : (BitVec.ofNat 32 (r b k c).val).toInt = (r b k c).val := by
    rw [BitVec.toInt_eq_toNat_of_lt (by have := hsmall (r b k c); omega), e]
  rw [take_select]
  rw [hin, gather_at]
  unfold Scalar.select
  rw [if_pos (show (1#1 : BitVec 1) = 1 from rfl)]
  refine congrArg (fun v : Fin 8192 => x (ix3 b v c)) (Fin.ext ?_)
  show min (rows o (ix4 b k c 0)).toInt.toNat 8191 = (r b k c).val
  rw [hrow, ei, Int.toNat_natCast]
  have := (r b k c).isLt
  omega

end Cert.Proof.Radix.Ref
end
-- ==== Proof.Column.lean ====
/-
  The reference's column on the extended reals: an element keeps its log-probability if and only if it lies at or
  above the threshold that the column's share determines.
-/
module

public import proofs.«01_k».proof.Proof.Cut
public import proofs.«01_k».proof.Proof.Sorted
public import proofs.«01_k».proof.Proof.Mask

@[expose] public section

set_option maxRecDepth 16384

noncomputable section

namespace Cert.Proof.Radix.Ref

open Idealize.ShloMosaic
open Cert.ReferenceIdeal Cert.ReferenceIdeal.Facts₀

/-! ## The cut in an order -/

/-- In an order of falling elements, the elements before a place sum to less than the target if and only if the
    place's own element is among the largest that reach the target, no one of which can be left out. -/
theorem cut_iff {n : ℕ} (E : Fin n → ℝ) (hE : ∀ k, 0 ≤ E k) (s : Fin n → Fin n) (hs : Function.Bijective s)
    (hfall : ∀ i j, i < j → E (s j) ≤ E (s i)) (A : Fin n → Prop) [DecidablePred A] (hup : ∀ k k', A k → E k ≤ E k' → A k')
    (T : ℝ) (h1 : T ≤ ∑ k, if A k then E k else 0) (h2 : ∀ i, A i → (∑ k, if A k then E k else 0) - E i < T) (i : Fin n) :
    (∑ j, if j < i then E (s j) else 0) < T ↔ A (s i) := by
  classical
  rw [← Finset.sum_filter] at h1
  have h2' : ∀ i, A i → (∑ k ∈ Finset.univ.filter A, E k) - E i < T := by
    intro i hi
    have := h2 i hi
    rwa [← Finset.sum_filter] at this
  have hsum : (∑ j, if j < i then E (s j) else 0) = ∑ k ∈ (Finset.univ.filter (· < i)).image s, E k := by
    rw [← Finset.sum_filter, Finset.sum_image fun a _ b _ h => hs.1 h]
  rw [hsum]
  by_cases hA : A (s i)
  · refine ⟨fun _ => hA, fun _ => ?_⟩
    refine lt_of_le_of_lt ?_ (h2' (s i) hA)
    have hmem : s i ∈ Finset.univ.filter A := Finset.mem_filter.mpr ⟨Finset.mem_univ _, hA⟩
    rw [← Finset.sum_erase_eq_sub hmem]
    refine Finset.sum_le_sum_of_subset_of_nonneg (fun k hk => ?_) fun k _ _ => hE k
    obtain ⟨j, hj, rfl⟩ := Finset.mem_image.mp hk
    have hji : j < i := (Finset.mem_filter.mp hj).2
    exact Finset.mem_erase.mpr ⟨fun h => hji.ne (hs.1 h), Finset.mem_filter.mpr ⟨Finset.mem_univ _, hup _ _ hA (hfall j i hji)⟩⟩
  · refine ⟨fun h => absurd h (not_lt.mpr (h1.trans ?_)), fun h => absurd h hA⟩
    refine Finset.sum_le_sum_of_subset_of_nonneg (fun k hk => ?_) fun k _ _ => hE k
    obtain ⟨j, rfl⟩ := hs.2 k
    refine Finset.mem_image.mpr ⟨j, Finset.mem_filter.mpr ⟨Finset.mem_univ _, ?_⟩, rfl⟩
    have hAj : A (s j) := (Finset.mem_filter.mp hk).2
    rcases lt_trichotomy j i with h | h | h
    · exact h
    · exact absurd (h ▸ hAj) hA
    · exact absurd (hup _ _ hAj (hfall i j h)) hA

/-! ## The log-probabilities -/

/-- The log-probability of a logit of a column without the infinity. -/
theorem logp_of (x : FVec Ideal S64x8192x32 .f32) (b : Fin 64) (c : Fin 32) (E : Fin 8192 → ℝ)
    (hE : ∀ k, ExpOf (x (ix3 b k c)) (E k)) (hS : 0 < ∑ k, E k) (k : Fin 8192) :
    logp x (ix3 b k c) = (x (ix3 b k c) : EReal) - ((Real.log (∑ k, E k) : ℝ) : EReal) := by
  have hbot : Ideal.ofBits .f32 0xFF800000#32 = ⊥ := by simp [Ideal.ofBits, Ideal.ieee]
  obtain ⟨v, hv⟩ : ∃ v : ℝ, greatest x (ix2 b c) = ((v : ℝ) : EReal) := by
    have hlt : (greatest x (ix2 b c) : EReal) < ⊤ := by
      rw [greatest_at, hbot]
      refine (Finset.fold_max_lt _).mpr ⟨bot_lt_top, fun k _ => ?_⟩
      rcases hE k with ⟨h, _⟩ | ⟨y, h, _⟩
      · rw [h]; exact bot_lt_top
      · rw [h]; exact EReal.coe_lt_top _
    have hgt : (⊥ : EReal) < greatest x (ix2 b c) := by
      obtain ⟨k, _, hk⟩ := Finset.exists_lt_of_sum_lt (f := fun _ : Fin 8192 => (0 : ℝ)) (by simpa using hS)
      rw [greatest_at, hbot]
      refine (Finset.lt_fold_max _).mpr (Or.inr ⟨k, Finset.mem_univ _, ?_⟩)
      rcases hE k with ⟨_, h⟩ | ⟨y, h, _⟩
      · exact absurd hk (by rw [h]; exact lt_irrefl _)
      · rw [h]; exact EReal.bot_lt_coe _
    exact ⟨(greatest x (ix2 b c) : EReal).toReal, (EReal.coe_toReal hlt.ne hgt.ne').symm⟩
  have hsh : ∀ k, shifted x (ix3 b k c) = (x (ix3 b k c) : EReal) - ((v : ℝ) : EReal) := by
    intro k
    rw [shifted_at, hbot, hv, max_eq_right bot_le]
  have hexp : ∀ k, FloatOps.exp (F := Ideal) (φ := .f32) (shifted x (ix3 b k c)) = ((E k / Real.exp v : ℝ) : EReal) := by
    intro k
    rw [hsh]
    rcases hE k with ⟨h, h'⟩ | ⟨y, h, h'⟩
    · rw [h, h', zero_div, EReal.bot_sub]; exact EReal.coe_zero.symm
    · rw [h, h', ← EReal.coe_sub, ← Real.exp_sub]; rfl
  have hsum : ∑ k, E k / Real.exp v = (∑ k, E k) / Real.exp v := (Finset.sum_div _ _ _).symm
  have hpos : 0 < (∑ k, E k) / Real.exp v := div_pos hS (Real.exp_pos v)
  have hlog : FloatOps.log (F := Ideal) (φ := .f32) (((∑ k, E k) / Real.exp v : ℝ) : EReal) = ((Real.log ((∑ k, E k) / Real.exp v) : ℝ) : EReal) := by
    show (if _ ≤ (0 : ℝ) then (⊥ : EReal) else _) = _
    rw [if_neg (not_le.mpr hpos)]
  rw [logp_at, Finset.sum_congr rfl fun k _ => hexp k, ← coe_sum', hsum, hlog, hsh, Real.log_div hS.ne' (Real.exp_pos v).ne', Real.log_exp]
  rcases hE k with ⟨h, _⟩ | ⟨y, h, _⟩
  · rw [h, EReal.bot_sub, EReal.bot_sub, EReal.bot_sub]
  · rw [h, ← EReal.coe_sub, ← EReal.coe_sub, ← EReal.coe_sub]
    refine congrArg (fun r : ℝ => (r : EReal)) ?_
    ring

/-- The log-probability's exponential is the logit's share. -/
theorem exp_less {x : EReal} {E : ℝ} (h : ExpOf x E) {S : ℝ} (hS : 0 < S) :
    FloatOps.exp (F := Ideal) (φ := .f32) (x - ((Real.log S : ℝ) : EReal)) = ((E / S : ℝ) : EReal) := by
  rcases h with ⟨rfl, rfl⟩ | ⟨y, rfl, rfl⟩
  · rw [zero_div, EReal.bot_sub]; exact EReal.coe_zero.symm
  · rw [← EReal.coe_sub]
    show ((Real.exp _ : ℝ) : EReal) = _
    rw [Real.exp_sub, Real.exp_log hS]

/-- Logits in order have their exponentials in order. -/
theorem exp_mono {x x' : EReal} {E E' r : ℝ} (h : ExpOf x E) (h' : ExpOf x' E') (hle : x - ((r : ℝ) : EReal) ≤ x' - ((r : ℝ) : EReal)) : E ≤ E' := by
  rcases h with ⟨_, rfl⟩ | ⟨y, rfl, rfl⟩
  · exact h'.nonneg
  · rcases h' with ⟨rfl, _⟩ | ⟨y', rfl, rfl⟩
    · rw [EReal.bot_sub, ← EReal.coe_sub] at hle
      exact absurd (le_bot_iff.mp hle) (EReal.coe_ne_bot _)
    · rw [← EReal.coe_sub, ← EReal.coe_sub, EReal.coe_le_coe_iff] at hle
      exact Real.exp_le_exp.mpr (by linarith)

/-! ## The mask brought back -/

/-- An array's exponentials at an index. -/
theorem exp_at (v : FVec Ideal S64x8192x32 .f32) (j : S64x8192x32.Idx) :
    (Host.exp v : FVec Ideal S64x8192x32 .f32) j = FloatOps.exp (F := Ideal) (φ := .f32) (v j) := rfl

/-- The mask over sorted places whose numbers are exponentials' shares of their sum is 1 exactly at the elements at
    and above the threshold. -/
theorem mask_iff (p : FVec Ideal S64x8192x32 .f32) (b : Fin 64) (c : Fin 32) (E : Fin 8192 → ℝ) (hE : ∀ k, 0 ≤ E k) (hS : 0 < ∑ k, E k)
    (s : Fin 8192 → Fin 8192) (hs : Function.Bijective s) (hfall : ∀ i j, i < j → E (s j) ≤ E (s i))
    (hP : ∀ j, p (ix3 b j c) = ((E (s j) / ∑ k, E k : ℝ) : EReal)) (A : Fin 8192 → Prop) [DecidablePred A]
    (hup : ∀ k k', A k → E k ≤ E k' → A k') (h1 : share * ∑ k, E k ≤ ∑ k, if A k then E k else 0)
    (h2 : ∀ i, A i → (∑ k, if A k then E k else 0) - E i < share * ∑ k, E k) (i : Fin 8192) :
    mask p (ix3 b i c) = if A (s i) then 1#1 else 0#1 := by
  have hT : 0 < share * ∑ k, E k := mul_pos share_pos hS
  have hcut := cut_iff E hE s hs hfall A hup _ h1 h2 i
  rw [mask_at]
  by_cases h0 : i.val = 0
  · rw [if_pos h0, if_pos]
    refine hcut.mp ?_
    rw [Finset.sum_eq_zero fun j _ => if_neg (fun hj => by have := Fin.lt_def.mp hj; omega)]
    exact hT
  · rw [if_neg h0, running_at, share_word]
    have hsum : (∑ j : Fin 8192, if j ≤ (⟨i.val - 1, by have := i.isLt; omega⟩ : Fin 8192) then (p (ix3 b j c) : EReal) else 0)
        = (((∑ j, if j < i then E (s j) else 0) / ∑ k, E k : ℝ) : EReal) := by
      rw [Finset.sum_div, coe_sum']
      refine Finset.sum_congr rfl fun j _ => ?_
      by_cases hj : j < i
      · rw [if_pos hj, if_pos (Fin.le_def.mpr (by have := Fin.lt_def.mp hj; show j.val ≤ i.val - 1; omega)), hP]
      · rw [if_neg hj, if_neg (fun h => hj (Fin.lt_def.mpr (by have : j.val ≤ i.val - 1 := h; omega)))]
        simp
    rw [hsum]
    have hiff : (((∑ j, if j < i then E (s j) else 0) / ∑ k, E k : ℝ) : EReal) < ((share : ℝ) : EReal) ↔ A (s i) := by
      rw [EReal.coe_lt_coe_iff, div_lt_iff₀ hS]
      exact hcut
    by_cases hA : A (s i)
    · rw [if_pos hA, decide_eq_true (hiff.mpr hA)]; rfl
    · rw [if_neg hA, decide_eq_false (fun h => hA (hiff.mp h))]; rfl

/-- The mask in the columns' own order, of log-probabilities `l`, is 1 exactly at the elements at and above the
    threshold. -/
theorem kept_iff (l : FVec Ideal S64x8192x32 .f32) (b : Fin 64) (c : Fin 32) (X : Fin 8192 → EReal) (E : Fin 8192 → ℝ)
    (hE : ∀ k, ExpOf (X k) (E k)) (hS : 0 < ∑ k, E k)
    (hl : ∀ k, l (ix3 b k c) = X k - ((Real.log (∑ k, E k) : ℝ) : EReal)) (A : Fin 8192 → Prop) [DecidablePred A]
    (hup : ∀ k k', A k → E k ≤ E k' → A k') (h1 : share * ∑ k, E k ≤ ∑ k, if A k then E k else 0)
    (h2 : ∀ i, A i → (∑ k, if A k then E k else 0) - E i < share * ∑ k, E k) (k : Fin 8192) :
    kept l (ix3 b k c) = if A k then 1#1 else 0#1 := by
  choose s hsb hso hsf using order_spec l
  choose p hp hsp using fun b c => inverse_spec (order l) b c (s b c) (hsb b c) (hso b c)
  have hP : ∀ j, (Host.exp (take l (rows (order l)) (constant (F := Ideal) S_ .f32 0x7FC00000#32)) : FVec Ideal S64x8192x32 .f32) (ix3 b j c)
      = ((E (s b c j) / ∑ k, E k : ℝ) : EReal) := by
    intro j
    rw [exp_at, take_at l (order l) _ (fun b k c => s b c k) (fun b k c => hso b c k), hl]
    exact exp_less (hE _) hS
  have hfall : ∀ i j, i < j → E (s b c j) ≤ E (s b c i) := by
    intro i j hij
    have h := hsf b c i j hij
    rw [hl, hl] at h
    exact exp_mono (hE _) (hE _) h
  unfold kept
  generalize (Host.exp (take l (rows (order l)) (constant (F := Ideal) S_ .f32 0x7FC00000#32)) : FVec Ideal S64x8192x32 .f32) = q at hP ⊢
  rw [take_at (mask q) (inverse (order l)) _ (fun b k c => p b c k) (fun b k c => hp b c k),
    mask_iff q b c E (fun k => (hE k).nonneg) hS (s b c) (hsb b c) hfall hP A hup h1 h2, hsp]

/-- The reference's result at an element. -/
theorem blend_of (x : FVec Ideal S64x8192x32 .f32) (m : IVec S64x8192x32 1) (b : Fin 64) (k : Fin 8192) (c : Fin 32)
    (A : Prop) [Decidable A] (hm : m (ix3 b k c) = if A then 1#1 else 0#1) :
    blend m x (ix3 b k c) = if A then (x (ix3 b k c) : EReal) else Ideal.ofBits .f32 0xC28C0000#32 := by
  rw [blend_at, hm]
  by_cases h : A
  · rw [if_pos h, if_pos h]
    have e : FloatOps.uitofp (F := Ideal) .f32 (1#1) = (1 : EReal) := by
      show (((1#1 : BitVec 1).toNat : ℝ) : EReal) = 1
      simp
    rw [e, one_mul, ← EReal.coe_one, ← EReal.coe_sub, sub_self, EReal.coe_zero, zero_mul, add_zero]
  · rw [if_neg h, if_neg h]
    have e : FloatOps.uitofp (F := Ideal) .f32 (0#1) = (0 : EReal) := by
      show (((0#1 : BitVec 1).toNat : ℝ) : EReal) = 0
      simp
    rw [e, zero_mul, sub_zero, one_mul, zero_add]

/-! ## A column of infinities -/

/-- Of a column of infinities every log-probability is the lower infinity, -/
theorem logp_top (x : FVec Ideal S64x8192x32 .f32) (b : Fin 64) (c : Fin 32) (hx : ∀ k, x (ix3 b k c) = (⊤ : EReal)) (k : Fin 8192) :
    logp x (ix3 b k c) = (⊥ : EReal) := by
  have hg : greatest x (ix2 b c) = (⊤ : EReal) := by
    rw [greatest_at]
    exact top_le_iff.mp ((Finset.le_fold_max _).mpr (Or.inr ⟨0, Finset.mem_univ _, (hx 0).ge⟩))
  have hsh : ∀ k, shifted x (ix3 b k c) = (⊥ : EReal) := by
    intro k
    rw [shifted_at, hg, hx, max_eq_right le_top]
    exact EReal.sub_top _
  rw [logp_at, hsh]
  exact EReal.bot_sub _

/-- and the mask is 1. -/
theorem kept_bot (l : FVec Ideal S64x8192x32 .f32) (b : Fin 64) (c : Fin 32) (hl : ∀ k, l (ix3 b k c) = (⊥ : EReal)) (k : Fin 8192) :
    kept l (ix3 b k c) = 1#1 := by
  choose s hsb hso hsf using order_spec l
  choose p hp hsp using fun b c => inverse_spec (order l) b c (s b c) (hsb b c) (hso b c)
  have hP : ∀ j, (Host.exp (take l (rows (order l)) (constant (F := Ideal) S_ .f32 0x7FC00000#32)) : FVec Ideal S64x8192x32 .f32) (ix3 b j c) = (0 : EReal) := by
    intro j
    rw [exp_at, take_at l (order l) _ (fun b k c => s b c k) (fun b k c => hso b c k), hl]
    rfl
  unfold kept
  generalize (Host.exp (take l (rows (order l)) (constant (F := Ideal) S_ .f32 0x7FC00000#32)) : FVec Ideal S64x8192x32 .f32) = q at hP ⊢
  rw [take_at (mask q) (inverse (order l)) _ (fun b k c => p b c k) (fun b k c => hp b c k), mask_at]
  by_cases h0 : (p b c k).val = 0
  · rw [if_pos h0]
  · rw [if_neg h0, running_at, share_word, Finset.sum_eq_zero fun j _ => ?_, decide_eq_true (EReal.coe_pos.mpr share_pos)]
    · rfl
    · rw [hP]; split_ifs <;> rfl

end Cert.Proof.Radix.Ref
end
-- ==== Proof.Value.lean ====
/-
  The algebraic claim: under the precondition the kernel's result and the reference's are equal on the extended reals.
-/
module

public import proofs.«01_k».proof.Proof.Launch
public import proofs.«01_k».proof.Proof.Column

@[expose] public section

set_option maxRecDepth 16384

noncomputable section

namespace Cert.Proof.Radix

open Idealize.ShloMosaic Idealize.ShloMosaic.TcCoe Idealize.SL.Sem
open Cert.KernelIdeal

/-- The kernel's result at an element, from its column's numbers. -/
theorem kernel_at (E : Fin 8192 → ℝ) (X : ℕ → EReal) (hE : ∀ k : Fin 8192, ExpOf (X k) (E k)) (hS : 0 < ∑ k, E k) (t : ℕ)
    (ht : tau (F := Ideal) (exps (F := Ideal) X 8192) = t) (k : Fin 8192) :
    outE (F := Ideal) (exps (F := Ideal) X 8192) (X k)
      = if val t ≤ ((E k : ℝ) : EReal) then X k - ((Real.log (∑ k, E k) : ℝ) : EReal) else Ideal.ofBits .f32 0xC28C0000#32 := by
  have hsum : sumE (F := Ideal) (exps (F := Ideal) X 8192) = ((∑ k, E k : ℝ) : EReal) := by
    rw [sumE_ideal, coe_sum']
    exact (list_sum_range (fun i => FloatOps.exp (F := Ideal) (φ := .f32) (X i)) 8192).trans (Finset.sum_congr rfl fun k _ => (hE k).exp)
  have hlog : FloatOps.log (F := Ideal) (φ := .f32) ((∑ k, E k : ℝ) : EReal) = ((Real.log (∑ k, E k) : ℝ) : EReal) := by
    show (if _ ≤ (0 : ℝ) then (⊥ : EReal) else _) = _
    rw [if_neg (not_le.mpr hS)]
  unfold outE
  rw [ht, hsum, hlog, (hE k).exp]
  unfold Scalar.select
  by_cases h : val t ≤ ((E k : ℝ) : EReal)
  · rw [if_pos h]
    exact if_pos ((cmp_oge _ _).mpr h)
  · rw [if_neg h]
    exact if_neg fun hc => h ((cmp_oge _ _).mp hc)

/-- The kernel's result in a column of infinities. -/
theorem kernel_top (X : ℕ → EReal) (hX : ∀ k : Fin 8192, X k = ⊤) (k : Fin 8192) :
    outE (F := Ideal) (exps (F := Ideal) X 8192) (X k) = (⊥ : EReal) := by
  have hsum : sumE (F := Ideal) (exps (F := Ideal) X 8192) = (⊤ : EReal) := by
    rw [sumE_ideal]
    refine (list_sum_range (fun i => FloatOps.exp (F := Ideal) (φ := .f32) (X i)) 8192).trans (top_le_iff.mp ?_)
    refine le_trans ?_ (Finset.single_le_sum (fun i _ => exp_nonneg' _) (Finset.mem_univ (0 : Fin 8192)))
    rw [hX]
    exact le_rfl
  unfold outE
  rw [hsum, hX]
  unfold Scalar.select
  refine (if_pos ((cmp_oge _ _).mpr le_top)).trans ?_
  exact EReal.sub_top _

/-- The reference's result at an element, of columns that satisfy the precondition. -/
theorem value_eq (x : FVec Ideal Cert.ReferenceIdeal.S64x8192x32 .f32) (hx : Cert.Pre_one_cut.fn (F := Ideal) x = fun _ => 1#1)
    (b : Fin 64) (k : Fin 8192) (c : Fin 32) (X : ℕ → EReal) (hX : ∀ k : Fin 8192, X k = x (ix3 b k c)) :
    outE (F := Ideal) (exps (F := Ideal) X 8192) (X k) = Ref.blend (Ref.kept (Ref.logp x)) (Ref.logp x) (ix3 b k c) := by
  rcases column x hx b c with htop | ⟨E, t, hE, hS, htau, h1, h2⟩
  · rw [kernel_top X (fun k => (hX k).trans (htop k)) k]
    have hl := Ref.logp_top x b c htop
    generalize Ref.logp x = l at hl ⊢
    exact (((Ref.blend_of l (Ref.kept l) b k c True ((Ref.kept_bot l b c hl k).trans (if_pos trivial).symm)).trans (if_pos trivial)).trans (hl k)).symm
  · have hE' : ∀ k : Fin 8192, ExpOf (X k) (E k) := fun k => (hX k).symm ▸ hE k
    have ht : tau (F := Ideal) (exps (F := Ideal) X 8192) = t :=
      htau (fun i => FloatOps.exp (F := Ideal) (φ := .f32) (X i)) fun k => (hE' k).exp
    rw [kernel_at E X hE' hS t ht k]
    have hl : ∀ k, Ref.logp x (ix3 b k c) = X k - ((Real.log (∑ k, E k) : ℝ) : EReal) := fun k => by
      rw [Ref.logp_of x b c E hE hS k, hX]
    generalize Ref.logp x = l at hl ⊢
    have hk := Ref.kept_iff l b c (fun k => X k) E hE' hS hl (fun k => val t ≤ ((E k : ℝ) : EReal))
      (fun k k' h hk => h.trans (EReal.coe_le_coe_iff.mpr hk)) h1 h2 k
    rw [Ref.blend_of l (Ref.kept l) b k c _ hk, hl]

/-- Under the precondition the kernel and the reference end with equal results. -/
theorem algebraic : Cert.algebraic_KernelIdeal_ReferenceIdeal_pre_one_cut := by
  intro m g m' g' hpre hm
  refine ⟨fun c => outG m c, ?_, ?_⟩
  · exact (θ_run Cert.KernelIdeal.defs _ _).mono (fun _ h c => ⟨(h.1 c).2, (h.1 c).1⟩) (run_main (F := Ideal) m g)
  · refine (θ_run Cert.ReferenceIdeal.defs _ _).mono (fun r h c => ⟨(h c).1.trans ?_, (h c).2⟩) (Cert.ReferenceIdeal.Value.run (F := Ideal) m' g')
    rw [Ref.result_eq, hm]
    funext j
    have hj : j = ix3 (j 0) (j 1) (j 2) := by
      funext a
      match a with
      | ⟨0, _⟩ => rfl
      | ⟨1, _⟩ => rfl
      | ⟨2, _⟩ => rfl
    rw [hj]
    exact (value_eq (m (xLoc c)) (hpre c) (j 0) (j 1) (j 2) (fun i => Xm m c (j 0) (j 2).val i) (fun k => by
      show m (xLoc c) (at3 _ _ _) = m (xLoc c) _
      congr 1
      exact at3_eta (ix3 (j 0) k (j 2)))).symm

end Cert.Proof.Radix
end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Proof.Radix.preFacts,
  Cert.Proof.Radix.frame_kernel, Cert.Proof.Radix.frame_ideal, fun m ρ _ => Cert.Proof.Radix.frame_ideal m ρ trivial,
  Cert.Proof.Radix.frame_reference, fun m ρ _ => Cert.Proof.Radix.frame_reference m ρ trivial, trivial, Cert.Proof.Radix.algebraic⟩

end Cert.Proof

end
